-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite2 [hPre_finite2 : Cert.Pre_finite2.Facts] (m : (ℓ : Loc Cert.AttnIdeal.nD Cert.AttnIdeal.τ Cert.AttnIdeal.sig) → Buf (Elt Ideal) ℓ) : Prop :=
  ∀ c : Dev Cert.AttnIdeal.nD,
    (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite2 [hPre_finite2 : Cert.Pre_finite2.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_WGradRefIdeal (m : (ℓ : Loc Cert.WGradRefIdeal.nD Cert.WGradRefIdeal.τ Cert.WGradRefIdeal.sig) → Buf (Elt Ideal) ℓ) : Prop :=
  True

def Pre_HGrad (m : (ℓ : Loc Cert.HGrad.nD Cert.HGrad.τ Cert.HGrad.sig) → Buf (Elt Bits) ℓ) : Prop :=
  True

def Pre_HGradIdeal (m : (ℓ : Loc Cert.HGradIdeal.nD Cert.HGradIdeal.τ Cert.HGradIdeal.sig) → Buf (Elt Ideal) ℓ) : Prop :=
  True

def Pre_HGradRefIdeal (m : (ℓ : Loc Cert.HGradRefIdeal.nD Cert.HGradRefIdeal.τ Cert.HGradRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_finite6 [hPre_finite6 : Cert.Pre_finite6.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_finite6.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))) = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_finite6 [hPre_finite6 : Cert.Pre_finite6.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_finite6.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))) = (fun _ => 1#1)

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite2 [hAttnIdeal : Cert.AttnIdeal.Facts] [hPre_finite2 : Cert.Pre_finite2.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite2 m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite2 [hAttnRefIdeal : Cert.AttnRefIdeal.Facts] [hPre_finite2 : Cert.Pre_finite2.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite2 m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1)
      ∧ r.2.mem ((c.tc : Thread Cert.WGrad.nD Cert.WGrad.τ).loc Cert.WGrad.main_arg2) = m ((c.tc : Thread Cert.WGrad.nD Cert.WGrad.τ).loc Cert.WGrad.main_arg2)
      ∧ r.2.mem ((c.tc : Thread Cert.WGrad.nD Cert.WGrad.τ).loc Cert.WGrad.main_arg3) = m ((c.tc : Thread Cert.WGrad.nD Cert.WGrad.τ).loc Cert.WGrad.main_arg3))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1)
      ∧ r.2.mem ((c.tc : Thread Cert.WGradIdeal.nD Cert.WGradIdeal.τ).loc Cert.WGradIdeal.main_arg2) = m ((c.tc : Thread Cert.WGradIdeal.nD Cert.WGradIdeal.τ).loc Cert.WGradIdeal.main_arg2)
      ∧ r.2.mem ((c.tc : Thread Cert.WGradIdeal.nD Cert.WGradIdeal.τ).loc Cert.WGradIdeal.main_arg3) = m ((c.tc : Thread Cert.WGradIdeal.nD Cert.WGradIdeal.τ).loc Cert.WGradIdeal.main_arg3))
      ∧ r.2.sem = fun _ => 0)

def quiescent_WGradRefIdeal [hWGradRefIdeal : Cert.WGradRefIdeal.Facts] : Prop :=
  ∀ (m : (ℓ : Loc Cert.WGradRefIdeal.nD Cert.WGradRefIdeal.τ Cert.WGradRefIdeal.sig) → Buf (Elt Ideal) ℓ) (g : Dev Cert.WGradRefIdeal.nD → PrngReg), Pre_WGradRefIdeal m →
    θ_run (Cert.WGradRefIdeal.defs (F := Ideal)) (onTc (τ := Cert.WGradRefIdeal.τ) (Cert.WGradRefIdeal.main (F := Ideal))) ⟨m, fun _ => 0, g⟩ (fun r => (∀ c : Dev Cert.WGradRefIdeal.nD,
      r.2.mem ((c.tc : Thread Cert.WGradRefIdeal.nD Cert.WGradRefIdeal.τ).loc Cert.WGradRefIdeal.main_arg0) = m ((c.tc : Thread Cert.WGradRefIdeal.nD Cert.WGradRefIdeal.τ).loc Cert.WGradRefIdeal.main_arg0)
      ∧ r.2.mem ((c.tc : Thread Cert.WGradRefIdeal.nD Cert.WGradRefIdeal.τ).loc Cert.WGradRefIdeal.main_arg1) = m ((c.tc : Thread Cert.WGradRefIdeal.nD Cert.WGradRefIdeal.τ).loc Cert.WGradRefIdeal.main_arg1)
      ∧ r.2.mem ((c.tc : Thread Cert.WGradRefIdeal.nD Cert.WGradRefIdeal.τ).loc Cert.WGradRefIdeal.main_arg2) = m ((c.tc : Thread Cert.WGradRefIdeal.nD Cert.WGradRefIdeal.τ).loc Cert.WGradRefIdeal.main_arg2)
      ∧ r.2.mem ((c.tc : Thread Cert.WGradRefIdeal.nD Cert.WGradRefIdeal.τ).loc Cert.WGradRefIdeal.main_arg3) = m ((c.tc : Thread Cert.WGradRefIdeal.nD Cert.WGradRefIdeal.τ).loc Cert.WGradRefIdeal.main_arg3))
      ∧ r.2.sem = fun _ => 0)

def quiescent_HGrad [hHGrad : Cert.HGrad.Facts] : Prop :=
  ∀ (m : (ℓ : Loc Cert.HGrad.nD Cert.HGrad.τ Cert.HGrad.sig) → Buf (Elt Bits) ℓ) (g : Dev Cert.HGrad.nD → PrngReg), Pre_HGrad m →
    θ_run (Cert.HGrad.defs (F := Bits)) (onTc (τ := Cert.HGrad.τ) (Cert.HGrad.main (F := Bits))) ⟨m, fun _ => 0, g⟩ (fun r => (∀ c : Dev Cert.HGrad.nD,
      r.2.mem ((c.tc : Thread Cert.HGrad.nD Cert.HGrad.τ).loc Cert.HGrad.main_arg0) = m ((c.tc : Thread Cert.HGrad.nD Cert.HGrad.τ).loc Cert.HGrad.main_arg0)
      ∧ r.2.mem ((c.tc : Thread Cert.HGrad.nD Cert.HGrad.τ).loc Cert.HGrad.main_arg1) = m ((c.tc : Thread Cert.HGrad.nD Cert.HGrad.τ).loc Cert.HGrad.main_arg1)
      ∧ r.2.mem ((c.tc : Thread Cert.HGrad.nD Cert.HGrad.τ).loc Cert.HGrad.main_arg2) = m ((c.tc : Thread Cert.HGrad.nD Cert.HGrad.τ).loc Cert.HGrad.main_arg2)
      ∧ r.2.mem ((c.tc : Thread Cert.HGrad.nD Cert.HGrad.τ).loc Cert.HGrad.main_arg3) = m ((c.tc : Thread Cert.HGrad.nD Cert.HGrad.τ).loc Cert.HGrad.main_arg3)
      ∧ r.2.mem ((c.tc : Thread Cert.HGrad.nD Cert.HGrad.τ).loc Cert.HGrad.main_arg4) = m ((c.tc : Thread Cert.HGrad.nD Cert.HGrad.τ).loc Cert.HGrad.main_arg4))
      ∧ r.2.sem = fun _ => 0)

def quiescent_HGradIdeal [hHGradIdeal : Cert.HGradIdeal.Facts] : Prop :=
  ∀ (m : (ℓ : Loc Cert.HGradIdeal.nD Cert.HGradIdeal.τ Cert.HGradIdeal.sig) → Buf (Elt Ideal) ℓ) (g : Dev Cert.HGradIdeal.nD → PrngReg), Pre_HGradIdeal m →
    θ_run (Cert.HGradIdeal.defs (F := Ideal)) (onTc (τ := Cert.HGradIdeal.τ) (Cert.HGradIdeal.main (F := Ideal))) ⟨m, fun _ => 0, g⟩ (fun r => (∀ c : Dev Cert.HGradIdeal.nD,
      r.2.mem ((c.tc : Thread Cert.HGradIdeal.nD Cert.HGradIdeal.τ).loc Cert.HGradIdeal.main_arg0) = m ((c.tc : Thread Cert.HGradIdeal.nD Cert.HGradIdeal.τ).loc Cert.HGradIdeal.main_arg0)
      ∧ r.2.mem ((c.tc : Thread Cert.HGradIdeal.nD Cert.HGradIdeal.τ).loc Cert.HGradIdeal.main_arg1) = m ((c.tc : Thread Cert.HGradIdeal.nD Cert.HGradIdeal.τ).loc Cert.HGradIdeal.main_arg1)
      ∧ r.2.mem ((c.tc : Thread Cert.HGradIdeal.nD Cert.HGradIdeal.τ).loc Cert.HGradIdeal.main_arg2) = m ((c.tc : Thread Cert.HGradIdeal.nD Cert.HGradIdeal.τ).loc Cert.HGradIdeal.main_arg2)
      ∧ r.2.mem ((c.tc : Thread Cert.HGradIdeal.nD Cert.HGradIdeal.τ).loc Cert.HGradIdeal.main_arg3) = m ((c.tc : Thread Cert.HGradIdeal.nD Cert.HGradIdeal.τ).loc Cert.HGradIdeal.main_arg3)
      ∧ r.2.mem ((c.tc : Thread Cert.HGradIdeal.nD Cert.HGradIdeal.τ).loc Cert.HGradIdeal.main_arg4) = m ((c.tc : Thread Cert.HGradIdeal.nD Cert.HGradIdeal.τ).loc Cert.HGradIdeal.main_arg4))
      ∧ r.2.sem = fun _ => 0)

def quiescent_HGradRefIdeal [hHGradRefIdeal : Cert.HGradRefIdeal.Facts] : Prop :=
  ∀ (m : (ℓ : Loc Cert.HGradRefIdeal.nD Cert.HGradRefIdeal.τ Cert.HGradRefIdeal.sig) → Buf (Elt Ideal) ℓ) (g : Dev Cert.HGradRefIdeal.nD → PrngReg), Pre_HGradRefIdeal m →
    θ_run (Cert.HGradRefIdeal.defs (F := Ideal)) (onTc (τ := Cert.HGradRefIdeal.τ) (Cert.HGradRefIdeal.main (F := Ideal))) ⟨m, fun _ => 0, g⟩ (fun r => (∀ c : Dev Cert.HGradRefIdeal.nD,
      r.2.mem ((c.tc : Thread Cert.HGradRefIdeal.nD Cert.HGradRefIdeal.τ).loc Cert.HGradRefIdeal.main_arg0) = m ((c.tc : Thread Cert.HGradRefIdeal.nD Cert.HGradRefIdeal.τ).loc Cert.HGradRefIdeal.main_arg0)
      ∧ r.2.mem ((c.tc : Thread Cert.HGradRefIdeal.nD Cert.HGradRefIdeal.τ).loc Cert.HGradRefIdeal.main_arg1) = m ((c.tc : Thread Cert.HGradRefIdeal.nD Cert.HGradRefIdeal.τ).loc Cert.HGradRefIdeal.main_arg1)
      ∧ r.2.mem ((c.tc : Thread Cert.HGradRefIdeal.nD Cert.HGradRefIdeal.τ).loc Cert.HGradRefIdeal.main_arg2) = m ((c.tc : Thread Cert.HGradRefIdeal.nD Cert.HGradRefIdeal.τ).loc Cert.HGradRefIdeal.main_arg2)
      ∧ r.2.mem ((c.tc : Thread Cert.HGradRefIdeal.nD Cert.HGradRefIdeal.τ).loc Cert.HGradRefIdeal.main_arg3) = m ((c.tc : Thread Cert.HGradRefIdeal.nD Cert.HGradRefIdeal.τ).loc Cert.HGradRefIdeal.main_arg3)
      ∧ r.2.mem ((c.tc : Thread Cert.HGradRefIdeal.nD Cert.HGradRefIdeal.τ).loc Cert.HGradRefIdeal.main_arg4) = m ((c.tc : Thread Cert.HGradRefIdeal.nD Cert.HGradRefIdeal.τ).loc Cert.HGradRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFIdeal_pre_finite6 [hAttnFIdeal : Cert.AttnFIdeal.Facts] [hPre_finite6 : Cert.Pre_finite6.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_finite6 m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnFRefIdeal_pre_finite6 [hAttnFRefIdeal : Cert.AttnFRefIdeal.Facts] [hPre_finite6 : Cert.Pre_finite6.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_finite6 m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6)
      ∧ r.2.mem ((c.tc : Thread Cert.Branch.nD Cert.Branch.τ).loc Cert.Branch.main_arg7) = m ((c.tc : Thread Cert.Branch.nD Cert.Branch.τ).loc Cert.Branch.main_arg7)
      ∧ r.2.mem ((c.tc : Thread Cert.Branch.nD Cert.Branch.τ).loc Cert.Branch.main_arg8) = m ((c.tc : Thread Cert.Branch.nD Cert.Branch.τ).loc Cert.Branch.main_arg8)
      ∧ r.2.mem ((c.tc : Thread Cert.Branch.nD Cert.Branch.τ).loc Cert.Branch.main_arg9) = m ((c.tc : Thread Cert.Branch.nD Cert.Branch.τ).loc Cert.Branch.main_arg9)
      ∧ r.2.mem ((c.tc : Thread Cert.Branch.nD Cert.Branch.τ).loc Cert.Branch.main_arg10) = m ((c.tc : Thread Cert.Branch.nD Cert.Branch.τ).loc Cert.Branch.main_arg10)
      ∧ r.2.mem ((c.tc : Thread Cert.Branch.nD Cert.Branch.τ).loc Cert.Branch.main_arg11) = m ((c.tc : Thread Cert.Branch.nD Cert.Branch.τ).loc Cert.Branch.main_arg11))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6)
      ∧ r.2.mem ((c.tc : Thread Cert.BranchIdeal.nD Cert.BranchIdeal.τ).loc Cert.BranchIdeal.main_arg7) = m ((c.tc : Thread Cert.BranchIdeal.nD Cert.BranchIdeal.τ).loc Cert.BranchIdeal.main_arg7)
      ∧ r.2.mem ((c.tc : Thread Cert.BranchIdeal.nD Cert.BranchIdeal.τ).loc Cert.BranchIdeal.main_arg8) = m ((c.tc : Thread Cert.BranchIdeal.nD Cert.BranchIdeal.τ).loc Cert.BranchIdeal.main_arg8)
      ∧ r.2.mem ((c.tc : Thread Cert.BranchIdeal.nD Cert.BranchIdeal.τ).loc Cert.BranchIdeal.main_arg9) = m ((c.tc : Thread Cert.BranchIdeal.nD Cert.BranchIdeal.τ).loc Cert.BranchIdeal.main_arg9)
      ∧ r.2.mem ((c.tc : Thread Cert.BranchIdeal.nD Cert.BranchIdeal.τ).loc Cert.BranchIdeal.main_arg10) = m ((c.tc : Thread Cert.BranchIdeal.nD Cert.BranchIdeal.τ).loc Cert.BranchIdeal.main_arg10)
      ∧ r.2.mem ((c.tc : Thread Cert.BranchIdeal.nD Cert.BranchIdeal.τ).loc Cert.BranchIdeal.main_arg11) = m ((c.tc : Thread Cert.BranchIdeal.nD Cert.BranchIdeal.τ).loc Cert.BranchIdeal.main_arg11))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6)
      ∧ r.2.mem ((c.tc : Thread Cert.BranchRefIdeal.nD Cert.BranchRefIdeal.τ).loc Cert.BranchRefIdeal.main_arg7) = m ((c.tc : Thread Cert.BranchRefIdeal.nD Cert.BranchRefIdeal.τ).loc Cert.BranchRefIdeal.main_arg7)
      ∧ r.2.mem ((c.tc : Thread Cert.BranchRefIdeal.nD Cert.BranchRefIdeal.τ).loc Cert.BranchRefIdeal.main_arg8) = m ((c.tc : Thread Cert.BranchRefIdeal.nD Cert.BranchRefIdeal.τ).loc Cert.BranchRefIdeal.main_arg8)
      ∧ r.2.mem ((c.tc : Thread Cert.BranchRefIdeal.nD Cert.BranchRefIdeal.τ).loc Cert.BranchRefIdeal.main_arg9) = m ((c.tc : Thread Cert.BranchRefIdeal.nD Cert.BranchRefIdeal.τ).loc Cert.BranchRefIdeal.main_arg9)
      ∧ r.2.mem ((c.tc : Thread Cert.BranchRefIdeal.nD Cert.BranchRefIdeal.τ).loc Cert.BranchRefIdeal.main_arg10) = m ((c.tc : Thread Cert.BranchRefIdeal.nD Cert.BranchRefIdeal.τ).loc Cert.BranchRefIdeal.main_arg10)
      ∧ r.2.mem ((c.tc : Thread Cert.BranchRefIdeal.nD Cert.BranchRefIdeal.τ).loc Cert.BranchRefIdeal.main_arg11) = m ((c.tc : Thread Cert.BranchRefIdeal.nD Cert.BranchRefIdeal.τ).loc Cert.BranchRefIdeal.main_arg11))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v35_0)) (v1 : (c : Dev Cert.MergeIdeal.nD) → Buf (Elt Ideal) ((c.tc : Thread Cert.MergeIdeal.nD Cert.MergeIdeal.τ).loc Cert.MergeIdeal.main_v35_1)) (v2 : (c : Dev Cert.MergeIdeal.nD) → Buf (Elt Ideal) ((c.tc : Thread Cert.MergeIdeal.nD Cert.MergeIdeal.τ).loc Cert.MergeIdeal.main_v35_2)) (v3 : (c : Dev Cert.MergeIdeal.nD) → Buf (Elt Ideal) ((c.tc : Thread Cert.MergeIdeal.nD Cert.MergeIdeal.τ).loc Cert.MergeIdeal.main_v35_3)) (v4 : (c : Dev Cert.MergeIdeal.nD) → Buf (Elt Ideal) ((c.tc : Thread Cert.MergeIdeal.nD Cert.MergeIdeal.τ).loc Cert.MergeIdeal.main_v35_4)) (v5 : (c : Dev Cert.MergeIdeal.nD) → Buf (Elt Ideal) ((c.tc : Thread Cert.MergeIdeal.nD Cert.MergeIdeal.τ).loc Cert.MergeIdeal.main_v35_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v35_0) = v0 c
          ∧ r.2.mem ((c.tc : Thread Cert.MergeIdeal.nD Cert.MergeIdeal.τ).loc Cert.MergeIdeal.main_v35_1) = v1 c
          ∧ r.2.mem ((c.tc : Thread Cert.MergeIdeal.nD Cert.MergeIdeal.τ).loc Cert.MergeIdeal.main_v35_2) = v2 c
          ∧ r.2.mem ((c.tc : Thread Cert.MergeIdeal.nD Cert.MergeIdeal.τ).loc Cert.MergeIdeal.main_v35_3) = v3 c
          ∧ r.2.mem ((c.tc : Thread Cert.MergeIdeal.nD Cert.MergeIdeal.τ).loc Cert.MergeIdeal.main_v35_4) = v4 c
          ∧ r.2.mem ((c.tc : Thread Cert.MergeIdeal.nD Cert.MergeIdeal.τ).loc Cert.MergeIdeal.main_v35_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_v33) = v1 c
          ∧ r.2.mem ((c.tc : Thread Cert.MergeRefIdeal.nD Cert.MergeRefIdeal.τ).loc Cert.MergeRefIdeal.main_v17) = v2 c
          ∧ r.2.mem ((c.tc : Thread Cert.MergeRefIdeal.nD Cert.MergeRefIdeal.τ).loc Cert.MergeRefIdeal.main_v30) = v3 c
          ∧ r.2.mem ((c.tc : Thread Cert.MergeRefIdeal.nD Cert.MergeRefIdeal.τ).loc Cert.MergeRefIdeal.main_v34) = v4 c
          ∧ r.2.mem ((c.tc : Thread Cert.MergeRefIdeal.nD Cert.MergeRefIdeal.τ).loc Cert.MergeRefIdeal.main_v35) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Attn_AttnIdeal : Prop :=
  True

def algebraic_AttnIdeal_AttnRefIdeal_pre_finite2 [hAttnIdeal : Cert.AttnIdeal.Facts] [hAttnRefIdeal : Cert.AttnRefIdeal.Facts] [hPre_finite2 : Cert.Pre_finite2.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite2 m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v42_0)) (v1 : (c : Dev Cert.AttnIdeal.nD) → Buf (Elt Ideal) ((c.tc : Thread Cert.AttnIdeal.nD Cert.AttnIdeal.τ).loc Cert.AttnIdeal.main_v42_1)) (v2 : (c : Dev Cert.AttnIdeal.nD) → Buf (Elt Ideal) ((c.tc : Thread Cert.AttnIdeal.nD Cert.AttnIdeal.τ).loc Cert.AttnIdeal.main_v42_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v42_0) = v0 c
          ∧ r.2.mem ((c.tc : Thread Cert.AttnIdeal.nD Cert.AttnIdeal.τ).loc Cert.AttnIdeal.main_v42_1) = v1 c
          ∧ r.2.mem ((c.tc : Thread Cert.AttnIdeal.nD Cert.AttnIdeal.τ).loc Cert.AttnIdeal.main_v42_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_v69) = v1 c
          ∧ r.2.mem ((c.tc : Thread Cert.AttnRefIdeal.nD Cert.AttnRefIdeal.τ).loc Cert.AttnRefIdeal.main_v72) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_WGrad_WGradIdeal : Prop :=
  True

def algebraic_WGradIdeal_WGradRefIdeal [hWGradIdeal : Cert.WGradIdeal.Facts] [hWGradRefIdeal : Cert.WGradRefIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.WGradRefIdeal.nD Cert.WGradRefIdeal.τ Cert.WGradRefIdeal.sig) → Buf (Elt Ideal) ℓ) (g' : Dev Cert.WGradRefIdeal.nD → PrngReg), Pre_WGradIdeal m →
    (∀ c : Dev Cert.WGradIdeal.nD,
      m' ((c.tc : Thread Cert.WGradRefIdeal.nD Cert.WGradRefIdeal.τ).loc Cert.WGradRefIdeal.main_arg0) = m ((c.tc : Thread Cert.WGradIdeal.nD Cert.WGradIdeal.τ).loc Cert.WGradIdeal.main_arg0)
      ∧ m' ((c.tc : Thread Cert.WGradRefIdeal.nD Cert.WGradRefIdeal.τ).loc Cert.WGradRefIdeal.main_arg1) = m ((c.tc : Thread Cert.WGradIdeal.nD Cert.WGradIdeal.τ).loc Cert.WGradIdeal.main_arg1)
      ∧ m' ((c.tc : Thread Cert.WGradRefIdeal.nD Cert.WGradRefIdeal.τ).loc Cert.WGradRefIdeal.main_arg2) = m ((c.tc : Thread Cert.WGradIdeal.nD Cert.WGradIdeal.τ).loc Cert.WGradIdeal.main_arg2)
      ∧ m' ((c.tc : Thread Cert.WGradRefIdeal.nD Cert.WGradRefIdeal.τ).loc Cert.WGradRefIdeal.main_arg3) = m ((c.tc : Thread Cert.WGradIdeal.nD Cert.WGradIdeal.τ).loc Cert.WGradIdeal.main_arg3)) →
    ∃ (v0 : (c : Dev Cert.WGradIdeal.nD) → Buf (Elt Ideal) ((c.tc : Thread Cert.WGradIdeal.nD Cert.WGradIdeal.τ).loc Cert.WGradIdeal.main_v18_0)) (v1 : (c : Dev Cert.WGradIdeal.nD) → Buf (Elt Ideal) ((c.tc : Thread Cert.WGradIdeal.nD Cert.WGradIdeal.τ).loc Cert.WGradIdeal.main_v18_1)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v18_0) = v0 c
          ∧ r.2.mem ((c.tc : Thread Cert.WGradIdeal.nD Cert.WGradIdeal.τ).loc Cert.WGradIdeal.main_v18_1) = v1 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1)
          ∧ r.2.mem ((c.tc : Thread Cert.WGradIdeal.nD Cert.WGradIdeal.τ).loc Cert.WGradIdeal.main_arg2) = m ((c.tc : Thread Cert.WGradIdeal.nD Cert.WGradIdeal.τ).loc Cert.WGradIdeal.main_arg2)
          ∧ r.2.mem ((c.tc : Thread Cert.WGradIdeal.nD Cert.WGradIdeal.τ).loc Cert.WGradIdeal.main_arg3) = m ((c.tc : Thread Cert.WGradIdeal.nD Cert.WGradIdeal.τ).loc Cert.WGradIdeal.main_arg3))
      ∧ θ_run (Cert.WGradRefIdeal.defs (F := Ideal)) (onTc (τ := Cert.WGradRefIdeal.τ) (Cert.WGradRefIdeal.main (F := Ideal))) ⟨m', fun _ => 0, g'⟩ (fun r => ∀ c : Dev Cert.WGradRefIdeal.nD,
          r.2.mem ((c.tc : Thread Cert.WGradRefIdeal.nD Cert.WGradRefIdeal.τ).loc Cert.WGradRefIdeal.main_v16) = v0 c
          ∧ r.2.mem ((c.tc : Thread Cert.WGradRefIdeal.nD Cert.WGradRefIdeal.τ).loc Cert.WGradRefIdeal.main_v17) = v1 c
          ∧ r.2.mem ((c.tc : Thread Cert.WGradRefIdeal.nD Cert.WGradRefIdeal.τ).loc Cert.WGradRefIdeal.main_arg0) = m' ((c.tc : Thread Cert.WGradRefIdeal.nD Cert.WGradRefIdeal.τ).loc Cert.WGradRefIdeal.main_arg0)
          ∧ r.2.mem ((c.tc : Thread Cert.WGradRefIdeal.nD Cert.WGradRefIdeal.τ).loc Cert.WGradRefIdeal.main_arg1) = m' ((c.tc : Thread Cert.WGradRefIdeal.nD Cert.WGradRefIdeal.τ).loc Cert.WGradRefIdeal.main_arg1)
          ∧ r.2.mem ((c.tc : Thread Cert.WGradRefIdeal.nD Cert.WGradRefIdeal.τ).loc Cert.WGradRefIdeal.main_arg2) = m' ((c.tc : Thread Cert.WGradRefIdeal.nD Cert.WGradRefIdeal.τ).loc Cert.WGradRefIdeal.main_arg2)
          ∧ r.2.mem ((c.tc : Thread Cert.WGradRefIdeal.nD Cert.WGradRefIdeal.τ).loc Cert.WGradRefIdeal.main_arg3) = m' ((c.tc : Thread Cert.WGradRefIdeal.nD Cert.WGradRefIdeal.τ).loc Cert.WGradRefIdeal.main_arg3))

def preserves_HGrad_HGradIdeal : Prop :=
  True

def algebraic_HGradIdeal_HGradRefIdeal [hHGradIdeal : Cert.HGradIdeal.Facts] [hHGradRefIdeal : Cert.HGradRefIdeal.Facts] : Prop :=
  ∀ (m : (ℓ : Loc Cert.HGradIdeal.nD Cert.HGradIdeal.τ Cert.HGradIdeal.sig) → Buf (Elt Ideal) ℓ) (g : Dev Cert.HGradIdeal.nD → PrngReg)
    (m' : (ℓ : Loc Cert.HGradRefIdeal.nD Cert.HGradRefIdeal.τ Cert.HGradRefIdeal.sig) → Buf (Elt Ideal) ℓ) (g' : Dev Cert.HGradRefIdeal.nD → PrngReg), Pre_HGradIdeal m →
    (∀ c : Dev Cert.HGradIdeal.nD,
      m' ((c.tc : Thread Cert.HGradRefIdeal.nD Cert.HGradRefIdeal.τ).loc Cert.HGradRefIdeal.main_arg0) = m ((c.tc : Thread Cert.HGradIdeal.nD Cert.HGradIdeal.τ).loc Cert.HGradIdeal.main_arg0)
      ∧ m' ((c.tc : Thread Cert.HGradRefIdeal.nD Cert.HGradRefIdeal.τ).loc Cert.HGradRefIdeal.main_arg1) = m ((c.tc : Thread Cert.HGradIdeal.nD Cert.HGradIdeal.τ).loc Cert.HGradIdeal.main_arg1)
      ∧ m' ((c.tc : Thread Cert.HGradRefIdeal.nD Cert.HGradRefIdeal.τ).loc Cert.HGradRefIdeal.main_arg2) = m ((c.tc : Thread Cert.HGradIdeal.nD Cert.HGradIdeal.τ).loc Cert.HGradIdeal.main_arg2)
      ∧ m' ((c.tc : Thread Cert.HGradRefIdeal.nD Cert.HGradRefIdeal.τ).loc Cert.HGradRefIdeal.main_arg3) = m ((c.tc : Thread Cert.HGradIdeal.nD Cert.HGradIdeal.τ).loc Cert.HGradIdeal.main_arg3)
      ∧ m' ((c.tc : Thread Cert.HGradRefIdeal.nD Cert.HGradRefIdeal.τ).loc Cert.HGradRefIdeal.main_arg4) = m ((c.tc : Thread Cert.HGradIdeal.nD Cert.HGradIdeal.τ).loc Cert.HGradIdeal.main_arg4)) →
    ∃ (v0 : (c : Dev Cert.HGradIdeal.nD) → Buf (Elt Ideal) ((c.tc : Thread Cert.HGradIdeal.nD Cert.HGradIdeal.τ).loc Cert.HGradIdeal.main_v7_0)) (v1 : (c : Dev Cert.HGradIdeal.nD) → Buf (Elt Ideal) ((c.tc : Thread Cert.HGradIdeal.nD Cert.HGradIdeal.τ).loc Cert.HGradIdeal.main_v7_1)),
      θ_run (Cert.HGradIdeal.defs (F := Ideal)) (onTc (τ := Cert.HGradIdeal.τ) (Cert.HGradIdeal.main (F := Ideal))) ⟨m, fun _ => 0, g⟩ (fun r => ∀ c : Dev Cert.HGradIdeal.nD,
          r.2.mem ((c.tc : Thread Cert.HGradIdeal.nD Cert.HGradIdeal.τ).loc Cert.HGradIdeal.main_v7_0) = v0 c
          ∧ r.2.mem ((c.tc : Thread Cert.HGradIdeal.nD Cert.HGradIdeal.τ).loc Cert.HGradIdeal.main_v7_1) = v1 c
          ∧ r.2.mem ((c.tc : Thread Cert.HGradIdeal.nD Cert.HGradIdeal.τ).loc Cert.HGradIdeal.main_arg0) = m ((c.tc : Thread Cert.HGradIdeal.nD Cert.HGradIdeal.τ).loc Cert.HGradIdeal.main_arg0)
          ∧ r.2.mem ((c.tc : Thread Cert.HGradIdeal.nD Cert.HGradIdeal.τ).loc Cert.HGradIdeal.main_arg1) = m ((c.tc : Thread Cert.HGradIdeal.nD Cert.HGradIdeal.τ).loc Cert.HGradIdeal.main_arg1)
          ∧ r.2.mem ((c.tc : Thread Cert.HGradIdeal.nD Cert.HGradIdeal.τ).loc Cert.HGradIdeal.main_arg2) = m ((c.tc : Thread Cert.HGradIdeal.nD Cert.HGradIdeal.τ).loc Cert.HGradIdeal.main_arg2)
          ∧ r.2.mem ((c.tc : Thread Cert.HGradIdeal.nD Cert.HGradIdeal.τ).loc Cert.HGradIdeal.main_arg3) = m ((c.tc : Thread Cert.HGradIdeal.nD Cert.HGradIdeal.τ).loc Cert.HGradIdeal.main_arg3)
          ∧ r.2.mem ((c.tc : Thread Cert.HGradIdeal.nD Cert.HGradIdeal.τ).loc Cert.HGradIdeal.main_arg4) = m ((c.tc : Thread Cert.HGradIdeal.nD Cert.HGradIdeal.τ).loc Cert.HGradIdeal.main_arg4))
      ∧ θ_run (Cert.HGradRefIdeal.defs (F := Ideal)) (onTc (τ := Cert.HGradRefIdeal.τ) (Cert.HGradRefIdeal.main (F := Ideal))) ⟨m', fun _ => 0, g'⟩ (fun r => ∀ c : Dev Cert.HGradRefIdeal.nD,
          r.2.mem ((c.tc : Thread Cert.HGradRefIdeal.nD Cert.HGradRefIdeal.τ).loc Cert.HGradRefIdeal.main_v38) = v0 c
          ∧ r.2.mem ((c.tc : Thread Cert.HGradRefIdeal.nD Cert.HGradRefIdeal.τ).loc Cert.HGradRefIdeal.main_v39) = v1 c
          ∧ r.2.mem ((c.tc : Thread Cert.HGradRefIdeal.nD Cert.HGradRefIdeal.τ).loc Cert.HGradRefIdeal.main_arg0) = m' ((c.tc : Thread Cert.HGradRefIdeal.nD Cert.HGradRefIdeal.τ).loc Cert.HGradRefIdeal.main_arg0)
          ∧ r.2.mem ((c.tc : Thread Cert.HGradRefIdeal.nD Cert.HGradRefIdeal.τ).loc Cert.HGradRefIdeal.main_arg1) = m' ((c.tc : Thread Cert.HGradRefIdeal.nD Cert.HGradRefIdeal.τ).loc Cert.HGradRefIdeal.main_arg1)
          ∧ r.2.mem ((c.tc : Thread Cert.HGradRefIdeal.nD Cert.HGradRefIdeal.τ).loc Cert.HGradRefIdeal.main_arg2) = m' ((c.tc : Thread Cert.HGradRefIdeal.nD Cert.HGradRefIdeal.τ).loc Cert.HGradRefIdeal.main_arg2)
          ∧ r.2.mem ((c.tc : Thread Cert.HGradRefIdeal.nD Cert.HGradRefIdeal.τ).loc Cert.HGradRefIdeal.main_arg3) = m' ((c.tc : Thread Cert.HGradRefIdeal.nD Cert.HGradRefIdeal.τ).loc Cert.HGradRefIdeal.main_arg3)
          ∧ r.2.mem ((c.tc : Thread Cert.HGradRefIdeal.nD Cert.HGradRefIdeal.τ).loc Cert.HGradRefIdeal.main_arg4) = m' ((c.tc : Thread Cert.HGradRefIdeal.nD Cert.HGradRefIdeal.τ).loc Cert.HGradRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v16)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v16) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_AttnF_AttnFIdeal : Prop :=
  True

def algebraic_AttnFIdeal_AttnFRefIdeal_pre_finite6 [hAttnFIdeal : Cert.AttnFIdeal.Facts] [hAttnFRefIdeal : Cert.AttnFRefIdeal.Facts] [hPre_finite6 : Cert.Pre_finite6.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_finite6 m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v17_0)) (v1 : (c : Dev Cert.AttnFIdeal.nD) → Buf (Elt Ideal) ((c.tc : Thread Cert.AttnFIdeal.nD Cert.AttnFIdeal.τ).loc Cert.AttnFIdeal.main_v17_1)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v17_0) = v0 c
          ∧ r.2.mem ((c.tc : Thread Cert.AttnFIdeal.nD Cert.AttnFIdeal.τ).loc Cert.AttnFIdeal.main_v17_1) = v1 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v33) = v0 c
          ∧ r.2.mem ((c.tc : Thread Cert.AttnFRefIdeal.nD Cert.AttnFRefIdeal.τ).loc Cert.AttnFRefIdeal.main_v37) = v1 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)
      ∧ m' ((c.tc : Thread Cert.BranchRefIdeal.nD Cert.BranchRefIdeal.τ).loc Cert.BranchRefIdeal.main_arg7) = m ((c.tc : Thread Cert.BranchIdeal.nD Cert.BranchIdeal.τ).loc Cert.BranchIdeal.main_arg7)
      ∧ m' ((c.tc : Thread Cert.BranchRefIdeal.nD Cert.BranchRefIdeal.τ).loc Cert.BranchRefIdeal.main_arg8) = m ((c.tc : Thread Cert.BranchIdeal.nD Cert.BranchIdeal.τ).loc Cert.BranchIdeal.main_arg8)
      ∧ m' ((c.tc : Thread Cert.BranchRefIdeal.nD Cert.BranchRefIdeal.τ).loc Cert.BranchRefIdeal.main_arg9) = m ((c.tc : Thread Cert.BranchIdeal.nD Cert.BranchIdeal.τ).loc Cert.BranchIdeal.main_arg9)
      ∧ m' ((c.tc : Thread Cert.BranchRefIdeal.nD Cert.BranchRefIdeal.τ).loc Cert.BranchRefIdeal.main_arg10) = m ((c.tc : Thread Cert.BranchIdeal.nD Cert.BranchIdeal.τ).loc Cert.BranchIdeal.main_arg10)
      ∧ m' ((c.tc : Thread Cert.BranchRefIdeal.nD Cert.BranchRefIdeal.τ).loc Cert.BranchRefIdeal.main_arg11) = m ((c.tc : Thread Cert.BranchIdeal.nD Cert.BranchIdeal.τ).loc Cert.BranchIdeal.main_arg11)) →
    ∃ (v0 : (c : Dev Cert.BranchIdeal.nD) → Buf (Elt Ideal) ((c.tc : Thread Cert.BranchIdeal.nD Cert.BranchIdeal.τ).loc Cert.BranchIdeal.main_v13_0)) (v1 : (c : Dev Cert.BranchIdeal.nD) → Buf (Elt Ideal) ((c.tc : Thread Cert.BranchIdeal.nD Cert.BranchIdeal.τ).loc Cert.BranchIdeal.main_v13_1)) (v2 : (c : Dev Cert.BranchIdeal.nD) → Buf (Elt Ideal) ((c.tc : Thread Cert.BranchIdeal.nD Cert.BranchIdeal.τ).loc Cert.BranchIdeal.main_v13_2)) (v3 : (c : Dev Cert.BranchIdeal.nD) → Buf (Elt Ideal) ((c.tc : Thread Cert.BranchIdeal.nD Cert.BranchIdeal.τ).loc Cert.BranchIdeal.main_v13_3)) (v4 : (c : Dev Cert.BranchIdeal.nD) → Buf (Elt Ideal) ((c.tc : Thread Cert.BranchIdeal.nD Cert.BranchIdeal.τ).loc Cert.BranchIdeal.main_v13_4)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v13_0) = v0 c
          ∧ r.2.mem ((c.tc : Thread Cert.BranchIdeal.nD Cert.BranchIdeal.τ).loc Cert.BranchIdeal.main_v13_1) = v1 c
          ∧ r.2.mem ((c.tc : Thread Cert.BranchIdeal.nD Cert.BranchIdeal.τ).loc Cert.BranchIdeal.main_v13_2) = v2 c
          ∧ r.2.mem ((c.tc : Thread Cert.BranchIdeal.nD Cert.BranchIdeal.τ).loc Cert.BranchIdeal.main_v13_3) = v3 c
          ∧ r.2.mem ((c.tc : Thread Cert.BranchIdeal.nD Cert.BranchIdeal.τ).loc Cert.BranchIdeal.main_v13_4) = v4 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6)
          ∧ r.2.mem ((c.tc : Thread Cert.BranchIdeal.nD Cert.BranchIdeal.τ).loc Cert.BranchIdeal.main_arg7) = m ((c.tc : Thread Cert.BranchIdeal.nD Cert.BranchIdeal.τ).loc Cert.BranchIdeal.main_arg7)
          ∧ r.2.mem ((c.tc : Thread Cert.BranchIdeal.nD Cert.BranchIdeal.τ).loc Cert.BranchIdeal.main_arg8) = m ((c.tc : Thread Cert.BranchIdeal.nD Cert.BranchIdeal.τ).loc Cert.BranchIdeal.main_arg8)
          ∧ r.2.mem ((c.tc : Thread Cert.BranchIdeal.nD Cert.BranchIdeal.τ).loc Cert.BranchIdeal.main_arg9) = m ((c.tc : Thread Cert.BranchIdeal.nD Cert.BranchIdeal.τ).loc Cert.BranchIdeal.main_arg9)
          ∧ r.2.mem ((c.tc : Thread Cert.BranchIdeal.nD Cert.BranchIdeal.τ).loc Cert.BranchIdeal.main_arg10) = m ((c.tc : Thread Cert.BranchIdeal.nD Cert.BranchIdeal.τ).loc Cert.BranchIdeal.main_arg10)
          ∧ r.2.mem ((c.tc : Thread Cert.BranchIdeal.nD Cert.BranchIdeal.τ).loc Cert.BranchIdeal.main_arg11) = m ((c.tc : Thread Cert.BranchIdeal.nD Cert.BranchIdeal.τ).loc Cert.BranchIdeal.main_arg11))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v86) = v0 c
          ∧ r.2.mem ((c.tc : Thread Cert.BranchRefIdeal.nD Cert.BranchRefIdeal.τ).loc Cert.BranchRefIdeal.main_v88) = v1 c
          ∧ r.2.mem ((c.tc : Thread Cert.BranchRefIdeal.nD Cert.BranchRefIdeal.τ).loc Cert.BranchRefIdeal.main_v89) = v2 c
          ∧ r.2.mem ((c.tc : Thread Cert.BranchRefIdeal.nD Cert.BranchRefIdeal.τ).loc Cert.BranchRefIdeal.main_v84) = v3 c
          ∧ r.2.mem ((c.tc : Thread Cert.BranchRefIdeal.nD Cert.BranchRefIdeal.τ).loc Cert.BranchRefIdeal.main_v103) = v4 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6)
          ∧ r.2.mem ((c.tc : Thread Cert.BranchRefIdeal.nD Cert.BranchRefIdeal.τ).loc Cert.BranchRefIdeal.main_arg7) = m' ((c.tc : Thread Cert.BranchRefIdeal.nD Cert.BranchRefIdeal.τ).loc Cert.BranchRefIdeal.main_arg7)
          ∧ r.2.mem ((c.tc : Thread Cert.BranchRefIdeal.nD Cert.BranchRefIdeal.τ).loc Cert.BranchRefIdeal.main_arg8) = m' ((c.tc : Thread Cert.BranchRefIdeal.nD Cert.BranchRefIdeal.τ).loc Cert.BranchRefIdeal.main_arg8)
          ∧ r.2.mem ((c.tc : Thread Cert.BranchRefIdeal.nD Cert.BranchRefIdeal.τ).loc Cert.BranchRefIdeal.main_arg9) = m' ((c.tc : Thread Cert.BranchRefIdeal.nD Cert.BranchRefIdeal.τ).loc Cert.BranchRefIdeal.main_arg9)
          ∧ r.2.mem ((c.tc : Thread Cert.BranchRefIdeal.nD Cert.BranchRefIdeal.τ).loc Cert.BranchRefIdeal.main_arg10) = m' ((c.tc : Thread Cert.BranchRefIdeal.nD Cert.BranchRefIdeal.τ).loc Cert.BranchRefIdeal.main_arg10)
          ∧ r.2.mem ((c.tc : Thread Cert.BranchRefIdeal.nD Cert.BranchRefIdeal.τ).loc Cert.BranchRefIdeal.main_arg11) = m' ((c.tc : Thread Cert.BranchRefIdeal.nD Cert.BranchRefIdeal.τ).loc Cert.BranchRefIdeal.main_arg11))

def Claim : Prop :=
  ∃ (hMerge : Cert.Merge.Facts) (hMergeIdeal : Cert.MergeIdeal.Facts) (hMergeRefIdeal : Cert.MergeRefIdeal.Facts) (hAttn : Cert.Attn.Facts) (hAttnIdeal : Cert.AttnIdeal.Facts) (hAttnRefIdeal : Cert.AttnRefIdeal.Facts) (hWGrad : Cert.WGrad.Facts) (hWGradIdeal : Cert.WGradIdeal.Facts) (hWGradRefIdeal : Cert.WGradRefIdeal.Facts) (hHGrad : Cert.HGrad.Facts) (hHGradIdeal : Cert.HGradIdeal.Facts) (hHGradRefIdeal : Cert.HGradRefIdeal.Facts) (hProj : Cert.Proj.Facts) (hProjIdeal : Cert.ProjIdeal.Facts) (hProjRefIdeal : Cert.ProjRefIdeal.Facts) (hAttnF : Cert.AttnF.Facts) (hAttnFIdeal : Cert.AttnFIdeal.Facts) (hAttnFRefIdeal : Cert.AttnFRefIdeal.Facts) (hBranch : Cert.Branch.Facts) (hBranchIdeal : Cert.BranchIdeal.Facts) (hBranchRefIdeal : Cert.BranchRefIdeal.Facts) (hPre_finite2 : Cert.Pre_finite2.Facts) (hPre_finite6 : Cert.Pre_finite6.Facts),
    quiescent_Merge (hMerge := hMerge)
    ∧ quiescent_MergeIdeal (hMergeIdeal := hMergeIdeal)
    ∧ quiescent_MergeRefIdeal (hMergeRefIdeal := hMergeRefIdeal)
    ∧ quiescent_Attn (hAttn := hAttn)
    ∧ quiescent_AttnIdeal (hAttnIdeal := hAttnIdeal)
    ∧ quiescent_AttnIdeal_pre_finite2 (hAttnIdeal := hAttnIdeal) (hPre_finite2 := hPre_finite2)
    ∧ quiescent_AttnRefIdeal (hAttnRefIdeal := hAttnRefIdeal)
    ∧ quiescent_AttnRefIdeal_pre_finite2 (hAttnRefIdeal := hAttnRefIdeal) (hPre_finite2 := hPre_finite2)
    ∧ quiescent_WGrad (hWGrad := hWGrad)
    ∧ quiescent_WGradIdeal (hWGradIdeal := hWGradIdeal)
    ∧ quiescent_WGradRefIdeal (hWGradRefIdeal := hWGradRefIdeal)
    ∧ quiescent_HGrad (hHGrad := hHGrad)
    ∧ quiescent_HGradIdeal (hHGradIdeal := hHGradIdeal)
    ∧ quiescent_HGradRefIdeal (hHGradRefIdeal := hHGradRefIdeal)
    ∧ quiescent_Proj (hProj := hProj)
    ∧ quiescent_ProjIdeal (hProjIdeal := hProjIdeal)
    ∧ quiescent_ProjRefIdeal (hProjRefIdeal := hProjRefIdeal)
    ∧ quiescent_AttnF (hAttnF := hAttnF)
    ∧ quiescent_AttnFIdeal (hAttnFIdeal := hAttnFIdeal)
    ∧ quiescent_AttnFIdeal_pre_finite6 (hAttnFIdeal := hAttnFIdeal) (hPre_finite6 := hPre_finite6)
    ∧ quiescent_AttnFRefIdeal (hAttnFRefIdeal := hAttnFRefIdeal)
    ∧ quiescent_AttnFRefIdeal_pre_finite6 (hAttnFRefIdeal := hAttnFRefIdeal) (hPre_finite6 := hPre_finite6)
    ∧ quiescent_Branch (hBranch := hBranch)
    ∧ quiescent_BranchIdeal (hBranchIdeal := hBranchIdeal)
    ∧ quiescent_BranchRefIdeal (hBranchRefIdeal := hBranchRefIdeal)
    ∧ preserves_Merge_MergeIdeal
    ∧ algebraic_MergeIdeal_MergeRefIdeal (hMergeIdeal := hMergeIdeal) (hMergeRefIdeal := hMergeRefIdeal)
    ∧ preserves_Attn_AttnIdeal
    ∧ algebraic_AttnIdeal_AttnRefIdeal_pre_finite2 (hAttnIdeal := hAttnIdeal) (hAttnRefIdeal := hAttnRefIdeal) (hPre_finite2 := hPre_finite2)
    ∧ preserves_WGrad_WGradIdeal
    ∧ algebraic_WGradIdeal_WGradRefIdeal (hWGradIdeal := hWGradIdeal) (hWGradRefIdeal := hWGradRefIdeal)
    ∧ preserves_HGrad_HGradIdeal
    ∧ algebraic_HGradIdeal_HGradRefIdeal (hHGradIdeal := hHGradIdeal) (hHGradRefIdeal := hHGradRefIdeal)
    ∧ preserves_Proj_ProjIdeal
    ∧ algebraic_ProjIdeal_ProjRefIdeal (hProjIdeal := hProjIdeal) (hProjRefIdeal := hProjRefIdeal)
    ∧ preserves_AttnF_AttnFIdeal
    ∧ algebraic_AttnFIdeal_AttnFRefIdeal_pre_finite6 (hAttnFIdeal := hAttnFIdeal) (hAttnFRefIdeal := hAttnFRefIdeal) (hPre_finite6 := hPre_finite6)
    ∧ preserves_Branch_BranchIdeal
    ∧ algebraic_BranchIdeal_BranchRefIdeal (hBranchIdeal := hBranchIdeal) (hBranchRefIdeal := hBranchRefIdeal)
-- ==== Pre_finite2.lean ====
abbrev S4096x8x64 : Shape := ⟨3, ![4096, 8, 64]⟩
abbrev S4096x2x64 : Shape := ⟨3, ![4096, 2, 64]⟩
abbrev S4096x512 : Shape := ⟨2, ![4096, 512]⟩
abbrev S_ : Shape := ⟨0, ![]⟩

class Facts : Prop where
  bcast_S_S4096x8x64 : S_.BroadcastsInDim S4096x8x64 (![] : Fin 0 → Fin S4096x8x64.rank)
  reducesTo_S4096x8x64_S_d0_1_2 : S4096x8x64.ReducesTo [0, 1, 2] S_
  h_S_ : 0 < S_.numel
  bcast_S_S4096x2x64 : S_.BroadcastsInDim S4096x2x64 (![] : Fin 0 → Fin S4096x2x64.rank)
  reducesTo_S4096x2x64_S_d0_1_2 : S4096x2x64.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x8x64 .f32) (main_arg1 : FVec F S4096x2x64 .f32) (main_arg2 : FVec F S4096x2x64 .f32) (main_arg3 : FVec F S4096x512 .f32) : IVec S_ 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_c : IVec S_ 1 := constantI S_ 1 1#1
  let main_v3 : IVec S_ 1 := (fun x v => Host.reduce IntOp.andi x v reducesTo_S4096x8x64_S_d0_1_2 h_S_) main_v2 main_c
  let main_v4 : FVec F S4096x2x64 .f32 := Host.absf main_arg1
  let main_cst_0 : FVec F S_ .f32 := constant S_ .f32 0x7F800000#32
  let main_v5 : FVec F S4096x2x64 .f32 := broadcastInDim S4096x2x64 ![] bcast_S_S4096x2x64 main_cst_0
  let main_v6 : IVec S4096x2x64 1 := cmpf .olt main_v4 main_v5
  let main_c_1 : IVec S_ 1 := constantI S_ 1 1#1
  let main_v7 : IVec S_ 1 := (fun x v => Host.reduce IntOp.andi x v reducesTo_S4096x2x64_S_d0_1_2 h_S_) main_v6 main_c_1
  let main_v8 : IVec S_ 1 := andi main_v3 main_v7
  let main_v9 : FVec F S4096x2x64 .f32 := Host.absf main_arg2
  let main_cst_2 : FVec F S_ .f32 := constant S_ .f32 0x7F800000#32
  let main_v10 : FVec F S4096x2x64 .f32 := broadcastInDim S4096x2x64 ![] bcast_S_S4096x2x64 main_cst_2
  let main_v11 : IVec S4096x2x64 1 := cmpf .olt main_v9 main_v10
  let main_c_3 : IVec S_ 1 := constantI S_ 1 1#1
  let main_v12 : IVec S_ 1 := (fun x v => Host.reduce IntOp.andi x v reducesTo_S4096x2x64_S_d0_1_2 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_finite6.lean ====
abbrev S4096x8x64 : Shape := ⟨3, ![4096, 8, 64]⟩
abbrev S4096x2x64 : Shape := ⟨3, ![4096, 2, 64]⟩
abbrev S_ : Shape := ⟨0, ![]⟩

class Facts : Prop where
  bcast_S_S4096x8x64 : S_.BroadcastsInDim S4096x8x64 (![] : Fin 0 → Fin S4096x8x64.rank)
  reducesTo_S4096x8x64_S_d0_1_2 : S4096x8x64.ReducesTo [0, 1, 2] S_
  h_S_ : 0 < S_.numel
  bcast_S_S4096x2x64 : S_.BroadcastsInDim S4096x2x64 (![] : Fin 0 → Fin S4096x2x64.rank)
  reducesTo_S4096x2x64_S_d0_1_2 : S4096x2x64.ReducesTo [0, 1, 2] S_

variable [Facts]

def fn {F : FTy → Type} [FloatOps F] (main_arg0 : FVec F S4096x8x64 .f32) (main_arg1 : FVec F S4096x2x64 .f32) (main_arg2 : FVec F S4096x2x64 .f32) : IVec S_ 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_c : IVec S_ 1 := constantI S_ 1 1#1
  let main_v3 : IVec S_ 1 := (fun x v => Host.reduce IntOp.andi x v reducesTo_S4096x8x64_S_d0_1_2 h_S_) main_v2 main_c
  let main_v4 : FVec F S4096x2x64 .f32 := Host.absf main_arg1
  let main_cst_0 : FVec F S_ .f32 := constant S_ .f32 0x7F800000#32
  let main_v5 : FVec F S4096x2x64 .f32 := broadcastInDim S4096x2x64 ![] bcast_S_S4096x2x64 main_cst_0
  let main_v6 : IVec S4096x2x64 1 := cmpf .olt main_v4 main_v5
  let main_c_1 : IVec S_ 1 := constantI S_ 1 1#1
  let main_v7 : IVec S_ 1 := (fun x v => Host.reduce IntOp.andi x v reducesTo_S4096x2x64_S_d0_1_2 h_S_) main_v6 main_c_1
  let main_v8 : IVec S_ 1 := andi main_v3 main_v7
  main_v8
-- ==== Merge.lean ====
abbrev S4096x1024 : Shape := ⟨2, ![4096, 1024]⟩
abbrev S4096x6912 : Shape := ⟨2, ![4096, 6912]⟩
abbrev S4096x3x512 : Shape := ⟨3, ![4096, 3, 512]⟩
abbrev S3x512x1024 : Shape := ⟨3, ![3, 512, 1024]⟩
abbrev S1024x1024 : Shape := ⟨2, ![1024, 1024]⟩
abbrev S3x4096x1024 : Shape := ⟨3, ![3, 4096, 1024]⟩
abbrev S4096x3072 : Shape := ⟨2, ![4096, 3072]⟩
abbrev S4096x3x1024 : Shape := ⟨3, ![4096, 3, 1024]⟩
abbrev S_ : Shape := ⟨0, ![]⟩
abbrev S4096x1x1024 : Shape := ⟨3, ![4096, 1, 1024]⟩
abbrev S1x4096x1024 : Shape := ⟨3, ![1, 4096, 1024]⟩
abbrev S3x4096x512 : Shape := ⟨3, ![3, 4096, 512]⟩
abbrev S3x512x4x256 : Shape := ⟨4, ![3, 512, 4, 256]⟩
abbrev S4x3x512x256 : Shape := ⟨4, ![4, 3, 512, 256]⟩
abbrev S512x1024 : Shape := ⟨2, ![512, 1024]⟩
abbrev S512x768 : Shape := ⟨2, ![512, 768]⟩
abbrev S3x512x512 : Shape := ⟨3, ![3, 512, 512]⟩
abbrev S512x3072 : Shape := ⟨2, ![512, 3072]⟩
abbrev S1x512x1024 : Shape := ⟨3, ![1, 512, 1024]⟩
abbrev S512x256 : Shape := ⟨2, ![512, 256]⟩
abbrev S1x1x512x256 : Shape := ⟨4, ![1, 1, 512, 256]⟩
abbrev S1x512x512 : Shape := ⟨3, ![1, 512, 512]⟩
abbrev S512x512 : Shape := ⟨2, ![512, 512]⟩

abbrev nBuf : Space → Nat
  | .hbm => 48
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S4096x3x512, .f32⟩
  | .hbm, ⟨3, _⟩ => ⟨S3x512x1024, .f32⟩
  | .hbm, ⟨4, _⟩ => ⟨S1024x1024, .f32⟩
  | .hbm, ⟨5, _⟩ => ⟨S3x4096x1024, .f32⟩
  | .hbm, ⟨6, _⟩ => ⟨S4096x3072, .f32⟩
  | .hbm, ⟨7, _⟩ => ⟨S4096x3x1024, .f32⟩
  | .hbm, ⟨8, _⟩ => ⟨S4096x3x1024, .f32⟩
  | .hbm, ⟨9, _⟩ => ⟨S4096x3x1024, .f32⟩
  | .hbm, ⟨10, _⟩ => ⟨S_, .f32⟩
  | .hbm, ⟨11, _⟩ => ⟨S4096x3x1024, .f32⟩
  | .hbm, ⟨12, _⟩ => ⟨S4096x3x1024, .f32⟩
  | .hbm, ⟨13, _⟩ => ⟨S_, .f32⟩
  | .hbm, ⟨14, _⟩ => ⟨S4096x3x1024, .f32⟩
  | .hbm, ⟨15, _⟩ => ⟨S4096x3x1024, .f32⟩
  | .hbm, ⟨16, _⟩ => ⟨S4096x1x1024, .f32⟩
  | .hbm, ⟨17, _⟩ => ⟨S4096x1024, .f32⟩
  | .hbm, ⟨18, _⟩ => ⟨S1x4096x1024, .f32⟩
  | .hbm, ⟨19, _⟩ => ⟨S4096x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S1x4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S1x4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x6912, .bf16⟩
  | .hbm, ⟨34, _⟩ => ⟨S3x4096x512, .f32⟩
  | .hbm, ⟨35, _⟩ => ⟨S3x4096x512, .bf16⟩
  | .hbm, ⟨36, _⟩ => ⟨S3x4096x1024, .bf16⟩
  | .hbm, ⟨37, _⟩ => ⟨S4096x1024, .bf16⟩
  | .hbm, ⟨38, _⟩ => ⟨S3x512x4x256, .f32⟩
  | .hbm, ⟨39, _⟩ => ⟨S4x3x512x256, .f32⟩
  | .hbm, ⟨40, _⟩ => ⟨S4x3x512x256, .bf16⟩
  | .hbm, ⟨41, _⟩ => ⟨S1024x1024, .bf16⟩
  | .hbm, ⟨42, _⟩ => ⟨S3x4096x512, .bf16⟩
  | .hbm, ⟨43, _⟩ => ⟨S4096x3072, .bf16⟩
  | .hbm, ⟨44, _⟩ => ⟨S1024x1024, .f32⟩
  | .hbm, ⟨45, _⟩ => ⟨S4x3x512x256, .f32⟩
  | .hbm, ⟨46, _⟩ => ⟨S1024x1024, .bf16⟩
  | .hbm, ⟨47, _⟩ => ⟨S4x3x512x256, .bf16⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S3x512x512, .bf16⟩
  | .local _ .vmem, ⟨11, _⟩ => ⟨S3x512x512, .bf16⟩
  | .local _ .vmem, ⟨12, _⟩ => ⟨S3x512x1024, .bf16⟩
  | .local _ .vmem, ⟨13, _⟩ => ⟨S3x512x1024, .bf16⟩
  | .local _ .vmem, ⟨14, _⟩ => ⟨S512x1024, .bf16⟩
  | .local _ .vmem, ⟨15, _⟩ => ⟨S512x1024, .bf16⟩
  | .local _ .vmem, ⟨16, _⟩ => ⟨S4x3x512x256, .bf16⟩
  | .local _ .vmem, ⟨17, _⟩ => ⟨S1024x1024, .bf16⟩
  | .local _ .vmem, ⟨18, _⟩ => ⟨S3x512x512, .bf16⟩
  | .local _ .vmem, ⟨19, _⟩ => ⟨S3x512x512, .bf16⟩
  | .local _ .vmem, ⟨20, _⟩ => ⟨S512x3072, .bf16⟩
  | .local _ .vmem, ⟨21, _⟩ => ⟨S512x3072, .bf16⟩
  | .local _ .vmem, ⟨22, _⟩ => ⟨S1024x1024, .f32⟩
  | .local _ .vmem, ⟨23, _⟩ => ⟨S4x3x512x256, .f32⟩
  | .local _ .vmem, ⟨24, _⟩ => ⟨S1024x1024, .bf16⟩
  | .local _ .vmem, ⟨25, _⟩ => ⟨S4x3x512x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev main_v35_3 : Ref sig .tc := ⟨.hbm, 45, rfl⟩
abbrev main_v35_4 : Ref sig .tc := ⟨.hbm, 46, rfl⟩
abbrev main_v35_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v259 : BitVec 1 := Scalar.cmpi .eq arg0 c7_i32
  let v260 : BitVec 32 := Scalar.extui v259
  let c0_i32_254 : BitVec 32 := 0#32
  let v261 : BitVec 1 := Scalar.cmpi .ne v260 c0_i32_254
  v261

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x3x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x3x512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x3x512x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MergeRefIdeal.lean ====
abbrev S4096x1024 : Shape := ⟨2, ![4096, 1024]⟩
abbrev S4096x6912 : Shape := ⟨2, ![4096, 6912]⟩
abbrev S4096x3x512 : Shape := ⟨3, ![4096, 3, 512]⟩
abbrev S3x512x1024 : Shape := ⟨3, ![3, 512, 1024]⟩
abbrev S1024x1024 : Shape := ⟨2, ![1024, 1024]⟩
abbrev S4096x3072 : Shape := ⟨2, ![4096, 3072]⟩
abbrev S3x1024x4096 : Shape := ⟨3, ![3, 1024, 4096]⟩
abbrev S4096x3x1024 : Shape := ⟨3, ![4096, 3, 1024]⟩
abbrev S_ : Shape := ⟨0, ![]⟩
abbrev S3x4096x512 : Shape := ⟨3, ![3, 4096, 512]⟩
abbrev S3x1024x512 : Shape := ⟨3, ![3, 1024, 512]⟩
abbrev S3x512x4x256 : Shape := ⟨4, ![3, 512, 4, 256]⟩
abbrev S4x3x512x256 : Shape := ⟨4, ![4, 3, 512, 256]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S4096x3x512, .f32⟩
  | .hbm, ⟨3, _⟩ => ⟨S3x512x1024, .f32⟩
  | .hbm, ⟨4, _⟩ => ⟨S1024x1024, .f32⟩
  | .hbm, ⟨5, _⟩ => ⟨S4096x3072, .f32⟩
  | .hbm, ⟨6, _⟩ => ⟨S3x1024x4096, .f32⟩
  | .hbm, ⟨7, _⟩ => ⟨S4096x3x1024, .f32⟩
  | .hbm, ⟨8, _⟩ => ⟨S4096x3x1024, .f32⟩
  | .hbm, ⟨9, _⟩ => ⟨S4096x3x1024, .f32⟩
  | .hbm, ⟨10, _⟩ => ⟨S4096x3x1024, .f32⟩
  | .hbm, ⟨11, _⟩ => ⟨S_, .f32⟩
  | .hbm, ⟨12, _⟩ => ⟨S4096x3x1024, .f32⟩
  | .hbm, ⟨13, _⟩ => ⟨S4096x3x1024, .f32⟩
  | .hbm, ⟨14, _⟩ => ⟨S_, .f32⟩
  | .hbm, ⟨15, _⟩ => ⟨S4096x3x1024, .f32⟩
  | .hbm, ⟨16, _⟩ => ⟨S4096x3x1024, .f32⟩
  | .hbm, ⟨17, _⟩ => ⟨S_, .f32⟩
  | .hbm, ⟨18, _⟩ => ⟨S4096x3x1024, .f32⟩
  | .hbm, ⟨19, _⟩ => ⟨S4096x3x1024, .f32⟩
  | .hbm, ⟨20, _⟩ => ⟨S4096x3x1024, .f32⟩
  | .hbm, ⟨21, _⟩ => ⟨S4096x3x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S1024x1024, .f32⟩
  | .hbm, ⟨26, _⟩ => ⟨S1024x1024, .f32⟩
  | .hbm, ⟨27, _⟩ => ⟨S4096x1024, .f32⟩
  | .hbm, ⟨28, _⟩ => ⟨S4096x3x1024, .f32⟩
  | .hbm, ⟨29, _⟩ => ⟨S4096x3x1024, .f32⟩
  | .hbm, ⟨30, _⟩ => ⟨S4096x3x1024, .f32⟩
  | .hbm, ⟨31, _⟩ => ⟨S4096x3x1024, .f32⟩
  | .hbm, ⟨32, _⟩ => ⟨S4096x3072, .f32⟩
  | .hbm, ⟨33, _⟩ => ⟨S3x1024x4096, .f32⟩
  | .hbm, ⟨34, _⟩ => ⟨S3x4096x512, .f32⟩
  | .hbm, ⟨35, _⟩ => ⟨S4096x3x512, .f32⟩
  | .hbm, ⟨36, _⟩ => ⟨S3x1024x512, .f32⟩
  | .hbm, ⟨37, _⟩ => ⟨S3x512x1024, .f32⟩
  | .hbm, ⟨38, _⟩ => ⟨S3x512x4x256, .f32⟩
  | .hbm, ⟨39, _⟩ => ⟨S4x3x512x256, .f32⟩
  | .hbm, ⟨40, _⟩ => ⟨S3x4096x512, .f32⟩
  | .hbm, ⟨41, _⟩ => ⟨S3x4096x512, .bf16⟩
  | .hbm, ⟨42, _⟩ => ⟨S4096x3072, .bf16⟩
  | .hbm, ⟨43, _⟩ => ⟨S1024x1024, .bf16⟩
  | .hbm, ⟨44, _⟩ => ⟨S4x3x512x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Attn.lean ====
abbrev S4096x8x64 : Shape := ⟨3, ![4096, 8, 64]⟩
abbrev S4096x2x64 : Shape := ⟨3, ![4096, 2, 64]⟩
abbrev S4096x512 : Shape := ⟨2, ![4096, 512]⟩
abbrev S_ : Shape := ⟨0, ![]⟩
abbrev S4096x2x4x64 : Shape := ⟨4, ![4096, 2, 4, 64]⟩
abbrev S2x4x4096x64 : Shape := ⟨4, ![2, 4, 4096, 64]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S8x4096 : Shape := ⟨2, ![8, 4096]⟩
abbrev S512x4096 : Shape := ⟨2, ![512, 4096]⟩
abbrev S4096x128 : Shape := ⟨2, ![4096, 128]⟩
abbrev S128x4096 : Shape := ⟨2, ![128, 4096]⟩
abbrev S512x256 : Shape := ⟨2, ![512, 256]⟩
abbrev S8x256 : Shape := ⟨2, ![8, 256]⟩
abbrev S8x128x256 : Shape := ⟨3, ![8, 128, 256]⟩
abbrev S64x256 : Shape := ⟨2, ![64, 256]⟩
abbrev S128x256 : Shape := ⟨2, ![128, 256]⟩
abbrev S1x128x256 : Shape := ⟨3, ![1, 128, 256]⟩
abbrev S512x128 : Shape := ⟨2, ![512, 128]⟩
abbrev S128x512 : Shape := ⟨2, ![128, 512]⟩
abbrev S1x256 : Shape := ⟨2, ![1, 256]⟩

abbrev nBuf : Space → Nat
  | .hbm => 55
  | .vmem => 18
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x2x64, .f32⟩
  | .hbm, ⟨3, _⟩ => ⟨S4096x512, .f32⟩
  | .hbm, ⟨4, _⟩ => ⟨S_, .f32⟩
  | .hbm, ⟨5, _⟩ => ⟨S_, .f32⟩
  | .hbm, ⟨6, _⟩ => ⟨S4096x2x4x64, .f32⟩
  | .hbm, ⟨7, _⟩ => ⟨S2x4x4096x64, .f32⟩
  | .hbm, ⟨8, _⟩ => ⟨S2x4x4096x4096, .f32⟩
  | .hbm, ⟨9, _⟩ => ⟨S_, .f32⟩
  | .hbm, ⟨10, _⟩ => ⟨S2x4x4096x4096, .f32⟩
  | .hbm, ⟨11, _⟩ => ⟨S2x4x4096x4096, .f32⟩
  | .hbm, ⟨12, _⟩ => ⟨S_, .f32⟩
  | .hbm, ⟨13, _⟩ => ⟨S2x4x4096, .f32⟩
  | .hbm, ⟨14, _⟩ => ⟨S2x4x4096x1, .f32⟩
  | .hbm, ⟨15, _⟩ => ⟨S2x4x4096x4096, .f32⟩
  | .hbm, ⟨16, _⟩ => ⟨S2x4x4096x4096, .f32⟩
  | .hbm, ⟨17, _⟩ => ⟨S2x4x4096x4096, .f32⟩
  | .hbm, ⟨18, _⟩ => ⟨S_, .f32⟩
  | .hbm, ⟨19, _⟩ => ⟨S2x4x4096, .f32⟩
  | .hbm, ⟨20, _⟩ => ⟨S2x4x4096x1, .f32⟩
  | .hbm, ⟨21, _⟩ => ⟨S2x4x4096x4096, .f32⟩
  | .hbm, ⟨22, _⟩ => ⟨S2x4x4096x4096, .f32⟩
  | .hbm, ⟨23, _⟩ => ⟨S2x4x4096x64, .f32⟩
  | .hbm, ⟨24, _⟩ => ⟨S2x4x4096, .f32⟩
  | .hbm, ⟨25, _⟩ => ⟨S2x4x4096, .f32⟩
  | .hbm, ⟨26, _⟩ => ⟨S2x4x4096, .f32⟩
  | .hbm, ⟨27, _⟩ => ⟨S2x4x4096, .f32⟩
  | .hbm, ⟨28, _⟩ => ⟨S8x4096, .f32⟩
  | .hbm, ⟨29, _⟩ => ⟨S4096x512, .f32⟩
  | .hbm, ⟨30, _⟩ => ⟨S4096x512, .f32⟩
  | .hbm, ⟨31, _⟩ => ⟨S4096x2x4x64, .f32⟩
  | .hbm, ⟨32, _⟩ => ⟨S2x4x4096x64, .f32⟩
  | .hbm, ⟨33, _⟩ => ⟨S2x4x4096x64, .f32⟩
  | .hbm, ⟨34, _⟩ => ⟨S_, .f32⟩
  | .hbm, ⟨35, _⟩ => ⟨S2x4x4096, .f32⟩
  | .hbm, ⟨36, _⟩ => ⟨S8x4096, .f32⟩
  | .hbm, ⟨37, _⟩ => ⟨S4096x512, .f32⟩
  | .hbm, ⟨38, _⟩ => ⟨S_, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S512x4096, .f32⟩
  | .hbm, ⟨43, _⟩ => ⟨S512x4096, .bf16⟩
  | .hbm, ⟨44, _⟩ => ⟨S4096x128, .f32⟩
  | .hbm, ⟨45, _⟩ => ⟨S512x4096, .f32⟩
  | .hbm, ⟨46, _⟩ => ⟨S512x4096, .bf16⟩
  | .hbm, ⟨47, _⟩ => ⟨S4096x128, .bf16⟩
  | .hbm, ⟨48, _⟩ => ⟨S128x4096, .f32⟩
  | .hbm, ⟨49, _⟩ => ⟨S128x4096, .bf16⟩
  | .hbm, ⟨50, _⟩ => ⟨S4096x128, .f32⟩
  | .hbm, ⟨51, _⟩ => ⟨S4096x128, .bf16⟩
  | .hbm, ⟨52, _⟩ => ⟨S512x4096, .f32⟩
  | .hbm, ⟨53, _⟩ => ⟨S4096x128, .f32⟩
  | .hbm, ⟨54, _⟩ => ⟨S4096x128, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S4096x128, .bf16⟩
  | .local _ .vmem, ⟨5, _⟩ => ⟨S128x4096, .bf16⟩
  | .local _ .vmem, ⟨6, _⟩ => ⟨S4096x128, .bf16⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S512x256, .f32⟩
  | .local _ .vmem, ⟨12, _⟩ => ⟨S512x256, .f32⟩
  | .local _ .vmem, ⟨13, _⟩ => ⟨S4096x128, .f32⟩
  | .local _ .vmem, ⟨14, _⟩ => ⟨S4096x128, .f32⟩
  | .local _ .vmem, ⟨15, _⟩ => ⟨S8x128x256, .bf16⟩
  | .local _ .vmem, ⟨16, _⟩ => ⟨S8x128x256, .bf16⟩
  | .local _ .vmem, ⟨17, _⟩ => ⟨S8x128x256, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42_0 : Ref sig .tc := ⟨.hbm, 52, rfl⟩
abbrev main_v42_1 : Ref sig .tc := ⟨.hbm, 53, rfl⟩
abbrev main_v42_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_85 : BitVec 32 := 0#32
  let c8_i32 : BitVec 32 := 8#32
  let v119 : BitVec 32 := Scalar.addi c0_i32_85 c8_i32
  let c1_i32 : BitVec 32 := 1#32
  ⟨c0_i32_85, v119, c1_i32⟩
def k0_mult1 (k0_t1 : Fin k0_t1_loop.trips) : BitVec 32 :=
  let c0_i32_85 : BitVec 32 := 0#32
  let c1_i32 : BitVec 32 := 1#32
  let arg14 : BitVec 32 := Scf.iv c0_i32_85 c1_i32 k0_t1
  let c512_i32 : BitVec 32 := 512#32
  let v146 : BitVec 32 := Scalar.muli arg14 c512_i32
  v146
def k0_off1 (k0_t1 : Fin k0_t1_loop.trips) : Fin 2 → Nat :=
  let c0_i32_85 : BitVec 32 := 0#32
  let c1_i32 : BitVec 32 := 1#32
  let arg14 : BitVec 32 := Scf.iv c0_i32_85 c1_i32 k0_t1
  let c512_i32 : BitVec 32 := 512#32
  let v146 : BitVec 32 := Scalar.muli arg14 c512_i32
  let v147 : BitVec 32 := v146
  let v148 : Index := Scalar.indexCast v147
  let c0_113 : Index := 0#32
  ![v148.toNat, 0]
def k0_off2 (k0_t1 : Fin k0_t1_loop.trips) : Fin 2 → Nat :=
  let c0_115 : Index := 0#32
  let c0_i32_85 : BitVec 32 := 0#32
  let c1_i32 : BitVec 32 := 1#32
  let arg14 : BitVec 32 := Scf.iv c0_i32_85 c1_i32 k0_t1
  let c512_i32 : BitVec 32 := 512#32
  let v146 : BitVec 32 := Scalar.muli arg14 c512_i32
  let v147 : BitVec 32 := v146
  let v154 : Index := Scalar.indexCast v147
  ![0, v154.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnRefIdeal.lean ====
abbrev S4096x8x64 : Shape := ⟨3, ![4096, 8, 64]⟩
abbrev S4096x2x64 : Shape := ⟨3, ![4096, 2, 64]⟩
abbrev S4096x512 : Shape := ⟨2, ![4096, 512]⟩
abbrev S4096x2x4x64 : Shape := ⟨4, ![4096, 2, 4, 64]⟩
abbrev S2x4x4096x64 : Shape := ⟨4, ![2, 4, 4096, 64]⟩
abbrev S2x4096x64 : Shape := ⟨3, ![2, 4096, 64]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4096 : Shape := ⟨3, ![2, 64, 4096]⟩
abbrev S512x4096 : Shape := ⟨2, ![512, 4096]⟩
abbrev S4096x128 : Shape := ⟨2, ![4096, 128]⟩

abbrev nBuf : Space → Nat
  | .hbm => 93
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x2x64, .f32⟩
  | .hbm, ⟨3, _⟩ => ⟨S4096x512, .f32⟩
  | .hbm, ⟨4, _⟩ => ⟨S4096x2x4x64, .f32⟩
  | .hbm, ⟨5, _⟩ => ⟨S2x4x4096x64, .f32⟩
  | .hbm, ⟨6, _⟩ => ⟨S2x4096x64, .f32⟩
  | .hbm, ⟨7, _⟩ => ⟨S2x4096x64, .f32⟩
  | .hbm, ⟨8, _⟩ => ⟨S2x4x4096x4096, .f32⟩
  | .hbm, ⟨9, _⟩ => ⟨S_, .f32⟩
  | .hbm, ⟨10, _⟩ => ⟨S2x4x4096x4096, .f32⟩
  | .hbm, ⟨11, _⟩ => ⟨S2x4x4096x4096, .f32⟩
  | .hbm, ⟨12, _⟩ => ⟨S_, .f32⟩
  | .hbm, ⟨13, _⟩ => ⟨S2x4x4096, .f32⟩
  | .hbm, ⟨14, _⟩ => ⟨S2x4x4096x1, .f32⟩
  | .hbm, ⟨15, _⟩ => ⟨S2x4x4096x4096, .f32⟩
  | .hbm, ⟨16, _⟩ => ⟨S2x4x4096x4096, .i1⟩
  | .hbm, ⟨17, _⟩ => ⟨S2x4x4096x4096, .f32⟩
  | .hbm, ⟨18, _⟩ => ⟨S_, .f32⟩
  | .hbm, ⟨19, _⟩ => ⟨S2x4x4096, .f32⟩
  | .hbm, ⟨20, _⟩ => ⟨S_, .f32⟩
  | .hbm, ⟨21, _⟩ => ⟨S2x4x4096, .f32⟩
  | .hbm, ⟨22, _⟩ => ⟨S2x4x4096, .f32⟩
  | .hbm, ⟨23, _⟩ => ⟨S_, .f32⟩
  | .hbm, ⟨24, _⟩ => ⟨S2x4x4096, .f32⟩
  | .hbm, ⟨25, _⟩ => ⟨S2x4x4096, .i1⟩
  | .hbm, ⟨26, _⟩ => ⟨S_, .f32⟩
  | .hbm, ⟨27, _⟩ => ⟨S2x4x4096, .f32⟩
  | .hbm, ⟨28, _⟩ => ⟨S2x4x4096, .i1⟩
  | .hbm, ⟨29, _⟩ => ⟨S_, .f32⟩
  | .hbm, ⟨30, _⟩ => ⟨S2x4x4096, .f32⟩
  | .hbm, ⟨31, _⟩ => ⟨S_, .f32⟩
  | .hbm, ⟨32, _⟩ => ⟨S2x4x4096, .f32⟩
  | .hbm, ⟨33, _⟩ => ⟨S_, .f32⟩
  | .hbm, ⟨34, _⟩ => ⟨S2x4x4096, .f32⟩
  | .hbm, ⟨35, _⟩ => ⟨S2x4x4096, .f32⟩
  | .hbm, ⟨36, _⟩ => ⟨S2x4x4096, .f32⟩
  | .hbm, ⟨37, _⟩ => ⟨S2x4x4096x1, .f32⟩
  | .hbm, ⟨38, _⟩ => ⟨S2x4x4096x4096, .f32⟩
  | .hbm, ⟨39, _⟩ => ⟨S2x4x4096x4096, .f32⟩
  | .hbm, ⟨40, _⟩ => ⟨S2x4x4096x4096, .f32⟩
  | .hbm, ⟨41, _⟩ => ⟨S_, .f32⟩
  | .hbm, ⟨42, _⟩ => ⟨S2x4x4096, .f32⟩
  | .hbm, ⟨43, _⟩ => ⟨S2x4x4096x1, .f32⟩
  | .hbm, ⟨44, _⟩ => ⟨S2x4x4096x4096, .f32⟩
  | .hbm, ⟨45, _⟩ => ⟨S2x4x4096x4096, .f32⟩
  | .hbm, ⟨46, _⟩ => ⟨S2x4x4096x1, .f32⟩
  | .hbm, ⟨47, _⟩ => ⟨S_, .f32⟩
  | .hbm, ⟨48, _⟩ => ⟨S2x4x4096x1, .f32⟩
  | .hbm, ⟨49, _⟩ => ⟨S2x4x4096x1, .f32⟩
  | .hbm, ⟨50, _⟩ => ⟨S2x4x4096x64, .f32⟩
  | .hbm, ⟨51, _⟩ => ⟨S4096x2x4x64, .f32⟩
  | .hbm, ⟨52, _⟩ => ⟨S4096x512, .f32⟩
  | .hbm, ⟨53, _⟩ => ⟨S4096x2x4x64, .f32⟩
  | .hbm, ⟨54, _⟩ => ⟨S2x4x4096x64, .f32⟩
  | .hbm, ⟨55, _⟩ => ⟨S2x64x4096, .f32⟩
  | .hbm, ⟨56, _⟩ => ⟨S2x4096x64, .f32⟩
  | .hbm, ⟨57, _⟩ => ⟨S2x4x4096x4096, .f32⟩
  | .hbm, ⟨58, _⟩ => ⟨S2x4x4096x4096, .f32⟩
  | .hbm, ⟨59, _⟩ => ⟨S2x4x4096x4096, .f32⟩
  | .hbm, ⟨60, _⟩ => ⟨S2x4x4096x4096, .f32⟩
  | .hbm, ⟨61, _⟩ => ⟨S_, .f32⟩
  | .hbm, ⟨62, _⟩ => ⟨S2x4x4096, .f32⟩
  | .hbm, ⟨63, _⟩ => ⟨S2x4x4096x1, .f32⟩
  | .hbm, ⟨64, _⟩ => ⟨S2x4x4096x1, .f32⟩
  | .hbm, ⟨65, _⟩ => ⟨S2x4x4096x4096, .f32⟩
  | .hbm, ⟨66, _⟩ => ⟨S2x4x4096x4096, .f32⟩
  | .hbm, ⟨67, _⟩ => ⟨S_, .f32⟩
  | .hbm, ⟨68, _⟩ => ⟨S2x4x4096, .f32⟩
  | .hbm, ⟨69, _⟩ => ⟨S2x4x4096x4096, .f32⟩
  | .hbm, ⟨70, _⟩ => ⟨S2x4x4096x4096, .f32⟩
  | .hbm, ⟨71, _⟩ => ⟨S2x4x4096x4096, .f32⟩
  | .hbm, ⟨72, _⟩ => ⟨S_, .f32⟩
  | .hbm, ⟨73, _⟩ => ⟨S2x4x4096x4096, .f32⟩
  | .hbm, ⟨74, _⟩ => ⟨S2x4x4096x4096, .f32⟩
  | .hbm, ⟨75, _⟩ => ⟨S2x4096x64, .f32⟩
  | .hbm, ⟨76, _⟩ => ⟨S2x4x4096x64, .f32⟩
  | .hbm, ⟨77, _⟩ => ⟨S4096x2x64, .f32⟩
  | .hbm, ⟨78, _⟩ => ⟨S4096x2x64, .f32⟩
  | .hbm, ⟨79, _⟩ => ⟨S4096x2x4x64, .f32⟩
  | .hbm, ⟨80, _⟩ => ⟨S4096x8x64, .f32⟩
  | .hbm, ⟨81, _⟩ => ⟨S_, .f32⟩
  | .hbm, ⟨82, _⟩ => ⟨S_, .f32⟩
  | .hbm, ⟨83, _⟩ => ⟨S4096x512, .f32⟩
  | .hbm, ⟨84, _⟩ => ⟨S_, .f32⟩
  | .hbm, ⟨85, _⟩ => ⟨S_, .f32⟩
  | .hbm, ⟨86, _⟩ => ⟨S4096x512, .f32⟩
  | .hbm, ⟨87, _⟩ => ⟨S4096x512, .f32⟩
  | .hbm, ⟨88, _⟩ => ⟨S512x4096, .f32⟩
  | .hbm, ⟨89, _⟩ => ⟨S4096x128, .f32⟩
  | .hbm, ⟨90, _⟩ => ⟨S4096x128, .f32⟩
  | .hbm, ⟨91, _⟩ => ⟨S4096x128, .f32⟩
  | .hbm, ⟨92, _⟩ => ⟨S4096x128, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_cst_14 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== WGrad.lean ====
abbrev S4096x1024 : Shape := ⟨2, ![4096, 1024]⟩
abbrev S1024 : Shape := ⟨1, ![1024]⟩
abbrev S1024x6912 : Shape := ⟨2, ![1024, 6912]⟩
abbrev S4096x6912 : Shape := ⟨2, ![4096, 6912]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x768 : Shape := ⟨2, ![4096, 768]⟩
abbrev S4096x3072 : Shape := ⟨2, ![4096, 3072]⟩
abbrev S6912x1024 : Shape := ⟨2, ![6912, 1024]⟩
abbrev S768x1024 : Shape := ⟨2, ![768, 1024]⟩

abbrev nBuf : Space → Nat
  | .hbm => 27
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x6912, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x6912, .bf16⟩
  | .hbm, ⟨22, _⟩ => ⟨S4096x768, .bf16⟩
  | .hbm, ⟨23, _⟩ => ⟨S4096x3072, .bf16⟩
  | .hbm, ⟨24, _⟩ => ⟨S4096x3072, .bf16⟩
  | .hbm, ⟨25, _⟩ => ⟨S6912x1024, .f32⟩
  | .hbm, ⟨26, _⟩ => ⟨S6912x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x768, .bf16⟩
  | .local _ .vmem, ⟨3, _⟩ => ⟨S4096x768, .bf16⟩
  | .local _ .vmem, ⟨4, _⟩ => ⟨S4096x768, .bf16⟩
  | .local _ .vmem, ⟨5, _⟩ => ⟨S4096x768, .bf16⟩
  | .local _ .vmem, ⟨6, _⟩ => ⟨S4096x1024, .bf16⟩
  | .local _ .vmem, ⟨7, _⟩ => ⟨S768x1024, .f32⟩
  | .local _ .vmem, ⟨8, _⟩ => ⟨S768x1024, .f32⟩
  | .local _ .vmem, ⟨9, _⟩ => ⟨S768x1024, .bf16⟩
  | .local _ .vmem, ⟨10, _⟩ => ⟨S768x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c1_i32 : BitVec 32 := 1#32
  let v6 : BitVec 1 := Scalar.cmpi .sge arg0 c1_i32
  let c5_i32 : BitVec 32 := 5#32
  let v7 : BitVec 1 := Scalar.cmpi .slt arg0 c5_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg0 : BitVec 32 := BitVec.ofNat 32 (i 0).val
  let c5_i32_4 : BitVec 32 := 5#32
  let v11 : BitVec 1 := Scalar.cmpi .sge arg0 c5_i32_4
  let v12 : BitVec 32 := Scalar.extui v11
  let c0_i32_5 : BitVec 32 := 0#32
  let v13 : BitVec 1 := Scalar.cmpi .ne v12 c0_i32_5
  v13

def k0_cond5 (i : grid0.Coords) : BitVec 1 :=
  let arg1 : BitVec 32 := BitVec.ofNat 32 (i 1).val
  let c0_i32_6 : BitVec 32 := 0#32
  let v14 : BitVec 1 := Scalar.cmpi .eq arg1 c0_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c5_i32 : BitVec 32 := 5#32
  let v1 : BitVec 1 := Scalar.cmpi .slt arg0 c5_i32
  let v2 : BitVec 1 := Scalar.andi v0 v1
  let c0_i32 : BitVec 32 := 0#32
  let v3 : BitVec 32 := Scalar.select v2 arg1 c0_i32
  let c1_i32_0 : BitVec 32 := 1#32
  let v4 : BitVec 32 := Scalar.subi arg0 c1_i32_0
  let c0_i32_1 : BitVec 32 := 0#32
  let c3_i32 : BitVec 32 := 3#32
  let v5 : BitVec 32 := Scalar.maxsi c0_i32_1 v4
  let v6 : BitVec 32 := Scalar.minsi c3_i32 v5
  let c0_i32_2 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .sge arg0 c5_i32
  let c9_i32 : BitVec 32 := 9#32
  let v1 : BitVec 1 := Scalar.cmpi .slt arg0 c9_i32
  let v2 : BitVec 1 := Scalar.andi v0 v1
  let c0_i32 : BitVec 32 := 0#32
  let v3 : BitVec 32 := Scalar.select v2 arg1 c0_i32
  let c5_i32_0 : BitVec 32 := 5#32
  let v4 : BitVec 32 := Scalar.subi arg0 c5_i32_0
  let c0_i32_1 : BitVec 32 := 0#32
  let c3_i32 : BitVec 32 := 3#32
  let v5 : BitVec 32 := Scalar.maxsi c0_i32_1 v4
  let v6 : BitVec 32 := Scalar.minsi c3_i32 v5
  let c0_i32_2 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== WGradRefIdeal.lean ====
abbrev S4096x1024 : Shape := ⟨2, ![4096, 1024]⟩
abbrev S1024 : Shape := ⟨1, ![1024]⟩
abbrev S1024x6912 : Shape := ⟨2, ![1024, 6912]⟩
abbrev S4096x6912 : Shape := ⟨2, ![4096, 6912]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6912x1024 : Shape := ⟨2, ![6912, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x6912, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x6912, .f32⟩
  | .hbm, ⟨21, _⟩ => ⟨S6912x1024, .f32⟩
  | .hbm, ⟨22, _⟩ => ⟨S1024x6912, .f32⟩
  | .hbm, ⟨23, _⟩ => ⟨S6912x1024, .f32⟩
  | .hbm, ⟨24, _⟩ => ⟨S6912x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== HGrad.lean ====
abbrev S4096x1024 : Shape := ⟨2, ![4096, 1024]⟩
abbrev S1024 : Shape := ⟨1, ![1024]⟩
abbrev S1024x6912 : Shape := ⟨2, ![1024, 6912]⟩
abbrev S4096x6912 : Shape := ⟨2, ![4096, 6912]⟩
abbrev S4096x768 : Shape := ⟨2, ![4096, 768]⟩
abbrev S4096x3072 : Shape := ⟨2, ![4096, 3072]⟩
abbrev S6912x1024 : Shape := ⟨2, ![6912, 1024]⟩
abbrev S1x1024 : Shape := ⟨2, ![1, 1024]⟩
abbrev S512x768 : Shape := ⟨2, ![512, 768]⟩
abbrev S512x3072 : Shape := ⟨2, ![512, 3072]⟩
abbrev S512x1024 : Shape := ⟨2, ![512, 1024]⟩
abbrev S768x1024 : Shape := ⟨2, ![768, 1024]⟩
abbrev S3072x1024 : Shape := ⟨2, ![3072, 1024]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x6912, .f32⟩
  | .hbm, ⟨4, _⟩ => ⟨S4096x1024, .f32⟩
  | .hbm, ⟨5, _⟩ => ⟨S4096x6912, .bf16⟩
  | .hbm, ⟨6, _⟩ => ⟨S4096x768, .bf16⟩
  | .hbm, ⟨7, _⟩ => ⟨S4096x3072, .bf16⟩
  | .hbm, ⟨8, _⟩ => ⟨S4096x3072, .bf16⟩
  | .hbm, ⟨9, _⟩ => ⟨S6912x1024, .f32⟩
  | .hbm, ⟨10, _⟩ => ⟨S6912x1024, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x3072, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S6912x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6912x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== HGradRefIdeal.lean ====
abbrev S4096x1024 : Shape := ⟨2, ![4096, 1024]⟩
abbrev S1024 : Shape := ⟨1, ![1024]⟩
abbrev S1024x6912 : Shape := ⟨2, ![1024, 6912]⟩
abbrev S4096x6912 : Shape := ⟨2, ![4096, 6912]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x6912, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6912, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proj.lean ====
abbrev S4096x1024 : Shape := ⟨2, ![4096, 1024]⟩
abbrev S1024 : Shape := ⟨1, ![1024]⟩
abbrev S1024x6912 : Shape := ⟨2, ![1024, 6912]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6912x1024 : Shape := ⟨2, ![6912, 1024]⟩
abbrev S4096x6912 : Shape := ⟨2, ![4096, 6912]⟩
abbrev S1024x1024 : Shape := ⟨2, ![1024, 1024]⟩
abbrev S2304x1024 : Shape := ⟨2, ![2304, 1024]⟩
abbrev S1024x2304 : Shape := ⟨2, ![1024, 2304]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S6912x1024, .f32⟩
  | .hbm, ⟨21, _⟩ => ⟨S6912x1024, .bf16⟩
  | .hbm, ⟨22, _⟩ => ⟨S4096x6912, .bf16⟩
  | .local _ .vmem, ⟨0, _⟩ => ⟨S1024x1024, .bf16⟩
  | .local _ .vmem, ⟨1, _⟩ => ⟨S1024x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x2304, .bf16⟩
  | .local _ .vmem, ⟨5, _⟩ => ⟨S1024x2304, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S4096x1024 : Shape := ⟨2, ![4096, 1024]⟩
abbrev S1024 : Shape := ⟨1, ![1024]⟩
abbrev S1024x6912 : Shape := ⟨2, ![1024, 6912]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6912 : Shape := ⟨2, ![4096, 6912]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x6912, .f32⟩
  | .hbm, ⟨20, _⟩ => ⟨S4096x6912, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== AttnF.lean ====
abbrev S4096x8x64 : Shape := ⟨3, ![4096, 8, 64]⟩
abbrev S4096x2x64 : Shape := ⟨3, ![4096, 2, 64]⟩
abbrev S4096x512 : Shape := ⟨2, ![4096, 512]⟩
abbrev S_ : Shape := ⟨0, ![]⟩
abbrev S512x4096 : Shape := ⟨2, ![512, 4096]⟩
abbrev S4096x128 : Shape := ⟨2, ![4096, 128]⟩
abbrev S128x4096 : Shape := ⟨2, ![128, 4096]⟩
abbrev S16x4096 : Shape := ⟨2, ![16, 4096]⟩
abbrev S64x4096 : Shape := ⟨2, ![64, 4096]⟩
abbrev S80x4096 : Shape := ⟨2, ![80, 4096]⟩
abbrev S8x4096 : Shape := ⟨2, ![8, 4096]⟩
abbrev S512x512 : Shape := ⟨2, ![512, 512]⟩
abbrev S8x512 : Shape := ⟨2, ![8, 512]⟩
abbrev S8x128x512 : Shape := ⟨3, ![8, 128, 512]⟩
abbrev S8x80x512 : Shape := ⟨3, ![8, 80, 512]⟩
abbrev S64x512 : Shape := ⟨2, ![64, 512]⟩
abbrev S128x512 : Shape := ⟨2, ![128, 512]⟩
abbrev S1x128x512 : Shape := ⟨3, ![1, 128, 512]⟩
abbrev S256x128 : Shape := ⟨2, ![256, 128]⟩
abbrev S80x256 : Shape := ⟨2, ![80, 256]⟩
abbrev S256x512 : Shape := ⟨2, ![256, 512]⟩
abbrev S1x512 : Shape := ⟨2, ![1, 512]⟩
abbrev S512 : Shape := ⟨1, ![512]⟩
abbrev S1x80x512 : Shape := ⟨3, ![1, 80, 512]⟩
abbrev S80x512 : Shape := ⟨2, ![80, 512]⟩

abbrev nBuf : Space → Nat
  | .hbm => 25
  | .vmem => 12
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x2x64, .f32⟩
  | .hbm, ⟨3, _⟩ => ⟨S4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S512x4096, .f32⟩
  | .hbm, ⟨11, _⟩ => ⟨S512x4096, .bf16⟩
  | .hbm, ⟨12, _⟩ => ⟨S4096x128, .f32⟩
  | .hbm, ⟨13, _⟩ => ⟨S128x4096, .f32⟩
  | .hbm, ⟨14, _⟩ => ⟨S128x4096, .bf16⟩
  | .hbm, ⟨15, _⟩ => ⟨S_, .bf16⟩
  | .hbm, ⟨16, _⟩ => ⟨S16x4096, .bf16⟩
  | .hbm, ⟨17, _⟩ => ⟨S4096x128, .f32⟩
  | .hbm, ⟨18, _⟩ => ⟨S4096x128, .bf16⟩
  | .hbm, ⟨19, _⟩ => ⟨S64x4096, .bf16⟩
  | .hbm, ⟨20, _⟩ => ⟨S80x4096, .bf16⟩
  | .hbm, ⟨21, _⟩ => ⟨S64x4096, .bf16⟩
  | .hbm, ⟨22, _⟩ => ⟨S80x4096, .bf16⟩
  | .hbm, ⟨23, _⟩ => ⟨S4096x512, .f32⟩
  | .hbm, ⟨24, _⟩ => ⟨S8x4096, .f32⟩
  | .local _ .vmem, ⟨0, _⟩ => ⟨S512x512, .bf16⟩
  | .local _ .vmem, ⟨1, _⟩ => ⟨S512x512, .bf16⟩
  | .local _ .vmem, ⟨2, _⟩ => ⟨S4096x128, .bf16⟩
  | .local _ .vmem, ⟨3, _⟩ => ⟨S80x4096, .bf16⟩
  | .local _ .vmem, ⟨4, _⟩ => ⟨S80x4096, .bf16⟩
  | .local _ .vmem, ⟨5, _⟩ => ⟨S512x512, .f32⟩
  | .local _ .vmem, ⟨6, _⟩ => ⟨S512x512, .f32⟩
  | .local _ .vmem, ⟨7, _⟩ => ⟨S8x512, .f32⟩
  | .local _ .vmem, ⟨8, _⟩ => ⟨S8x512, .f32⟩
  | .local _ .vmem, ⟨9, _⟩ => ⟨S8x128x512, .bf16⟩
  | .local _ .vmem, ⟨10, _⟩ => ⟨S8x512, .f32⟩
  | .local _ .vmem, ⟨11, _⟩ => ⟨S8x80x512, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v64 : BitVec 32 := Scalar.addi c0_i32 c16_i32
  let c1_i32 : BitVec 32 := 1#32
  ⟨c0_i32, v64, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v166 : BitVec 32 := Scalar.muli arg10 c256_i32
  v166
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v166 : BitVec 32 := Scalar.muli arg10 c256_i32
  let v167 : BitVec 32 := v166
  let v168 : Index := Scalar.indexCast v167
  let c0_92 : Index := 0#32
  ![v168.toNat, 0]
def k0_off2 (k0_t1 : Fin k0_t1_loop.trips) : Fin 2 → Nat :=
  let c0_93 : Index := 0#32
  let c0_i32 : BitVec 32 := 0#32
  let c1_i32 : BitVec 32 := 1#32
  let arg10 : BitVec 32 := Scf.iv c0_i32 c1_i32 k0_t1
  let c256_i32 : BitVec 32 := 256#32
  let v166 : BitVec 32 := Scalar.muli arg10 c256_i32
  let v167 : BitVec 32 := v166
  let v171 : Index := Scalar.indexCast v167
  ![0, v171.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S80x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnFRefIdeal.lean ====
abbrev S4096x8x64 : Shape := ⟨3, ![4096, 8, 64]⟩
abbrev S4096x2x64 : Shape := ⟨3, ![4096, 2, 64]⟩
abbrev S4096x2x4x64 : Shape := ⟨4, ![4096, 2, 4, 64]⟩
abbrev S2x4x4096x64 : Shape := ⟨4, ![2, 4, 4096, 64]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x4096x64 : Shape := ⟨3, ![2, 4096, 64]⟩
abbrev S4096x512 : Shape := ⟨2, ![4096, 512]⟩
abbrev S8x4096 : Shape := ⟨2, ![8, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x2x64, .f32⟩
  | .hbm, ⟨3, _⟩ => ⟨S4096x2x4x64, .f32⟩
  | .hbm, ⟨4, _⟩ => ⟨S2x4x4096x64, .f32⟩
  | .hbm, ⟨5, _⟩ => ⟨S2x4x4096x4096, .f32⟩
  | .hbm, ⟨6, _⟩ => ⟨S_, .f32⟩
  | .hbm, ⟨7, _⟩ => ⟨S2x4x4096x4096, .f32⟩
  | .hbm, ⟨8, _⟩ => ⟨S2x4x4096x4096, .f32⟩
  | .hbm, ⟨9, _⟩ => ⟨S_, .f32⟩
  | .hbm, ⟨10, _⟩ => ⟨S2x4x4096, .f32⟩
  | .hbm, ⟨11, _⟩ => ⟨S2x4x4096x1, .f32⟩
  | .hbm, ⟨12, _⟩ => ⟨S2x4x4096x4096, .f32⟩
  | .hbm, ⟨13, _⟩ => ⟨S2x4x4096x4096, .f32⟩
  | .hbm, ⟨14, _⟩ => ⟨S2x4x4096x4096, .f32⟩
  | .hbm, ⟨15, _⟩ => ⟨S_, .f32⟩
  | .hbm, ⟨16, _⟩ => ⟨S2x4x4096, .f32⟩
  | .hbm, ⟨17, _⟩ => ⟨S2x4x4096, .f32⟩
  | .hbm, ⟨18, _⟩ => ⟨S2x4x4096, .f32⟩
  | .hbm, ⟨19, _⟩ => ⟨S4096x2x4x64, .f32⟩
  | .hbm, ⟨20, _⟩ => ⟨S2x4x4096x64, .f32⟩
  | .hbm, ⟨21, _⟩ => ⟨S2x4096x64, .f32⟩
  | .hbm, ⟨22, _⟩ => ⟨S2x4096x64, .f32⟩
  | .hbm, ⟨23, _⟩ => ⟨S2x4x4096x4096, .f32⟩
  | .hbm, ⟨24, _⟩ => ⟨S_, .f32⟩
  | .hbm, ⟨25, _⟩ => ⟨S2x4x4096x4096, .f32⟩
  | .hbm, ⟨26, _⟩ => ⟨S2x4x4096x4096, .f32⟩
  | .hbm, ⟨27, _⟩ => ⟨S_, .f32⟩
  | .hbm, ⟨28, _⟩ => ⟨S2x4x4096, .f32⟩
  | .hbm, ⟨29, _⟩ => ⟨S_, .f32⟩
  | .hbm, ⟨30, _⟩ => ⟨S2x4x4096, .f32⟩
  | .hbm, ⟨31, _⟩ => ⟨S2x4x4096, .f32⟩
  | .hbm, ⟨32, _⟩ => ⟨S2x4x4096x1, .f32⟩
  | .hbm, ⟨33, _⟩ => ⟨S2x4x4096x4096, .f32⟩
  | .hbm, ⟨34, _⟩ => ⟨S2x4x4096x4096, .f32⟩
  | .hbm, ⟨35, _⟩ => ⟨S2x4x4096x4096, .f32⟩
  | .hbm, ⟨36, _⟩ => ⟨S_, .f32⟩
  | .hbm, ⟨37, _⟩ => ⟨S2x4x4096, .f32⟩
  | .hbm, ⟨38, _⟩ => ⟨S2x4x4096x1, .f32⟩
  | .hbm, ⟨39, _⟩ => ⟨S2x4x4096x4096, .f32⟩
  | .hbm, ⟨40, _⟩ => ⟨S2x4x4096x4096, .f32⟩
  | .hbm, ⟨41, _⟩ => ⟨S2x4x4096x64, .f32⟩
  | .hbm, ⟨42, _⟩ => ⟨S4096x2x4x64, .f32⟩
  | .hbm, ⟨43, _⟩ => ⟨S4096x512, .f32⟩
  | .hbm, ⟨44, _⟩ => ⟨S8x4096, .f32⟩
  | .hbm, ⟨45, _⟩ => ⟨S_, .f32⟩
  | .hbm, ⟨46, _⟩ => ⟨S_, .f32⟩
  | .hbm, ⟨47, _⟩ => ⟨S8x4096, .f32⟩
  | .hbm, ⟨48, _⟩ => ⟨S8x4096, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Branch.lean ====
abbrev S4096x1024 : Shape := ⟨2, ![4096, 1024]⟩
abbrev S4096x6912 : Shape := ⟨2, ![4096, 6912]⟩
abbrev S4096x512 : Shape := ⟨2, ![4096, 512]⟩
abbrev S256x1024 : Shape := ⟨2, ![256, 1024]⟩
abbrev S1024x1024 : Shape := ⟨2, ![1024, 1024]⟩
abbrev S4x128x128 : Shape := ⟨3, ![4, 128, 128]⟩
abbrev S4x128 : Shape := ⟨2, ![4, 128]⟩
abbrev S512 : Shape := ⟨1, ![512]⟩
abbrev S3x512x1024 : Shape := ⟨3, ![3, 512, 1024]⟩
abbrev S1024 : Shape := ⟨1, ![1024]⟩
abbrev S4x128x1 : Shape := ⟨3, ![4, 128, 1]⟩
abbrev S1x512 : Shape := ⟨2, ![1, 512]⟩
abbrev S3x512x4x256 : Shape := ⟨4, ![3, 512, 4, 256]⟩
abbrev S4x3x512x256 : Shape := ⟨4, ![4, 3, 512, 256]⟩
abbrev S1x1024 : Shape := ⟨2, ![1, 1024]⟩
abbrev S3x4096x512 : Shape := ⟨3, ![3, 4096, 512]⟩
abbrev S3x4096x1024 : Shape := ⟨3, ![3, 4096, 1024]⟩
abbrev S512x1024 : Shape := ⟨2, ![512, 1024]⟩
abbrev S512x6912 : Shape := ⟨2, ![512, 6912]⟩
abbrev S512x512 : Shape := ⟨2, ![512, 512]⟩
abbrev S3x512x512 : Shape := ⟨3, ![3, 512, 512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S512x128 : Shape := ⟨2, ![512, 128]⟩
abbrev S256x128 : Shape := ⟨2, ![256, 128]⟩
abbrev S512x256 : Shape := ⟨2, ![512, 256]⟩
abbrev S1x512x512 : Shape := ⟨3, ![1, 512, 512]⟩
abbrev S1x1x512x256 : Shape := ⟨4, ![1, 1, 512, 256]⟩
abbrev S1x512x1024 : Shape := ⟨3, ![1, 512, 1024]⟩

abbrev nBuf : Space → Nat
  | .hbm => 30
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S4096x512, .f32⟩
  | .hbm, ⟨3, _⟩ => ⟨S256x1024, .f32⟩
  | .hbm, ⟨4, _⟩ => ⟨S1024x1024, .f32⟩
  | .hbm, ⟨5, _⟩ => ⟨S4x128x128, .f32⟩
  | .hbm, ⟨6, _⟩ => ⟨S4x128, .f32⟩
  | .hbm, ⟨7, _⟩ => ⟨S512, .f32⟩
  | .hbm, ⟨8, _⟩ => ⟨S512, .f32⟩
  | .hbm, ⟨9, _⟩ => ⟨S3x512x1024, .f32⟩
  | .hbm, ⟨10, _⟩ => ⟨S1024x1024, .f32⟩
  | .hbm, ⟨11, _⟩ => ⟨S1024, .f32⟩
  | .hbm, ⟨12, _⟩ => ⟨S4x128x1, .f32⟩
  | .hbm, ⟨13, _⟩ => ⟨S4x128x128, .f32⟩
  | .hbm, ⟨14, _⟩ => ⟨S4096x6912, .bf16⟩
  | .hbm, ⟨15, _⟩ => ⟨S256x1024, .f32⟩
  | .hbm, ⟨16, _⟩ => ⟨S256x1024, .bf16⟩
  | .hbm, ⟨17, _⟩ => ⟨S4x128x128, .bf16⟩
  | .hbm, ⟨18, _⟩ => ⟨S1x512, .f32⟩
  | .hbm, ⟨19, _⟩ => ⟨S1x512, .f32⟩
  | .hbm, ⟨20, _⟩ => ⟨S3x512x4x256, .f32⟩
  | .hbm, ⟨21, _⟩ => ⟨S4x3x512x256, .f32⟩
  | .hbm, ⟨22, _⟩ => ⟨S4x3x512x256, .bf16⟩
  | .hbm, ⟨23, _⟩ => ⟨S1024x1024, .bf16⟩
  | .hbm, ⟨24, _⟩ => ⟨S1x1024, .f32⟩
  | .hbm, ⟨25, _⟩ => ⟨S3x4096x512, .bf16⟩
  | .hbm, ⟨26, _⟩ => ⟨S3x4096x1024, .bf16⟩
  | .hbm, ⟨27, _⟩ => ⟨S4096x1024, .bf16⟩
  | .hbm, ⟨28, _⟩ => ⟨S4096x1024, .f32⟩
  | .hbm, ⟨29, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x6912, .bf16⟩
  | .local _ .vmem, ⟨3, _⟩ => ⟨S512x6912, .bf16⟩
  | .local _ .vmem, ⟨4, _⟩ => ⟨S512x512, .f32⟩
  | .local _ .vmem, ⟨5, _⟩ => ⟨S512x512, .f32⟩
  | .local _ .vmem, ⟨6, _⟩ => ⟨S256x1024, .bf16⟩
  | .local _ .vmem, ⟨7, _⟩ => ⟨S4x128x128, .bf16⟩
  | .local _ .vmem, ⟨8, _⟩ => ⟨S4x128x128, .f32⟩
  | .local _ .vmem, ⟨9, _⟩ => ⟨S1x512, .f32⟩
  | .local _ .vmem, ⟨10, _⟩ => ⟨S1x512, .f32⟩
  | .local _ .vmem, ⟨11, _⟩ => ⟨S4x3x512x256, .bf16⟩
  | .local _ .vmem, ⟨12, _⟩ => ⟨S1024x1024, .bf16⟩
  | .local _ .vmem, ⟨13, _⟩ => ⟨S1x1024, .f32⟩
  | .local _ .vmem, ⟨14, _⟩ => ⟨S3x512x512, .bf16⟩
  | .local _ .vmem, ⟨15, _⟩ => ⟨S3x512x512, .bf16⟩
  | .local _ .vmem, ⟨16, _⟩ => ⟨S3x512x1024, .bf16⟩
  | .local _ .vmem, ⟨17, _⟩ => ⟨S3x512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x3x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== BranchRefIdeal.lean ====
abbrev S4096x1024 : Shape := ⟨2, ![4096, 1024]⟩
abbrev S4096x6912 : Shape := ⟨2, ![4096, 6912]⟩
abbrev S4096x512 : Shape := ⟨2, ![4096, 512]⟩
abbrev S256x1024 : Shape := ⟨2, ![256, 1024]⟩
abbrev S1024x1024 : Shape := ⟨2, ![1024, 1024]⟩
abbrev S4x128x128 : Shape := ⟨3, ![4, 128, 128]⟩
abbrev S4x128 : Shape := ⟨2, ![4, 128]⟩
abbrev S512 : Shape := ⟨1, ![512]⟩
abbrev S3x512x1024 : Shape := ⟨3, ![3, 512, 1024]⟩
abbrev S1024 : Shape := ⟨1, ![1024]⟩
abbrev S4096x6144 : Shape := ⟨2, ![4096, 6144]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S256x512 : Shape := ⟨2, ![256, 512]⟩
abbrev S256x4x128 : Shape := ⟨3, ![256, 4, 128]⟩
abbrev S4096x4x128 : Shape := ⟨3, ![4096, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S3x4096x512 : Shape := ⟨3, ![3, 4096, 512]⟩
abbrev S3x4096x1024 : Shape := ⟨3, ![3, 4096, 1024]⟩
abbrev S1x1024 : Shape := ⟨2, ![1, 1024]⟩

abbrev nBuf : Space → Nat
  | .hbm => 155
  | .vmem => 0
  | .smem => 0
  | _ => 0

abbrev hbmTy0_0 (i : Nat) : BufTy := match i % 128 with
  | 0 => ⟨S4096x1024, .f32⟩
  | 1 => ⟨S4096x6912, .f32⟩
  | 2 => ⟨S4096x512, .f32⟩
  | 3 => ⟨S256x1024, .f32⟩
  | 4 => ⟨S1024x1024, .f32⟩
  | 5 => ⟨S4x128x128, .f32⟩
  | 6 => ⟨S4x128, .f32⟩
  | 7 => ⟨S512, .f32⟩
  | 8 => ⟨S512, .f32⟩
  | 9 => ⟨S3x512x1024, .f32⟩
  | 10 => ⟨S1024x1024, .f32⟩
  | 11 => ⟨S1024, .f32⟩
  | 12 => ⟨S4096x6144, .f32⟩
  | 13 => ⟨S4096x512, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S4096x3072, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S4096x512, .f32⟩
  | 29 => ⟨S4096x512, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S4096x512, .f32⟩
  | 37 => ⟨S4096x512, .f32⟩
  | 38 => ⟨S4096x512, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1, .f32⟩
  | 49 => ⟨S4096x512, .f32⟩
  | 50 => ⟨S4096x512, .f32⟩
  | 51 => ⟨S1x512, .f32⟩
  | 52 => ⟨S4096x512, .f32⟩
  | 53 => ⟨S4096x512, .f32⟩
  | 54 => ⟨S1x512, .f32⟩
  | 55 => ⟨S4096x512, .f32⟩
  | 56 => ⟨S4096x512, .f32⟩
  | 57 => ⟨S32x128x4x128, .f32⟩
  | 58 => ⟨S4x32x128x128, .f32⟩
  | 59 => ⟨S32x128x4x128, .f32⟩
  | 60 => ⟨S128x4, .f32⟩
  | 61 => ⟨S1x128x4x1, .f32⟩
  | 62 => ⟨S32x128x4x128, .f32⟩
  | 63 => ⟨S32x128x4x128, .f32⟩
  | 64 => ⟨S4096x512, .f32⟩
  | 65 => ⟨S4096x512, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S_, .f32⟩
  | 72 => ⟨S4096x512, .f32⟩
  | 73 => ⟨S4096x512, .f32⟩
  | 74 => ⟨S4096x512, .f32⟩
  | 75 => ⟨S4096x512, .f32⟩
  | 76 => ⟨S256x1024, .f32⟩
  | 77 => ⟨S256x512, .f32⟩
  | 78 => ⟨S256x512, .f32⟩
  | 79 => ⟨S256x4x128, .f32⟩
  | 80 => ⟨S256x4x128, .f32⟩
  | 81 => ⟨S4096x4x128, .f32⟩
  | 82 => ⟨S4x4096x256, .f32⟩
  | 83 => ⟨S_, .f32⟩
  | 84 => ⟨S4x4096x256, .f32⟩
  | 85 => ⟨S4x4096x256, .f32⟩
  | 86 => ⟨S_, .f32⟩
  | 87 => ⟨S4x4096, .f32⟩
  | 88 => ⟨S_, .f32⟩
  | 89 => ⟨S4x4096, .f32⟩
  | 90 => ⟨S4x4096, .f32⟩
  | 91 => ⟨S4x4096x1, .f32⟩
  | 92 => ⟨S4x4096x256, .f32⟩
  | 93 => ⟨S4x4096x256, .f32⟩
  | 94 => ⟨S4x4096x256, .f32⟩
  | 95 => ⟨S_, .f32⟩
  | 96 => ⟨S4x4096, .f32⟩
  | 97 => ⟨S4x4096x1, .f32⟩
  | 98 => ⟨S4x4096x256, .f32⟩
  | 99 => ⟨S4x4096x256, .f32⟩
  | 100 => ⟨S4x128x4096, .f32⟩
  | 101 => ⟨S4096x4x128, .f32⟩
  | 102 => ⟨S4096x512, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S4096x512, .f32⟩
  | 112 => ⟨S4096x512, .f32⟩
  | 113 => ⟨S4096x1x512, .f32⟩
  | 114 => ⟨S4096x1x512, .f32⟩
  | 115 => ⟨S4096x1x512, .f32⟩
  | 116 => ⟨S4096x3x512, .f32⟩
  | 117 => ⟨S3x1024x4096, .f32⟩
  | 118 => ⟨S4096x3x1024, .f32⟩
  | 119 => ⟨S4096x3x1024, .f32⟩
  | 120 => ⟨S4096x3x1024, .f32⟩
  | 121 => ⟨S4096x3x1024, .f32⟩
  | 122 => ⟨S_, .f32⟩
  | 123 => ⟨S4096x3x1024, .f32⟩
  | 124 => ⟨S4096x3x1024, .f32⟩
  | 125 => ⟨S_, .f32⟩
  | 126 => ⟨S4096x3x1024, .f32⟩
  | 127 => ⟨S4096x3x1024, .f32⟩
  | _ => ⟨S4096x1024, .f32⟩

abbrev hbmTy0_1 (i : Nat) : BufTy := match i % 128 with
  | 0 => ⟨S4096x3x1024, .f32⟩
  | 1 => ⟨S_, .f32⟩
  | 2 => ⟨S4096x1024, .f32⟩
  | 3 => ⟨S4096x1024, .f32⟩
  | 4 => ⟨S4096x1024, .f32⟩
  | 5 => ⟨S3x4096x512, .f32⟩
  | 6 => ⟨S3x4096x512, .bf16⟩
  | 7 => ⟨S3x4096x1024, .f32⟩
  | 8 => ⟨S3x4096x1024, .bf16⟩
  | 9 => ⟨S4096x1024, .bf16⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_4 : Ref sig .tc := ⟨.hbm, 83, rfl⟩
abbrev main_v50 : Ref sig .tc := ⟨.hbm, 84, rfl⟩
abbrev main_v51 : Ref sig .tc := ⟨.hbm, 85, rfl⟩
abbrev main_cst_5 : Ref sig .tc := ⟨.hbm, 86, rfl⟩
abbrev main_v52 : Ref sig .tc := ⟨.hbm, 87, rfl⟩
abbrev main_cst_6 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_7 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call2_v0 : Ref sig .tc := ⟨.hbm, 103, rfl⟩
abbrev main_call2_v1 : Ref sig .tc := ⟨.hbm, 104, rfl⟩
abbrev main_call2_cst : Ref sig .tc := ⟨.hbm, 105, rfl⟩
abbrev main_call2_v2 : Ref sig .tc := ⟨.hbm, 106, rfl⟩
abbrev main_call2_v3 : Ref sig .tc := ⟨.hbm, 107, rfl⟩
abbrev main_call2_cst_0 : Ref sig .tc := ⟨.hbm, 108, rfl⟩
abbrev main_call2_v4 : Ref sig .tc := ⟨.hbm, 109, rfl⟩
abbrev main_call2_v5 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_8 : Ref sig .tc := ⟨.hbm, 122, rfl⟩
abbrev main_v77 : Ref sig .tc := ⟨.hbm, 123, rfl⟩
abbrev main_v78 : Ref sig .tc := ⟨.hbm, 124, rfl⟩
abbrev main_cst_9 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_10 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_11 : Ref sig .tc := ⟨.hbm, 139, rfl⟩
abbrev main_v91 : Ref sig .tc := ⟨.hbm, 140, rfl⟩
abbrev main_v92 : Ref sig .tc := ⟨.hbm, 141, rfl⟩
abbrev main_cst_12 : Ref sig .tc := ⟨.hbm, 142, rfl⟩
abbrev main_v93 : Ref sig .tc := ⟨.hbm, 143, rfl⟩
abbrev main_v94 : Ref sig .tc := ⟨.hbm, 144, rfl⟩
abbrev main_cst_13 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩

abbrev nD : Nat := 1
abbrev τ : Topo := Topo.v7x

variable {F : FTy → Type} [FloatOps F]
-- ==== Proof.Merge.Entry.lean ====
module

public import proofs.«01_k».proof.Proof.Gen.MergeIdeal.Frame.Runs
public import Idealize.ShloMosaic.Lib.Pipeline.ValueKit
public import Idealize.ShloMosaic.Lib.StableHlo.ReadAt
public import Idealize.ShloMosaic.Lib.Claim

@[expose] public section

set_option maxRecDepth 16384

noncomputable section

namespace Cert.MergeIdeal.Value

open Cert.MergeIdeal Cert.MergeIdeal.Gen Idealize.ShloMosaic Idealize.ShloMosaic.TcCoe Idealize.SL.Sem

variable (m : (ℓ : Loc nD τ sig) → Buf (Elt Ideal) ℓ) (c : Dev nD)

/-- The five arguments of the step's call, as arrays of extended reals. -/
abbrev aDx : S4096x1024.Idx → EReal := m ((c : Thread nD τ).loc main_arg0)
abbrev aPr : S4096x6912.Idx → EReal := m ((c : Thread nD τ).loc main_arg1)
abbrev aBr : S4096x3x512.Idx → EReal := m ((c : Thread nD τ).loc main_arg2)
abbrev aWb : S3x512x1024.Idx → EReal := m ((c : Thread nD τ).loc main_arg3)
abbrev aWo : S1024x1024.Idx → EReal := m ((c : Thread nD τ).loc main_arg4)

/-- The gate of a logit as both programs compute it. -/
def gate (x : EReal) : EReal := Ideal.div 1 (1 + Ideal.exp (-x))

/-- The branch products a row has: branch `n` of row `r` times its merge matrix. -/
def upAt (n : Fin 3) (r : Fin 4096) (j : Fin 1024) : EReal :=
  ∑ w : Fin 512, aBr m c (ix3 r n w) * aWb m c (ix3 n w j)

/-- The column of the input projection that holds the logit of branch `n`, lane `j`. -/
def lgCol (n : Fin 3) (j : Fin 1024) : Fin 6912 := ⟨3840 + (n.val * 1024 + j.val), by omega⟩

/-- The merged row: the branch products, gated and added. -/
def mergedAt (r : Fin 4096) (j : Fin 1024) : EReal :=
  gate (aPr m c (ix2 r (lgCol 0 j))) * upAt m c 0 r j + gate (aPr m c (ix2 r (lgCol 1 j))) * upAt m c 1 r j
    + gate (aPr m c (ix2 r (lgCol 2 j))) * upAt m c 2 r j

theorem entry_proj (r : Fin 4096) (j : Fin 6912) : V m c main_v26 (ix2 r j) = aPr m c (ix2 r j) := by
  unfold V; after_reads_at

theorem entry_y (n : Fin 3) (r : Fin 4096) (w : Fin 512) : V m c main_v28 (ix3 n r w) = aBr m c (ix3 r n w) := by
  unfold V; after_reads_at

theorem entry_up (n : Fin 3) (r : Fin 4096) (j : Fin 1024) : V m c main_v29 (ix3 n r j) = upAt m c n r j := by
  unfold upAt
  unfold V; after_reads_at

theorem entry_merged (r : Fin 4096) (j : Fin 1024) : V m c main_v30 (ix2 r j) = mergedAt m c r j := by
  unfold mergedAt gate upAt lgCol
  unfold V; after_reads_at

theorem entry_wbr (k : Fin 4) (n : Fin 3) (w : Fin 512) (l : Fin 256) :
    V m c main_v33 (ix4 k n w l) = aWb m c (ix3 n w ⟨k.val * 256 + l.val, by omega⟩) := by
  unfold V; after_reads_at

theorem entry_wout (i j : Fin 1024) : V m c main_v34 (ix2 i j) = aWo m c (ix2 i j) := by
  unfold V; after_reads_at

end Cert.MergeIdeal.Value
-- ==== Proof.Merge.Tile.lean ====
module

public import proofs.«01_k».proof.Proof.Merge.Entry
public import proofs.«01_k».proof.Proof.Gen.MergeIdeal.Frame

@[expose] public section

/-! What the tiles of one grid point hold, in terms of the arguments. -/

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The windows' block indices: the row block, the four logit tiles, and whole weights. -/
theorem idx : ∀ t : Fin cfg0.N, (win0_0.index t = ![t.val, 0] ∧ win0_1.index t = ![t.val, 5] ∧ win0_2.index t = ![t.val, 6]
      ∧ win0_3.index t = ![t.val, 7] ∧ win0_4.index t = ![t.val, 8] ∧ win0_5.index t = ![0, t.val, 0])
    ∧ (win0_6.index t = ![0, t.val, 0] ∧ win0_7.index t = ![t.val, 0] ∧ win0_8.index t = ![0, 0, 0, 0] ∧ win0_9.index t = ![0, 0])
    ∧ win0_10.index t = ![0, t.val, 0] ∧ win0_11.index t = ![t.val, 0] ∧ t.val < 8 :=
  (by decide +kernel : ∀ t : Fin grid0.N, _)

/-- The row of the arrays that row `r` of point `t`'s blocks is. -/
def row (t : Fin cfg0.N) (r : Fin 512) : Fin 4096 := ⟨t.val * 512 + r.val, by have := (idx t).2.2.2.2; omega⟩

/-- The gradient of a merged row. -/
def dmgAt (r : Fin 4096) (j : Fin 1024) : EReal := ∑ k : Fin 1024, aDx m c (ix2 r k) * aWo m c (ix2 j k)

/-- The gradient of a branch product before its gate's own derivative. -/
def dupAt (n : Fin 3) (r : Fin 4096) (j : Fin 1024) : EReal := dmgAt m c r j * gate (aPr m c (ix2 r (lgCol n j)))

/-- The same gradient as an array. -/
def dup : S3x4096x1024.Idx → EReal := fun i => dupAt m c (i 0) (i 1) (i 2)

theorem dupAt_eq (n : Fin 3) (r : Fin 4096) (j : Fin 1024) : dupAt m c n r j = dup m c (ix3 n r j) := rfl

theorem blk_dx (t : Fin cfg0.N) (r : Fin 512) (k : Fin 1024) :
    (show FVec Ideal S512x1024 .f32 from iblk m c 0 t) (ix2 r k) = aDx m c (ix2 (row t r) k) := by
  unfold row; blk_point [iblk, V, idx t]

theorem blk_wo (t : Fin cfg0.N) (j k : Fin 1024) :
    (show FVec Ideal S1024x1024 .bf16 from iblk m c 9 t) (ix2 j k) = aWo m c (ix2 j k) := by
  blk_simp [iblk]
  refine Eq.trans (b := V m c main_v34 (ix2 j k)) ?_ (entry_wout m c j k)
  blk_ext [idx t]

theorem blk_y (t : Fin cfg0.N) (n : Fin 3) (r w : Fin 512) :
    (show FVec Ideal S3x512x512 .bf16 from iblk m c 5 t) (ix3 n r w) = aBr m c (ix3 (row t r) n w) := by
  blk_simp [iblk]
  refine Eq.trans (b := V m c main_v28 (ix3 n (row t r) w)) ?_ (entry_y m c n (row t r) w)
  unfold row; blk_ext [idx t]

theorem blk_up (t : Fin cfg0.N) (n : Fin 3) (r : Fin 512) (j : Fin 1024) :
    (show FVec Ideal S3x512x1024 .bf16 from iblk m c 6 t) (ix3 n r j) = upAt m c n (row t r) j := by
  blk_simp [iblk]
  refine Eq.trans (b := V m c main_v29 (ix3 n (row t r) j)) ?_ (entry_up m c n (row t r) j)
  unfold row; blk_ext [idx t]

theorem blk_merged (t : Fin cfg0.N) (r : Fin 512) (j : Fin 1024) :
    (show FVec Ideal S512x1024 .bf16 from iblk m c 7 t) (ix2 r j) = mergedAt m c (row t r) j := by
  blk_simp [iblk]
  refine Eq.trans (b := V m c main_v30 (ix2 (row t r) j)) ?_ (entry_merged m c (row t r) j)
  unfold row; blk_ext [idx t]

theorem blk_wb (t : Fin cfg0.N) (k : Fin 4) (n : Fin 3) (w : Fin 512) (l : Fin 256) :
    (show FVec Ideal S4x3x512x256 .bf16 from iblk m c 8 t) (ix4 k n w l)
      = aWb m c (ix3 n w ⟨k.val * 256 + l.val, by omega⟩) := by
  blk_simp [iblk]
  refine Eq.trans (b := V m c main_v33 (ix4 k n w l)) ?_ (entry_wbr m c k n w l)
  blk_ext [idx t]

/-- One of the four logit tiles: tile `p` holds columns `5 + p` (of width 768) of the projection. -/
theorem blk_lg1 (t : Fin cfg0.N) (r : Fin 512) (q : Fin 768) :
    (show FVec Ideal S512x768 .bf16 from iblk m c 1 t) (ix2 r q) = aPr m c (ix2 (row t r) ⟨3840 + q.val, by omega⟩) := by
  blk_simp [iblk]
  refine Eq.trans (b := V m c main_v26 (ix2 (row t r) ⟨3840 + q.val, by omega⟩)) ?_ (entry_proj m c _ _)
  unfold row; blk_ext [idx t]

theorem blk_lg2 (t : Fin cfg0.N) (r : Fin 512) (q : Fin 768) :
    (show FVec Ideal S512x768 .bf16 from iblk m c 2 t) (ix2 r q) = aPr m c (ix2 (row t r) ⟨3840 + (768 + q.val), by omega⟩) := by
  blk_simp [iblk]
  refine Eq.trans (b := V m c main_v26 (ix2 (row t r) ⟨3840 + (768 + q.val), by omega⟩)) ?_ (entry_proj m c _ _)
  unfold row; blk_ext [idx t]

theorem blk_lg3 (t : Fin cfg0.N) (r : Fin 512) (q : Fin 768) :
    (show FVec Ideal S512x768 .bf16 from iblk m c 3 t) (ix2 r q) = aPr m c (ix2 (row t r) ⟨3840 + (1536 + q.val), by omega⟩) := by
  blk_simp [iblk]
  refine Eq.trans (b := V m c main_v26 (ix2 (row t r) ⟨3840 + (1536 + q.val), by omega⟩)) ?_ (entry_proj m c _ _)
  unfold row; blk_ext [idx t]

theorem blk_lg4 (t : Fin cfg0.N) (r : Fin 512) (q : Fin 768) :
    (show FVec Ideal S512x768 .bf16 from iblk m c 4 t) (ix2 r q) = aPr m c (ix2 (row t r) ⟨3840 + (2304 + q.val), by omega⟩) := by
  blk_simp [iblk]
  refine Eq.trans (b := V m c main_v26 (ix2 (row t r) ⟨3840 + (2304 + q.val), by omega⟩)) ?_ (entry_proj m c _ _)
  unfold row; blk_ext [idx t]

/-- The four logit tiles side by side are the logits of the row. -/
theorem logits_at (t : Fin cfg0.N) (r : Fin 512) (q : Fin 3072) :
    k0_pay9 (F := Ideal) (iblk m c 1 t) (iblk m c 2 t) (iblk m c 3 t) (iblk m c 4 t) (ix2 r q)
      = aPr m c (ix2 (row t r) ⟨3840 + q.val, by omega⟩) := by
  pointwise [k0_pay9]
  split
  · exact (blk_lg1 m c t r ⟨q.val, _⟩)
  · split
    · refine (blk_lg2 m c t r ⟨q.val - 768, _⟩).trans ?_
      blk_ext
    · split
      · refine (blk_lg3 m c t r ⟨q.val - 768 - 768, _⟩).trans ?_
        blk_ext
      · refine (blk_lg4 m c t r ⟨q.val - 768 - 768 - 768, _⟩).trans ?_
        blk_ext

theorem dmg_at (t : Fin cfg0.N) (r : Fin 512) (j : Fin 1024) :
    k0_pay7 (F := Ideal) (iblk m c 0 t) (iblk m c 9 t) (ix2 r j) = dmgAt m c (row t r) j := by
  unfold dmgAt
  pointwise [k0_pay7, k0_pay6]
  exact Fin.sum_fin_congr fun k => congrArg₂ (· * ·) (blk_dx m c t r k) (blk_wo m c t j k)

/-- The three gates of a block. -/
theorem gate0_at (t : Fin cfg0.N) (r : Fin 512) (j : Fin 1024) :
    k0_pay12 (F := Ideal) (k0_pay10 (iblk m c 1 t) (iblk m c 2 t) (iblk m c 3 t) (iblk m c 4 t)) k0_pay11 (ix2 r j)
      = gate (aPr m c (ix2 (row t r) ⟨3840 + j.val, by omega⟩)) := by
  unfold gate
  pointwise [k0_pay12, k0_pay11, k0_pay10, logits_at]
  rw [zero_sub]

theorem gate1_at (t : Fin cfg0.N) (r : Fin 512) (j : Fin 1024) :
    k0_pay28 (F := Ideal) (k0_pay9 (iblk m c 1 t) (iblk m c 2 t) (iblk m c 3 t) (iblk m c 4 t)) (ix2 r j)
      = gate (aPr m c (ix2 (row t r) ⟨3840 + (1024 + j.val), by omega⟩)) := by
  unfold gate
  pointwise [k0_pay28, logits_at]
  rw [zero_sub]

theorem gate2_at (t : Fin cfg0.N) (r : Fin 512) (j : Fin 1024) :
    k0_pay43 (F := Ideal) (k0_pay9 (iblk m c 1 t) (iblk m c 2 t) (iblk m c 3 t) (iblk m c 4 t)) (ix2 r j)
      = gate (aPr m c (ix2 (row t r) ⟨3840 + (2048 + j.val), by omega⟩)) := by
  unfold gate
  pointwise [k0_pay43, logits_at]
  rw [zero_sub]

theorem dup0_at (t : Fin cfg0.N) (r : Fin 512) (j : Fin 1024) :
    k0_pay13 (F := Ideal) (k0_pay7 (iblk m c 0 t) (iblk m c 9 t))
      (k0_pay10 (iblk m c 1 t) (iblk m c 2 t) (iblk m c 3 t) (iblk m c 4 t)) k0_pay11 (ix2 r j) = dup m c (ix3 0 (row t r) j) := by
  rw [← dupAt_eq]; unfold dupAt gate lgCol
  pointwise [k0_pay13, k0_pay12, k0_pay11, k0_pay10, dmg_at, logits_at]
  rw [zero_sub]

theorem dup1_at (t : Fin cfg0.N) (r : Fin 512) (j : Fin 1024) :
    k0_pay29 (F := Ideal) (k0_pay7 (iblk m c 0 t) (iblk m c 9 t))
      (k0_pay9 (iblk m c 1 t) (iblk m c 2 t) (iblk m c 3 t) (iblk m c 4 t)) (ix2 r j) = dup m c (ix3 1 (row t r) j) := by
  rw [← dupAt_eq]; unfold dupAt gate lgCol
  pointwise [k0_pay29, k0_pay28, dmg_at, logits_at]
  rw [zero_sub]

theorem dup2_at (t : Fin cfg0.N) (r : Fin 512) (j : Fin 1024) :
    k0_pay44 (F := Ideal) (k0_pay7 (iblk m c 0 t) (iblk m c 9 t))
      (k0_pay9 (iblk m c 1 t) (iblk m c 2 t) (iblk m c 3 t) (iblk m c 4 t)) (ix2 r j) = dup m c (ix3 2 (row t r) j) := by
  rw [← dupAt_eq]; unfold dupAt gate lgCol
  pointwise [k0_pay44, k0_pay43, dmg_at, logits_at]
  rw [zero_sub]

end Cert.MergeIdeal.Value
-- ==== Proof.Common.Canon.lean ====
module

public import Idealize.ShloMosaic.Lib.Pipeline.ValueKit
public import Idealize.ShloMosaic.Lib.Pipeline.ReadBack

@[expose] public section

/-! A buffer that is filled once and then overwritten everywhere holds only the later stores. -/

noncomputable section

namespace Idealize.ShloMosaic.View

variable {Val : EltTy → Type} {s : Shape} {e : EltTy}

/-- Stores after a first one, which together cover the index, hide that first store. -/
theorem canon_append_covered [∀ e, Nonempty (Val e)] (L' : List (Piece Val s e)) :
    ∀ (L : List (Piece Val s e)) (y : s.Idx), (∃ p ∈ L, y ∈ p.1.set) → canon (L ++ L') y = canon L y
  | [], _, h => by obtain ⟨_, hm, _⟩ := h; exact absurd hm List.not_mem_nil
  | p :: L, y, h => by
    by_cases hy : y ∈ p.1.set
    · obtain ⟨x, rfl⟩ := p.1.exists_idx_of_mem hy
      rw [List.cons_append, show p.1.idx x = p.1.emb x from rfl, canon_cons_emb, canon_cons_emb]
    · rw [List.cons_append, canon_cons_of_not_mem _ _ hy, canon_cons_of_not_mem _ _ hy]
      refine canon_append_covered L' L y ?_
      obtain ⟨q, hq, hyq⟩ := h
      rcases List.mem_cons.mp hq with rfl | hq'
      · exact absurd hyq hy
      · exact ⟨q, hq', hyq⟩

/-- The same with the first store the last entry of the list. -/
theorem canon_dropLast [∀ e, Nonempty (Val e)] (L : List (Piece Val s e)) (y : s.Idx)
    (h : ∃ p ∈ L.dropLast, y ∈ p.1.set) : canon L y = canon L.dropLast y := by
  have hne : L ≠ [] := by rintro rfl; obtain ⟨_, hm, _⟩ := h; exact absurd hm List.not_mem_nil
  conv_lhs => rw [← List.dropLast_append_getLast hne]
  exact canon_append_covered _ _ _ h

end Idealize.ShloMosaic.View

end
-- ==== Proof.Merge.Step.lean ====
module

public import proofs.«01_k».proof.Proof.Merge.Tile
public import proofs.«01_k».proof.Proof.Common.Canon

@[expose] public section

/-! What one grid point leaves in each output block. -/

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A point's share of the gradient of the branch weights. -/
def gwbAt (t : Fin cfg0.N) (y : S4x3x512x256.Idx) : EReal :=
  ∑ r : Fin 512, aBr m c (ix3 (row t r) (y 1) (y 2))
    * dup m c (ix3 (y 1) (row t r) ⟨(y 0 : ℕ) * 256 + (y 3 : ℕ), by idx_bounds y; omega⟩)

/-- A point's share of the gradient of the output matrix. -/
def gwoAt (t : Fin cfg0.N) (y : S1024x1024.Idx) : EReal :=
  ∑ r : Fin 512, mergedAt m c (row t r) (y 0) * aDx m c (ix2 (row t r) (y 1))

theorem hz12 (y : S1024x1024.Idx) : k0_pay4 (F := Ideal) y = (0 : EReal) := by pointwise [k0_pay4]

theorem pay8_at (t : Fin cfg0.N) (acc : FVec Ideal S1024x1024 .f32) (y : S1024x1024.Idx) :
    k0_pay8 (F := Ideal) (iblk m c 0 t) acc (iblk m c 7 t) y = acc y + gwoAt m c t y := by
  unfold gwoAt
  pointwise [k0_pay8, k0_pay6, blk_dx, blk_merged]

theorem b12A (t : Fin cfg0.N) (h0 : t.val % 8 = 0) (h1 : ¬t.val % 8 = 7) (y : S1024x1024.Idx) :
    (outsAt0 m c t.val t.isLt).2.2.1 y = (0 : EReal) + gwoAt m c t y := by
  rw [outsAt0_A m c t h0 h1]; frame_open
  simp (disch := decide) only [↓ View.readCov_skip, ↓ View.readCov_cons_toLoadRect, ↓ View.readCov_fill]
  frame_out
  rw [pay8_at, hz12]

theorem b12B (t : Fin cfg0.N) (h0 : ¬t.val % 8 = 0) (h1 : ¬t.val % 8 = 7) (y : S1024x1024.Idx) :
    (outsAt0 m c t.val t.isLt).2.2.1 y = (outsAt0 m c (t.val - 1) (Nat.lt_of_le_of_lt (Nat.sub_le _ _) t.isLt)).2.2.1 y + gwoAt m c t y := by
  rw [outsAt0_B m c t h0 h1]; frame_open
  simp (disch := decide) only [↓ View.readCov_skip, ↓ View.readCov_cons_toLoadRect, ↓ View.readCov_fill]
  frame_out
  rw [pay8_at]

theorem b12C (t : Fin cfg0.N) (h0 : ¬t.val % 8 = 0) (h1 : t.val % 8 = 7) (y : S1024x1024.Idx) :
    (outsAt0 m c t.val t.isLt).2.2.1 y = (outsAt0 m c (t.val - 1) (Nat.lt_of_le_of_lt (Nat.sub_le _ _) t.isLt)).2.2.1 y + gwoAt m c t y := by
  rw [outsAt0_C m c t h0 h1]; frame_open
  simp (disch := decide) only [↓ View.readCov_skip, ↓ View.readCov_cons_toLoadRect, ↓ View.readCov_fill]
  frame_out
  rw [pay8_at]

theorem b13A (t : Fin cfg0.N) (h0 : t.val % 8 = 0) (h1 : ¬t.val % 8 = 7) (y : S4x3x512x256.Idx) :
    (outsAt0 m c t.val t.isLt).2.2.2.1 y = (0 : EReal) + gwbAt m c t y := by
  rw [outsAt0_A m c t h0 h1]; frame_open
  simp (disch := decide) only [↓ View.readCov_skip, ↓ View.readCov_cons_toLoadRect, ↓ View.readCov_fill]
  frame_out
  unfold gwbAt
  rw [View.canon_dropLast _ _ (View.cover_of_tiled _ ![1, 1, 512, 256] rfl y)]
  dsimp only [List.dropLast]
  canon_tiles x h
  all_goals
    pointwise [k0_pay17, k0_pay16, k0_pay15, k0_pay21, k0_pay20, k0_pay19, k0_pay23, k0_pay22, k0_pay26, k0_pay25,
      k0_pay33, k0_pay32, k0_pay31, k0_pay36, k0_pay35, k0_pay38, k0_pay37, k0_pay41, k0_pay40, k0_pay50, k0_pay49,
      k0_pay48, k0_pay47, k0_pay46, k0_pay52, k0_pay51, k0_pay56, k0_pay55, k0_pay54, k0_pay58, k0_pay57,
      k0_pay5, blk_y, dup0_at, dup1_at, dup2_at]
    generalize dup m c = D
    blk_point []

theorem b13B (t : Fin cfg0.N) (h0 : ¬t.val % 8 = 0) (h1 : ¬t.val % 8 = 7) (y : S4x3x512x256.Idx) :
    (outsAt0 m c t.val t.isLt).2.2.2.1 y = (outsAt0 m c (t.val - 1) (Nat.lt_of_le_of_lt (Nat.sub_le _ _) t.isLt)).2.2.2.1 y + gwbAt m c t y := by
  rw [outsAt0_B m c t h0 h1]; frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2.1 = U
  unfold gwbAt
  canon_tiles x h
  all_goals
    pointwise [k0_pay17, k0_pay16, k0_pay15, k0_pay21, k0_pay20, k0_pay19, k0_pay23, k0_pay22, k0_pay26, k0_pay25,
      k0_pay33, k0_pay32, k0_pay31, k0_pay36, k0_pay35, k0_pay38, k0_pay37, k0_pay41, k0_pay40, k0_pay50, k0_pay49,
      k0_pay48, k0_pay47, k0_pay46, k0_pay52, k0_pay51, k0_pay56, k0_pay55, k0_pay54, k0_pay58, k0_pay57,
      k0_pay5, blk_y, dup0_at, dup1_at, dup2_at]
    generalize dup m c = D
    blk_point []

theorem b13C (t : Fin cfg0.N) (h0 : ¬t.val % 8 = 0) (h1 : t.val % 8 = 7) (y : S4x3x512x256.Idx) :
    (outsAt0 m c t.val t.isLt).2.2.2.1 y = (outsAt0 m c (t.val - 1) (Nat.lt_of_le_of_lt (Nat.sub_le _ _) t.isLt)).2.2.2.1 y + gwbAt m c t y := by
  rw [outsAt0_C m c t h0 h1]; frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2.1 = U
  unfold gwbAt
  canon_tiles x h
  all_goals
    pointwise [k0_pay17, k0_pay16, k0_pay15, k0_pay21, k0_pay20, k0_pay19, k0_pay23, k0_pay22, k0_pay26, k0_pay25,
      k0_pay33, k0_pay32, k0_pay31, k0_pay36, k0_pay35, k0_pay38, k0_pay37, k0_pay41, k0_pay40, k0_pay50, k0_pay49,
      k0_pay48, k0_pay47, k0_pay46, k0_pay52, k0_pay51, k0_pay56, k0_pay55, k0_pay54, k0_pay58, k0_pay57,
      k0_pay5, blk_y, dup0_at, dup1_at, dup2_at]
    generalize dup m c = D
    blk_point []

end Cert.MergeIdeal.Value
-- ==== Proof.Merge.Rows.lean ====
module

public import proofs.«01_k».proof.Proof.Merge.Step
public import proofs.«01_k».proof.Proof.Common.Canon

@[expose] public section

/-! What one grid point leaves in the blocks of rows. -/

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gradient of the branch outputs in a point's block. -/
def dyAt (t : Fin cfg0.N) (y : S3x512x512.Idx) : EReal :=
  ∑ j : Fin 1024, dup m c (ix3 (y 0) (row t (y 1)) j) * aWb m c (ix3 (y 0) (y 2) j)

/-- The branch products as an array. -/
def up : S3x4096x1024.Idx → EReal := fun i => upAt m c (i 0) (i 1) (i 2)

theorem upAt_eq (n : Fin 3) (r : Fin 4096) (j : Fin 1024) : upAt m c n r j = up m c (ix3 n r j) := rfl

/-- The gradient of a logit. -/
def dlgAt (r : Fin 4096) (q : Fin 3072) : EReal :=
  dup m c (ix3 ⟨q.val / 1024, by omega⟩ r ⟨q.val % 1024, by omega⟩) * up m c (ix3 ⟨q.val / 1024, by omega⟩ r ⟨q.val % 1024, by omega⟩)
    * (1 - gate (aPr m c (ix2 r ⟨3840 + q.val, by omega⟩)))

/-- A sum over all lanes, taken a quarter at a time. -/
theorem sum_four (f : Fin 1024 → EReal) : ∑ j, f j = ∑ l : Fin 256, f ⟨l.val, by omega⟩ + ∑ l : Fin 256, f ⟨256 + l.val, by omega⟩
    + ∑ l : Fin 256, f ⟨512 + l.val, by omega⟩ + ∑ l : Fin 256, f ⟨768 + l.val, by omega⟩ := by
  rw [← Fin.sum_mul_add_fin 4 256 f rfl, Fin.sum_univ_four]
  simp

theorem b10A (t : Fin cfg0.N) (h0 : t.val % 8 = 0) (h1 : ¬t.val % 8 = 7) (y : S3x512x512.Idx) :
    (outsAt0 m c t.val t.isLt).1 y = dyAt m c t y := by
  rw [outsAt0_A m c t h0 h1]; frame_out
  unfold dyAt
  canon_tiles x h
  all_goals
    pointwise [k0_pay1, k0_pay16, k0_pay15, k0_pay18, k0_pay19, k0_pay22, k0_pay24, k0_pay25, k0_pay27, k0_pay31, k0_pay32,
      k0_pay34, k0_pay35, k0_pay37, k0_pay39, k0_pay40, k0_pay42, k0_pay46, k0_pay47, k0_pay51, k0_pay53, k0_pay54, k0_pay57,
      k0_pay59, blk_wb, dup0_at, dup1_at, dup2_at]
    generalize dup m c = D
    refine Eq.trans ?_ (sum_four _).symm
    unfold row
    blk_point []

theorem b11A (t : Fin cfg0.N) (h0 : t.val % 8 = 0) (h1 : ¬t.val % 8 = 7) (y : S512x3072.Idx) :
    (outsAt0 m c t.val t.isLt).2.1 y = dlgAt m c (row t (y 0)) (y 1) := by
  rw [outsAt0_A m c t h0 h1]; frame_out
  unfold dlgAt
  canon_tiles x h
  all_goals
    idx_vars x
    pointwise [k0_pay14, k0_pay30, k0_pay45, gate0_at, gate1_at, gate2_at, dup0_at, dup1_at, dup2_at, blk_up, upAt_eq]
    unfold gate
    generalize dup m c = D
    generalize up m c = U
    unfold row
    blk_point []

theorem b10B (t : Fin cfg0.N) (h0 : ¬t.val % 8 = 0) (h1 : ¬t.val % 8 = 7) (y : S3x512x512.Idx) :
    (outsAt0 m c t.val t.isLt).1 y = dyAt m c t y := by
  rw [outsAt0_B m c t h0 h1]; frame_out
  unfold dyAt
  canon_tiles x h
  all_goals
    pointwise [k0_pay1, k0_pay16, k0_pay15, k0_pay18, k0_pay19, k0_pay22, k0_pay24, k0_pay25, k0_pay27, k0_pay31, k0_pay32,
      k0_pay34, k0_pay35, k0_pay37, k0_pay39, k0_pay40, k0_pay42, k0_pay46, k0_pay47, k0_pay51, k0_pay53, k0_pay54, k0_pay57,
      k0_pay59, blk_wb, dup0_at, dup1_at, dup2_at]
    generalize dup m c = D
    refine Eq.trans ?_ (sum_four _).symm
    unfold row
    blk_point []

theorem b11B (t : Fin cfg0.N) (h0 : ¬t.val % 8 = 0) (h1 : ¬t.val % 8 = 7) (y : S512x3072.Idx) :
    (outsAt0 m c t.val t.isLt).2.1 y = dlgAt m c (row t (y 0)) (y 1) := by
  rw [outsAt0_B m c t h0 h1]; frame_out
  unfold dlgAt
  canon_tiles x h
  all_goals
    idx_vars x
    pointwise [k0_pay14, k0_pay30, k0_pay45, gate0_at, gate1_at, gate2_at, dup0_at, dup1_at, dup2_at, blk_up, upAt_eq]
    unfold gate
    generalize dup m c = D
    generalize up m c = U
    unfold row
    blk_point []

theorem b10C (t : Fin cfg0.N) (h0 : ¬t.val % 8 = 0) (h1 : t.val % 8 = 7) (y : S3x512x512.Idx) :
    (outsAt0 m c t.val t.isLt).1 y = dyAt m c t y := by
  rw [outsAt0_C m c t h0 h1]; frame_out
  unfold dyAt
  canon_tiles x h
  all_goals
    pointwise [k0_pay1, k0_pay16, k0_pay15, k0_pay18, k0_pay19, k0_pay22, k0_pay24, k0_pay25, k0_pay27, k0_pay31, k0_pay32,
      k0_pay34, k0_pay35, k0_pay37, k0_pay39, k0_pay40, k0_pay42, k0_pay46, k0_pay47, k0_pay51, k0_pay53, k0_pay54, k0_pay57,
      k0_pay59, blk_wb, dup0_at, dup1_at, dup2_at]
    generalize dup m c = D
    refine Eq.trans ?_ (sum_four _).symm
    unfold row
    blk_point []

theorem b11C (t : Fin cfg0.N) (h0 : ¬t.val % 8 = 0) (h1 : t.val % 8 = 7) (y : S512x3072.Idx) :
    (outsAt0 m c t.val t.isLt).2.1 y = dlgAt m c (row t (y 0)) (y 1) := by
  rw [outsAt0_C m c t h0 h1]; frame_out
  unfold dlgAt
  canon_tiles x h
  all_goals
    idx_vars x
    pointwise [k0_pay14, k0_pay30, k0_pay45, gate0_at, gate1_at, gate2_at, dup0_at, dup1_at, dup2_at, blk_up, upAt_eq]
    unfold gate
    generalize dup m c = D
    generalize up m c = U
    unfold row
    blk_point []

end Cert.MergeIdeal.Value
-- ==== Proof.Merge.Copies.lean ====
module

public import proofs.«01_k».proof.Proof.Merge.Step

@[expose] public section

/-! The last point copies the two accumulated gradients. -/

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (c : Dev nD)
theorem b14C (t : Fin cfg0.N) (h0 : ¬t.val % 8 = 0) (h1 : t.val % 8 = 7) (y : S1024x1024.Idx) :
    (outsAt0 m c t.val t.isLt).2.2.2.2.1 y = (outsAt0 m c t.val t.isLt).2.2.1 y := by
  rw [outsAt0_C m c t h0 h1]; frame_open
  simp (disch := decide) only [↓ View.readCov_skip, ↓ View.readCov_cons_toLoadRect, ↓ View.readCov_fill]
  frame_out
  pointwise [k0_pay2]

theorem b15C (t : Fin cfg0.N) (h0 : ¬t.val % 8 = 0) (h1 : t.val % 8 = 7) (y : S4x3x512x256.Idx) :
    (outsAt0 m c t.val t.isLt).2.2.2.2.2 y = (outsAt0 m c t.val t.isLt).2.2.2.1 y := by
  rw [outsAt0_C m c t h0 h1]; frame_open
  simp (disch := decide) only [↓ View.readCov_skip, ↓ View.readCov_cons_toLoadRect, ↓ View.readCov_fill]
  frame_out
  pointwise [k0_pay3]
  rw [View.readCov_eq_canon']
  refine congrArg (View.canon _) ?_
  funext a
  apply Fin.ext
  fin_cases a <;> simp [Rect.toLoadRect]

end Cert.MergeIdeal.Value
-- ==== Proof.Merge.Final.lean ====
module

public import proofs.«01_k».proof.Proof.Merge.Rows
public import proofs.«01_k».proof.Proof.Merge.Copies

@[expose] public section

/-! The six result arrays after the run, as functions of the arguments. -/

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem b10 (t : Fin cfg0.N) (y : S3x512x512.Idx) : (outsAt0 m c t.val t.isLt).1 y = dyAt m c t y := by
  by_cases h0 : t.val % 8 = 0
  · exact b10A m c t h0 (by omega) y
  · by_cases h1 : t.val % 8 = 7
    · exact b10C m c t h0 h1 y
    · exact b10B m c t h0 h1 y

theorem b11 (t : Fin cfg0.N) (y : S512x3072.Idx) : (outsAt0 m c t.val t.isLt).2.1 y = dlgAt m c (row t (y 0)) (y 1) := by
  by_cases h0 : t.val % 8 = 0
  · exact b11A m c t h0 (by omega) y
  · by_cases h1 : t.val % 8 = 7
    · exact b11C m c t h0 h1 y
    · exact b11B m c t h0 h1 y

/-- The gradient of the branch outputs, the whole array. -/
def dyAll (i : S3x4096x512.Idx) : EReal := ∑ j : Fin 1024, dup m c (ix3 (i 0) (i 1) j) * aWb m c (ix3 (i 0) (i 2) j)

/-- The gradient of the logits, the whole array. -/
def dlgAll (i : S4096x3072.Idx) : EReal := dlgAt m c (i 0) (i 1)

/-- The gradient of the output matrix, the whole array. -/
def gwoAll (i : S1024x1024.Idx) : EReal := ∑ r : Fin 4096, mergedAt m c r (i 0) * aDx m c (ix2 r (i 1))

/-- The gradient of the branch weights, the whole array. -/
def gwbAll (i : S4x3x512x256.Idx) : EReal :=
  ∑ r : Fin 4096, aBr m c (ix3 r (i 1) (i 2)) * dup m c (ix3 (i 1) r ⟨(i 0 : ℕ) * 256 + (i 3 : ℕ), by idx_bounds i; omega⟩)

theorem final10 : (dats m 0 c).arrAt 10 (cfgs 0).N = dyAll m c := by
  refine (dats m 0 c).arrAt_eq_of_covers 10 _ (by decide +kernel) fun t hf y => ?_
  blk_simp
  rw [after0_10]
  refine (b10 m c t y).trans ?_
  unfold dyAt dyAll
  generalize dup m c = D
  unfold row
  blk_point [idx t]

theorem final11 : (dats m 0 c).arrAt 11 (cfgs 0).N = dlgAll m c := by
  refine (dats m 0 c).arrAt_eq_of_covers 11 _ (by decide +kernel) fun t hf y => ?_
  blk_simp
  rw [after0_11]
  refine (b11 m c t y).trans ?_
  unfold dlgAll dlgAt gate
  generalize dup m c = D
  generalize up m c = U
  unfold row
  blk_point [idx t]

theorem acc12 (y : S1024x1024.Idx) : (outsAt0 m c t0_7.val t0_7.isLt).2.2.1 y = gwoAll m c y := by
  rw [Pipeline.eq_sum_fin_of_reset_step_apply_last (fun n h => (outsAt0 m c n h).2.2.1) 8 (fun _ => (0 : EReal))
    (fun t y => gwoAt m c t y)
    (fun t h j => b12A m c t h (by omega) j)
    (fun t h j => by
      by_cases h1 : t.val % 8 = 7
      · exact b12C m c t h h1 j
      · exact b12B m c t h h1 j)
    (le_of_eq N_0) t0_7 rfl y, zero_add]
  unfold gwoAt gwoAll row
  exact Fin.sum_mul_add_fin 8 512 (fun r => mergedAt m c r (y 0) * aDx m c (ix2 r (y 1))) rfl

theorem acc13 (y : S4x3x512x256.Idx) : (outsAt0 m c t0_7.val t0_7.isLt).2.2.2.1 y = gwbAll m c y := by
  rw [Pipeline.eq_sum_fin_of_reset_step_apply_last (fun n h => (outsAt0 m c n h).2.2.2.1) 8 (fun _ => (0 : EReal))
    (fun t y => gwbAt m c t y)
    (fun t h j => b13A m c t h (by omega) j)
    (fun t h j => by
      by_cases h1 : t.val % 8 = 7
      · exact b13C m c t h h1 j
      · exact b13B m c t h h1 j)
    (le_of_eq N_0) t0_7 rfl y, zero_add]
  unfold gwbAt gwbAll row
  exact Fin.sum_mul_add_fin 8 512 (fun r => aBr m c (ix3 r (y 1) (y 2)) * dup m c (ix3 (y 1) r _)) rfl

theorem final12 : (dats m 0 c).arrAt 12 (cfgs 0).N = gwoAll m c := by
  refine (dats m 0 c).arrAt_eq_of_after_last 12 t0_7 (by decide +kernel) _ fun j => ?_
  blk_simp
  rw [after0_12]
  exact acc12 m c j

theorem final13 : (dats m 0 c).arrAt 13 (cfgs 0).N = gwbAll m c := by
  refine (dats m 0 c).arrAt_eq_of_after_last 13 t0_7 (by decide +kernel) _ fun j => ?_
  blk_simp
  rw [after0_13]
  exact acc13 m c j

theorem final14 : (dats m 0 c).arrAt 14 (cfgs 0).N = gwoAll m c := by
  refine (dats m 0 c).arrAt_eq_of_after_last 14 t0_7 (by decide +kernel) _ fun j => ?_
  blk_simp
  rw [after0_14]
  exact (b14C m c t0_7 (by decide) (by decide) j).trans (acc12 m c j)

theorem final15 : (dats m 0 c).arrAt 15 (cfgs 0).N = gwbAll m c := by
  refine (dats m 0 c).arrAt_eq_of_after_last 15 t0_7 (by decide +kernel) _ fun j => ?_
  blk_simp
  rw [after0_15]
  exact (b15C m c t0_7 (by decide) (by decide) j).trans (acc13 m c j)

end Cert.MergeIdeal.Value
-- ==== Proof.Merge.Ref.lean ====
module

public import proofs.«01_k».proof.Proof.Merge.Final
public import proofs.«01_k».proof.Proof.Gen.MergeRefIdeal.Read

@[expose] public section

/-! The derivative of the merge, stage by stage, is the same six arrays. -/

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

open Cert.MergeRefIdeal.Read

variable (m : (ℓ : Loc nD τ sig) → Buf (Elt Ideal) ℓ) (c : Dev nD)

theorem ref_gate (r : Fin 4096) (n : Fin 3) (j : Fin 1024) :
    val_main_v9 (F := Ideal) (aPr m c) (ix3 r n j) = gate (aPr m c (ix2 r (lgCol n j))) := by
  unfold gate lgCol
  pointwise [val_main_v9, val_main_v8, val_main_v7, val_main_v6, val_main_v5, val_main_v4, val_main_v3, val_main_v0,
    val_main_cst, val_main_cst_0]

theorem ref_up (r : Fin 4096) (n : Fin 3) (j : Fin 1024) :
    val_main_v2 (F := Ideal) (aBr m c) (aWb m c) (ix3 r n j) = upAt m c n r j := by
  unfold upAt
  pointwise [val_main_v2, val_main_v1]
  exact Fin.sum_fin_congr fun k => mul_comm _ _

theorem ref_dmg (r : Fin 4096) (j : Fin 1024) :
    val_main_v18 (F := Ideal) (aDx m c) (aWo m c) (ix2 r j) = dmgAt m c r j := by
  unfold dmgAt
  pointwise [val_main_v18]

theorem ref_dup (r : Fin 4096) (n : Fin 3) (j : Fin 1024) :
    val_main_v20 (F := Ideal) (aDx m c) (aPr m c) (aWo m c) (ix3 r n j) = dup m c (ix3 n r j) := by
  rw [← dupAt_eq]; unfold dupAt
  pointwise [val_main_v20, val_main_v19, ref_gate, ref_dmg]
  exact mul_comm _ _

theorem ref_merged (r : Fin 4096) (j : Fin 1024) :
    val_main_v14 (F := Ideal) (aPr m c) (aBr m c) (aWb m c) (ix2 r j) = mergedAt m c r j := by
  unfold mergedAt
  pointwise [val_main_v14, val_main_v13, val_main_cst_2, ref_gate, ref_up]
  rw [Fin.sum_univ_three]

theorem ref_dy : val_main_v32 (F := Ideal) (aDx m c) (aPr m c) (aWb m c) (aWo m c) = dyAll m c := by
  funext i; idx_vars i
  unfold dyAll
  pointwise [val_main_v32, val_main_v31, val_main_v26, val_main_v25, val_main_v24, ref_dup]

theorem ref_dlg : val_main_v33 (F := Ideal) (aDx m c) (aPr m c) (aBr m c) (aWb m c) (aWo m c) = dlgAll m c := by
  funext i; idx_vars i
  unfold dlgAll dlgAt up
  pointwise [val_main_v33, val_main_v23, val_main_v22, val_main_v21, val_main_v19, val_main_v12, val_main_v11, val_main_v10,
    val_main_cst_1, ref_gate, ref_up, ref_dmg]
  rw [← dupAt_eq]; unfold dupAt
  have hq : lgCol ⟨i1.val / 1024, by omega⟩ ⟨i1.val % 1024, by omega⟩ = ⟨3840 + i1.val, by omega⟩ :=
    Fin.ext (by show 3840 + (i1.val / 1024 * 1024 + i1.val % 1024) = 3840 + i1.val; omega)
  rw [hq]
  ac_rfl

theorem ref_gwo : val_main_v17 (F := Ideal) (aDx m c) (aPr m c) (aBr m c) (aWb m c) = gwoAll m c := by
  funext i; idx_vars i
  unfold gwoAll
  pointwise [val_main_v17, val_main_v16, ref_merged]
  exact Fin.sum_fin_congr fun k => mul_comm _ _

theorem ref_gwb : val_main_v30 (F := Ideal) (aDx m c) (aPr m c) (aBr m c) (aWo m c) = gwbAll m c := by
  funext i; idx_vars i
  unfold gwbAll
  pointwise [val_main_v30, val_main_v29, val_main_v28, val_main_v27, ref_dup, val_main_v24]
  exact Fin.sum_fin_congr fun k => mul_comm _ _

theorem ref_gwoq : val_main_v34 (F := Ideal) (aDx m c) (aPr m c) (aBr m c) (aWb m c) = gwoAll m c := by
  rw [← ref_gwo]; funext i
  pointwise [val_main_v34]

theorem ref_gwbq : val_main_v35 (F := Ideal) (aDx m c) (aPr m c) (aBr m c) (aWo m c) = gwbAll m c := by
  rw [← ref_gwb]; funext i
  pointwise [val_main_v35]

end Cert.MergeIdeal.Value
-- ==== Proof.Merge.Claim.lean ====
module

public import proofs.«01_k».proof.Defs
public import proofs.«01_k».proof.Proof.Merge.Ref
public import proofs.«01_k».proof.Proof.Gen.MergeIdeal.Value
public import proofs.«01_k».proof.Proof.Gen.MergeRefIdeal.Run

@[expose] public section

/-! The backward pass of the merge computes the derivative of the merge. -/

set_option maxRecDepth 16384

noncomputable section

namespace Cert.MergeIdeal.Value

open Idealize.ShloMosaic Idealize.ShloMosaic.TcCoe Idealize.SL.Sem

theorem frame_reference : Cert.quiescent_MergeRefIdeal := by
  intro m g _
  exact (θ_run Cert.MergeRefIdeal.defs _ _).mono (fun r h => ⟨fun c => (h c).2.2.2.2.2.2,
      sem_eq_zero_of_no_sems (by decide) r.2⟩) (Cert.MergeRefIdeal.Value.run (F := Ideal) m g)

theorem algebraic : Cert.algebraic_MergeIdeal_MergeRefIdeal := by
  pair_intro
  · run_from Cert.MergeIdeal.Value.run_blocks m g
  · run_from Cert.MergeRefIdeal.Value.run m' g'
    · exact (Cert.MergeRefIdeal.Read.val_main_v32_eq _ _ _ _).trans ((ref_dy m c).trans (final10 m c).symm)
    · exact (Cert.MergeRefIdeal.Read.val_main_v33_eq _ _ _ _ _).trans ((ref_dlg m c).trans (final11 m c).symm)
    · exact (Cert.MergeRefIdeal.Read.val_main_v17_eq _ _ _ _).trans ((ref_gwo m c).trans (final12 m c).symm)
    · exact (Cert.MergeRefIdeal.Read.val_main_v30_eq _ _ _ _).trans ((ref_gwb m c).trans (final13 m c).symm)
    · exact (Cert.MergeRefIdeal.Read.val_main_v34_eq _ _ _ _).trans ((ref_gwoq m c).trans (final14 m c).symm)
    · exact (Cert.MergeRefIdeal.Read.val_main_v35_eq _ _ _ _).trans ((ref_gwbq m c).trans (final15 m c).symm)

end Cert.MergeIdeal.Value
-- ==== Proof.Attn.Entry.lean ====
module

public import proofs.«01_k».proof.Proof.Gen.AttnIdeal.Frame.Runs
public import Idealize.ShloMosaic.Lib.Pipeline.ValueKit
public import Idealize.ShloMosaic.Lib.StableHlo.ReadAt
public import Idealize.ShloMosaic.Lib.Claim

@[expose] public section

/-! The arrays the host prepares for the kernel, as functions of the arguments. -/

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The four arguments, as arrays of extended reals. -/
abbrev aQ : S4096x8x64.Idx → EReal := m ((c : Thread nD τ).loc main_arg0)
abbrev aK : S4096x2x64.Idx → EReal := m ((c : Thread nD τ).loc main_arg1)
abbrev aV : S4096x2x64.Idx → EReal := m ((c : Thread nD τ).loc main_arg2)
abbrev aDo : S4096x512.Idx → EReal := m ((c : Thread nD τ).loc main_arg3)

/-- The logarithm of two and the score scale, as the program writes them. -/
def ln2 : EReal := Ideal.log (Ideal.ofBits .f32 0x40000000#32)
def scale : EReal := Ideal.ofBits .f32 0x3E000000#32

/-- The head `g` of the group that shares key head `n`. -/
abbrev hd (n : Fin 2) (g : Fin 4) : Fin 8 := ⟨n.val * 4 + g.val, by omega⟩

/-- The column of head `h`, lane `d`, in a row of all heads. -/
abbrev col (n : Fin 2) (g : Fin 4) (d : Fin 64) : Fin 512 := ⟨n.val * 256 + g.val * 64 + d.val, by omega⟩

def scAt (n : Fin 2) (g : Fin 4) (i s : Fin 4096) : EReal :=
  (∑ d : Fin 64, aQ m c (ix3 i (hd n g) d) * aK m c (ix3 s n d)) * scale

def mxAt (n : Fin 2) (g : Fin 4) (i : Fin 4096) : EReal :=
  Finset.univ.fold max (Ideal.ofBits .f32 0xFF800000#32) fun s : Fin 4096 => scAt m c n g i s

def exAt (n : Fin 2) (g : Fin 4) (i s : Fin 4096) : EReal := Ideal.exp (scAt m c n g i s - mxAt m c n g i)

def smAt (n : Fin 2) (g : Fin 4) (i : Fin 4096) : EReal := ∑ s : Fin 4096, exAt m c n g i s

def oAt (n : Fin 2) (g : Fin 4) (i : Fin 4096) (d : Fin 64) : EReal :=
  ∑ s : Fin 4096, Ideal.div (exAt m c n g i s) (smAt m c n g i) * aV m c (ix3 s n d)

/-- Host arrays by name. -/
def h0 : FVec Ideal S_ .f32 := V m c main_v0
def h5 : FVec Ideal S2x4x4096x4096 .f32 := V m c main_v5
def h6 : FVec Ideal S2x4x4096 .f32 := V m c main_v6
def h10 : FVec Ideal S2x4x4096x4096 .f32 := V m c main_v10
def h11 : FVec Ideal S2x4x4096 .f32 := V m c main_v11
def h15 : FVec Ideal S2x4x4096x64 .f32 := V m c main_v15
def h19 : FVec Ideal S2x4x4096 .f32 := V m c main_v19
def h20 : FVec Ideal S8x4096 .f32 := V m c main_v20
def h24 : FVec Ideal S2x4x4096x64 .f32 := V m c main_v24
def h27 : FVec Ideal S8x4096 .f32 := V m c main_v27

theorem entry_sc (n : Fin 2) (g : Fin 4) (i s : Fin 4096) : h5 m c (ix4 n g i s) = scAt m c n g i s := by
  unfold scAt scale hd
  unfold h5 V; after_reads_at

theorem entry_mx (n : Fin 2) (g : Fin 4) (i : Fin 4096) : h6 m c (ix3 n g i) = mxAt m c n g i := by
  unfold mxAt scAt scale hd
  unfold h6 V; after_reads_at

theorem st10 : (h10 m c) = Host.exp (subf (h5 m c) (broadcastInDim S2x4x4096x4096 ![0, 1, 2, 3] bcast_S2x4x4096x1_S2x4x4096x4096_0_1_2_3 (broadcastInDim S2x4x4096x1 ![0, 1, 2] bcast_S2x4x4096_S2x4x4096x1_0_1_2 (h6 m c)))) := by
  unfold h10 h5 h6 V; after_reads_simp

theorem st11 : (h11 m c) = Host.reduceAdd (h10 m c) (constant S_ .f32 0x00000000#32) reducesTo_S2x4x4096x4096_S2x4x4096_d3 h_S_ := by
  unfold h10 h11 V; after_reads_simp

theorem st15 : (h15 m c) = Host.dotGeneral dot_S2x4x4096x4096_S4096x2x64_S2x4x4096x64_3_0_12_2_0_1 none (φ₁ := .f32)
    (Host.divf (h10 m c) (broadcastInDim S2x4x4096x4096 ![0, 1, 2, 3] bcast_S2x4x4096x1_S2x4x4096x4096_0_1_2_3 (broadcastInDim S2x4x4096x1 ![0, 1, 2] bcast_S2x4x4096_S2x4x4096x1_0_1_2 (h11 m c)))) (φ₂ := .f32) (aV m c) := by
  unfold h10 h11 h15 V; after_reads_simp

theorem st19 : h19 m c = Host.divf (addf (h6 m c) (Host.log (h11 m c))) (broadcastInDim S2x4x4096 ![] bcast_S_S2x4x4096 (h0 m c)) := by
  unfold h0 h6 h11 h19 V; after_reads_simp

theorem st20 : h20 m c = shapeCast S8x4096 (h19 m c) shapeCasts_S2x4x4096_S8x4096 := by
  unfold h20 h19 V; after_reads_simp; rfl

theorem st27 : (h27 m c) = shapeCast S8x4096 (Host.reduceAdd (mulf (h24 m c) (h15 m c))
    (constant S_ .f32 0x00000000#32) reducesTo_S2x4x4096x64_S2x4x4096_d3 h_S_) shapeCasts_S2x4x4096_S8x4096 := by
  unfold h15 h24 h27 V; after_reads_simp; rfl

theorem entry_ln2 (i : S_.Idx) : (h0 m c) i = ln2 := by
  unfold ln2 h0 V; after_reads_at

theorem entry_ex (n : Fin 2) (g : Fin 4) (i s : Fin 4096) : h10 m c (ix4 n g i s) = exAt m c n g i s := by
  refine (congrFun (st10 m c) _).trans ?_
  unfold exAt; pointwise [entry_sc, entry_mx]

theorem entry_sm (n : Fin 2) (g : Fin 4) (i : Fin 4096) : h11 m c (ix3 n g i) = smAt m c n g i := by
  refine (congrFun (st11 m c) _).trans ?_
  unfold smAt; pointwise [entry_ex]

theorem entry_o (n : Fin 2) (g : Fin 4) (i : Fin 4096) (d : Fin 64) : h15 m c (ix4 n g i d) = oAt m c n g i d := by
  refine (congrFun (st15 m c) _).trans ?_
  unfold oAt; pointwise [entry_ex, entry_sm]

theorem lg_at (y z : FVec Ideal S2x4x4096 .f32) (x : FVec Ideal S_ .f32) (n : Fin 2) (g : Fin 4) (i : Fin 4096) (l : EReal)
    (hl : ∀ j, x j = l) :
    (Host.divf (addf y (Host.log z)) (broadcastInDim S2x4x4096 ![] bcast_S_S2x4x4096 x)) (ix3 n g i)
      = Ideal.div ((show EReal from y (ix3 n g i)) + Ideal.log (z (ix3 n g i))) l := by
  pointwise [hl]

theorem entry_lg (n : Fin 2) (g : Fin 4) (i : Fin 4096) :
    h19 m c (ix3 n g i) = Ideal.div (mxAt m c n g i + Ideal.log (smAt m c n g i)) ln2 := by
  refine (congrFun (st19 m c) _).trans ((lg_at _ _ _ n g i ln2 (entry_ln2 m c)).trans ?_)
  exact congrArg (fun e => Ideal.div e ln2) (congrArg₂ (fun a b : EReal => a + Ideal.log b) (entry_mx m c n g i) (entry_sm m c n g i))

theorem entry_lse (n : Fin 2) (g : Fin 4) (i : Fin 4096) :
    h20 m c (ix2 (hd n g) i) = Ideal.div (mxAt m c n g i + Ideal.log (smAt m c n g i)) ln2 := by
  refine (congrFun (st20 m c) _).trans ?_
  unfold hd; pointwise [entry_lg]

theorem entry_w (n : Fin 2) (g : Fin 4) (i : Fin 4096) (d : Fin 64) :
    h24 m c (ix4 n g i d) = aDo m c (ix2 i (col n g d)) * ln2 := by
  unfold ln2 col h24 V; after_reads_at

theorem entry_delta (n : Fin 2) (g : Fin 4) (i : Fin 4096) :
    h27 m c (ix2 (hd n g) i) = ∑ d : Fin 64, aDo m c (ix2 i (col n g d)) * ln2 * oAt m c n g i d := by
  refine (congrFun (st27 m c) _).trans ?_
  unfold hd; pointwise [entry_w, entry_o]

theorem entry_qt (e : Fin 512) (i : Fin 4096) :
    V m c main_v33 (ix2 e i) = aQ m c (ix3 i ⟨e.val / 64, by omega⟩ ⟨e.val % 64, by omega⟩) * Ideal.div scale ln2 := by
  unfold scale ln2
  unfold V; after_reads_at

theorem entry_dot (e : Fin 512) (i : Fin 4096) : V m c main_v36 (ix2 e i) = aDo m c (ix2 i e) * ln2 := by
  unfold ln2
  unfold V; after_reads_at

theorem entry_kr (e : Fin 128) (s : Fin 4096) :
    V m c main_v37 (ix2 s e) = aK m c (ix3 s ⟨e.val / 64, by omega⟩ ⟨e.val % 64, by omega⟩) := by
  unfold V; after_reads_at

theorem entry_krt (e : Fin 128) (s : Fin 4096) :
    V m c main_v39 (ix2 e s) = aK m c (ix3 s ⟨e.val / 64, by omega⟩ ⟨e.val % 64, by omega⟩) := by
  unfold V; after_reads_at

theorem entry_vr (e : Fin 128) (s : Fin 4096) :
    V m c main_v41 (ix2 s e) = aV m c (ix3 s ⟨e.val / 64, by omega⟩ ⟨e.val % 64, by omega⟩) := by
  unfold V; after_reads_at

end Cert.AttnIdeal.Value
-- ==== Proof.Attn.Load.lean ====
module

public import proofs.«01_k».proof.Proof.Gen.AttnIdeal.Value
public import proofs.«01_k».proof.Proof.Common.Canon

@[expose] public section

/-! Loads of the key loop, read at an index. -/

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

theorem trips_eq : k0_t1_loop.trips = 8 := by decide +kernel

theorem off1_eq : ∀ k : Fin k0_t1_loop.trips, k0_off1 k = ![512 * k.val, 0] := by decide +kernel

theorem off2_eq : ∀ k : Fin k0_t1_loop.trips, k0_off2 k = ![0, 512 * k.val] := by decide +kernel

/-- Row `a` of the key chunk of trip `k`. -/
def crow (k : Fin k0_t1_loop.trips) (a : Fin 512) : Fin 4096 :=
  ⟨k.val * 512 + a.val, by have := Nat.lt_of_lt_of_eq k.isLt trips_eq; omega⟩

theorem ld_rows {e : EltTy} (v : View sig .tc .vmem S4096x128 e) (X : v.ty.Contents (Elt Ideal)) (k : Fin k0_t1_loop.trips)
    (inb : ∀ a, (k0_off1 k) a + (![512, 128] : Fin 2 → ℕ) a ≤ S4096x128.size a) (a : Fin 512) (d : Fin 128) :
    View.readAt (Elt Ideal) v (Rect.unit (s := S4096x128) (k0_off1 k) ![512, 128] inb).toLoadRect X (ix2 a d)
      = v.read (Elt Ideal) X (ix2 (crow k a) d) := by
  refine congrArg (v.read (Elt Ideal) X) (funext fun b => Fin.ext ?_)
  show k0_off1 k b + 1 * _ = _
  rw [congrFun (off1_eq k) b]
  revert b
  refine Fin.forall_fin_two.mpr ⟨?_, ?_⟩
  · show 512 * k.val + 1 * a.val = k.val * 512 + a.val
    omega
  · show 0 + 1 * d.val = d.val
    omega

theorem ld_cols {e : EltTy} (v : View sig .tc .vmem S128x4096 e) (X : v.ty.Contents (Elt Ideal)) (k : Fin k0_t1_loop.trips)
    (inb : ∀ a, (k0_off2 k) a + (![128, 512] : Fin 2 → ℕ) a ≤ S128x4096.size a) (d : Fin 128) (a : Fin 512) :
    View.readAt (Elt Ideal) v (Rect.unit (s := S128x4096) (k0_off2 k) ![128, 512] inb).toLoadRect X (ix2 d a)
      = v.read (Elt Ideal) X (ix2 d (crow k a)) := by
  refine congrArg (v.read (Elt Ideal) X) (funext fun b => Fin.ext ?_)
  show k0_off2 k b + 1 * _ = _
  rw [congrFun (off2_eq k) b]
  revert b
  refine Fin.forall_fin_two.mpr ⟨?_, ?_⟩
  · show 0 + 1 * d.val = d.val
    omega
  · show 512 * k.val + 1 * a.val = k.val * 512 + a.val
    omega

theorem ld_row {e : EltTy} (v : View sig .tc .vmem S8x256 e) (X : v.ty.Contents (Elt Ideal)) (h : ℕ) (g : Fin 8) (hg : g.val = h)
    (inb : ∀ a, (![h, 0] : Fin 2 → ℕ) a + (![1, 256] : Fin 2 → ℕ) a ≤ S8x256.size a) (z : Fin 1) (b : Fin 256) :
    View.readAt (Elt Ideal) v (Rect.unit (s := S8x256) ![h, 0] ![1, 256] inb).toLoadRect X (ix2 z b)
      = v.read (Elt Ideal) X (ix2 g b) := by
  refine congrArg (v.read (Elt Ideal) X) (funext fun q => Fin.ext ?_)
  show (![h, 0] : Fin 2 → ℕ) q + 1 * _ = _
  revert q
  refine Fin.forall_fin_two.mpr ⟨?_, ?_⟩
  · show h + 1 * z.val = g.val
    omega
  · show 0 + 1 * b.val = b.val
    omega

theorem ld_slab {e : EltTy} (v : View sig .tc .vmem S8x128x256 e) (X : v.ty.Contents (Elt Ideal)) (h : ℕ) (g : Fin 8) (hg : g.val = h)
    (inb : ∀ a, (![h, 0, 0] : Fin 3 → ℕ) a + (![1, 128, 256] : Fin 3 → ℕ) a ≤ S8x128x256.size a) (z : Fin 1) (d : Fin 128) (b : Fin 256) :
    View.readAt (Elt Ideal) v (Rect.unit (s := S8x128x256) ![h, 0, 0] ![1, 128, 256] inb).toLoadRect X (ix3 z d b)
      = v.read (Elt Ideal) X (ix3 g d b) := by
  refine congrArg (v.read (Elt Ideal) X) (funext fun q => Fin.ext ?_)
  show (![h, 0, 0] : Fin 3 → ℕ) q + 1 * _ = _
  revert q
  refine Fin.forall_fin_succ.mpr ⟨?_, Fin.forall_fin_two.mpr ⟨?_, ?_⟩⟩
  · show h + 1 * z.val = g.val
    omega
  · show 0 + 1 * d.val = d.val
    omega
  · show 0 + 1 * b.val = b.val
    omega

end Cert.AttnIdeal.Value
-- ==== Proof.Attn.Trip.lean ====
module

public import proofs.«01_k».proof.Proof.Attn.Load

@[expose] public section

/-! One trip of the key loop: what it writes, at an index. -/

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-- The softmax weight of query `b` at key `r`, head `h`, rebuilt from the saved base-2 log-sum `L`. -/
def pAt (K : S4096x128.Idx → EReal) (Q : S8x128x256.Idx → EReal) (L : S8x256.Idx → EReal) (h : Fin 8) (r : Fin 4096) (b : Fin 256) : EReal :=
  FloatOps.exp2 (F := Ideal) (φ := .f32) ((∑ d : Fin 128, K (ix2 r d) * Q (ix3 h d b)) - L (ix2 h b))

/-- The gradient of the score of query `b` at key `r`, head `h`. -/
def dsAt (K : S4096x128.Idx → EReal) (V : S4096x128.Idx → EReal) (L D : S8x256.Idx → EReal) (Q O : S8x128x256.Idx → EReal)
    (h : Fin 8) (r : Fin 4096) (b : Fin 256) : EReal :=
  pAt K Q L h r b * ((∑ d : Fin 128, V (ix2 r d) * O (ix3 h d b)) - D (ix2 h b))

variable (𝒱 : Variants) (c : Dev nD) (bd : Option 𝒱.V) (i : grid0.Coords)
  (a1 : Memref sig .tc .vmem S512x256 .bf16) (h1 : a1.IsWhole)
  (a2 : Memref sig .tc .vmem S512x256 .bf16) (h2 : a2.IsWhole)
  (a3 : Memref sig .tc .vmem S4096x128 .bf16) (h3 : a3.IsWhole)
  (a4 : Memref sig .tc .vmem S128x4096 .bf16) (h4 : a4.IsWhole)
  (a5 : Memref sig .tc .vmem S4096x128 .bf16) (h5 : a5.IsWhole)
  (a6 : Memref sig .tc .vmem S8x256 .f32) (h6 : a6.IsWhole)
  (a7 : Memref sig .tc .vmem S8x256 .f32) (h7 : a7.IsWhole)
  (a8 : Memref sig .tc .vmem S512x256 .f32) (h8 : a8.IsWhole)
  (a9 : Memref sig .tc .vmem S4096x128 .f32) (h9 : a9.IsWhole)
  (a10 : Memref sig .tc .vmem S4096x128 .f32) (h10 : a10.IsWhole)
  (a11 : Memref sig .tc .vmem S8x128x256 .bf16) (h11 : a11.IsWhole)
  (a12 : Memref sig .tc .vmem S8x128x256 .bf16) (h12 : a12.IsWhole)
  (a13 : Memref sig .tc .vmem S8x128x256 .f32) (h13 : a13.IsWhole)
  (X3 : BufTy.Contents (Elt Ideal) a3.view.ty)
  (X4 : BufTy.Contents (Elt Ideal) a4.view.ty)
  (X5 : BufTy.Contents (Elt Ideal) a5.view.ty)
  (X6 : BufTy.Contents (Elt Ideal) a6.view.ty)
  (X7 : BufTy.Contents (Elt Ideal) a7.view.ty)
  (X11 : BufTy.Contents (Elt Ideal) a11.view.ty)
  (X12 : BufTy.Contents (Elt Ideal) a12.view.ty)

theorem sc_0 (k : Fin k0_t1_loop.trips) (a : Fin 512) (b : Fin 256) :
    trip_k0_t1.sl.r_3 a3 a11 X3 X11 k (ix2 a b)
      = ∑ d : Fin 128, a3.view.read (Elt Ideal) X3 (ix2 (crow k a) d) * a11.view.read (Elt Ideal) X11 (ix3 0 d b) := by
  unfold trip_k0_t1.sl.r_3
  pointwise [k0_pay6, k0_pay7, k0_pay8, k0_pay9, k0_pay10, k0_pay11, k0_pay12, k0_pay13, k0_pay14, k0_pay1, trip_k0_t1.sl.r,
    trip_k0_t1.sl.r_8, ld_rows, ld_slab a11.view X11 0 0 rfl]

theorem dp_0 (k : Fin k0_t1_loop.trips) (a : Fin 512) (b : Fin 256) :
    trip_k0_t1.sl.r_12 a5 a12 X5 X12 k (ix2 a b)
      = ∑ d : Fin 128, a5.view.read (Elt Ideal) X5 (ix2 (crow k a) d) * a12.view.read (Elt Ideal) X12 (ix3 0 d b) := by
  unfold trip_k0_t1.sl.r_12
  pointwise [k0_pay15, k0_pay2, trip_k0_t1.sl.r_1, ld_rows, ld_slab a12.view X12 0 0 rfl]

theorem sc_1 (k : Fin k0_t1_loop.trips) (a : Fin 512) (b : Fin 256) :
    trip_k0_t1.sl.r_4 a3 a11 X3 X11 k (ix2 a b)
      = ∑ d : Fin 128, a3.view.read (Elt Ideal) X3 (ix2 (crow k a) d) * a11.view.read (Elt Ideal) X11 (ix3 1 d b) := by
  unfold trip_k0_t1.sl.r_4
  pointwise [k0_pay6, k0_pay7, k0_pay8, k0_pay9, k0_pay10, k0_pay11, k0_pay12, k0_pay13, k0_pay14, k0_pay1, trip_k0_t1.sl.r,
    trip_k0_t1.sl.r_8, ld_rows, ld_slab a11.view X11 1 1 rfl]

theorem dp_1 (k : Fin k0_t1_loop.trips) (a : Fin 512) (b : Fin 256) :
    trip_k0_t1.sl.r_13 a5 a12 X5 X12 k (ix2 a b)
      = ∑ d : Fin 128, a5.view.read (Elt Ideal) X5 (ix2 (crow k a) d) * a12.view.read (Elt Ideal) X12 (ix3 1 d b) := by
  unfold trip_k0_t1.sl.r_13
  pointwise [k0_pay16, k0_pay2, trip_k0_t1.sl.r_1, ld_rows, ld_slab a12.view X12 1 1 rfl]

theorem sc_2 (k : Fin k0_t1_loop.trips) (a : Fin 512) (b : Fin 256) :
    trip_k0_t1.sl.r_5 a3 a11 X3 X11 k (ix2 a b)
      = ∑ d : Fin 128, a3.view.read (Elt Ideal) X3 (ix2 (crow k a) d) * a11.view.read (Elt Ideal) X11 (ix3 2 d b) := by
  unfold trip_k0_t1.sl.r_5
  pointwise [k0_pay6, k0_pay7, k0_pay8, k0_pay9, k0_pay10, k0_pay11, k0_pay12, k0_pay13, k0_pay14, k0_pay1, trip_k0_t1.sl.r,
    trip_k0_t1.sl.r_8, ld_rows, ld_slab a11.view X11 2 2 rfl]

theorem dp_2 (k : Fin k0_t1_loop.trips) (a : Fin 512) (b : Fin 256) :
    trip_k0_t1.sl.r_14 a5 a12 X5 X12 k (ix2 a b)
      = ∑ d : Fin 128, a5.view.read (Elt Ideal) X5 (ix2 (crow k a) d) * a12.view.read (Elt Ideal) X12 (ix3 2 d b) := by
  unfold trip_k0_t1.sl.r_14
  pointwise [k0_pay17, k0_pay2, trip_k0_t1.sl.r_1, ld_rows, ld_slab a12.view X12 2 2 rfl]

theorem sc_3 (k : Fin k0_t1_loop.trips) (a : Fin 512) (b : Fin 256) :
    trip_k0_t1.sl.r_6 a3 a11 X3 X11 k (ix2 a b)
      = ∑ d : Fin 128, a3.view.read (Elt Ideal) X3 (ix2 (crow k a) d) * a11.view.read (Elt Ideal) X11 (ix3 3 d b) := by
  unfold trip_k0_t1.sl.r_6
  pointwise [k0_pay6, k0_pay7, k0_pay8, k0_pay9, k0_pay10, k0_pay11, k0_pay12, k0_pay13, k0_pay14, k0_pay1, trip_k0_t1.sl.r,
    trip_k0_t1.sl.r_8, ld_rows, ld_slab a11.view X11 3 3 rfl]

theorem dp_3 (k : Fin k0_t1_loop.trips) (a : Fin 512) (b : Fin 256) :
    trip_k0_t1.sl.r_15 a5 a12 X5 X12 k (ix2 a b)
      = ∑ d : Fin 128, a5.view.read (Elt Ideal) X5 (ix2 (crow k a) d) * a12.view.read (Elt Ideal) X12 (ix3 3 d b) := by
  unfold trip_k0_t1.sl.r_15
  pointwise [k0_pay18, k0_pay2, trip_k0_t1.sl.r_1, ld_rows, ld_slab a12.view X12 3 3 rfl]

theorem sc_4 (k : Fin k0_t1_loop.trips) (a : Fin 512) (b : Fin 256) :
    trip_k0_t1.sl.r_7 a3 a11 X3 X11 k (ix2 a b)
      = ∑ d : Fin 128, a3.view.read (Elt Ideal) X3 (ix2 (crow k a) d) * a11.view.read (Elt Ideal) X11 (ix3 4 d b) := by
  unfold trip_k0_t1.sl.r_7
  pointwise [k0_pay6, k0_pay7, k0_pay8, k0_pay9, k0_pay10, k0_pay11, k0_pay12, k0_pay13, k0_pay14, k0_pay1, trip_k0_t1.sl.r,
    trip_k0_t1.sl.r_8, ld_rows, ld_slab a11.view X11 4 4 rfl]

theorem dp_4 (k : Fin k0_t1_loop.trips) (a : Fin 512) (b : Fin 256) :
    trip_k0_t1.sl.r_16 a5 a12 X5 X12 k (ix2 a b)
      = ∑ d : Fin 128, a5.view.read (Elt Ideal) X5 (ix2 (crow k a) d) * a12.view.read (Elt Ideal) X12 (ix3 4 d b) := by
  unfold trip_k0_t1.sl.r_16
  pointwise [k0_pay19, k0_pay2, trip_k0_t1.sl.r_1, ld_rows, ld_slab a12.view X12 4 4 rfl]

theorem sc_5 (k : Fin k0_t1_loop.trips) (a : Fin 512) (b : Fin 256) :
    trip_k0_t1.sl.r_9 a3 a11 X3 X11 k (ix2 a b)
      = ∑ d : Fin 128, a3.view.read (Elt Ideal) X3 (ix2 (crow k a) d) * a11.view.read (Elt Ideal) X11 (ix3 5 d b) := by
  unfold trip_k0_t1.sl.r_9
  pointwise [k0_pay6, k0_pay7, k0_pay8, k0_pay9, k0_pay10, k0_pay11, k0_pay12, k0_pay13, k0_pay14, k0_pay1, trip_k0_t1.sl.r,
    trip_k0_t1.sl.r_8, ld_rows, ld_slab a11.view X11 5 5 rfl]

theorem dp_5 (k : Fin k0_t1_loop.trips) (a : Fin 512) (b : Fin 256) :
    trip_k0_t1.sl.r_17 a5 a12 X5 X12 k (ix2 a b)
      = ∑ d : Fin 128, a5.view.read (Elt Ideal) X5 (ix2 (crow k a) d) * a12.view.read (Elt Ideal) X12 (ix3 5 d b) := by
  unfold trip_k0_t1.sl.r_17
  pointwise [k0_pay20, k0_pay2, trip_k0_t1.sl.r_1, ld_rows, ld_slab a12.view X12 5 5 rfl]

theorem sc_6 (k : Fin k0_t1_loop.trips) (a : Fin 512) (b : Fin 256) :
    trip_k0_t1.sl.r_10 a3 a11 X3 X11 k (ix2 a b)
      = ∑ d : Fin 128, a3.view.read (Elt Ideal) X3 (ix2 (crow k a) d) * a11.view.read (Elt Ideal) X11 (ix3 6 d b) := by
  unfold trip_k0_t1.sl.r_10
  pointwise [k0_pay6, k0_pay7, k0_pay8, k0_pay9, k0_pay10, k0_pay11, k0_pay12, k0_pay13, k0_pay14, k0_pay1, trip_k0_t1.sl.r,
    trip_k0_t1.sl.r_8, ld_rows, ld_slab a11.view X11 6 6 rfl]

theorem dp_6 (k : Fin k0_t1_loop.trips) (a : Fin 512) (b : Fin 256) :
    trip_k0_t1.sl.r_18 a5 a12 X5 X12 k (ix2 a b)
      = ∑ d : Fin 128, a5.view.read (Elt Ideal) X5 (ix2 (crow k a) d) * a12.view.read (Elt Ideal) X12 (ix3 6 d b) := by
  unfold trip_k0_t1.sl.r_18
  pointwise [k0_pay21, k0_pay2, trip_k0_t1.sl.r_1, ld_rows, ld_slab a12.view X12 6 6 rfl]

theorem sc_7 (k : Fin k0_t1_loop.trips) (a : Fin 512) (b : Fin 256) :
    trip_k0_t1.sl.r_11 a3 a11 X3 X11 k (ix2 a b)
      = ∑ d : Fin 128, a3.view.read (Elt Ideal) X3 (ix2 (crow k a) d) * a11.view.read (Elt Ideal) X11 (ix3 7 d b) := by
  unfold trip_k0_t1.sl.r_11
  pointwise [k0_pay6, k0_pay7, k0_pay8, k0_pay9, k0_pay10, k0_pay11, k0_pay12, k0_pay13, k0_pay14, k0_pay1, trip_k0_t1.sl.r,
    trip_k0_t1.sl.r_8, ld_rows, ld_slab a11.view X11 7 7 rfl]

theorem dp_7 (k : Fin k0_t1_loop.trips) (a : Fin 512) (b : Fin 256) :
    trip_k0_t1.sl.r_19 a5 a12 X5 X12 k (ix2 a b)
      = ∑ d : Fin 128, a5.view.read (Elt Ideal) X5 (ix2 (crow k a) d) * a12.view.read (Elt Ideal) X12 (ix3 7 d b) := by
  unfold trip_k0_t1.sl.r_19
  pointwise [k0_pay22, k0_pay2, trip_k0_t1.sl.r_1, ld_rows, ld_slab a12.view X12 7 7 rfl]

/-- What a trip adds to the rows of the gradient of the values. -/
theorem dv_trip (k : Fin k0_t1_loop.trips) (old : FVec Ideal S512x128 .f32) (a : Fin 512) (d : Fin 128) :
    k0_pay90 (F := Ideal) (trip_k0_t1.sl.r_39 a3 a6 a11 a12 X3 X6 X11 X12 k) (trip_k0_t1.sl.r_42 a12 X12)
        (trip_k0_t1.sl.r_43 a3 a6 a11 X3 X6 X11 k) old (ix2 a d)
      = old (ix2 a d) + ∑ h : Fin 8, ∑ b : Fin 256,
          pAt (a3.view.read (Elt Ideal) X3) (a11.view.read (Elt Ideal) X11) (a6.view.read (Elt Ideal) X6) h (crow k a) b
            * a12.view.read (Elt Ideal) X12 (ix3 h d b) := by
  rw [Fin.sum_univ_eight]
  unfold pAt
  pointwise [k0_pay4, k0_pay5, k0_pay23, k0_pay24, k0_pay25, k0_pay26, k0_pay28, k0_pay29, k0_pay30, k0_pay31, k0_pay33, k0_pay34, k0_pay35, k0_pay36, k0_pay37, k0_pay38, k0_pay39, k0_pay41, k0_pay42, k0_pay43, k0_pay44, k0_pay45, k0_pay47, k0_pay48, k0_pay49, k0_pay50, k0_pay53, k0_pay54, k0_pay55, k0_pay56, k0_pay58, k0_pay59, k0_pay60, k0_pay61, k0_pay62, k0_pay64, k0_pay65, k0_pay66, k0_pay88, k0_pay90, k0_pay91, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.cst_249, sc_0, sc_1, sc_2, sc_3, sc_4, sc_5, sc_6, sc_7, ld_row a6.view X6 0 0 rfl, ld_row a6.view X6 1 1 rfl, ld_row a6.view X6 2 2 rfl, ld_row a6.view X6 3 3 rfl, ld_row a6.view X6 4 4 rfl, ld_row a6.view X6 5 5 rfl, ld_row a6.view X6 6 6 rfl, ld_row a6.view X6 7 7 rfl, ld_slab a12.view X12 0 0 rfl, ld_slab a12.view X12 1 1 rfl, ld_slab a12.view X12 2 2 rfl, ld_slab a12.view X12 3 3 rfl, ld_slab a12.view X12 4 4 rfl, ld_slab a12.view X12 5 5 rfl, ld_slab a12.view X12 6 6 rfl, ld_slab a12.view X12 7 7 rfl]

/-- What a trip adds to the rows of the gradient of the keys. -/
theorem dk_trip (k : Fin k0_t1_loop.trips) (old : FVec Ideal S512x128 .f32) (a : Fin 512) (d : Fin 128) :
    k0_pay91 (F := Ideal) (trip_k0_t1.sl.r_19 a5 a12 X5 X12 k) (trip_k0_t1.sl.r_40 a3 a5 a6 a7 a11 a12 X3 X5 X6 X7 X11 X12 k)
        (trip_k0_t1.sl.r_41 a11 X11) (trip_k0_t1.sl.r_43 a3 a6 a11 X3 X6 X11 k)
        (View.readAt (Elt Ideal) a7.view (Rect.unit (s := S8x256) ![7, 0] S1x256.size inb_S8x256_S1x256_7_0).toLoadRect X7) old (ix2 a d)
      = old (ix2 a d) + ∑ h : Fin 8, ∑ b : Fin 256,
          dsAt (a3.view.read (Elt Ideal) X3) (a5.view.read (Elt Ideal) X5) (a6.view.read (Elt Ideal) X6) (a7.view.read (Elt Ideal) X7) (a11.view.read (Elt Ideal) X11) (a12.view.read (Elt Ideal) X12) h (crow k a) b
            * a11.view.read (Elt Ideal) X11 (ix3 h d b) := by
  rw [Fin.sum_univ_eight]
  unfold dsAt pAt
  pointwise [k0_pay4, k0_pay5, k0_pay23, k0_pay24, k0_pay25, k0_pay26, k0_pay28, k0_pay29, k0_pay30, k0_pay31, k0_pay33, k0_pay34, k0_pay35, k0_pay36, k0_pay37, k0_pay38, k0_pay39, k0_pay41, k0_pay42, k0_pay43, k0_pay44, k0_pay45, k0_pay47, k0_pay48, k0_pay49, k0_pay50, k0_pay53, k0_pay54, k0_pay55, k0_pay56, k0_pay58, k0_pay59, k0_pay60, k0_pay61, k0_pay62, k0_pay64, k0_pay65, k0_pay66, k0_pay88, k0_pay90, k0_pay91, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.cst_249, sc_0, sc_1, sc_2, sc_3, sc_4, sc_5, sc_6, sc_7, dp_0, dp_1, dp_2, dp_3, dp_4, dp_5, dp_6, dp_7, ld_row a6.view X6 0 0 rfl, ld_row a7.view X7 0 0 rfl, ld_row a6.view X6 1 1 rfl, ld_row a7.view X7 1 1 rfl, ld_row a6.view X6 2 2 rfl, ld_row a7.view X7 2 2 rfl, ld_row a6.view X6 3 3 rfl, ld_row a7.view X7 3 3 rfl, ld_row a6.view X6 4 4 rfl, ld_row a7.view X7 4 4 rfl, ld_row a6.view X6 5 5 rfl, ld_row a7.view X7 5 5 rfl, ld_row a6.view X6 6 6 rfl, ld_row a7.view X7 6 6 rfl, ld_row a6.view X6 7 7 rfl, ld_row a7.view X7 7 7 rfl, ld_slab a11.view X11 0 0 rfl, ld_slab a11.view X11 1 1 rfl, ld_slab a11.view X11 2 2 rfl, ld_slab a11.view X11 3 3 rfl, ld_slab a11.view X11 4 4 rfl, ld_slab a11.view X11 5 5 rfl, ld_slab a11.view X11 6 6 rfl, ld_slab a11.view X11 7 7 rfl]

theorem dq_trip0 (k : Fin k0_t1_loop.trips) (old : FVec Ideal S1x128x256 .f32) (d : Fin 128) (b : Fin 256) :
    k0_pay27 (F := Ideal) (trip_k0_t1.sl.r_2 a4 X4 k) (trip_k0_t1.sl.r_3 a3 a11 X3 X11 k) (trip_k0_t1.sl.r_12 a5 a12 X5 X12 k) (View.readAt (Elt Ideal) a6.view (Rect.unit (s := S8x256) ![0, 0] S1x256.size inb_S8x256_S1x256_0_0).toLoadRect X6) (View.readAt (Elt Ideal) a7.view (Rect.unit (s := S8x256) ![0, 0] S1x256.size inb_S8x256_S1x256_0_0).toLoadRect X7) old (ix3 0 d b)
      = old (ix3 0 d b) + ∑ a : Fin 512, a4.view.read (Elt Ideal) X4 (ix2 d (crow k a))
          * dsAt (a3.view.read (Elt Ideal) X3) (a5.view.read (Elt Ideal) X5) (a6.view.read (Elt Ideal) X6) (a7.view.read (Elt Ideal) X7) (a11.view.read (Elt Ideal) X11) (a12.view.read (Elt Ideal) X12) 0 (crow k a) b := by
  unfold dsAt pAt
  pointwise [k0_pay3, k0_pay27, k0_pay32, k0_pay40, k0_pay46, k0_pay51, k0_pay52, k0_pay57, k0_pay63, k0_pay89, trip_k0_t1.sl.r_2,
    k0_pay4, k0_pay5, k0_pay23, k0_pay24, k0_pay25, k0_pay26, k0_pay28, k0_pay29, k0_pay30, k0_pay31, k0_pay33, k0_pay34, k0_pay35, k0_pay36, k0_pay37, k0_pay38, k0_pay39, k0_pay41, k0_pay42, k0_pay43, k0_pay44, k0_pay45, k0_pay47, k0_pay48, k0_pay49, k0_pay50, k0_pay53, k0_pay54, k0_pay55, k0_pay56, k0_pay58, k0_pay59, k0_pay60, k0_pay61, k0_pay62, k0_pay64, k0_pay65, k0_pay66, k0_pay88, k0_pay90, k0_pay91, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.cst_249, sc_0, dp_0, ld_row a6.view X6 0 0 rfl, ld_row a7.view X7 0 0 rfl, ld_cols]

theorem dq_trip1 (k : Fin k0_t1_loop.trips) (old : FVec Ideal S1x128x256 .f32) (d : Fin 128) (b : Fin 256) :
    k0_pay32 (F := Ideal) (trip_k0_t1.sl.r_2 a4 X4 k) (trip_k0_t1.sl.r_4 a3 a11 X3 X11 k) (trip_k0_t1.sl.r_13 a5 a12 X5 X12 k) (View.readAt (Elt Ideal) a6.view (Rect.unit (s := S8x256) ![1, 0] S1x256.size inb_S8x256_S1x256_1_0).toLoadRect X6) (View.readAt (Elt Ideal) a7.view (Rect.unit (s := S8x256) ![1, 0] S1x256.size inb_S8x256_S1x256_1_0).toLoadRect X7) old (ix3 0 d b)
      = old (ix3 0 d b) + ∑ a : Fin 512, a4.view.read (Elt Ideal) X4 (ix2 d (crow k a))
          * dsAt (a3.view.read (Elt Ideal) X3) (a5.view.read (Elt Ideal) X5) (a6.view.read (Elt Ideal) X6) (a7.view.read (Elt Ideal) X7) (a11.view.read (Elt Ideal) X11) (a12.view.read (Elt Ideal) X12) 1 (crow k a) b := by
  unfold dsAt pAt
  pointwise [k0_pay3, k0_pay27, k0_pay32, k0_pay40, k0_pay46, k0_pay51, k0_pay52, k0_pay57, k0_pay63, k0_pay89, trip_k0_t1.sl.r_2,
    k0_pay4, k0_pay5, k0_pay23, k0_pay24, k0_pay25, k0_pay26, k0_pay28, k0_pay29, k0_pay30, k0_pay31, k0_pay33, k0_pay34, k0_pay35, k0_pay36, k0_pay37, k0_pay38, k0_pay39, k0_pay41, k0_pay42, k0_pay43, k0_pay44, k0_pay45, k0_pay47, k0_pay48, k0_pay49, k0_pay50, k0_pay53, k0_pay54, k0_pay55, k0_pay56, k0_pay58, k0_pay59, k0_pay60, k0_pay61, k0_pay62, k0_pay64, k0_pay65, k0_pay66, k0_pay88, k0_pay90, k0_pay91, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.cst_249, sc_1, dp_1, ld_row a6.view X6 1 1 rfl, ld_row a7.view X7 1 1 rfl, ld_cols]

theorem dq_trip2 (k : Fin k0_t1_loop.trips) (old : FVec Ideal S1x128x256 .f32) (d : Fin 128) (b : Fin 256) :
    k0_pay40 (F := Ideal) (trip_k0_t1.sl.r_2 a4 X4 k) (trip_k0_t1.sl.r_5 a3 a11 X3 X11 k) (trip_k0_t1.sl.r_14 a5 a12 X5 X12 k) (trip_k0_t1.sl.r_26 a6 X6) (View.readAt (Elt Ideal) a7.view (Rect.unit (s := S8x256) ![2, 0] S1x256.size inb_S8x256_S1x256_2_0).toLoadRect X7) old (ix3 0 d b)
      = old (ix3 0 d b) + ∑ a : Fin 512, a4.view.read (Elt Ideal) X4 (ix2 d (crow k a))
          * dsAt (a3.view.read (Elt Ideal) X3) (a5.view.read (Elt Ideal) X5) (a6.view.read (Elt Ideal) X6) (a7.view.read (Elt Ideal) X7) (a11.view.read (Elt Ideal) X11) (a12.view.read (Elt Ideal) X12) 2 (crow k a) b := by
  unfold dsAt pAt
  pointwise [k0_pay3, k0_pay27, k0_pay32, k0_pay40, k0_pay46, k0_pay51, k0_pay52, k0_pay57, k0_pay63, k0_pay89, trip_k0_t1.sl.r_2,
    k0_pay4, k0_pay5, k0_pay23, k0_pay24, k0_pay25, k0_pay26, k0_pay28, k0_pay29, k0_pay30, k0_pay31, k0_pay33, k0_pay34, k0_pay35, k0_pay36, k0_pay37, k0_pay38, k0_pay39, k0_pay41, k0_pay42, k0_pay43, k0_pay44, k0_pay45, k0_pay47, k0_pay48, k0_pay49, k0_pay50, k0_pay53, k0_pay54, k0_pay55, k0_pay56, k0_pay58, k0_pay59, k0_pay60, k0_pay61, k0_pay62, k0_pay64, k0_pay65, k0_pay66, k0_pay88, k0_pay90, k0_pay91, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.cst_249, sc_2, dp_2, ld_row a6.view X6 2 2 rfl, ld_row a7.view X7 2 2 rfl, ld_cols]

theorem dq_trip3 (k : Fin k0_t1_loop.trips) (old : FVec Ideal S1x128x256 .f32) (d : Fin 128) (b : Fin 256) :
    k0_pay46 (F := Ideal) (trip_k0_t1.sl.r_2 a4 X4 k) (trip_k0_t1.sl.r_31 a3 a5 a6 a7 a11 a12 X3 X5 X6 X7 X11 X12 k) old (ix3 0 d b)
      = old (ix3 0 d b) + ∑ a : Fin 512, a4.view.read (Elt Ideal) X4 (ix2 d (crow k a))
          * dsAt (a3.view.read (Elt Ideal) X3) (a5.view.read (Elt Ideal) X5) (a6.view.read (Elt Ideal) X6) (a7.view.read (Elt Ideal) X7) (a11.view.read (Elt Ideal) X11) (a12.view.read (Elt Ideal) X12) 3 (crow k a) b := by
  unfold dsAt pAt
  pointwise [k0_pay3, k0_pay27, k0_pay32, k0_pay40, k0_pay46, k0_pay51, k0_pay52, k0_pay57, k0_pay63, k0_pay89, trip_k0_t1.sl.r_2,
    k0_pay4, k0_pay5, k0_pay23, k0_pay24, k0_pay25, k0_pay26, k0_pay28, k0_pay29, k0_pay30, k0_pay31, k0_pay33, k0_pay34, k0_pay35, k0_pay36, k0_pay37, k0_pay38, k0_pay39, k0_pay41, k0_pay42, k0_pay43, k0_pay44, k0_pay45, k0_pay47, k0_pay48, k0_pay49, k0_pay50, k0_pay53, k0_pay54, k0_pay55, k0_pay56, k0_pay58, k0_pay59, k0_pay60, k0_pay61, k0_pay62, k0_pay64, k0_pay65, k0_pay66, k0_pay88, k0_pay90, k0_pay91, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.cst_249, sc_3, dp_3, ld_row a6.view X6 3 3 rfl, ld_row a7.view X7 3 3 rfl, ld_cols]

theorem dq_trip4 (k : Fin k0_t1_loop.trips) (old : FVec Ideal S1x128x256 .f32) (d : Fin 128) (b : Fin 256) :
    k0_pay52 (F := Ideal) (k0_pay51 (trip_k0_t1.sl.r_2 a4 X4 k) (trip_k0_t1.sl.r_7 a3 a11 X3 X11 k) (trip_k0_t1.sl.r_16 a5 a12 X5 X12 k) (View.readAt (Elt Ideal) a6.view (Rect.unit (s := S8x256) ![4, 0] S1x256.size inb_S8x256_S1x256_4_0).toLoadRect X6) (View.readAt (Elt Ideal) a7.view (Rect.unit (s := S8x256) ![4, 0] S1x256.size inb_S8x256_S1x256_4_0).toLoadRect X7) old) (ix3 0 d b)
      = old (ix3 0 d b) + ∑ a : Fin 512, a4.view.read (Elt Ideal) X4 (ix2 d (crow k a))
          * dsAt (a3.view.read (Elt Ideal) X3) (a5.view.read (Elt Ideal) X5) (a6.view.read (Elt Ideal) X6) (a7.view.read (Elt Ideal) X7) (a11.view.read (Elt Ideal) X11) (a12.view.read (Elt Ideal) X12) 4 (crow k a) b := by
  unfold dsAt pAt
  pointwise [k0_pay3, k0_pay27, k0_pay32, k0_pay40, k0_pay46, k0_pay51, k0_pay52, k0_pay57, k0_pay63, k0_pay89, trip_k0_t1.sl.r_2,
    k0_pay4, k0_pay5, k0_pay23, k0_pay24, k0_pay25, k0_pay26, k0_pay28, k0_pay29, k0_pay30, k0_pay31, k0_pay33, k0_pay34, k0_pay35, k0_pay36, k0_pay37, k0_pay38, k0_pay39, k0_pay41, k0_pay42, k0_pay43, k0_pay44, k0_pay45, k0_pay47, k0_pay48, k0_pay49, k0_pay50, k0_pay53, k0_pay54, k0_pay55, k0_pay56, k0_pay58, k0_pay59, k0_pay60, k0_pay61, k0_pay62, k0_pay64, k0_pay65, k0_pay66, k0_pay88, k0_pay90, k0_pay91, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.cst_249, sc_4, dp_4, ld_row a6.view X6 4 4 rfl, ld_row a7.view X7 4 4 rfl, ld_cols]

theorem dq_trip5 (k : Fin k0_t1_loop.trips) (old : FVec Ideal S1x128x256 .f32) (d : Fin 128) (b : Fin 256) :
    k0_pay57 (F := Ideal) (trip_k0_t1.sl.r_2 a4 X4 k) (trip_k0_t1.sl.r_9 a3 a11 X3 X11 k) (trip_k0_t1.sl.r_17 a5 a12 X5 X12 k) (View.readAt (Elt Ideal) a6.view (Rect.unit (s := S8x256) ![5, 0] S1x256.size inb_S8x256_S1x256_5_0).toLoadRect X6) (View.readAt (Elt Ideal) a7.view (Rect.unit (s := S8x256) ![5, 0] S1x256.size inb_S8x256_S1x256_5_0).toLoadRect X7) old (ix3 0 d b)
      = old (ix3 0 d b) + ∑ a : Fin 512, a4.view.read (Elt Ideal) X4 (ix2 d (crow k a))
          * dsAt (a3.view.read (Elt Ideal) X3) (a5.view.read (Elt Ideal) X5) (a6.view.read (Elt Ideal) X6) (a7.view.read (Elt Ideal) X7) (a11.view.read (Elt Ideal) X11) (a12.view.read (Elt Ideal) X12) 5 (crow k a) b := by
  unfold dsAt pAt
  pointwise [k0_pay3, k0_pay27, k0_pay32, k0_pay40, k0_pay46, k0_pay51, k0_pay52, k0_pay57, k0_pay63, k0_pay89, trip_k0_t1.sl.r_2,
    k0_pay4, k0_pay5, k0_pay23, k0_pay24, k0_pay25, k0_pay26, k0_pay28, k0_pay29, k0_pay30, k0_pay31, k0_pay33, k0_pay34, k0_pay35, k0_pay36, k0_pay37, k0_pay38, k0_pay39, k0_pay41, k0_pay42, k0_pay43, k0_pay44, k0_pay45, k0_pay47, k0_pay48, k0_pay49, k0_pay50, k0_pay53, k0_pay54, k0_pay55, k0_pay56, k0_pay58, k0_pay59, k0_pay60, k0_pay61, k0_pay62, k0_pay64, k0_pay65, k0_pay66, k0_pay88, k0_pay90, k0_pay91, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.cst_249, sc_5, dp_5, ld_row a6.view X6 5 5 rfl, ld_row a7.view X7 5 5 rfl, ld_cols]

theorem dq_trip6 (k : Fin k0_t1_loop.trips) (old : FVec Ideal S1x128x256 .f32) (d : Fin 128) (b : Fin 256) :
    k0_pay63 (F := Ideal) (trip_k0_t1.sl.r_2 a4 X4 k) (trip_k0_t1.sl.r_10 a3 a11 X3 X11 k) (trip_k0_t1.sl.r_18 a5 a12 X5 X12 k) (View.readAt (Elt Ideal) a6.view (Rect.unit (s := S8x256) ![6, 0] S1x256.size inb_S8x256_S1x256_6_0).toLoadRect X6) (View.readAt (Elt Ideal) a7.view (Rect.unit (s := S8x256) ![6, 0] S1x256.size inb_S8x256_S1x256_6_0).toLoadRect X7) old (ix3 0 d b)
      = old (ix3 0 d b) + ∑ a : Fin 512, a4.view.read (Elt Ideal) X4 (ix2 d (crow k a))
          * dsAt (a3.view.read (Elt Ideal) X3) (a5.view.read (Elt Ideal) X5) (a6.view.read (Elt Ideal) X6) (a7.view.read (Elt Ideal) X7) (a11.view.read (Elt Ideal) X11) (a12.view.read (Elt Ideal) X12) 6 (crow k a) b := by
  unfold dsAt pAt
  pointwise [k0_pay3, k0_pay27, k0_pay32, k0_pay40, k0_pay46, k0_pay51, k0_pay52, k0_pay57, k0_pay63, k0_pay89, trip_k0_t1.sl.r_2,
    k0_pay4, k0_pay5, k0_pay23, k0_pay24, k0_pay25, k0_pay26, k0_pay28, k0_pay29, k0_pay30, k0_pay31, k0_pay33, k0_pay34, k0_pay35, k0_pay36, k0_pay37, k0_pay38, k0_pay39, k0_pay41, k0_pay42, k0_pay43, k0_pay44, k0_pay45, k0_pay47, k0_pay48, k0_pay49, k0_pay50, k0_pay53, k0_pay54, k0_pay55, k0_pay56, k0_pay58, k0_pay59, k0_pay60, k0_pay61, k0_pay62, k0_pay64, k0_pay65, k0_pay66, k0_pay88, k0_pay90, k0_pay91, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.cst_249, sc_6, dp_6, ld_row a6.view X6 6 6 rfl, ld_row a7.view X7 6 6 rfl, ld_cols]

theorem dq_trip7 (k : Fin k0_t1_loop.trips) (old : FVec Ideal S1x128x256 .f32) (d : Fin 128) (b : Fin 256) :
    k0_pay89 (F := Ideal) (trip_k0_t1.sl.r_2 a4 X4 k) (trip_k0_t1.sl.r_19 a5 a12 X5 X12 k) (trip_k0_t1.sl.r_43 a3 a6 a11 X3 X6 X11 k) (View.readAt (Elt Ideal) a7.view (Rect.unit (s := S8x256) ![7, 0] S1x256.size inb_S8x256_S1x256_7_0).toLoadRect X7) old (ix3 0 d b)
      = old (ix3 0 d b) + ∑ a : Fin 512, a4.view.read (Elt Ideal) X4 (ix2 d (crow k a))
          * dsAt (a3.view.read (Elt Ideal) X3) (a5.view.read (Elt Ideal) X5) (a6.view.read (Elt Ideal) X6) (a7.view.read (Elt Ideal) X7) (a11.view.read (Elt Ideal) X11) (a12.view.read (Elt Ideal) X12) 7 (crow k a) b := by
  unfold dsAt pAt
  pointwise [k0_pay3, k0_pay27, k0_pay32, k0_pay40, k0_pay46, k0_pay51, k0_pay52, k0_pay57, k0_pay63, k0_pay89, trip_k0_t1.sl.r_2,
    k0_pay4, k0_pay5, k0_pay23, k0_pay24, k0_pay25, k0_pay26, k0_pay28, k0_pay29, k0_pay30, k0_pay31, k0_pay33, k0_pay34, k0_pay35, k0_pay36, k0_pay37, k0_pay38, k0_pay39, k0_pay41, k0_pay42, k0_pay43, k0_pay44, k0_pay45, k0_pay47, k0_pay48, k0_pay49, k0_pay50, k0_pay53, k0_pay54, k0_pay55, k0_pay56, k0_pay58, k0_pay59, k0_pay60, k0_pay61, k0_pay62, k0_pay64, k0_pay65, k0_pay66, k0_pay88, k0_pay90, k0_pay91, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.cst_249, sc_7, dp_7, ld_row a6.view X6 7 7 rfl, ld_row a7.view X7 7 7 rfl, ld_cols]

end Cert.AttnIdeal.Value
-- ==== Proof.Attn.Loop.lean ====
module

public import proofs.«01_k».proof.Proof.Attn.Trip
public import Idealize.ShloMosaic.Lib.WritesUnit

@[expose] public section

/-! The key loop: what its buffers hold after any number of trips. -/

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-- A point's share of the gradient of the values at row `r`. -/
def dvRow (K : S4096x128.Idx → EReal) (L : S8x256.Idx → EReal) (Q O : S8x128x256.Idx → EReal) (r : Fin 4096) (d : Fin 128) : EReal :=
  ∑ h : Fin 8, ∑ b : Fin 256, pAt K Q L h r b * O (ix3 h d b)

/-- A point's share of the gradient of the keys at row `r`. -/
def dkRow (K V : S4096x128.Idx → EReal) (L D : S8x256.Idx → EReal) (Q O : S8x128x256.Idx → EReal) (r : Fin 4096) (d : Fin 128) : EReal :=
  ∑ h : Fin 8, ∑ b : Fin 256, dsAt K V L D Q O h r b * Q (ix3 h d b)

theorem slab_at (h : ℕ) (g : Fin 8) (hg : g.val = h) (d : Fin 128) (b : Fin 256) (q : Fin 3) :
    (ix3 g d b q).val = (![h, 0, 0] : Fin 3 → ℕ) q + (ix3 (0 : Fin 1) d b q).val := by
  revert q
  refine Fin.forall_fin_succ.mpr ⟨?_, Fin.forall_fin_two.mpr ⟨?_, ?_⟩⟩
  · show g.val = h + 0
    omega
  · show d.val = 0 + d.val
    omega
  · show b.val = 0 + b.val
    omega

variable (𝒱 : Variants) (c : Dev nD) (bd : Option 𝒱.V) (i : grid0.Coords)
  (a1 : Memref sig .tc .vmem S512x256 .bf16) (h1 : a1.IsWhole)
  (a2 : Memref sig .tc .vmem S512x256 .bf16) (h2 : a2.IsWhole)
  (a3 : Memref sig .tc .vmem S4096x128 .bf16) (h3 : a3.IsWhole)
  (a4 : Memref sig .tc .vmem S128x4096 .bf16) (h4 : a4.IsWhole)
  (a5 : Memref sig .tc .vmem S4096x128 .bf16) (h5 : a5.IsWhole)
  (a6 : Memref sig .tc .vmem S8x256 .f32) (h6 : a6.IsWhole)
  (a7 : Memref sig .tc .vmem S8x256 .f32) (h7 : a7.IsWhole)
  (a8 : Memref sig .tc .vmem S512x256 .f32) (h8 : a8.IsWhole)
  (a9 : Memref sig .tc .vmem S4096x128 .f32) (h9 : a9.IsWhole)
  (a10 : Memref sig .tc .vmem S4096x128 .f32) (h10 : a10.IsWhole)
  (a11 : Memref sig .tc .vmem S8x128x256 .bf16) (h11 : a11.IsWhole)
  (a12 : Memref sig .tc .vmem S8x128x256 .bf16) (h12 : a12.IsWhole)
  (a13 : Memref sig .tc .vmem S8x128x256 .f32) (h13 : a13.IsWhole)
  (X3 : BufTy.Contents (Elt Ideal) a3.view.ty)
  (X4 : BufTy.Contents (Elt Ideal) a4.view.ty)
  (X5 : BufTy.Contents (Elt Ideal) a5.view.ty)
  (X6 : BufTy.Contents (Elt Ideal) a6.view.ty)
  (X7 : BufTy.Contents (Elt Ideal) a7.view.ty)
  (X11 : BufTy.Contents (Elt Ideal) a11.view.ty)
  (X12 : BufTy.Contents (Elt Ideal) a12.view.ty)
  (f9 : BufTy.Contents (Elt Ideal) a9.view.ty) (f10 : BufTy.Contents (Elt Ideal) a10.view.ty)
  (f13 : BufTy.Contents (Elt Ideal) a13.view.ty)

theorem dk_read (k : Fin k0_t1_loop.trips) (r : Fin 4096) (d : Fin 128) :
    a9.view.read (Elt Ideal) (a9.view.writes (Elt Ideal) f9 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).1) (ix2 r d)
      = a9.view.read (Elt Ideal) f9 (ix2 r d) + if r.val / 512 = k.val then dkRow (a3.view.read (Elt Ideal) X3) (a5.view.read (Elt Ideal) X5) (a6.view.read (Elt Ideal) X6) (a7.view.read (Elt Ideal) X7) (a11.view.read (Elt Ideal) X11) (a12.view.read (Elt Ideal) X12) r d else 0 := by
  unfold tripL_k0_t1 trip_k0_t1
  dsimp only
  by_cases hr : r.val / 512 = k.val
  · obtain ⟨a, rfl⟩ : ∃ a : Fin 512, r = crow k a :=
      ⟨⟨r.val % 512, Nat.mod_lt _ (by decide)⟩, Fin.ext (by show r.val = k.val * 512 + r.val % 512; omega)⟩
    rw [if_pos hr]
    refine (View.read_writes_cons_rows_of_mem (d := ![4096, 128]) a9.view f9 _ _ _ (ix2 (crow k a) d) (ix2 a d) (off1_eq k)
      (by show k.val * 512 + a.val = 512 * k.val + a.val; omega) rfl).trans ?_
    refine (dk_trip a3 a5 a6 a7 a11 a12 X3 X5 X6 X7 X11 X12 k _ a d).trans ?_
    exact congrArg (· + _) (ld_rows a9.view f9 k _ a d)
  · rw [if_neg hr, add_zero]
    refine (View.read_writes_cons_rows_of_not_mem (d := ![4096, 128]) (W := 512) a9.view f9 _ _ _ (ix2 r d) (off1_eq k) rfl ?_).trans rfl
    show r.val < 512 * k.val ∨ 512 * k.val + 512 ≤ r.val
    omega

theorem dv_read (k : Fin k0_t1_loop.trips) (r : Fin 4096) (d : Fin 128) :
    a10.view.read (Elt Ideal) (a10.view.writes (Elt Ideal) f10 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.1) (ix2 r d)
      = a10.view.read (Elt Ideal) f10 (ix2 r d) + if r.val / 512 = k.val then dvRow (a3.view.read (Elt Ideal) X3) (a6.view.read (Elt Ideal) X6) (a11.view.read (Elt Ideal) X11) (a12.view.read (Elt Ideal) X12) r d else 0 := by
  unfold tripL_k0_t1 trip_k0_t1
  dsimp only
  by_cases hr : r.val / 512 = k.val
  · obtain ⟨a, rfl⟩ : ∃ a : Fin 512, r = crow k a :=
      ⟨⟨r.val % 512, Nat.mod_lt _ (by decide)⟩, Fin.ext (by show r.val = k.val * 512 + r.val % 512; omega)⟩
    rw [if_pos hr]
    refine (View.read_writes_cons_rows_of_mem (d := ![4096, 128]) a10.view f10 _ _ _ (ix2 (crow k a) d) (ix2 a d) (off1_eq k)
      (by show k.val * 512 + a.val = 512 * k.val + a.val; omega) rfl).trans ?_
    refine (dv_trip a3 a6 a11 a12 X3 X6 X11 X12 k _ a d).trans ?_
    exact congrArg (· + _) (ld_rows a10.view f10 k _ a d)
  · rw [if_neg hr, add_zero]
    refine (View.read_writes_cons_rows_of_not_mem (d := ![4096, 128]) (W := 512) a10.view f10 _ _ _ (ix2 r d) (off1_eq k) rfl ?_).trans rfl
    show r.val < 512 * k.val ∨ 512 * k.val + 512 ≤ r.val
    omega

theorem dq_read0 (k : Fin k0_t1_loop.trips) (d : Fin 128) (b : Fin 256) :
    a13.view.read (Elt Ideal) (a13.view.writes (Elt Ideal) f13 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.2) (ix3 0 d b)
      = a13.view.read (Elt Ideal) f13 (ix3 0 d b) + ∑ a : Fin 512, (a4.view.read (Elt Ideal) X4) (ix2 d (crow k a)) * dsAt (a3.view.read (Elt Ideal) X3) (a5.view.read (Elt Ideal) X5) (a6.view.read (Elt Ideal) X6) (a7.view.read (Elt Ideal) X7) (a11.view.read (Elt Ideal) X11) (a12.view.read (Elt Ideal) X12) 0 (crow k a) b := by
  unfold tripL_k0_t1 trip_k0_t1
  dsimp only
  refine (View.read_writes_cons_unit_of_not_mem a13.view f13 _ _ _ (ix3 0 d b) (off' := ![7, 0, 0]) rfl 0 (Or.inl (by show 0 < 7; decide))).trans ?_
  refine (View.read_writes_cons_unit_of_not_mem a13.view f13 _ _ _ (ix3 0 d b) (off' := ![6, 0, 0]) rfl 0 (Or.inl (by show 0 < 6; decide))).trans ?_
  refine (View.read_writes_cons_unit_of_not_mem a13.view f13 _ _ _ (ix3 0 d b) (off' := ![5, 0, 0]) rfl 0 (Or.inl (by show 0 < 5; decide))).trans ?_
  refine (View.read_writes_cons_unit_of_not_mem a13.view f13 _ _ _ (ix3 0 d b) (off' := ![4, 0, 0]) rfl 0 (Or.inl (by show 0 < 4; decide))).trans ?_
  refine (View.read_writes_cons_unit_of_not_mem a13.view f13 _ _ _ (ix3 0 d b) (off' := ![3, 0, 0]) rfl 0 (Or.inl (by show 0 < 3; decide))).trans ?_
  refine (View.read_writes_cons_unit_of_not_mem a13.view f13 _ _ _ (ix3 0 d b) (off' := ![2, 0, 0]) rfl 0 (Or.inl (by show 0 < 2; decide))).trans ?_
  refine (View.read_writes_cons_unit_of_not_mem a13.view f13 _ _ _ (ix3 0 d b) (off' := ![1, 0, 0]) rfl 0 (Or.inl (by show 0 < 1; decide))).trans ?_
  refine (View.read_writes_cons_unit_of_mem a13.view f13 _ _ _ (ix3 0 d b) (ix3 0 d b) (off' := ![0, 0, 0]) rfl
    (slab_at 0 0 rfl d b)).trans ?_
  refine (dq_trip0 a3 a4 a5 a6 a7 a11 a12 X3 X4 X5 X6 X7 X11 X12 k _ d b).trans ?_
  exact congrArg (· + _) (ld_slab a13.view f13 0 0 rfl _ 0 d b)

theorem dq_read1 (k : Fin k0_t1_loop.trips) (d : Fin 128) (b : Fin 256) :
    a13.view.read (Elt Ideal) (a13.view.writes (Elt Ideal) f13 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.2) (ix3 1 d b)
      = a13.view.read (Elt Ideal) f13 (ix3 1 d b) + ∑ a : Fin 512, (a4.view.read (Elt Ideal) X4) (ix2 d (crow k a)) * dsAt (a3.view.read (Elt Ideal) X3) (a5.view.read (Elt Ideal) X5) (a6.view.read (Elt Ideal) X6) (a7.view.read (Elt Ideal) X7) (a11.view.read (Elt Ideal) X11) (a12.view.read (Elt Ideal) X12) 1 (crow k a) b := by
  unfold tripL_k0_t1 trip_k0_t1
  dsimp only
  refine (View.read_writes_cons_unit_of_not_mem a13.view f13 _ _ _ (ix3 1 d b) (off' := ![7, 0, 0]) rfl 0 (Or.inl (by show 1 < 7; decide))).trans ?_
  refine (View.read_writes_cons_unit_of_not_mem a13.view f13 _ _ _ (ix3 1 d b) (off' := ![6, 0, 0]) rfl 0 (Or.inl (by show 1 < 6; decide))).trans ?_
  refine (View.read_writes_cons_unit_of_not_mem a13.view f13 _ _ _ (ix3 1 d b) (off' := ![5, 0, 0]) rfl 0 (Or.inl (by show 1 < 5; decide))).trans ?_
  refine (View.read_writes_cons_unit_of_not_mem a13.view f13 _ _ _ (ix3 1 d b) (off' := ![4, 0, 0]) rfl 0 (Or.inl (by show 1 < 4; decide))).trans ?_
  refine (View.read_writes_cons_unit_of_not_mem a13.view f13 _ _ _ (ix3 1 d b) (off' := ![3, 0, 0]) rfl 0 (Or.inl (by show 1 < 3; decide))).trans ?_
  refine (View.read_writes_cons_unit_of_not_mem a13.view f13 _ _ _ (ix3 1 d b) (off' := ![2, 0, 0]) rfl 0 (Or.inl (by show 1 < 2; decide))).trans ?_
  refine (View.read_writes_cons_unit_of_mem a13.view f13 _ _ _ (ix3 1 d b) (ix3 0 d b) (off' := ![1, 0, 0]) rfl
    (slab_at 1 1 rfl d b)).trans ?_
  refine (dq_trip1 a3 a4 a5 a6 a7 a11 a12 X3 X4 X5 X6 X7 X11 X12 k _ d b).trans ?_
  exact congrArg (· + _) (ld_slab a13.view f13 1 1 rfl _ 0 d b)

theorem dq_read2 (k : Fin k0_t1_loop.trips) (d : Fin 128) (b : Fin 256) :
    a13.view.read (Elt Ideal) (a13.view.writes (Elt Ideal) f13 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.2) (ix3 2 d b)
      = a13.view.read (Elt Ideal) f13 (ix3 2 d b) + ∑ a : Fin 512, (a4.view.read (Elt Ideal) X4) (ix2 d (crow k a)) * dsAt (a3.view.read (Elt Ideal) X3) (a5.view.read (Elt Ideal) X5) (a6.view.read (Elt Ideal) X6) (a7.view.read (Elt Ideal) X7) (a11.view.read (Elt Ideal) X11) (a12.view.read (Elt Ideal) X12) 2 (crow k a) b := by
  unfold tripL_k0_t1 trip_k0_t1
  dsimp only
  refine (View.read_writes_cons_unit_of_not_mem a13.view f13 _ _ _ (ix3 2 d b) (off' := ![7, 0, 0]) rfl 0 (Or.inl (by show 2 < 7; decide))).trans ?_
  refine (View.read_writes_cons_unit_of_not_mem a13.view f13 _ _ _ (ix3 2 d b) (off' := ![6, 0, 0]) rfl 0 (Or.inl (by show 2 < 6; decide))).trans ?_
  refine (View.read_writes_cons_unit_of_not_mem a13.view f13 _ _ _ (ix3 2 d b) (off' := ![5, 0, 0]) rfl 0 (Or.inl (by show 2 < 5; decide))).trans ?_
  refine (View.read_writes_cons_unit_of_not_mem a13.view f13 _ _ _ (ix3 2 d b) (off' := ![4, 0, 0]) rfl 0 (Or.inl (by show 2 < 4; decide))).trans ?_
  refine (View.read_writes_cons_unit_of_not_mem a13.view f13 _ _ _ (ix3 2 d b) (off' := ![3, 0, 0]) rfl 0 (Or.inl (by show 2 < 3; decide))).trans ?_
  refine (View.read_writes_cons_unit_of_mem a13.view f13 _ _ _ (ix3 2 d b) (ix3 0 d b) (off' := ![2, 0, 0]) rfl
    (slab_at 2 2 rfl d b)).trans ?_
  refine (dq_trip2 a3 a4 a5 a6 a7 a11 a12 X3 X4 X5 X6 X7 X11 X12 k _ d b).trans ?_
  exact congrArg (· + _) (ld_slab a13.view f13 2 2 rfl _ 0 d b)

theorem dq_read3 (k : Fin k0_t1_loop.trips) (d : Fin 128) (b : Fin 256) :
    a13.view.read (Elt Ideal) (a13.view.writes (Elt Ideal) f13 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.2) (ix3 3 d b)
      = a13.view.read (Elt Ideal) f13 (ix3 3 d b) + ∑ a : Fin 512, (a4.view.read (Elt Ideal) X4) (ix2 d (crow k a)) * dsAt (a3.view.read (Elt Ideal) X3) (a5.view.read (Elt Ideal) X5) (a6.view.read (Elt Ideal) X6) (a7.view.read (Elt Ideal) X7) (a11.view.read (Elt Ideal) X11) (a12.view.read (Elt Ideal) X12) 3 (crow k a) b := by
  unfold tripL_k0_t1 trip_k0_t1
  dsimp only
  refine (View.read_writes_cons_unit_of_not_mem a13.view f13 _ _ _ (ix3 3 d b) (off' := ![7, 0, 0]) rfl 0 (Or.inl (by show 3 < 7; decide))).trans ?_
  refine (View.read_writes_cons_unit_of_not_mem a13.view f13 _ _ _ (ix3 3 d b) (off' := ![6, 0, 0]) rfl 0 (Or.inl (by show 3 < 6; decide))).trans ?_
  refine (View.read_writes_cons_unit_of_not_mem a13.view f13 _ _ _ (ix3 3 d b) (off' := ![5, 0, 0]) rfl 0 (Or.inl (by show 3 < 5; decide))).trans ?_
  refine (View.read_writes_cons_unit_of_not_mem a13.view f13 _ _ _ (ix3 3 d b) (off' := ![4, 0, 0]) rfl 0 (Or.inl (by show 3 < 4; decide))).trans ?_
  refine (View.read_writes_cons_unit_of_mem a13.view f13 _ _ _ (ix3 3 d b) (ix3 0 d b) (off' := ![3, 0, 0]) rfl
    (slab_at 3 3 rfl d b)).trans ?_
  refine (dq_trip3 a3 a4 a5 a6 a7 a11 a12 X3 X4 X5 X6 X7 X11 X12 k _ d b).trans ?_
  exact congrArg (· + _) (ld_slab a13.view f13 3 3 rfl _ 0 d b)

theorem dq_read4 (k : Fin k0_t1_loop.trips) (d : Fin 128) (b : Fin 256) :
    a13.view.read (Elt Ideal) (a13.view.writes (Elt Ideal) f13 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.2) (ix3 4 d b)
      = a13.view.read (Elt Ideal) f13 (ix3 4 d b) + ∑ a : Fin 512, (a4.view.read (Elt Ideal) X4) (ix2 d (crow k a)) * dsAt (a3.view.read (Elt Ideal) X3) (a5.view.read (Elt Ideal) X5) (a6.view.read (Elt Ideal) X6) (a7.view.read (Elt Ideal) X7) (a11.view.read (Elt Ideal) X11) (a12.view.read (Elt Ideal) X12) 4 (crow k a) b := by
  unfold tripL_k0_t1 trip_k0_t1
  dsimp only
  refine (View.read_writes_cons_unit_of_not_mem a13.view f13 _ _ _ (ix3 4 d b) (off' := ![7, 0, 0]) rfl 0 (Or.inl (by show 4 < 7; decide))).trans ?_
  refine (View.read_writes_cons_unit_of_not_mem a13.view f13 _ _ _ (ix3 4 d b) (off' := ![6, 0, 0]) rfl 0 (Or.inl (by show 4 < 6; decide))).trans ?_
  refine (View.read_writes_cons_unit_of_not_mem a13.view f13 _ _ _ (ix3 4 d b) (off' := ![5, 0, 0]) rfl 0 (Or.inl (by show 4 < 5; decide))).trans ?_
  refine (View.read_writes_cons_unit_of_mem a13.view f13 _ _ _ (ix3 4 d b) (ix3 0 d b) (off' := ![4, 0, 0]) rfl
    (slab_at 4 4 rfl d b)).trans ?_
  refine (dq_trip4 a3 a4 a5 a6 a7 a11 a12 X3 X4 X5 X6 X7 X11 X12 k _ d b).trans ?_
  exact congrArg (· + _) (ld_slab a13.view f13 4 4 rfl _ 0 d b)

theorem dq_read5 (k : Fin k0_t1_loop.trips) (d : Fin 128) (b : Fin 256) :
    a13.view.read (Elt Ideal) (a13.view.writes (Elt Ideal) f13 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.2) (ix3 5 d b)
      = a13.view.read (Elt Ideal) f13 (ix3 5 d b) + ∑ a : Fin 512, (a4.view.read (Elt Ideal) X4) (ix2 d (crow k a)) * dsAt (a3.view.read (Elt Ideal) X3) (a5.view.read (Elt Ideal) X5) (a6.view.read (Elt Ideal) X6) (a7.view.read (Elt Ideal) X7) (a11.view.read (Elt Ideal) X11) (a12.view.read (Elt Ideal) X12) 5 (crow k a) b := by
  unfold tripL_k0_t1 trip_k0_t1
  dsimp only
  refine (View.read_writes_cons_unit_of_not_mem a13.view f13 _ _ _ (ix3 5 d b) (off' := ![7, 0, 0]) rfl 0 (Or.inl (by show 5 < 7; decide))).trans ?_
  refine (View.read_writes_cons_unit_of_not_mem a13.view f13 _ _ _ (ix3 5 d b) (off' := ![6, 0, 0]) rfl 0 (Or.inl (by show 5 < 6; decide))).trans ?_
  refine (View.read_writes_cons_unit_of_mem a13.view f13 _ _ _ (ix3 5 d b) (ix3 0 d b) (off' := ![5, 0, 0]) rfl
    (slab_at 5 5 rfl d b)).trans ?_
  refine (dq_trip5 a3 a4 a5 a6 a7 a11 a12 X3 X4 X5 X6 X7 X11 X12 k _ d b).trans ?_
  exact congrArg (· + _) (ld_slab a13.view f13 5 5 rfl _ 0 d b)

theorem dq_read6 (k : Fin k0_t1_loop.trips) (d : Fin 128) (b : Fin 256) :
    a13.view.read (Elt Ideal) (a13.view.writes (Elt Ideal) f13 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.2) (ix3 6 d b)
      = a13.view.read (Elt Ideal) f13 (ix3 6 d b) + ∑ a : Fin 512, (a4.view.read (Elt Ideal) X4) (ix2 d (crow k a)) * dsAt (a3.view.read (Elt Ideal) X3) (a5.view.read (Elt Ideal) X5) (a6.view.read (Elt Ideal) X6) (a7.view.read (Elt Ideal) X7) (a11.view.read (Elt Ideal) X11) (a12.view.read (Elt Ideal) X12) 6 (crow k a) b := by
  unfold tripL_k0_t1 trip_k0_t1
  dsimp only
  refine (View.read_writes_cons_unit_of_not_mem a13.view f13 _ _ _ (ix3 6 d b) (off' := ![7, 0, 0]) rfl 0 (Or.inl (by show 6 < 7; decide))).trans ?_
  refine (View.read_writes_cons_unit_of_mem a13.view f13 _ _ _ (ix3 6 d b) (ix3 0 d b) (off' := ![6, 0, 0]) rfl
    (slab_at 6 6 rfl d b)).trans ?_
  refine (dq_trip6 a3 a4 a5 a6 a7 a11 a12 X3 X4 X5 X6 X7 X11 X12 k _ d b).trans ?_
  exact congrArg (· + _) (ld_slab a13.view f13 6 6 rfl _ 0 d b)

theorem dq_read7 (k : Fin k0_t1_loop.trips) (d : Fin 128) (b : Fin 256) :
    a13.view.read (Elt Ideal) (a13.view.writes (Elt Ideal) f13 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.2) (ix3 7 d b)
      = a13.view.read (Elt Ideal) f13 (ix3 7 d b) + ∑ a : Fin 512, (a4.view.read (Elt Ideal) X4) (ix2 d (crow k a)) * dsAt (a3.view.read (Elt Ideal) X3) (a5.view.read (Elt Ideal) X5) (a6.view.read (Elt Ideal) X6) (a7.view.read (Elt Ideal) X7) (a11.view.read (Elt Ideal) X11) (a12.view.read (Elt Ideal) X12) 7 (crow k a) b := by
  unfold tripL_k0_t1 trip_k0_t1
  dsimp only
  refine (View.read_writes_cons_unit_of_mem a13.view f13 _ _ _ (ix3 7 d b) (ix3 0 d b) (off' := ![7, 0, 0]) rfl
    (slab_at 7 7 rfl d b)).trans ?_
  refine (dq_trip7 a3 a4 a5 a6 a7 a11 a12 X3 X4 X5 X6 X7 X11 X12 k _ d b).trans ?_
  exact congrArg (· + _) (ld_slab a13.view f13 7 7 rfl _ 0 d b)

theorem dq_read (k : Fin k0_t1_loop.trips) (h : Fin 8) (d : Fin 128) (b : Fin 256) :
    a13.view.read (Elt Ideal) (a13.view.writes (Elt Ideal) f13 (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.2) (ix3 h d b)
      = a13.view.read (Elt Ideal) f13 (ix3 h d b) + ∑ a : Fin 512, (a4.view.read (Elt Ideal) X4) (ix2 d (crow k a)) * dsAt (a3.view.read (Elt Ideal) X3) (a5.view.read (Elt Ideal) X5) (a6.view.read (Elt Ideal) X6) (a7.view.read (Elt Ideal) X7) (a11.view.read (Elt Ideal) X11) (a12.view.read (Elt Ideal) X12) h (crow k a) b := by
  fin_cases h
  · exact dq_read0 𝒱 c bd i a1 h1 a2 h2 a3 h3 a4 h4 a5 h5 a6 h6 a7 h7 a8 h8 a9 h9 a10 h10 a11 h11 a12 h12 a13 h13 X3 X4 X5 X6 X7 X11 X12 f9 f10 f13 k d b
  · exact dq_read1 𝒱 c bd i a1 h1 a2 h2 a3 h3 a4 h4 a5 h5 a6 h6 a7 h7 a8 h8 a9 h9 a10 h10 a11 h11 a12 h12 a13 h13 X3 X4 X5 X6 X7 X11 X12 f9 f10 f13 k d b
  · exact dq_read2 𝒱 c bd i a1 h1 a2 h2 a3 h3 a4 h4 a5 h5 a6 h6 a7 h7 a8 h8 a9 h9 a10 h10 a11 h11 a12 h12 a13 h13 X3 X4 X5 X6 X7 X11 X12 f9 f10 f13 k d b
  · exact dq_read3 𝒱 c bd i a1 h1 a2 h2 a3 h3 a4 h4 a5 h5 a6 h6 a7 h7 a8 h8 a9 h9 a10 h10 a11 h11 a12 h12 a13 h13 X3 X4 X5 X6 X7 X11 X12 f9 f10 f13 k d b
  · exact dq_read4 𝒱 c bd i a1 h1 a2 h2 a3 h3 a4 h4 a5 h5 a6 h6 a7 h7 a8 h8 a9 h9 a10 h10 a11 h11 a12 h12 a13 h13 X3 X4 X5 X6 X7 X11 X12 f9 f10 f13 k d b
  · exact dq_read5 𝒱 c bd i a1 h1 a2 h2 a3 h3 a4 h4 a5 h5 a6 h6 a7 h7 a8 h8 a9 h9 a10 h10 a11 h11 a12 h12 a13 h13 X3 X4 X5 X6 X7 X11 X12 f9 f10 f13 k d b
  · exact dq_read6 𝒱 c bd i a1 h1 a2 h2 a3 h3 a4 h4 a5 h5 a6 h6 a7 h7 a8 h8 a9 h9 a10 h10 a11 h11 a12 h12 a13 h13 X3 X4 X5 X6 X7 X11 X12 f9 f10 f13 k d b
  · exact dq_read7 𝒱 c bd i a1 h1 a2 h2 a3 h3 a4 h4 a5 h5 a6 h6 a7 h7 a8 h8 a9 h9 a10 h10 a11 h11 a12 h12 a13 h13 X3 X4 X5 X6 X7 X11 X12 f9 f10 f13 k d b

theorem dk_upto (n : ℕ) (hn : n ≤ k0_t1_loop.trips) (r : Fin 4096) (d : Fin 128) :
    a9.view.read (Elt Ideal) (a9.view.writes (Elt Ideal) f9 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).1) (ix2 r d)
      = a9.view.read (Elt Ideal) f9 (ix2 r d) + if r.val / 512 < n then dkRow (a3.view.read (Elt Ideal) X3) (a5.view.read (Elt Ideal) X5) (a6.view.read (Elt Ideal) X6) (a7.view.read (Elt Ideal) X7) (a11.view.read (Elt Ideal) X11) (a12.view.read (Elt Ideal) X12) r d else 0 := by
  induction n with
  | zero => rw [if_neg (Nat.not_lt_zero _), add_zero]; rfl
  | succ n ih =>
    rw [pb_k0_t1_succ 𝒱 c bd i a1 h1 a2 h2 a3 h3 a4 h4 a5 h5 a6 h6 a7 h7 a8 h8 a9 h9 a10 h10 a11 h11 a12 h12 a13 h13 X3 X4 X5 X6 X7 X11 X12 f9 f10 f13 ⟨n, hn⟩]
    rw [View.writes_append, dk_read, ih (Nat.le_of_succ_le hn), add_assoc]
    refine congrArg (_ + ·) ?_
    by_cases h1 : r.val / 512 < n
    · rw [if_pos h1, if_neg (Nat.ne_of_lt h1), if_pos (Nat.lt_succ_of_lt h1), add_zero]
    · rw [if_neg h1, zero_add]
      exact if_congr ⟨fun h => Nat.lt_succ_of_le (Nat.le_of_eq h),
        fun h => Nat.le_antisymm (Nat.le_of_lt_succ h) (Nat.le_of_not_lt h1)⟩ rfl rfl

theorem dk_after (r : Fin 4096) (d : Fin 128) :
    a9.view.read (Elt Ideal) (a9.view.writes (Elt Ideal) f9 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 k0_t1_loop.trips).1) (ix2 r d)
      = a9.view.read (Elt Ideal) f9 (ix2 r d) + dkRow (a3.view.read (Elt Ideal) X3) (a5.view.read (Elt Ideal) X5) (a6.view.read (Elt Ideal) X6) (a7.view.read (Elt Ideal) X7) (a11.view.read (Elt Ideal) X11) (a12.view.read (Elt Ideal) X12) r d := by
  rw [dk_upto (hn := le_rfl), if_pos (Nat.lt_of_lt_of_eq (by have := r.isLt; omega) trips_eq.symm)]

theorem dv_upto (n : ℕ) (hn : n ≤ k0_t1_loop.trips) (r : Fin 4096) (d : Fin 128) :
    a10.view.read (Elt Ideal) (a10.view.writes (Elt Ideal) f10 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).2.1) (ix2 r d)
      = a10.view.read (Elt Ideal) f10 (ix2 r d) + if r.val / 512 < n then dvRow (a3.view.read (Elt Ideal) X3) (a6.view.read (Elt Ideal) X6) (a11.view.read (Elt Ideal) X11) (a12.view.read (Elt Ideal) X12) r d else 0 := by
  induction n with
  | zero => rw [if_neg (Nat.not_lt_zero _), add_zero]; rfl
  | succ n ih =>
    rw [pb_k0_t1_succ 𝒱 c bd i a1 h1 a2 h2 a3 h3 a4 h4 a5 h5 a6 h6 a7 h7 a8 h8 a9 h9 a10 h10 a11 h11 a12 h12 a13 h13 X3 X4 X5 X6 X7 X11 X12 f9 f10 f13 ⟨n, hn⟩]
    rw [View.writes_append, dv_read, ih (Nat.le_of_succ_le hn), add_assoc]
    refine congrArg (_ + ·) ?_
    by_cases h1 : r.val / 512 < n
    · rw [if_pos h1, if_neg (Nat.ne_of_lt h1), if_pos (Nat.lt_succ_of_lt h1), add_zero]
    · rw [if_neg h1, zero_add]
      exact if_congr ⟨fun h => Nat.lt_succ_of_le (Nat.le_of_eq h),
        fun h => Nat.le_antisymm (Nat.le_of_lt_succ h) (Nat.le_of_not_lt h1)⟩ rfl rfl

theorem dv_after (r : Fin 4096) (d : Fin 128) :
    a10.view.read (Elt Ideal) (a10.view.writes (Elt Ideal) f10 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 k0_t1_loop.trips).2.1) (ix2 r d)
      = a10.view.read (Elt Ideal) f10 (ix2 r d) + dvRow (a3.view.read (Elt Ideal) X3) (a6.view.read (Elt Ideal) X6) (a11.view.read (Elt Ideal) X11) (a12.view.read (Elt Ideal) X12) r d := by
  rw [dv_upto (hn := le_rfl), if_pos (Nat.lt_of_lt_of_eq (by have := r.isLt; omega) trips_eq.symm)]

/-- A point's share of the gradient of the queries, in the padded layout. -/
def dqCol (Kt : S128x4096.Idx → EReal) (K V : S4096x128.Idx → EReal) (L D : S8x256.Idx → EReal) (Q O : S8x128x256.Idx → EReal)
    (h : Fin 8) (d : Fin 128) (b : Fin 256) : EReal :=
  ∑ r : Fin 4096, Kt (ix2 d r) * dsAt K V L D Q O h r b

theorem dq_upto (n : ℕ) (hn : n ≤ k0_t1_loop.trips) (h : Fin 8) (d : Fin 128) (b : Fin 256) :
    a13.view.read (Elt Ideal) (a13.view.writes (Elt Ideal) f13 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).2.2) (ix3 h d b)
      = a13.view.read (Elt Ideal) f13 (ix3 h d b) + ∑ k : Fin n, ∑ a : Fin 512, (a4.view.read (Elt Ideal) X4) (ix2 d (crow (Fin.castLE hn k) a)) * dsAt (a3.view.read (Elt Ideal) X3) (a5.view.read (Elt Ideal) X5) (a6.view.read (Elt Ideal) X6) (a7.view.read (Elt Ideal) X7) (a11.view.read (Elt Ideal) X11) (a12.view.read (Elt Ideal) X12) h (crow (Fin.castLE hn k) a) b := by
  induction n with
  | zero => rw [Fin.sum_univ_zero, add_zero]; rfl
  | succ n ih =>
    rw [pb_k0_t1_succ 𝒱 c bd i a1 h1 a2 h2 a3 h3 a4 h4 a5 h5 a6 h6 a7 h7 a8 h8 a9 h9 a10 h10 a11 h11 a12 h12 a13 h13 X3 X4 X5 X6 X7 X11 X12 f9 f10 f13 ⟨n, hn⟩]
    rw [View.writes_append, dq_read, ih (Nat.le_of_succ_le hn), add_assoc]
    exact congrArg (_ + ·) (Fin.sum_univ_castSucc (fun k : Fin (n + 1) => ∑ a : Fin 512, (a4.view.read (Elt Ideal) X4) (ix2 d (crow (Fin.castLE hn k) a)) * dsAt (a3.view.read (Elt Ideal) X3) (a5.view.read (Elt Ideal) X5) (a6.view.read (Elt Ideal) X6) (a7.view.read (Elt Ideal) X7) (a11.view.read (Elt Ideal) X11) (a12.view.read (Elt Ideal) X12) h (crow (Fin.castLE hn k) a) b)).symm

theorem dq_after (h : Fin 8) (d : Fin 128) (b : Fin 256) :
    a13.view.read (Elt Ideal) (a13.view.writes (Elt Ideal) f13 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 k0_t1_loop.trips).2.2) (ix3 h d b)
      = a13.view.read (Elt Ideal) f13 (ix3 h d b) + dqCol (a4.view.read (Elt Ideal) X4) (a3.view.read (Elt Ideal) X3) (a5.view.read (Elt Ideal) X5) (a6.view.read (Elt Ideal) X6) (a7.view.read (Elt Ideal) X7) (a11.view.read (Elt Ideal) X11) (a12.view.read (Elt Ideal) X12) h d b := by
  rw [dq_upto (hn := le_rfl)]
  refine congrArg (_ + ·) ?_
  exact Fin.sum_mul_add_fin k0_t1_loop.trips 512
    (fun r => (a4.view.read (Elt Ideal) X4) (ix2 d r) * dsAt (a3.view.read (Elt Ideal) X3) (a5.view.read (Elt Ideal) X5) (a6.view.read (Elt Ideal) X6) (a7.view.read (Elt Ideal) X7) (a11.view.read (Elt Ideal) X11) (a12.view.read (Elt Ideal) X12) h r b) (by rw [trips_eq])

end Cert.AttnIdeal.Value
-- ==== Proof.Attn.Pad.lean ====
module

public import proofs.«01_k».proof.Proof.Attn.Loop

@[expose] public section

/-! The padded heads a grid point keeps, and the assembled gradient of the queries. -/

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-- Head `h` of a block of `512` rows, in the half of `128` rows its group owns; zero in the other half. -/
def padAt (X : S512x256.Idx → EReal) (h : Fin 8) (d : Fin 128) (b : Fin 256) : EReal :=
  if d.val / 64 = h.val / 4 then X (ix2 ⟨64 * h.val + d.val % 64, by omega⟩ b) else 0

theorem ld_head {e : EltTy} (v : View sig .tc .vmem S512x256 e) (X : v.ty.Contents (Elt Ideal)) (o : ℕ) (ho : o + 64 ≤ 512)
    (inb : ∀ a, (![o, 0] : Fin 2 → ℕ) a + (![64, 256] : Fin 2 → ℕ) a ≤ S512x256.size a) (d : Fin 64) (b : Fin 256) :
    View.readAt (Elt Ideal) v (Rect.unit (s := S512x256) ![o, 0] ![64, 256] inb).toLoadRect X (ix2 d b)
      = v.read (Elt Ideal) X (ix2 ⟨o + d.val, by omega⟩ b) := by
  refine congrArg (v.read (Elt Ideal) X) (funext fun q => Fin.ext ?_)
  show (![o, 0] : Fin 2 → ℕ) q + 1 * _ = _
  revert q
  refine Fin.forall_fin_two.mpr ⟨?_, ?_⟩
  · show o + 1 * d.val = o + d.val
    omega
  · show 0 + 1 * b.val = b.val
    omega

theorem pad_lo (x : S64x256.Idx → EReal) (X : S512x256.Idx → EReal) (h : Fin 8) (hh : h.val < 4)
    (hx : ∀ (e : Fin 64) (b : Fin 256), x (ix2 e b) = X (ix2 ⟨64 * h.val + e.val, by omega⟩ b)) (d : Fin 128) (b : Fin 256) :
    (if hd : d.val < 64 then x (ix2 ⟨d.val, hd⟩ b) else 0) = padAt X h d b := by
  unfold padAt
  by_cases hd : d.val < 64
  · rw [dif_pos hd, if_pos (by omega), hx]
    exact congrArg X (congrArg (fun r => ix2 r b) (Fin.ext (by show 64 * h.val + d.val = 64 * h.val + d.val % 64; omega)))
  · rw [dif_neg hd, if_neg (by omega)]

theorem pad_hi (x : S64x256.Idx → EReal) (X : S512x256.Idx → EReal) (h : Fin 8) (hh : 4 ≤ h.val)
    (hx : ∀ (e : Fin 64) (b : Fin 256), x (ix2 e b) = X (ix2 ⟨64 * h.val + e.val, by omega⟩ b)) (d : Fin 128) (b : Fin 256) :
    (if hd : d.val < 64 then 0 else x (ix2 ⟨d.val - 64, by omega⟩ b)) = padAt X h d b := by
  unfold padAt
  by_cases hd : d.val < 64
  · rw [dif_pos hd, if_neg (by omega)]
  · rw [dif_neg hd, if_pos (by omega), hx]
    exact congrArg X (congrArg (fun r => ix2 r b) (Fin.ext (by show 64 * h.val + (d.val - 64) = 64 * h.val + d.val % 64; omega)))

section Slabs

variable {e : EltTy} (v : View sig .tc .vmem S8x128x256 e) (f : v.ty.Contents (Elt Ideal))
  (w0 w1 w2 w3 w4 w5 w6 w7 : S1x128x256.Idx → Elt Ideal e) (d : Fin 128) (b : Fin 256)

theorem slabs_read0 :
    v.read (Elt Ideal) (v.writes (Elt Ideal) f
      [⟨Rect.unit (s := S8x128x256) ![7, 0, 0] S1x128x256.size inb_S8x128x256_S1x128x256_7_0_0, w7⟩,
        ⟨Rect.unit (s := S8x128x256) ![6, 0, 0] S1x128x256.size inb_S8x128x256_S1x128x256_6_0_0, w6⟩,
        ⟨Rect.unit (s := S8x128x256) ![5, 0, 0] S1x128x256.size inb_S8x128x256_S1x128x256_5_0_0, w5⟩,
        ⟨Rect.unit (s := S8x128x256) ![4, 0, 0] S1x128x256.size inb_S8x128x256_S1x128x256_4_0_0, w4⟩,
        ⟨Rect.unit (s := S8x128x256) ![3, 0, 0] S1x128x256.size inb_S8x128x256_S1x128x256_3_0_0, w3⟩,
        ⟨Rect.unit (s := S8x128x256) ![2, 0, 0] S1x128x256.size inb_S8x128x256_S1x128x256_2_0_0, w2⟩,
        ⟨Rect.unit (s := S8x128x256) ![1, 0, 0] S1x128x256.size inb_S8x128x256_S1x128x256_1_0_0, w1⟩,
        ⟨Rect.unit (s := S8x128x256) ![0, 0, 0] S1x128x256.size inb_S8x128x256_S1x128x256_0_0_0, w0⟩]) (ix3 0 d b) = w0 (ix3 0 d b) := by
  refine (View.read_writes_cons_unit_of_not_mem v f _ _ _ (ix3 0 d b) (off' := ![7, 0, 0]) rfl 0 (Or.inl (by show 0 < 7; decide))).trans ?_
  refine (View.read_writes_cons_unit_of_not_mem v f _ _ _ (ix3 0 d b) (off' := ![6, 0, 0]) rfl 0 (Or.inl (by show 0 < 6; decide))).trans ?_
  refine (View.read_writes_cons_unit_of_not_mem v f _ _ _ (ix3 0 d b) (off' := ![5, 0, 0]) rfl 0 (Or.inl (by show 0 < 5; decide))).trans ?_
  refine (View.read_writes_cons_unit_of_not_mem v f _ _ _ (ix3 0 d b) (off' := ![4, 0, 0]) rfl 0 (Or.inl (by show 0 < 4; decide))).trans ?_
  refine (View.read_writes_cons_unit_of_not_mem v f _ _ _ (ix3 0 d b) (off' := ![3, 0, 0]) rfl 0 (Or.inl (by show 0 < 3; decide))).trans ?_
  refine (View.read_writes_cons_unit_of_not_mem v f _ _ _ (ix3 0 d b) (off' := ![2, 0, 0]) rfl 0 (Or.inl (by show 0 < 2; decide))).trans ?_
  refine (View.read_writes_cons_unit_of_not_mem v f _ _ _ (ix3 0 d b) (off' := ![1, 0, 0]) rfl 0 (Or.inl (by show 0 < 1; decide))).trans ?_
  exact View.read_writes_cons_unit_of_mem v f _ _ _ (ix3 0 d b) (ix3 0 d b) (off' := ![0, 0, 0]) rfl (slab_at 0 0 rfl d b)

theorem slabs_read1 :
    v.read (Elt Ideal) (v.writes (Elt Ideal) f
      [⟨Rect.unit (s := S8x128x256) ![7, 0, 0] S1x128x256.size inb_S8x128x256_S1x128x256_7_0_0, w7⟩,
        ⟨Rect.unit (s := S8x128x256) ![6, 0, 0] S1x128x256.size inb_S8x128x256_S1x128x256_6_0_0, w6⟩,
        ⟨Rect.unit (s := S8x128x256) ![5, 0, 0] S1x128x256.size inb_S8x128x256_S1x128x256_5_0_0, w5⟩,
        ⟨Rect.unit (s := S8x128x256) ![4, 0, 0] S1x128x256.size inb_S8x128x256_S1x128x256_4_0_0, w4⟩,
        ⟨Rect.unit (s := S8x128x256) ![3, 0, 0] S1x128x256.size inb_S8x128x256_S1x128x256_3_0_0, w3⟩,
        ⟨Rect.unit (s := S8x128x256) ![2, 0, 0] S1x128x256.size inb_S8x128x256_S1x128x256_2_0_0, w2⟩,
        ⟨Rect.unit (s := S8x128x256) ![1, 0, 0] S1x128x256.size inb_S8x128x256_S1x128x256_1_0_0, w1⟩,
        ⟨Rect.unit (s := S8x128x256) ![0, 0, 0] S1x128x256.size inb_S8x128x256_S1x128x256_0_0_0, w0⟩]) (ix3 1 d b) = w1 (ix3 0 d b) := by
  refine (View.read_writes_cons_unit_of_not_mem v f _ _ _ (ix3 1 d b) (off' := ![7, 0, 0]) rfl 0 (Or.inl (by show 1 < 7; decide))).trans ?_
  refine (View.read_writes_cons_unit_of_not_mem v f _ _ _ (ix3 1 d b) (off' := ![6, 0, 0]) rfl 0 (Or.inl (by show 1 < 6; decide))).trans ?_
  refine (View.read_writes_cons_unit_of_not_mem v f _ _ _ (ix3 1 d b) (off' := ![5, 0, 0]) rfl 0 (Or.inl (by show 1 < 5; decide))).trans ?_
  refine (View.read_writes_cons_unit_of_not_mem v f _ _ _ (ix3 1 d b) (off' := ![4, 0, 0]) rfl 0 (Or.inl (by show 1 < 4; decide))).trans ?_
  refine (View.read_writes_cons_unit_of_not_mem v f _ _ _ (ix3 1 d b) (off' := ![3, 0, 0]) rfl 0 (Or.inl (by show 1 < 3; decide))).trans ?_
  refine (View.read_writes_cons_unit_of_not_mem v f _ _ _ (ix3 1 d b) (off' := ![2, 0, 0]) rfl 0 (Or.inl (by show 1 < 2; decide))).trans ?_
  exact View.read_writes_cons_unit_of_mem v f _ _ _ (ix3 1 d b) (ix3 0 d b) (off' := ![1, 0, 0]) rfl (slab_at 1 1 rfl d b)

theorem slabs_read2 :
    v.read (Elt Ideal) (v.writes (Elt Ideal) f
      [⟨Rect.unit (s := S8x128x256) ![7, 0, 0] S1x128x256.size inb_S8x128x256_S1x128x256_7_0_0, w7⟩,
        ⟨Rect.unit (s := S8x128x256) ![6, 0, 0] S1x128x256.size inb_S8x128x256_S1x128x256_6_0_0, w6⟩,
        ⟨Rect.unit (s := S8x128x256) ![5, 0, 0] S1x128x256.size inb_S8x128x256_S1x128x256_5_0_0, w5⟩,
        ⟨Rect.unit (s := S8x128x256) ![4, 0, 0] S1x128x256.size inb_S8x128x256_S1x128x256_4_0_0, w4⟩,
        ⟨Rect.unit (s := S8x128x256) ![3, 0, 0] S1x128x256.size inb_S8x128x256_S1x128x256_3_0_0, w3⟩,
        ⟨Rect.unit (s := S8x128x256) ![2, 0, 0] S1x128x256.size inb_S8x128x256_S1x128x256_2_0_0, w2⟩,
        ⟨Rect.unit (s := S8x128x256) ![1, 0, 0] S1x128x256.size inb_S8x128x256_S1x128x256_1_0_0, w1⟩,
        ⟨Rect.unit (s := S8x128x256) ![0, 0, 0] S1x128x256.size inb_S8x128x256_S1x128x256_0_0_0, w0⟩]) (ix3 2 d b) = w2 (ix3 0 d b) := by
  refine (View.read_writes_cons_unit_of_not_mem v f _ _ _ (ix3 2 d b) (off' := ![7, 0, 0]) rfl 0 (Or.inl (by show 2 < 7; decide))).trans ?_
  refine (View.read_writes_cons_unit_of_not_mem v f _ _ _ (ix3 2 d b) (off' := ![6, 0, 0]) rfl 0 (Or.inl (by show 2 < 6; decide))).trans ?_
  refine (View.read_writes_cons_unit_of_not_mem v f _ _ _ (ix3 2 d b) (off' := ![5, 0, 0]) rfl 0 (Or.inl (by show 2 < 5; decide))).trans ?_
  refine (View.read_writes_cons_unit_of_not_mem v f _ _ _ (ix3 2 d b) (off' := ![4, 0, 0]) rfl 0 (Or.inl (by show 2 < 4; decide))).trans ?_
  refine (View.read_writes_cons_unit_of_not_mem v f _ _ _ (ix3 2 d b) (off' := ![3, 0, 0]) rfl 0 (Or.inl (by show 2 < 3; decide))).trans ?_
  exact View.read_writes_cons_unit_of_mem v f _ _ _ (ix3 2 d b) (ix3 0 d b) (off' := ![2, 0, 0]) rfl (slab_at 2 2 rfl d b)

theorem slabs_read3 :
    v.read (Elt Ideal) (v.writes (Elt Ideal) f
      [⟨Rect.unit (s := S8x128x256) ![7, 0, 0] S1x128x256.size inb_S8x128x256_S1x128x256_7_0_0, w7⟩,
        ⟨Rect.unit (s := S8x128x256) ![6, 0, 0] S1x128x256.size inb_S8x128x256_S1x128x256_6_0_0, w6⟩,
        ⟨Rect.unit (s := S8x128x256) ![5, 0, 0] S1x128x256.size inb_S8x128x256_S1x128x256_5_0_0, w5⟩,
        ⟨Rect.unit (s := S8x128x256) ![4, 0, 0] S1x128x256.size inb_S8x128x256_S1x128x256_4_0_0, w4⟩,
        ⟨Rect.unit (s := S8x128x256) ![3, 0, 0] S1x128x256.size inb_S8x128x256_S1x128x256_3_0_0, w3⟩,
        ⟨Rect.unit (s := S8x128x256) ![2, 0, 0] S1x128x256.size inb_S8x128x256_S1x128x256_2_0_0, w2⟩,
        ⟨Rect.unit (s := S8x128x256) ![1, 0, 0] S1x128x256.size inb_S8x128x256_S1x128x256_1_0_0, w1⟩,
        ⟨Rect.unit (s := S8x128x256) ![0, 0, 0] S1x128x256.size inb_S8x128x256_S1x128x256_0_0_0, w0⟩]) (ix3 3 d b) = w3 (ix3 0 d b) := by
  refine (View.read_writes_cons_unit_of_not_mem v f _ _ _ (ix3 3 d b) (off' := ![7, 0, 0]) rfl 0 (Or.inl (by show 3 < 7; decide))).trans ?_
  refine (View.read_writes_cons_unit_of_not_mem v f _ _ _ (ix3 3 d b) (off' := ![6, 0, 0]) rfl 0 (Or.inl (by show 3 < 6; decide))).trans ?_
  refine (View.read_writes_cons_unit_of_not_mem v f _ _ _ (ix3 3 d b) (off' := ![5, 0, 0]) rfl 0 (Or.inl (by show 3 < 5; decide))).trans ?_
  refine (View.read_writes_cons_unit_of_not_mem v f _ _ _ (ix3 3 d b) (off' := ![4, 0, 0]) rfl 0 (Or.inl (by show 3 < 4; decide))).trans ?_
  exact View.read_writes_cons_unit_of_mem v f _ _ _ (ix3 3 d b) (ix3 0 d b) (off' := ![3, 0, 0]) rfl (slab_at 3 3 rfl d b)

theorem slabs_read4 :
    v.read (Elt Ideal) (v.writes (Elt Ideal) f
      [⟨Rect.unit (s := S8x128x256) ![7, 0, 0] S1x128x256.size inb_S8x128x256_S1x128x256_7_0_0, w7⟩,
        ⟨Rect.unit (s := S8x128x256) ![6, 0, 0] S1x128x256.size inb_S8x128x256_S1x128x256_6_0_0, w6⟩,
        ⟨Rect.unit (s := S8x128x256) ![5, 0, 0] S1x128x256.size inb_S8x128x256_S1x128x256_5_0_0, w5⟩,
        ⟨Rect.unit (s := S8x128x256) ![4, 0, 0] S1x128x256.size inb_S8x128x256_S1x128x256_4_0_0, w4⟩,
        ⟨Rect.unit (s := S8x128x256) ![3, 0, 0] S1x128x256.size inb_S8x128x256_S1x128x256_3_0_0, w3⟩,
        ⟨Rect.unit (s := S8x128x256) ![2, 0, 0] S1x128x256.size inb_S8x128x256_S1x128x256_2_0_0, w2⟩,
        ⟨Rect.unit (s := S8x128x256) ![1, 0, 0] S1x128x256.size inb_S8x128x256_S1x128x256_1_0_0, w1⟩,
        ⟨Rect.unit (s := S8x128x256) ![0, 0, 0] S1x128x256.size inb_S8x128x256_S1x128x256_0_0_0, w0⟩]) (ix3 4 d b) = w4 (ix3 0 d b) := by
  refine (View.read_writes_cons_unit_of_not_mem v f _ _ _ (ix3 4 d b) (off' := ![7, 0, 0]) rfl 0 (Or.inl (by show 4 < 7; decide))).trans ?_
  refine (View.read_writes_cons_unit_of_not_mem v f _ _ _ (ix3 4 d b) (off' := ![6, 0, 0]) rfl 0 (Or.inl (by show 4 < 6; decide))).trans ?_
  refine (View.read_writes_cons_unit_of_not_mem v f _ _ _ (ix3 4 d b) (off' := ![5, 0, 0]) rfl 0 (Or.inl (by show 4 < 5; decide))).trans ?_
  exact View.read_writes_cons_unit_of_mem v f _ _ _ (ix3 4 d b) (ix3 0 d b) (off' := ![4, 0, 0]) rfl (slab_at 4 4 rfl d b)

theorem slabs_read5 :
    v.read (Elt Ideal) (v.writes (Elt Ideal) f
      [⟨Rect.unit (s := S8x128x256) ![7, 0, 0] S1x128x256.size inb_S8x128x256_S1x128x256_7_0_0, w7⟩,
        ⟨Rect.unit (s := S8x128x256) ![6, 0, 0] S1x128x256.size inb_S8x128x256_S1x128x256_6_0_0, w6⟩,
        ⟨Rect.unit (s := S8x128x256) ![5, 0, 0] S1x128x256.size inb_S8x128x256_S1x128x256_5_0_0, w5⟩,
        ⟨Rect.unit (s := S8x128x256) ![4, 0, 0] S1x128x256.size inb_S8x128x256_S1x128x256_4_0_0, w4⟩,
        ⟨Rect.unit (s := S8x128x256) ![3, 0, 0] S1x128x256.size inb_S8x128x256_S1x128x256_3_0_0, w3⟩,
        ⟨Rect.unit (s := S8x128x256) ![2, 0, 0] S1x128x256.size inb_S8x128x256_S1x128x256_2_0_0, w2⟩,
        ⟨Rect.unit (s := S8x128x256) ![1, 0, 0] S1x128x256.size inb_S8x128x256_S1x128x256_1_0_0, w1⟩,
        ⟨Rect.unit (s := S8x128x256) ![0, 0, 0] S1x128x256.size inb_S8x128x256_S1x128x256_0_0_0, w0⟩]) (ix3 5 d b) = w5 (ix3 0 d b) := by
  refine (View.read_writes_cons_unit_of_not_mem v f _ _ _ (ix3 5 d b) (off' := ![7, 0, 0]) rfl 0 (Or.inl (by show 5 < 7; decide))).trans ?_
  refine (View.read_writes_cons_unit_of_not_mem v f _ _ _ (ix3 5 d b) (off' := ![6, 0, 0]) rfl 0 (Or.inl (by show 5 < 6; decide))).trans ?_
  exact View.read_writes_cons_unit_of_mem v f _ _ _ (ix3 5 d b) (ix3 0 d b) (off' := ![5, 0, 0]) rfl (slab_at 5 5 rfl d b)

theorem slabs_read6 :
    v.read (Elt Ideal) (v.writes (Elt Ideal) f
      [⟨Rect.unit (s := S8x128x256) ![7, 0, 0] S1x128x256.size inb_S8x128x256_S1x128x256_7_0_0, w7⟩,
        ⟨Rect.unit (s := S8x128x256) ![6, 0, 0] S1x128x256.size inb_S8x128x256_S1x128x256_6_0_0, w6⟩,
        ⟨Rect.unit (s := S8x128x256) ![5, 0, 0] S1x128x256.size inb_S8x128x256_S1x128x256_5_0_0, w5⟩,
        ⟨Rect.unit (s := S8x128x256) ![4, 0, 0] S1x128x256.size inb_S8x128x256_S1x128x256_4_0_0, w4⟩,
        ⟨Rect.unit (s := S8x128x256) ![3, 0, 0] S1x128x256.size inb_S8x128x256_S1x128x256_3_0_0, w3⟩,
        ⟨Rect.unit (s := S8x128x256) ![2, 0, 0] S1x128x256.size inb_S8x128x256_S1x128x256_2_0_0, w2⟩,
        ⟨Rect.unit (s := S8x128x256) ![1, 0, 0] S1x128x256.size inb_S8x128x256_S1x128x256_1_0_0, w1⟩,
        ⟨Rect.unit (s := S8x128x256) ![0, 0, 0] S1x128x256.size inb_S8x128x256_S1x128x256_0_0_0, w0⟩]) (ix3 6 d b) = w6 (ix3 0 d b) := by
  refine (View.read_writes_cons_unit_of_not_mem v f _ _ _ (ix3 6 d b) (off' := ![7, 0, 0]) rfl 0 (Or.inl (by show 6 < 7; decide))).trans ?_
  exact View.read_writes_cons_unit_of_mem v f _ _ _ (ix3 6 d b) (ix3 0 d b) (off' := ![6, 0, 0]) rfl (slab_at 6 6 rfl d b)

theorem slabs_read7 :
    v.read (Elt Ideal) (v.writes (Elt Ideal) f
      [⟨Rect.unit (s := S8x128x256) ![7, 0, 0] S1x128x256.size inb_S8x128x256_S1x128x256_7_0_0, w7⟩,
        ⟨Rect.unit (s := S8x128x256) ![6, 0, 0] S1x128x256.size inb_S8x128x256_S1x128x256_6_0_0, w6⟩,
        ⟨Rect.unit (s := S8x128x256) ![5, 0, 0] S1x128x256.size inb_S8x128x256_S1x128x256_5_0_0, w5⟩,
        ⟨Rect.unit (s := S8x128x256) ![4, 0, 0] S1x128x256.size inb_S8x128x256_S1x128x256_4_0_0, w4⟩,
        ⟨Rect.unit (s := S8x128x256) ![3, 0, 0] S1x128x256.size inb_S8x128x256_S1x128x256_3_0_0, w3⟩,
        ⟨Rect.unit (s := S8x128x256) ![2, 0, 0] S1x128x256.size inb_S8x128x256_S1x128x256_2_0_0, w2⟩,
        ⟨Rect.unit (s := S8x128x256) ![1, 0, 0] S1x128x256.size inb_S8x128x256_S1x128x256_1_0_0, w1⟩,
        ⟨Rect.unit (s := S8x128x256) ![0, 0, 0] S1x128x256.size inb_S8x128x256_S1x128x256_0_0_0, w0⟩]) (ix3 7 d b) = w7 (ix3 0 d b) := by
  exact View.read_writes_cons_unit_of_mem v f _ _ _ (ix3 7 d b) (ix3 0 d b) (off' := ![7, 0, 0]) rfl (slab_at 7 7 rfl d b)

end Slabs

section Pads

variable (v : View sig .tc .vmem S8x128x256 .bf16) (f : v.ty.Contents (Elt Ideal))
  (u : View sig .tc .vmem S512x256 .bf16) (X : u.ty.Contents (Elt Ideal))

theorem qp0 (d : Fin 128) (b : Fin 256) :
    k0_pay69 (F := Ideal) (View.readAt (Elt Ideal) u (Rect.unit (s := S512x256) ![0, 0] S64x256.size inb_S512x256_S64x256_0_0).toLoadRect X) (ix3 0 d b) = padAt (u.read (Elt Ideal) X) 0 d b := by
  refine Eq.trans ?_ (pad_lo (View.readAt (Elt Ideal) u (Rect.unit (s := S512x256) ![0, 0] S64x256.size inb_S512x256_S64x256_0_0).toLoadRect X) (u.read (Elt Ideal) X) 0 (by decide) (fun e b => ld_head u X 0 (by decide) _ e b) d b)
  pointwise [k0_pay69]

theorem qp1 (d : Fin 128) (b : Fin 256) :
    k0_pay71 (F := Ideal) (View.readAt (Elt Ideal) u (Rect.unit (s := S512x256) ![64, 0] S64x256.size inb_S512x256_S64x256_64_0).toLoadRect X) (ix3 0 d b) = padAt (u.read (Elt Ideal) X) 1 d b := by
  refine Eq.trans ?_ (pad_lo (View.readAt (Elt Ideal) u (Rect.unit (s := S512x256) ![64, 0] S64x256.size inb_S512x256_S64x256_64_0).toLoadRect X) (u.read (Elt Ideal) X) 1 (by decide) (fun e b => ld_head u X 64 (by decide) _ e b) d b)
  pointwise [k0_pay71]

theorem qp2 (d : Fin 128) (b : Fin 256) :
    k0_pay74 (F := Ideal) (View.readAt (Elt Ideal) u (Rect.unit (s := S512x256) ![128, 0] S64x256.size inb_S512x256_S64x256_128_0).toLoadRect X) (ix3 0 d b) = padAt (u.read (Elt Ideal) X) 2 d b := by
  refine Eq.trans ?_ (pad_lo (View.readAt (Elt Ideal) u (Rect.unit (s := S512x256) ![128, 0] S64x256.size inb_S512x256_S64x256_128_0).toLoadRect X) (u.read (Elt Ideal) X) 2 (by decide) (fun e b => ld_head u X 128 (by decide) _ e b) d b)
  pointwise [k0_pay74]

theorem qp3 (d : Fin 128) (b : Fin 256) :
    k0_pay76 (F := Ideal) (View.readAt (Elt Ideal) u (Rect.unit (s := S512x256) ![192, 0] S64x256.size inb_S512x256_S64x256_192_0).toLoadRect X) (ix3 0 d b) = padAt (u.read (Elt Ideal) X) 3 d b := by
  refine Eq.trans ?_ (pad_lo (View.readAt (Elt Ideal) u (Rect.unit (s := S512x256) ![192, 0] S64x256.size inb_S512x256_S64x256_192_0).toLoadRect X) (u.read (Elt Ideal) X) 3 (by decide) (fun e b => ld_head u X 192 (by decide) _ e b) d b)
  pointwise [k0_pay76]

theorem qp4 (d : Fin 128) (b : Fin 256) :
    k0_pay78 (F := Ideal) (View.readAt (Elt Ideal) u (Rect.unit (s := S512x256) ![256, 0] S64x256.size inb_S512x256_S64x256_256_0).toLoadRect X) (ix3 0 d b) = padAt (u.read (Elt Ideal) X) 4 d b := by
  refine Eq.trans ?_ (pad_hi (View.readAt (Elt Ideal) u (Rect.unit (s := S512x256) ![256, 0] S64x256.size inb_S512x256_S64x256_256_0).toLoadRect X) (u.read (Elt Ideal) X) 4 (by decide) (fun e b => ld_head u X 256 (by decide) _ e b) d b)
  pointwise [k0_pay78]

theorem qp5 (d : Fin 128) (b : Fin 256) :
    k0_pay80 (F := Ideal) (View.readAt (Elt Ideal) u (Rect.unit (s := S512x256) ![320, 0] S64x256.size inb_S512x256_S64x256_320_0).toLoadRect X) (ix3 0 d b) = padAt (u.read (Elt Ideal) X) 5 d b := by
  refine Eq.trans ?_ (pad_hi (View.readAt (Elt Ideal) u (Rect.unit (s := S512x256) ![320, 0] S64x256.size inb_S512x256_S64x256_320_0).toLoadRect X) (u.read (Elt Ideal) X) 5 (by decide) (fun e b => ld_head u X 320 (by decide) _ e b) d b)
  pointwise [k0_pay80]

theorem qp6 (d : Fin 128) (b : Fin 256) :
    k0_pay83 (F := Ideal) (k0_pay82 (View.readAt (Elt Ideal) u (Rect.unit (s := S512x256) ![384, 0] S64x256.size inb_S512x256_S64x256_384_0).toLoadRect X)) (FloatOps.ofBits FTy.bf16 0#16) (ix3 0 d b) = padAt (u.read (Elt Ideal) X) 6 d b := by
  refine Eq.trans ?_ (pad_hi (View.readAt (Elt Ideal) u (Rect.unit (s := S512x256) ![384, 0] S64x256.size inb_S512x256_S64x256_384_0).toLoadRect X) (u.read (Elt Ideal) X) 6 (by decide) (fun e b => ld_head u X 384 (by decide) _ e b) d b)
  pointwise [k0_pay83, k0_pay82]

theorem qp7 (d : Fin 128) (b : Fin 256) :
    k0_pay85 (F := Ideal) (View.readAt (Elt Ideal) u (Rect.unit (s := S512x256) ![448, 0] S64x256.size inb_S512x256_S64x256_448_0).toLoadRect X) (ix3 0 d b) = padAt (u.read (Elt Ideal) X) 7 d b := by
  refine Eq.trans ?_ (pad_hi (View.readAt (Elt Ideal) u (Rect.unit (s := S512x256) ![448, 0] S64x256.size inb_S512x256_S64x256_448_0).toLoadRect X) (u.read (Elt Ideal) X) 7 (by decide) (fun e b => ld_head u X 448 (by decide) _ e b) d b)
  pointwise [k0_pay85]

theorem qp_read :
    v.read (Elt Ideal) (v.writes (Elt Ideal) f
      [⟨Rect.unit (s := S8x128x256) ![7, 0, 0] S1x128x256.size inb_S8x128x256_S1x128x256_7_0_0, k0_pay85 (View.readAt (Elt Ideal) u (Rect.unit (s := S512x256) ![448, 0] S64x256.size inb_S512x256_S64x256_448_0).toLoadRect X)⟩,
        ⟨Rect.unit (s := S8x128x256) ![6, 0, 0] S1x128x256.size inb_S8x128x256_S1x128x256_6_0_0, k0_pay83 (k0_pay82 (View.readAt (Elt Ideal) u (Rect.unit (s := S512x256) ![384, 0] S64x256.size inb_S512x256_S64x256_384_0).toLoadRect X)) (FloatOps.ofBits FTy.bf16 0#16)⟩,
        ⟨Rect.unit (s := S8x128x256) ![5, 0, 0] S1x128x256.size inb_S8x128x256_S1x128x256_5_0_0, k0_pay80 (View.readAt (Elt Ideal) u (Rect.unit (s := S512x256) ![320, 0] S64x256.size inb_S512x256_S64x256_320_0).toLoadRect X)⟩,
        ⟨Rect.unit (s := S8x128x256) ![4, 0, 0] S1x128x256.size inb_S8x128x256_S1x128x256_4_0_0, k0_pay78 (View.readAt (Elt Ideal) u (Rect.unit (s := S512x256) ![256, 0] S64x256.size inb_S512x256_S64x256_256_0).toLoadRect X)⟩,
        ⟨Rect.unit (s := S8x128x256) ![3, 0, 0] S1x128x256.size inb_S8x128x256_S1x128x256_3_0_0, k0_pay76 (View.readAt (Elt Ideal) u (Rect.unit (s := S512x256) ![192, 0] S64x256.size inb_S512x256_S64x256_192_0).toLoadRect X)⟩,
        ⟨Rect.unit (s := S8x128x256) ![2, 0, 0] S1x128x256.size inb_S8x128x256_S1x128x256_2_0_0, k0_pay74 (View.readAt (Elt Ideal) u (Rect.unit (s := S512x256) ![128, 0] S64x256.size inb_S512x256_S64x256_128_0).toLoadRect X)⟩,
        ⟨Rect.unit (s := S8x128x256) ![1, 0, 0] S1x128x256.size inb_S8x128x256_S1x128x256_1_0_0, k0_pay71 (View.readAt (Elt Ideal) u (Rect.unit (s := S512x256) ![64, 0] S64x256.size inb_S512x256_S64x256_64_0).toLoadRect X)⟩,
        ⟨Rect.unit (s := S8x128x256) ![0, 0, 0] S1x128x256.size inb_S8x128x256_S1x128x256_0_0_0, k0_pay69 (View.readAt (Elt Ideal) u (Rect.unit (s := S512x256) ![0, 0] S64x256.size inb_S512x256_S64x256_0_0).toLoadRect X)⟩]) = fun y => padAt (u.read (Elt Ideal) X) (y 0) (y 1) (y 2) := by
  funext y
  obtain ⟨h, d, b, rfl⟩ : ∃ (h : Fin 8) (d : Fin 128) (b : Fin 256), y = ix3 h d b :=
    ⟨y 0, y 1, y 2, funext (Fin.forall_fin_succ.mpr ⟨rfl, Fin.forall_fin_two.mpr ⟨rfl, rfl⟩⟩)⟩
  fin_cases h
  · exact (slabs_read0 v f _ _ _ _ _ _ _ _ d b).trans (qp0 u X d b)
  · exact (slabs_read1 v f _ _ _ _ _ _ _ _ d b).trans (qp1 u X d b)
  · exact (slabs_read2 v f _ _ _ _ _ _ _ _ d b).trans (qp2 u X d b)
  · exact (slabs_read3 v f _ _ _ _ _ _ _ _ d b).trans (qp3 u X d b)
  · exact (slabs_read4 v f _ _ _ _ _ _ _ _ d b).trans (qp4 u X d b)
  · exact (slabs_read5 v f _ _ _ _ _ _ _ _ d b).trans (qp5 u X d b)
  · exact (slabs_read6 v f _ _ _ _ _ _ _ _ d b).trans (qp6 u X d b)
  · exact (slabs_read7 v f _ _ _ _ _ _ _ _ d b).trans (qp7 u X d b)

theorem op0 (d : Fin 128) (b : Fin 256) :
    k0_pay70 (F := Ideal) (View.readAt (Elt Ideal) u (Rect.unit (s := S512x256) ![0, 0] S64x256.size inb_S512x256_S64x256_0_0).toLoadRect X) (ix3 0 d b) = padAt (u.read (Elt Ideal) X) 0 d b := by
  refine Eq.trans ?_ (pad_lo (View.readAt (Elt Ideal) u (Rect.unit (s := S512x256) ![0, 0] S64x256.size inb_S512x256_S64x256_0_0).toLoadRect X) (u.read (Elt Ideal) X) 0 (by decide) (fun e b => ld_head u X 0 (by decide) _ e b) d b)
  pointwise [k0_pay70]

theorem op1 (d : Fin 128) (b : Fin 256) :
    k0_pay73 (F := Ideal) (k0_pay72 (View.readAt (Elt Ideal) u (Rect.unit (s := S512x256) ![64, 0] S64x256.size inb_S512x256_S64x256_64_0).toLoadRect X)) (ix3 0 d b) = padAt (u.read (Elt Ideal) X) 1 d b := by
  refine Eq.trans ?_ (pad_lo (View.readAt (Elt Ideal) u (Rect.unit (s := S512x256) ![64, 0] S64x256.size inb_S512x256_S64x256_64_0).toLoadRect X) (u.read (Elt Ideal) X) 1 (by decide) (fun e b => ld_head u X 64 (by decide) _ e b) d b)
  pointwise [k0_pay73, k0_pay72]

theorem op2 (d : Fin 128) (b : Fin 256) :
    k0_pay75 (F := Ideal) (View.readAt (Elt Ideal) u (Rect.unit (s := S512x256) ![128, 0] S64x256.size inb_S512x256_S64x256_128_0).toLoadRect X) (ix3 0 d b) = padAt (u.read (Elt Ideal) X) 2 d b := by
  refine Eq.trans ?_ (pad_lo (View.readAt (Elt Ideal) u (Rect.unit (s := S512x256) ![128, 0] S64x256.size inb_S512x256_S64x256_128_0).toLoadRect X) (u.read (Elt Ideal) X) 2 (by decide) (fun e b => ld_head u X 128 (by decide) _ e b) d b)
  pointwise [k0_pay75]

theorem op3 (d : Fin 128) (b : Fin 256) :
    k0_pay77 (F := Ideal) (View.readAt (Elt Ideal) u (Rect.unit (s := S512x256) ![192, 0] S64x256.size inb_S512x256_S64x256_192_0).toLoadRect X) (ix3 0 d b) = padAt (u.read (Elt Ideal) X) 3 d b := by
  refine Eq.trans ?_ (pad_lo (View.readAt (Elt Ideal) u (Rect.unit (s := S512x256) ![192, 0] S64x256.size inb_S512x256_S64x256_192_0).toLoadRect X) (u.read (Elt Ideal) X) 3 (by decide) (fun e b => ld_head u X 192 (by decide) _ e b) d b)
  pointwise [k0_pay77]

theorem op4 (d : Fin 128) (b : Fin 256) :
    k0_pay79 (F := Ideal) (View.readAt (Elt Ideal) u (Rect.unit (s := S512x256) ![256, 0] S64x256.size inb_S512x256_S64x256_256_0).toLoadRect X) (ix3 0 d b) = padAt (u.read (Elt Ideal) X) 4 d b := by
  refine Eq.trans ?_ (pad_hi (View.readAt (Elt Ideal) u (Rect.unit (s := S512x256) ![256, 0] S64x256.size inb_S512x256_S64x256_256_0).toLoadRect X) (u.read (Elt Ideal) X) 4 (by decide) (fun e b => ld_head u X 256 (by decide) _ e b) d b)
  pointwise [k0_pay79]

theorem op5 (d : Fin 128) (b : Fin 256) :
    k0_pay81 (F := Ideal) (View.readAt (Elt Ideal) u (Rect.unit (s := S512x256) ![320, 0] S64x256.size inb_S512x256_S64x256_320_0).toLoadRect X) (ix3 0 d b) = padAt (u.read (Elt Ideal) X) 5 d b := by
  refine Eq.trans ?_ (pad_hi (View.readAt (Elt Ideal) u (Rect.unit (s := S512x256) ![320, 0] S64x256.size inb_S512x256_S64x256_320_0).toLoadRect X) (u.read (Elt Ideal) X) 5 (by decide) (fun e b => ld_head u X 320 (by decide) _ e b) d b)
  pointwise [k0_pay81]

theorem op6 (d : Fin 128) (b : Fin 256) :
    k0_pay84 (F := Ideal) (View.readAt (Elt Ideal) u (Rect.unit (s := S512x256) ![384, 0] S64x256.size inb_S512x256_S64x256_384_0).toLoadRect X) (ix3 0 d b) = padAt (u.read (Elt Ideal) X) 6 d b := by
  refine Eq.trans ?_ (pad_hi (View.readAt (Elt Ideal) u (Rect.unit (s := S512x256) ![384, 0] S64x256.size inb_S512x256_S64x256_384_0).toLoadRect X) (u.read (Elt Ideal) X) 6 (by decide) (fun e b => ld_head u X 384 (by decide) _ e b) d b)
  pointwise [k0_pay84]

theorem op7 (d : Fin 128) (b : Fin 256) :
    k0_pay86 (F := Ideal) (View.readAt (Elt Ideal) u (Rect.unit (s := S512x256) ![448, 0] S64x256.size inb_S512x256_S64x256_448_0).toLoadRect X) (ix3 0 d b) = padAt (u.read (Elt Ideal) X) 7 d b := by
  refine Eq.trans ?_ (pad_hi (View.readAt (Elt Ideal) u (Rect.unit (s := S512x256) ![448, 0] S64x256.size inb_S512x256_S64x256_448_0).toLoadRect X) (u.read (Elt Ideal) X) 7 (by decide) (fun e b => ld_head u X 448 (by decide) _ e b) d b)
  pointwise [k0_pay86]

theorem op_read :
    v.read (Elt Ideal) (v.writes (Elt Ideal) f
      [⟨Rect.unit (s := S8x128x256) ![7, 0, 0] S1x128x256.size inb_S8x128x256_S1x128x256_7_0_0, k0_pay86 (View.readAt (Elt Ideal) u (Rect.unit (s := S512x256) ![448, 0] S64x256.size inb_S512x256_S64x256_448_0).toLoadRect X)⟩,
        ⟨Rect.unit (s := S8x128x256) ![6, 0, 0] S1x128x256.size inb_S8x128x256_S1x128x256_6_0_0, k0_pay84 (View.readAt (Elt Ideal) u (Rect.unit (s := S512x256) ![384, 0] S64x256.size inb_S512x256_S64x256_384_0).toLoadRect X)⟩,
        ⟨Rect.unit (s := S8x128x256) ![5, 0, 0] S1x128x256.size inb_S8x128x256_S1x128x256_5_0_0, k0_pay81 (View.readAt (Elt Ideal) u (Rect.unit (s := S512x256) ![320, 0] S64x256.size inb_S512x256_S64x256_320_0).toLoadRect X)⟩,
        ⟨Rect.unit (s := S8x128x256) ![4, 0, 0] S1x128x256.size inb_S8x128x256_S1x128x256_4_0_0, k0_pay79 (View.readAt (Elt Ideal) u (Rect.unit (s := S512x256) ![256, 0] S64x256.size inb_S512x256_S64x256_256_0).toLoadRect X)⟩,
        ⟨Rect.unit (s := S8x128x256) ![3, 0, 0] S1x128x256.size inb_S8x128x256_S1x128x256_3_0_0, k0_pay77 (View.readAt (Elt Ideal) u (Rect.unit (s := S512x256) ![192, 0] S64x256.size inb_S512x256_S64x256_192_0).toLoadRect X)⟩,
        ⟨Rect.unit (s := S8x128x256) ![2, 0, 0] S1x128x256.size inb_S8x128x256_S1x128x256_2_0_0, k0_pay75 (View.readAt (Elt Ideal) u (Rect.unit (s := S512x256) ![128, 0] S64x256.size inb_S512x256_S64x256_128_0).toLoadRect X)⟩,
        ⟨Rect.unit (s := S8x128x256) ![1, 0, 0] S1x128x256.size inb_S8x128x256_S1x128x256_1_0_0, k0_pay73 (k0_pay72 (View.readAt (Elt Ideal) u (Rect.unit (s := S512x256) ![64, 0] S64x256.size inb_S512x256_S64x256_64_0).toLoadRect X))⟩,
        ⟨Rect.unit (s := S8x128x256) ![0, 0, 0] S1x128x256.size inb_S8x128x256_S1x128x256_0_0_0, k0_pay70 (View.readAt (Elt Ideal) u (Rect.unit (s := S512x256) ![0, 0] S64x256.size inb_S512x256_S64x256_0_0).toLoadRect X)⟩]) = fun y => padAt (u.read (Elt Ideal) X) (y 0) (y 1) (y 2) := by
  funext y
  obtain ⟨h, d, b, rfl⟩ : ∃ (h : Fin 8) (d : Fin 128) (b : Fin 256), y = ix3 h d b :=
    ⟨y 0, y 1, y 2, funext (Fin.forall_fin_succ.mpr ⟨rfl, Fin.forall_fin_two.mpr ⟨rfl, rfl⟩⟩)⟩
  fin_cases h
  · exact (slabs_read0 v f _ _ _ _ _ _ _ _ d b).trans (op0 u X d b)
  · exact (slabs_read1 v f _ _ _ _ _ _ _ _ d b).trans (op1 u X d b)
  · exact (slabs_read2 v f _ _ _ _ _ _ _ _ d b).trans (op2 u X d b)
  · exact (slabs_read3 v f _ _ _ _ _ _ _ _ d b).trans (op3 u X d b)
  · exact (slabs_read4 v f _ _ _ _ _ _ _ _ d b).trans (op4 u X d b)
  · exact (slabs_read5 v f _ _ _ _ _ _ _ _ d b).trans (op5 u X d b)
  · exact (slabs_read6 v f _ _ _ _ _ _ _ _ d b).trans (op6 u X d b)
  · exact (slabs_read7 v f _ _ _ _ _ _ _ _ d b).trans (op7 u X d b)

end Pads

/-- The eight heads' own halves, one below the other. -/
theorem heads_at (f : Fin 8 → Fin 128 → Fin 256 → EReal) (x0 x1 x2 x3 x4 x5 x6 x7 : FVec Ideal S1x128x256 .f32)
    (h0 : ∀ d b, x0 (ix3 0 d b) = f 0 d b)
    (h1 : ∀ d b, x1 (ix3 0 d b) = f 1 d b)
    (h2 : ∀ d b, x2 (ix3 0 d b) = f 2 d b)
    (h3 : ∀ d b, x3 (ix3 0 d b) = f 3 d b)
    (h4 : ∀ d b, x4 (ix3 0 d b) = f 4 d b)
    (h5 : ∀ d b, x5 (ix3 0 d b) = f 5 d b)
    (h6 : ∀ d b, x6 (ix3 0 d b) = f 6 d b)
    (h7 : ∀ d b, x7 (ix3 0 d b) = f 7 d b)
    (d : Fin 512) (b : Fin 256) :
    k0_pay92 (F := Ideal) x0 x1 x2 x3 x4 x5 x6 x7 (ix2 d b)
      = f ⟨d.val / 64, by omega⟩ ⟨64 * (d.val / 64 / 4) + d.val % 64, by omega⟩ b := by
  pointwise [k0_pay92, h0, h1, h2, h3, h4, h5, h6, h7]
  split_ifs <;> exact congrArg₂ (fun h e => f h e b) (Fin.ext (by simp only []; omega)) (Fin.ext (by simp only []; omega))

end Cert.AttnIdeal.Value
-- ==== Proof.Attn.After.lean ====
module

public import Idealize.ShloMosaic.Lib.VecWindow
public import proofs.«01_k».proof.Proof.Attn.Pad

@[expose] public section

/-! What the key loop leaves in each buffer, read through any view of it. -/

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (𝒱 : Variants) (c : Dev nD) (bd : Option 𝒱.V) (i : grid0.Coords)
  (a1 : Memref sig .tc .vmem S512x256 .bf16) (h1 : a1.IsWhole)
  (a2 : Memref sig .tc .vmem S512x256 .bf16) (h2 : a2.IsWhole)
  (a3 : Memref sig .tc .vmem S4096x128 .bf16) (h3 : a3.IsWhole)
  (a4 : Memref sig .tc .vmem S128x4096 .bf16) (h4 : a4.IsWhole)
  (a5 : Memref sig .tc .vmem S4096x128 .bf16) (h5 : a5.IsWhole)
  (a6 : Memref sig .tc .vmem S8x256 .f32) (h6 : a6.IsWhole)
  (a7 : Memref sig .tc .vmem S8x256 .f32) (h7 : a7.IsWhole)
  (a8 : Memref sig .tc .vmem S512x256 .f32) (h8 : a8.IsWhole)
  (a9 : Memref sig .tc .vmem S4096x128 .f32) (h9 : a9.IsWhole)
  (a10 : Memref sig .tc .vmem S4096x128 .f32) (h10 : a10.IsWhole)
  (a11 : Memref sig .tc .vmem S8x128x256 .bf16) (h11 : a11.IsWhole)
  (a12 : Memref sig .tc .vmem S8x128x256 .bf16) (h12 : a12.IsWhole)
  (a13 : Memref sig .tc .vmem S8x128x256 .f32) (h13 : a13.IsWhole)
  (X3 : BufTy.Contents (Elt Ideal) a3.view.ty)
  (X4 : BufTy.Contents (Elt Ideal) a4.view.ty)
  (X5 : BufTy.Contents (Elt Ideal) a5.view.ty)
  (X6 : BufTy.Contents (Elt Ideal) a6.view.ty)
  (X7 : BufTy.Contents (Elt Ideal) a7.view.ty)
  (X11 : BufTy.Contents (Elt Ideal) a11.view.ty)
  (X12 : BufTy.Contents (Elt Ideal) a12.view.ty)
  (f9 : BufTy.Contents (Elt Ideal) a9.view.ty) (f10 : BufTy.Contents (Elt Ideal) a10.view.ty)
  (f13 : BufTy.Contents (Elt Ideal) a13.view.ty) (O : View sig .tc .vmem S4096x128 .f32)

theorem z67 (y : S4096x128.Idx) : k0_pay67 (F := Ideal) y = (0 : EReal) := by pointwise [k0_pay67]

theorem z68 (y : S4096x128.Idx) : k0_pay68 (F := Ideal) y = (0 : EReal) := by pointwise [k0_pay68]

theorem z87 (y : S8x128x256.Idx) : k0_pay87 (F := Ideal) y = (0 : EReal) := by pointwise [k0_pay87]

theorem dk_single (k : Fin k0_t1_loop.trips) :
    ∃ w : S512x128.Idx → Elt Ideal .f32, (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).1
      = [⟨Rect.unit (s := S4096x128) (k0_off1 k) S512x128.size (k0_off1_inb k), w⟩] := by
  unfold tripL_k0_t1 trip_k0_t1
  exact ⟨_, rfl⟩

theorem dk_cover (n : ℕ) (hn : n ≤ k0_t1_loop.trips) (r : Fin 4096) (d : Fin 128) (hr : r.val / 512 < n) :
    ∃ p ∈ (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).1, ix2 r d ∈ p.1.set := by
  induction n with
  | zero => exact absurd hr (Nat.not_lt_zero _)
  | succ n ih =>
    rw [pb_k0_t1_succ 𝒱 c bd i a1 h1 a2 h2 a3 h3 a4 h4 a5 h5 a6 h6 a7 h7 a8 h8 a9 h9 a10 h10 a11 h11 a12 h12 a13 h13 X3 X4 X5 X6 X7 X11 X12 f9 f10 f13 ⟨n, hn⟩]
    by_cases hlt : r.val / 512 < n
    · obtain ⟨p, hp, hy⟩ := ih (Nat.le_of_succ_le hn) hlt
      exact ⟨p, List.mem_append_right _ hp, hy⟩
    · obtain ⟨w, hw⟩ := dk_single 𝒱 c bd i a1 h1 a2 h2 a3 h3 a4 h4 a5 h5 a6 h6 a7 h7 a8 h8 a9 h9 a10 h10 a11 h11 a12 h12 a13 h13 X3 X4 X5 X6 X7 X11 X12
        (a9.view.writes (Elt Ideal) f9 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).1) (a10.view.writes (Elt Ideal) f10 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).2.1)
        (a13.view.writes (Elt Ideal) f13 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).2.2) ⟨n, hn⟩
      refine ⟨⟨Rect.unit (s := S4096x128) (k0_off1 ⟨n, hn⟩) S512x128.size (k0_off1_inb _), w⟩,
        List.mem_append_left _ (by rw [hw]; exact List.mem_singleton_self _), ?_⟩
      refine (Rect.mem_set_unit (inb := k0_off1_inb ⟨n, hn⟩)).mpr ?_
      refine Fin.forall_fin_two.mpr ⟨?_, ?_⟩
      · rw [congrFun (off1_eq ⟨n, hn⟩) 0]
        show 512 * n ≤ r.val ∧ r.val < 512 * n + 512
        omega
      · rw [congrFun (off1_eq ⟨n, hn⟩) 1]
        show 0 ≤ d.val ∧ d.val < 0 + 128
        omega

theorem dk_first (r : Fin 4096) (d : Fin 128) :
    O.read (Elt Ideal) (O.writes (Elt Ideal) O.junk ((pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 (a9.view.writes (Elt Ideal) a9.view.junk [⟨Rect.unit (s := S4096x128) ![0, 0] S4096x128.size inb_S4096x128_S4096x128_0_0, k0_pay67 (F := Ideal)⟩]) f10 f13 k0_t1_loop.trips).1 ++ [⟨Rect.unit (s := S4096x128) ![0, 0] S4096x128.size inb_S4096x128_S4096x128_0_0, k0_pay67 (F := Ideal)⟩])) (ix2 r d)
      = (0 : EReal) + dkRow (a3.view.read (Elt Ideal) X3) (a5.view.read (Elt Ideal) X5) (a6.view.read (Elt Ideal) X6) (a7.view.read (Elt Ideal) X7) (a11.view.read (Elt Ideal) X11) (a12.view.read (Elt Ideal) X12) r d := by
  rw [View.read_writes_junk_apply_eq_canon, ← View.read_writes_junk_apply_eq_canon a9.view, View.writes_append, dk_after,
    View.read_writes_full, z67]

theorem dk_next (r : Fin 4096) (d : Fin 128) :
    O.read (Elt Ideal) (O.writes (Elt Ideal) O.junk (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 k0_t1_loop.trips).1) (ix2 r d)
      = a9.view.read (Elt Ideal) f9 (ix2 r d) + dkRow (a3.view.read (Elt Ideal) X3) (a5.view.read (Elt Ideal) X5) (a6.view.read (Elt Ideal) X6) (a7.view.read (Elt Ideal) X7) (a11.view.read (Elt Ideal) X11) (a12.view.read (Elt Ideal) X12) r d := by
  rw [← dk_after 𝒱 c bd i a1 h1 a2 h2 a3 h3 a4 h4 a5 h5 a6 h6 a7 h7 a8 h8 a9 h9 a10 h10 a11 h11 a12 h12 a13 h13 X3 X4 X5 X6 X7 X11 X12 f9 f10 f13]
  have hc := dk_cover 𝒱 c bd i a1 h1 a2 h2 a3 h3 a4 h4 a5 h5 a6 h6 a7 h7 a8 h8 a9 h9 a10 h10 a11 h11 a12 h12 a13 h13 X3 X4 X5 X6 X7 X11 X12 f9 f10 f13 k0_t1_loop.trips le_rfl r d
    (Nat.lt_of_lt_of_eq (by have := r.isLt; omega) trips_eq.symm)
  rw [View.read_writes_apply_eq_canon O _ _ _ hc, View.read_writes_apply_eq_canon a9.view _ _ _ hc]

theorem dv_single (k : Fin k0_t1_loop.trips) :
    ∃ w : S512x128.Idx → Elt Ideal .f32, (tripL_k0_t1 (F := Ideal) 𝒱 c bd i a1 h1 a2 h2 a3 h3 a4 h4 a5 h5 a6 h6 a7 h7 a8 h8 a9 h9 a10 h10 a11 h11 a12 h12 a13 h13 X3 X4 X5 X6 X7 X11 X12 k f9 f10 f13).2.1
      = [⟨Rect.unit (s := S4096x128) (k0_off1 k) S512x128.size (k0_off1_inb k), w⟩] := by
  unfold tripL_k0_t1 trip_k0_t1
  exact ⟨_, rfl⟩

theorem dv_cover (n : ℕ) (hn : n ≤ k0_t1_loop.trips) (r : Fin 4096) (d : Fin 128) (hr : r.val / 512 < n) :
    ∃ p ∈ (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).2.1, ix2 r d ∈ p.1.set := by
  induction n with
  | zero => exact absurd hr (Nat.not_lt_zero _)
  | succ n ih =>
    rw [pb_k0_t1_succ 𝒱 c bd i a1 h1 a2 h2 a3 h3 a4 h4 a5 h5 a6 h6 a7 h7 a8 h8 a9 h9 a10 h10 a11 h11 a12 h12 a13 h13 X3 X4 X5 X6 X7 X11 X12 f9 f10 f13 ⟨n, hn⟩]
    by_cases hlt : r.val / 512 < n
    · obtain ⟨p, hp, hy⟩ := ih (Nat.le_of_succ_le hn) hlt
      exact ⟨p, List.mem_append_right _ hp, hy⟩
    · obtain ⟨w, hw⟩ := dv_single 𝒱 c bd i a1 h1 a2 h2 a3 h3 a4 h4 a5 h5 a6 h6 a7 h7 a8 h8 a9 h9 a10 h10 a11 h11 a12 h12 a13 h13 X3 X4 X5 X6 X7 X11 X12
        (a9.view.writes (Elt Ideal) f9 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).1) (a10.view.writes (Elt Ideal) f10 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).2.1)
        (a13.view.writes (Elt Ideal) f13 (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 n).2.2) ⟨n, hn⟩
      refine ⟨⟨Rect.unit (s := S4096x128) (k0_off1 ⟨n, hn⟩) S512x128.size (k0_off1_inb _), w⟩,
        List.mem_append_left _ (by rw [hw]; exact List.mem_singleton_self _), ?_⟩
      refine (Rect.mem_set_unit (inb := k0_off1_inb ⟨n, hn⟩)).mpr ?_
      refine Fin.forall_fin_two.mpr ⟨?_, ?_⟩
      · rw [congrFun (off1_eq ⟨n, hn⟩) 0]
        show 512 * n ≤ r.val ∧ r.val < 512 * n + 512
        omega
      · rw [congrFun (off1_eq ⟨n, hn⟩) 1]
        show 0 ≤ d.val ∧ d.val < 0 + 128
        omega

theorem dv_first (r : Fin 4096) (d : Fin 128) :
    O.read (Elt Ideal) (O.writes (Elt Ideal) O.junk ((pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 (a10.view.writes (Elt Ideal) a10.view.junk [⟨Rect.unit (s := S4096x128) ![0, 0] S4096x128.size inb_S4096x128_S4096x128_0_0, k0_pay68 (F := Ideal)⟩]) f13 k0_t1_loop.trips).2.1 ++ [⟨Rect.unit (s := S4096x128) ![0, 0] S4096x128.size inb_S4096x128_S4096x128_0_0, k0_pay68 (F := Ideal)⟩])) (ix2 r d)
      = (0 : EReal) + dvRow (a3.view.read (Elt Ideal) X3) (a6.view.read (Elt Ideal) X6) (a11.view.read (Elt Ideal) X11) (a12.view.read (Elt Ideal) X12) r d := by
  rw [View.read_writes_junk_apply_eq_canon, ← View.read_writes_junk_apply_eq_canon a10.view, View.writes_append, dv_after,
    View.read_writes_full, z68]

theorem dv_next (r : Fin 4096) (d : Fin 128) :
    O.read (Elt Ideal) (O.writes (Elt Ideal) O.junk (pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 f13 k0_t1_loop.trips).2.1) (ix2 r d)
      = a10.view.read (Elt Ideal) f10 (ix2 r d) + dvRow (a3.view.read (Elt Ideal) X3) (a6.view.read (Elt Ideal) X6) (a11.view.read (Elt Ideal) X11) (a12.view.read (Elt Ideal) X12) r d := by
  rw [← dv_after 𝒱 c bd i a1 h1 a2 h2 a3 h3 a4 h4 a5 h5 a6 h6 a7 h7 a8 h8 a9 h9 a10 h10 a11 h11 a12 h12 a13 h13 X3 X4 X5 X6 X7 X11 X12 f9 f10 f13]
  have hc := dv_cover 𝒱 c bd i a1 h1 a2 h2 a3 h3 a4 h4 a5 h5 a6 h6 a7 h7 a8 h8 a9 h9 a10 h10 a11 h11 a12 h12 a13 h13 X3 X4 X5 X6 X7 X11 X12 f9 f10 f13 k0_t1_loop.trips le_rfl r d
    (Nat.lt_of_lt_of_eq (by have := r.isLt; omega) trips_eq.symm)
  rw [View.read_writes_apply_eq_canon O _ _ _ hc, View.read_writes_apply_eq_canon a10.view _ _ _ hc]

theorem dq_load (h : ℕ) (g : Fin 8) (hg : g.val = h)
    (inb : ∀ a, (![h, 0, 0] : Fin 3 → ℕ) a + (![1, 128, 256] : Fin 3 → ℕ) a ≤ S8x128x256.size a) (d : Fin 128) (b : Fin 256) :
    a13.view.readCov ((pb_k0_t1 (F := Ideal) 𝒱 c bd i a1 h1 a2 h2 a3 h3 a4 h4 a5 h5 a6 h6 a7 h7 a8 h8 a9 h9 a10 h10 a11 h11 a12 h12 a13 h13 X3 X4 X5 X6 X7 X11 X12 f9 f10 (a13.view.writes (Elt Ideal) a13.view.junk [⟨Rect.unit (s := S8x128x256) ![0, 0, 0] S8x128x256.size inb_S8x128x256_S8x128x256_0_0_0, k0_pay87 (F := Ideal)⟩]) k0_t1_loop.trips).2.2 ++ [⟨Rect.unit (s := S8x128x256) ![0, 0, 0] S8x128x256.size inb_S8x128x256_S8x128x256_0_0_0, k0_pay87 (F := Ideal)⟩])
        (Rect.unit (s := S8x128x256) ![h, 0, 0] ![1, 128, 256] inb).toLoadRect (ix3 0 d b)
      = dqCol (a4.view.read (Elt Ideal) X4) (a3.view.read (Elt Ideal) X3) (a5.view.read (Elt Ideal) X5) (a6.view.read (Elt Ideal) X6) (a7.view.read (Elt Ideal) X7) (a11.view.read (Elt Ideal) X11) (a12.view.read (Elt Ideal) X12) g d b := by
  refine (ld_slab a13.view (a13.view.writes (Elt Ideal) a13.view.junk _) h g hg inb 0 d b).trans ?_
  rw [View.writes_append, dq_after, View.read_writes_full, z87, zero_add]

end Cert.AttnIdeal.Value
-- ==== Proof.Attn.Step.lean ====
module

public import proofs.«01_k».proof.Proof.Attn.After

@[expose] public section

/-! What one grid point leaves in each output block, in terms of its input blocks. -/

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The queries of one point, one zero padded slab per head. -/
def QP (t : Fin cfg0.N) : FVec Ideal S8x128x256 .bf16 := fun y => padAt (iblk m c 0 t) (y 0) (y 1) (y 2)

/-- The output gradients of one point, one zero padded slab per head. -/
def OP (t : Fin cfg0.N) : FVec Ideal S8x128x256 .bf16 := fun y => padAt (iblk m c 1 t) (y 0) (y 1) (y 2)

def dkAt (t : Fin cfg0.N) (r : Fin 4096) (d : Fin 128) : EReal :=
  dkRow (iblk m c 2 t) (iblk m c 4 t) (iblk m c 5 t) (iblk m c 6 t) (QP m c t) (OP m c t) r d

def dvAt (t : Fin cfg0.N) (r : Fin 4096) (d : Fin 128) : EReal :=
  dvRow (iblk m c 2 t) (iblk m c 5 t) (QP m c t) (OP m c t) r d

def dqAt (t : Fin cfg0.N) (h : Fin 8) (d : Fin 128) (b : Fin 256) : EReal :=
  dqCol (iblk m c 3 t) (iblk m c 2 t) (iblk m c 4 t) (iblk m c 5 t) (iblk m c 6 t) (QP m c t) (OP m c t) h d b

theorem dkA (t : Fin cfg0.N) (h0 : t.val % 16 = 0) (r : Fin 4096) (d : Fin 128) :
    (outsAt0 m c t.val t.isLt).2.1 (ix2 r d) = (0 : EReal) + dkAt m c t r d := by
  rw [outsAt0_A m c t h0]; frame_open
  refine (dk_first _ _ _ _ _ _ _ _ _ _ _ _ _ _ _ _ _ _ _ _ _ _ _ _ _ _ _ _ _ _ _ _ _ _ _ _ _ _ _ VO0_8 r d).trans ?_
  rw [qp_read, op_read]
  simp only [Memref.IsWhole.read_unread]
  rfl

theorem dkB (t : Fin cfg0.N) (h0 : ¬t.val % 16 = 0) (r : Fin 4096) (d : Fin 128) :
    (outsAt0 m c t.val t.isLt).2.1 (ix2 r d) = (outsAt0 m c (t.val - 1) (Nat.lt_of_le_of_lt (Nat.sub_le _ _) t.isLt)).2.1 (ix2 r d) + dkAt m c t r d := by
  rw [outsAt0_B m c t h0]; frame_open
  refine (dk_next _ _ _ _ _ _ _ _ _ _ _ _ _ _ _ _ _ _ _ _ _ _ _ _ _ _ _ _ _ _ _ _ _ _ _ _ _ _ _ _ VO0_8 r d).trans ?_
  rw [qp_read, op_read]
  simp only [Memref.IsWhole.read_unread]
  rfl

theorem dvA (t : Fin cfg0.N) (h0 : t.val % 16 = 0) (r : Fin 4096) (d : Fin 128) :
    (outsAt0 m c t.val t.isLt).2.2 (ix2 r d) = (0 : EReal) + dvAt m c t r d := by
  rw [outsAt0_A m c t h0]; frame_open
  refine (dv_first _ _ _ _ _ _ _ _ _ _ _ _ _ _ _ _ _ _ _ _ _ _ _ _ _ _ _ _ _ _ _ _ _ _ _ _ _ _ _ VO0_9 r d).trans ?_
  rw [qp_read, op_read]
  simp only [Memref.IsWhole.read_unread]
  rfl

theorem dvB (t : Fin cfg0.N) (h0 : ¬t.val % 16 = 0) (r : Fin 4096) (d : Fin 128) :
    (outsAt0 m c t.val t.isLt).2.2 (ix2 r d) = (outsAt0 m c (t.val - 1) (Nat.lt_of_le_of_lt (Nat.sub_le _ _) t.isLt)).2.2 (ix2 r d) + dvAt m c t r d := by
  rw [outsAt0_B m c t h0]; frame_open
  refine (dv_next _ _ _ _ _ _ _ _ _ _ _ _ _ _ _ _ _ _ _ _ _ _ _ _ _ _ _ _ _ _ _ _ _ _ _ _ _ _ _ _ VO0_9 r d).trans ?_
  rw [qp_read, op_read]
  simp only [Memref.IsWhole.read_unread]
  rfl

theorem dqA (t : Fin cfg0.N) (h0 : t.val % 16 = 0) (d : Fin 512) (b : Fin 256) :
    (outsAt0 m c t.val t.isLt).1 (ix2 d b)
      = dqAt m c t ⟨d.val / 64, by omega⟩ ⟨64 * (d.val / 64 / 4) + d.val % 64, by omega⟩ b := by
  rw [outsAt0_A m c t h0]; frame_open
  show View.read (Elt Ideal) VO0_7 _ (ix2 d b) = _
  rw [View.read_writes_full]
  refine (heads_at _ _ _ _ _ _ _ _ _
    (fun d b => dq_load _ _ _ _ _ _ _ _ _ _ _ _ _ _ _ _ _ _ _ _ _ _ _ _ _ _ _ _ _ _ _ _ _ _ _ _ _ _ _ 0 0 rfl _ d b)
    (fun d b => dq_load _ _ _ _ _ _ _ _ _ _ _ _ _ _ _ _ _ _ _ _ _ _ _ _ _ _ _ _ _ _ _ _ _ _ _ _ _ _ _ 1 1 rfl _ d b)
    (fun d b => dq_load _ _ _ _ _ _ _ _ _ _ _ _ _ _ _ _ _ _ _ _ _ _ _ _ _ _ _ _ _ _ _ _ _ _ _ _ _ _ _ 2 2 rfl _ d b)
    (fun d b => dq_load _ _ _ _ _ _ _ _ _ _ _ _ _ _ _ _ _ _ _ _ _ _ _ _ _ _ _ _ _ _ _ _ _ _ _ _ _ _ _ 3 3 rfl _ d b)
    (fun d b => dq_load _ _ _ _ _ _ _ _ _ _ _ _ _ _ _ _ _ _ _ _ _ _ _ _ _ _ _ _ _ _ _ _ _ _ _ _ _ _ _ 4 4 rfl _ d b)
    (fun d b => dq_load _ _ _ _ _ _ _ _ _ _ _ _ _ _ _ _ _ _ _ _ _ _ _ _ _ _ _ _ _ _ _ _ _ _ _ _ _ _ _ 5 5 rfl _ d b)
    (fun d b => dq_load _ _ _ _ _ _ _ _ _ _ _ _ _ _ _ _ _ _ _ _ _ _ _ _ _ _ _ _ _ _ _ _ _ _ _ _ _ _ _ 6 6 rfl _ d b)
    (fun d b => dq_load _ _ _ _ _ _ _ _ _ _ _ _ _ _ _ _ _ _ _ _ _ _ _ _ _ _ _ _ _ _ _ _ _ _ _ _ _ _ _ 7 7 rfl _ d b) d b).trans ?_
  rw [qp_read, op_read]
  simp only [Memref.IsWhole.read_unread]
  rfl

theorem dqB (t : Fin cfg0.N) (h0 : ¬t.val % 16 = 0) (d : Fin 512) (b : Fin 256) :
    (outsAt0 m c t.val t.isLt).1 (ix2 d b)
      = dqAt m c t ⟨d.val / 64, by omega⟩ ⟨64 * (d.val / 64 / 4) + d.val % 64, by omega⟩ b := by
  rw [outsAt0_B m c t h0]; frame_open
  show View.read (Elt Ideal) VO0_7 _ (ix2 d b) = _
  rw [View.read_writes_full]
  refine (heads_at _ _ _ _ _ _ _ _ _
    (fun d b => dq_load _ _ _ _ _ _ _ _ _ _ _ _ _ _ _ _ _ _ _ _ _ _ _ _ _ _ _ _ _ _ _ _ _ _ _ _ _ _ _ 0 0 rfl _ d b)
    (fun d b => dq_load _ _ _ _ _ _ _ _ _ _ _ _ _ _ _ _ _ _ _ _ _ _ _ _ _ _ _ _ _ _ _ _ _ _ _ _ _ _ _ 1 1 rfl _ d b)
    (fun d b => dq_load _ _ _ _ _ _ _ _ _ _ _ _ _ _ _ _ _ _ _ _ _ _ _ _ _ _ _ _ _ _ _ _ _ _ _ _ _ _ _ 2 2 rfl _ d b)
    (fun d b => dq_load _ _ _ _ _ _ _ _ _ _ _ _ _ _ _ _ _ _ _ _ _ _ _ _ _ _ _ _ _ _ _ _ _ _ _ _ _ _ _ 3 3 rfl _ d b)
    (fun d b => dq_load _ _ _ _ _ _ _ _ _ _ _ _ _ _ _ _ _ _ _ _ _ _ _ _ _ _ _ _ _ _ _ _ _ _ _ _ _ _ _ 4 4 rfl _ d b)
    (fun d b => dq_load _ _ _ _ _ _ _ _ _ _ _ _ _ _ _ _ _ _ _ _ _ _ _ _ _ _ _ _ _ _ _ _ _ _ _ _ _ _ _ 5 5 rfl _ d b)
    (fun d b => dq_load _ _ _ _ _ _ _ _ _ _ _ _ _ _ _ _ _ _ _ _ _ _ _ _ _ _ _ _ _ _ _ _ _ _ _ _ _ _ _ 6 6 rfl _ d b)
    (fun d b => dq_load _ _ _ _ _ _ _ _ _ _ _ _ _ _ _ _ _ _ _ _ _ _ _ _ _ _ _ _ _ _ _ _ _ _ _ _ _ _ _ 7 7 rfl _ d b) d b).trans ?_
  rw [qp_read, op_read]
  simp only [Memref.IsWhole.read_unread]
  rfl

end Cert.AttnIdeal.Value
-- ==== Proof.Attn.Tile.lean ====
module

public import proofs.«01_k».proof.Proof.Attn.Entry
public import proofs.«01_k».proof.Proof.Attn.Step

@[expose] public section

/-! What the blocks of one grid point hold, in terms of the arguments. -/

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The windows' block indices: a block of queries per point, and whole arrays of keys and values. -/
theorem idx : ∀ t : Fin cfg0.N, (win0_0.index t = ![0, t.val] ∧ win0_1.index t = ![0, t.val] ∧ win0_2.index t = ![0, 0]
      ∧ win0_3.index t = ![0, 0] ∧ win0_4.index t = ![0, 0])
    ∧ (win0_5.index t = ![0, t.val] ∧ win0_6.index t = ![0, t.val] ∧ win0_7.index t = ![0, t.val] ∧ win0_8.index t = ![0, 0])
    ∧ win0_9.index t = ![0, 0] ∧ t.val < 16 :=
  (by decide +kernel : ∀ t : Fin grid0.N, _)

/-- The query of the arrays that query `b` of point `t`'s blocks is. -/
def qrow (t : Fin cfg0.N) (b : Fin 256) : Fin 4096 := ⟨t.val * 256 + b.val, by have := (idx t).2.2.2; omega⟩

theorem blk_q (t : Fin cfg0.N) (e : Fin 512) (b : Fin 256) :
    (show FVec Ideal S512x256 .bf16 from iblk m c 0 t) (ix2 e b)
      = aQ m c (ix3 (qrow t b) ⟨e.val / 64, by omega⟩ ⟨e.val % 64, by omega⟩) * Ideal.div scale ln2 := by
  blk_simp [iblk]
  refine Eq.trans (b := V m c main_v33 (ix2 e (qrow t b))) ?_ (entry_qt m c e (qrow t b))
  unfold qrow; blk_ext [idx t]

theorem blk_do (t : Fin cfg0.N) (e : Fin 512) (b : Fin 256) :
    (show FVec Ideal S512x256 .bf16 from iblk m c 1 t) (ix2 e b) = aDo m c (ix2 (qrow t b) e) * ln2 := by
  blk_simp [iblk]
  refine Eq.trans (b := V m c main_v36 (ix2 e (qrow t b))) ?_ (entry_dot m c e (qrow t b))
  unfold qrow; blk_ext [idx t]

theorem blk_k (t : Fin cfg0.N) (s : Fin 4096) (e : Fin 128) :
    (show FVec Ideal S4096x128 .bf16 from iblk m c 2 t) (ix2 s e) = aK m c (ix3 s ⟨e.val / 64, by omega⟩ ⟨e.val % 64, by omega⟩) := by
  blk_simp [iblk]
  refine Eq.trans (b := V m c main_v37 (ix2 s e)) ?_ (entry_kr m c e s)
  blk_ext [idx t]

theorem blk_kt (t : Fin cfg0.N) (s : Fin 4096) (e : Fin 128) :
    (show FVec Ideal S128x4096 .bf16 from iblk m c 3 t) (ix2 e s) = aK m c (ix3 s ⟨e.val / 64, by omega⟩ ⟨e.val % 64, by omega⟩) := by
  blk_simp [iblk]
  refine Eq.trans (b := V m c main_v39 (ix2 e s)) ?_ (entry_krt m c e s)
  blk_ext [idx t]

theorem blk_v (t : Fin cfg0.N) (s : Fin 4096) (e : Fin 128) :
    (show FVec Ideal S4096x128 .bf16 from iblk m c 4 t) (ix2 s e) = aV m c (ix3 s ⟨e.val / 64, by omega⟩ ⟨e.val % 64, by omega⟩) := by
  blk_simp [iblk]
  refine Eq.trans (b := V m c main_v41 (ix2 s e)) ?_ (entry_vr m c e s)
  blk_ext [idx t]

theorem blk_lse (t : Fin cfg0.N) (n : Fin 2) (g : Fin 4) (b : Fin 256) :
    (show FVec Ideal S8x256 .f32 from iblk m c 5 t) (ix2 (hd n g) b)
      = Ideal.div (mxAt m c n g (qrow t b) + Ideal.log (smAt m c n g (qrow t b))) ln2 := by
  blk_simp [iblk]
  refine Eq.trans (b := h20 m c (ix2 (hd n g) (qrow t b))) ?_ (entry_lse m c n g (qrow t b))
  unfold h20 qrow; blk_ext [idx t]

theorem blk_delta (t : Fin cfg0.N) (n : Fin 2) (g : Fin 4) (b : Fin 256) :
    (show FVec Ideal S8x256 .f32 from iblk m c 6 t) (ix2 (hd n g) b)
      = ∑ d : Fin 64, aDo m c (ix2 (qrow t b) (col n g d)) * ln2 * oAt m c n g (qrow t b) d := by
  blk_simp [iblk]
  refine Eq.trans (b := h27 m c (ix2 (hd n g) (qrow t b))) ?_ (entry_delta m c n g (qrow t b))
  unfold h27 qrow; blk_ext [idx t]

end Cert.AttnIdeal.Value
-- ==== Proof.Attn.Math.lean ====
module

public import Idealize.ShloMosaic.Lib.Pipeline.ValueKit
public import Idealize.ShloMosaic.Lib.IdealHost

@[expose] public section

/-! Softmax attention and its derivative over the reals, and the extended reals that hold them. -/

noncomputable section

namespace Attn

open Idealize.ShloMosaic

/-- A finite sum of reals, read as an extended real. -/
theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- The greatest of finitely many reals is a real. -/
theorem fold_max_real {ι : Type} (s : Finset ι) (hs : s.Nonempty) (f : ι → ℝ) :
    ∃ M : ℝ, s.fold max ⊥ (fun i => (f i : EReal)) = (M : EReal) := by
  induction hs using Finset.Nonempty.cons_induction with
  | singleton a => exact ⟨f a, by rw [Finset.fold_singleton, max_bot_right]⟩
  | cons a s ha hs ih =>
    obtain ⟨M, h⟩ := ih
    exact ⟨max (f a) M, by rw [Finset.fold_cons, h]; exact (EReal.coe_strictMono.monotone.map_max).symm⟩

theorem two_eq : Ideal.ofBits .f32 0x40000000#32 = ((2 : ℝ) : EReal) := by
  simp [Ideal.ofBits, Ideal.ieee, -EReal.coe_mul]; norm_num

theorem eighth_eq : Ideal.ofBits .f32 0x3E000000#32 = ((1 / 8 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]
  norm_num

theorem bot_eq : Ideal.ofBits .f32 0xFF800000#32 = ⊥ := by
  simp [Ideal.ofBits, Ideal.ieee]

/-- The logarithm of two. -/
def ln2R : ℝ := Real.log 2

theorem ln2R_pos : 0 < ln2R := Real.log_pos one_lt_two

theorem ln2_eq : Ideal.log (Ideal.ofBits .f32 0x40000000#32) = (ln2R : EReal) := by
  rw [two_eq, Ideal.log_coe, if_neg (by norm_num)]; rfl

theorem div_real (x y : ℝ) (hy : y ≠ 0) : Ideal.div (x : EReal) (y : EReal) = ((x / y : ℝ) : EReal) := by
  rw [Ideal.div_coe hy, ← EReal.coe_mul]; congr 1; ring

/-- A sum over the lanes of two heads against a row that is zero in the other head's lanes. -/
theorem pad_sum (n : Fin 2) (f : Fin 128 → EReal) (x : Fin 64 → EReal) (y : Fin 128 → EReal)
    (hy : ∀ d : Fin 128, y d = if d.val / 64 = n.val then x ⟨d.val % 64, by omega⟩ else 0) :
    ∑ d : Fin 128, f d * y d = ∑ e : Fin 64, f ⟨n.val * 64 + e.val, by omega⟩ * x e := by
  rw [← Fin.sum_mul_add_fin 2 64 (fun d : Fin 128 => f d * y d) rfl, Finset.sum_eq_single n]
  · refine Finset.sum_congr rfl fun e _ => ?_
    rw [hy, if_pos (by simp only []; omega)]
    exact congrArg (fun z => _ * x z) (Fin.ext (by simp only []; omega))
  · intro n' _ hn
    refine Finset.sum_eq_zero fun e _ => ?_
    rw [hy, if_neg (fun h => hn (Fin.ext (by simp only [] at h; omega))), mul_zero]
  · exact fun h => absurd (Finset.mem_univ n) h

variable (q : Fin 2 → Fin 4 → Fin 4096 → Fin 64 → ℝ) (k v : Fin 2 → Fin 4096 → Fin 64 → ℝ)
  (w : Fin 2 → Fin 4 → Fin 4096 → Fin 64 → ℝ) (n : Fin 2) (g : Fin 4) (i s : Fin 4096) (d : Fin 64)

/-- The scaled score of query `i` of head `(n, g)` and key `s`. -/
def sc : ℝ := (∑ d : Fin 64, q n g i d * k n s d) * (1 / 8)

/-- The sum of the exponentials of a query's scores. -/
def zs : ℝ := ∑ s : Fin 4096, Real.exp (sc q k n g i s)

/-- The attention weight of key `s`. -/
def pr : ℝ := Real.exp (sc q k n g i s) / zs q k n g i

/-- The product of a query's output gradient with the value of key `s`. -/
def dp : ℝ := ∑ d : Fin 64, w n g i d * v n s d

/-- The gradient of a score. -/
def ds : ℝ := pr q k n g i s * (dp v w n g i s - ∑ r : Fin 4096, pr q k n g i r * dp v w n g i r)

/-- The gradients of a query (before the scale), of a key and of a value. -/
def gq : ℝ := ∑ s : Fin 4096, k n s d * ds q k v w n g i s
def gk : ℝ := ∑ g : Fin 4, ∑ i : Fin 4096, ds q k v w n g i s * (q n g i d * (1 / 8))
def gv : ℝ := ∑ g : Fin 4, ∑ i : Fin 4096, pr q k n g i s * w n g i d

theorem zs_pos : 0 < zs q k n g i :=
  Finset.sum_pos (fun s _ => Real.exp_pos _) ⟨0, Finset.mem_univ _⟩

/-- The exponentials of scores less any constant, and their sum. -/
theorem exp_shift (M : ℝ) : Real.exp (sc q k n g i s - M) = Real.exp (sc q k n g i s) * Real.exp (-M) := by
  rw [sub_eq_add_neg, Real.exp_add]

theorem zs_shift (M : ℝ) : ∑ s : Fin 4096, Real.exp (sc q k n g i s - M) = zs q k n g i * Real.exp (-M) := by
  rw [zs, Finset.sum_mul]; exact Finset.sum_congr rfl fun s _ => exp_shift q k n g i s M

theorem pr_shift (M : ℝ) :
    Real.exp (sc q k n g i s - M) / (∑ s : Fin 4096, Real.exp (sc q k n g i s - M)) = pr q k n g i s := by
  rw [zs_shift, exp_shift, pr]
  exact mul_div_mul_right _ _ (Real.exp_ne_zero _)

theorem log_shift (M : ℝ) : M + Real.log (∑ s : Fin 4096, Real.exp (sc q k n g i s - M)) = Real.log (zs q k n g i) := by
  rw [zs_shift, Real.log_mul (zs_pos q k n g i).ne' (Real.exp_ne_zero _), Real.log_exp]; ring

/-- The power of two that the kernel takes is the attention weight. -/
theorem pow_eq : Real.rpow 2 (sc q k n g i s / ln2R - Real.log (zs q k n g i) / ln2R) = pr q k n g i s := by
  refine (Real.rpow_eq_pow _ _).trans ?_
  rw [Real.rpow_def_of_pos two_pos, show Real.log 2 = ln2R from rfl, ← sub_div, mul_div_cancel₀ _ ln2R_pos.ne',
    Real.exp_sub, Real.exp_log (zs_pos q k n g i), pr]

/-- A query's output against its own gradient is the weighted mean of the products. -/
theorem delta_eq : ∑ d : Fin 64, w n g i d * ∑ s : Fin 4096, pr q k n g i s * v n s d
    = ∑ s : Fin 4096, pr q k n g i s * dp v w n g i s := by
  simp only [dp, Finset.mul_sum]
  rw [Finset.sum_comm]
  exact Finset.sum_congr rfl fun s _ => Finset.sum_congr rfl fun d _ => by ring

/-- The derivative of a softmax in the quotient's form. -/
theorem ds_quot (M : ℝ) :
    let e : Fin 4096 → ℝ := fun s => Real.exp (sc q k n g i s - M)
    (dp v w n g i s / (∑ r, e r) + -(∑ r, dp v w n g i r * (1 / ((∑ r, e r) * (∑ r, e r))) * e r)) * e s = ds q k v w n g i s := by
  intro e
  have hp : ∀ r, pr q k n g i r = e r / ∑ r, e r := fun r => (pr_shift q k n g i r M).symm
  have hz : (∑ r, e r) ≠ 0 := (Finset.sum_pos (fun s _ => Real.exp_pos _) ⟨0, Finset.mem_univ _⟩).ne'
  simp only [ds, hp]
  generalize hZ : ∑ r, e r = Z at hz
  have h2 : ∑ r, dp v w n g i r * (1 / (Z * Z)) * e r = (∑ r, e r / Z * dp v w n g i r) * (1 / Z) := by
    rw [Finset.sum_mul]; exact Finset.sum_congr rfl fun r _ => by field_simp
  rw [h2]; field_simp; ring

end Attn
-- ==== Proof.Attn.Real.lean ====
module

public import proofs.«01_k».proof.Proof.Attn.Tile
public import proofs.«01_k».proof.Proof.Attn.Math

@[expose] public section

/-! On real arguments, every value of a grid point is the real number it should be. -/

set_option maxRecDepth 16384

noncomputable section

namespace Cert.AttnIdeal.Value

open Cert.AttnIdeal Cert.AttnIdeal.Gen Attn Idealize.ShloMosaic Idealize.ShloMosaic.TcCoe Idealize.SL.Sem
open Idealize.ShloMosaic.Pipeline (Dat)

variable (m : (ℓ : Loc nD τ sig) → Buf (Elt Ideal) ℓ) (c : Dev nD)
  (q : Fin 2 → Fin 4 → Fin 4096 → Fin 64 → ℝ) (k v : Fin 2 → Fin 4096 → Fin 64 → ℝ)
  (w : Fin 2 → Fin 4 → Fin 4096 → Fin 64 → ℝ)
  (hq : ∀ n g i d, aQ m c (ix3 i (hd n g) d) = (q n g i d : EReal))
  (hk : ∀ n s d, aK m c (ix3 s n d) = (k n s d : EReal))
  (hv : ∀ n s d, aV m c (ix3 s n d) = (v n s d : EReal))
  (hw : ∀ n g i d, aDo m c (ix2 i (col n g d)) = (w n g i d : EReal))

theorem ln2_real : ln2 = (ln2R : EReal) := ln2_eq

theorem qscale_real : Ideal.div scale ln2 = ((1 / 8 / ln2R : ℝ) : EReal) := by
  rw [ln2_real, scale, eighth_eq, div_real _ _ ln2R_pos.ne']

include hq hk

theorem sc_real (n : Fin 2) (g : Fin 4) (i s : Fin 4096) : scAt m c n g i s = (sc q k n g i s : EReal) := by
  unfold scAt scale
  rw [eighth_eq]
  simp only [hq, hk, ← EReal.coe_mul, coe_sum]
  rfl

theorem mx_real (n : Fin 2) (g : Fin 4) (i : Fin 4096) : ∃ M : ℝ, mxAt m c n g i = (M : EReal) := by
  unfold mxAt
  rw [bot_eq]
  simp only [sc_real m c q k hq hk]
  exact fold_max_real _ ⟨0, Finset.mem_univ _⟩ _

theorem ex_real (n : Fin 2) (g : Fin 4) (i : Fin 4096) : ∃ M : ℝ, mxAt m c n g i = (M : EReal)
    ∧ (∀ s, exAt m c n g i s = (Real.exp (sc q k n g i s - M) : EReal))
    ∧ smAt m c n g i = ((∑ s : Fin 4096, Real.exp (sc q k n g i s - M) : ℝ) : EReal) := by
  obtain ⟨M, hM⟩ := mx_real m c q k hq hk n g i
  have he : ∀ s, exAt m c n g i s = (Real.exp (sc q k n g i s - M) : EReal) := fun s => by
    rw [exAt, hM, sc_real m c q k hq hk, ← EReal.coe_sub, Ideal.exp_coe]
  exact ⟨M, hM, he, by unfold smAt; simp only [he, coe_sum]⟩

theorem sum_exp_pos (n : Fin 2) (g : Fin 4) (i : Fin 4096) (M : ℝ) : 0 < ∑ s : Fin 4096, Real.exp (sc q k n g i s - M) :=
  Finset.sum_pos (fun s _ => Real.exp_pos _) ⟨0, Finset.mem_univ _⟩

theorem lse_real (n : Fin 2) (g : Fin 4) (i : Fin 4096) :
    Ideal.div (mxAt m c n g i + Ideal.log (smAt m c n g i)) ln2 = ((Real.log (zs q k n g i) / ln2R : ℝ) : EReal) := by
  obtain ⟨M, hM, _, hs⟩ := ex_real m c q k hq hk n g i
  rw [hM, hs, Ideal.log_coe, if_neg (sum_exp_pos m c q k hq hk n g i M).not_ge, ← EReal.coe_add, log_shift, ln2_real,
    div_real _ _ ln2R_pos.ne']

include hv

theorem o_real (n : Fin 2) (g : Fin 4) (i : Fin 4096) (d : Fin 64) :
    oAt m c n g i d = ((∑ s : Fin 4096, pr q k n g i s * v n s d : ℝ) : EReal) := by
  obtain ⟨M, _, he, hs⟩ := ex_real m c q k hq hk n g i
  unfold oAt
  rw [hs]
  simp only [he, hv, div_real _ _ (sum_exp_pos m c q k hq hk n g i M).ne', ← EReal.coe_mul, coe_sum, pr_shift]

include hw

theorem delta_real (n : Fin 2) (g : Fin 4) (i : Fin 4096) :
    ∑ d : Fin 64, aDo m c (ix2 i (col n g d)) * ln2 * oAt m c n g i d
      = ((ln2R * ∑ s : Fin 4096, pr q k n g i s * dp v w n g i s : ℝ) : EReal) := by
  simp only [o_real m c q k v hq hk hv, hw, ln2_real, ← EReal.coe_mul, coe_sum]
  rw [← delta_eq, Finset.mul_sum]
  exact congrArg _ (Finset.sum_congr rfl fun d _ => by ring)

omit hq hk hv hw

include hq in
theorem QP_real (t : Fin cfg0.N) (n : Fin 2) (g : Fin 4) (b : Fin 256) (d : Fin 128) :
    QP m c t (ix3 (hd n g) d b)
      = if d.val / 64 = n.val then ((q n g (qrow t b) ⟨d.val % 64, by omega⟩ * (1 / 8 / ln2R) : ℝ) : EReal) else 0 := by
  have hn : (n.val * 4 + g.val) / 4 = n.val := by omega
  show (if d.val / 64 = (n.val * 4 + g.val) / 4 then _ else _) = _
  rw [hn]
  refine if_congr Iff.rfl ?_ rfl
  refine (blk_q m c t _ b).trans ?_
  rw [qscale_real, EReal.coe_mul, ← hq]
  refine congrArg₂ (fun x y => aQ m c (ix3 (qrow t b) x y) * _) (Fin.ext ?_) (Fin.ext ?_)
  · show (64 * (n.val * 4 + g.val) + d.val % 64) / 64 = n.val * 4 + g.val
    omega
  · show (64 * (n.val * 4 + g.val) + d.val % 64) % 64 = d.val % 64
    omega

include hw in
theorem OP_real (t : Fin cfg0.N) (n : Fin 2) (g : Fin 4) (b : Fin 256) (d : Fin 128) :
    OP m c t (ix3 (hd n g) d b)
      = if d.val / 64 = n.val then ((w n g (qrow t b) ⟨d.val % 64, by omega⟩ * ln2R : ℝ) : EReal) else 0 := by
  have hn : (n.val * 4 + g.val) / 4 = n.val := by omega
  show (if d.val / 64 = (n.val * 4 + g.val) / 4 then _ else _) = _
  rw [hn]
  refine if_congr Iff.rfl ?_ rfl
  refine (blk_do m c t _ b).trans ?_
  rw [ln2_real, EReal.coe_mul, ← hw]
  refine congrArg (fun x => aDo m c (ix2 (qrow t b) x) * _) (Fin.ext ?_)
  show 64 * (n.val * 4 + g.val) + d.val % 64 = n.val * 256 + g.val * 64 + d.val % 64
  omega

include hk in
theorem k_real (t : Fin cfg0.N) (n : Fin 2) (s : Fin 4096) (e : Fin 64) :
    (show FVec Ideal S4096x128 .bf16 from iblk m c 2 t) (ix2 s ⟨n.val * 64 + e.val, by omega⟩) = (k n s e : EReal) := by
  rw [← hk]
  exact (blk_k m c t s _).trans (congrArg₂ (fun x y => aK m c (ix3 s x y)) (Fin.ext (by simp only []; omega)) (Fin.ext (by simp only []; omega)))

include hk in
theorem kt_real (t : Fin cfg0.N) (n : Fin 2) (s : Fin 4096) (e : Fin 64) :
    (show FVec Ideal S128x4096 .bf16 from iblk m c 3 t) (ix2 ⟨n.val * 64 + e.val, by omega⟩ s) = (k n s e : EReal) := by
  rw [← hk]
  exact (blk_kt m c t s _).trans (congrArg₂ (fun x y => aK m c (ix3 s x y)) (Fin.ext (by simp only []; omega)) (Fin.ext (by simp only []; omega)))

include hv in
theorem v_real (t : Fin cfg0.N) (n : Fin 2) (s : Fin 4096) (e : Fin 64) :
    (show FVec Ideal S4096x128 .bf16 from iblk m c 4 t) (ix2 s ⟨n.val * 64 + e.val, by omega⟩) = (v n s e : EReal) := by
  rw [← hv]
  exact (blk_v m c t s _).trans (congrArg₂ (fun x y => aV m c (ix3 s x y)) (Fin.ext (by simp only []; omega)) (Fin.ext (by simp only []; omega)))

include hq hk

theorem p_real (t : Fin cfg0.N) (n : Fin 2) (g : Fin 4) (s : Fin 4096) (b : Fin 256) :
    pAt (iblk m c 2 t) (QP m c t) (iblk m c 5 t) (hd n g) s b = (pr q k n g (qrow t b) s : EReal) := by
  have h1 : (∑ d : Fin 128, (show FVec Ideal S4096x128 .bf16 from iblk m c 2 t) (ix2 s d) * QP m c t (ix3 (hd n g) d b) : EReal)
      = ((sc q k n g (qrow t b) s / ln2R : ℝ) : EReal) := by
    refine (pad_sum n _ (fun e => ((q n g (qrow t b) e * (1 / 8 / ln2R) : ℝ) : EReal)) _ (QP_real m c q hq t n g b)).trans ?_
    refine (Finset.sum_congr rfl fun e _ => congrArg (· * _) (k_real m c k hk t n s e)).trans ?_
    simp only [← EReal.coe_mul, coe_sum]
    rw [sc, Finset.sum_mul, Finset.sum_div]
    exact congrArg _ (Finset.sum_congr rfl fun e _ => by ring)
  have h2 := (blk_lse m c t n g b).trans (lse_real m c q k hq hk n g (qrow t b))
  refine (congrArg₂ (fun x y : EReal => Ideal.exp2 (x - y)) h1 h2).trans ?_
  show Ideal.exp2 ((_ : EReal) - _) = _
  rw [← EReal.coe_sub, Ideal.exp2_coe, pow_eq]

include hv hw

theorem ds_real (t : Fin cfg0.N) (n : Fin 2) (g : Fin 4) (s : Fin 4096) (b : Fin 256) :
    dsAt (iblk m c 2 t) (iblk m c 4 t) (iblk m c 5 t) (iblk m c 6 t) (QP m c t) (OP m c t) (hd n g) s b
      = ((ln2R * ds q k v w n g (qrow t b) s : ℝ) : EReal) := by
  have h1 : (∑ d : Fin 128, (show FVec Ideal S4096x128 .bf16 from iblk m c 4 t) (ix2 s d) * OP m c t (ix3 (hd n g) d b) : EReal)
      = ((ln2R * dp v w n g (qrow t b) s : ℝ) : EReal) := by
    refine (pad_sum n _ (fun e => ((w n g (qrow t b) e * ln2R : ℝ) : EReal)) _ (OP_real m c w hw t n g b)).trans ?_
    refine (Finset.sum_congr rfl fun e _ => congrArg (· * _) (v_real m c v hv t n s e)).trans ?_
    simp only [← EReal.coe_mul, coe_sum]
    rw [dp, Finset.mul_sum]
    exact congrArg _ (Finset.sum_congr rfl fun e _ => by ring)
  have h2 := (blk_delta m c t n g b).trans (delta_real m c q k v w hq hk hv hw n g (qrow t b))
  refine (congrArg₂ (fun x y : EReal => x * y) (p_real m c q k hq hk t n g s b) (congrArg₂ (fun x y : EReal => x - y) h1 h2)).trans ?_
  show (_ : EReal) * ((_ : EReal) - _) = _
  rw [← EReal.coe_sub, ← EReal.coe_mul, ds]
  exact congrArg _ (by ring)

theorem dq_real (t : Fin cfg0.N) (n : Fin 2) (g : Fin 4) (e : Fin 64) (b : Fin 256) :
    dqAt m c t (hd n g) ⟨n.val * 64 + e.val, by omega⟩ b = ((ln2R * gq q k v w n g (qrow t b) e : ℝ) : EReal) := by
  unfold dqAt dqCol
  refine (Finset.sum_congr rfl fun s _ => congrArg₂ (fun x y : EReal => x * y) (kt_real m c k hk t n s e)
    (ds_real m c q k v w hq hk hv hw t n g s b)).trans ?_
  simp only [← EReal.coe_mul, coe_sum]
  rw [gq, Finset.mul_sum]
  exact congrArg _ (Finset.sum_congr rfl fun s _ => by ring)

/-- A point's share of the gradient of a key and of a value. -/
def dkR (t : Fin cfg0.N) (n : Fin 2) (s : Fin 4096) (e : Fin 64) : ℝ :=
  ∑ g : Fin 4, ∑ b : Fin 256, ds q k v w n g (qrow t b) s * (q n g (qrow t b) e * (1 / 8))
def dvR (t : Fin cfg0.N) (n : Fin 2) (s : Fin 4096) (e : Fin 64) : ℝ :=
  ∑ g : Fin 4, ∑ b : Fin 256, ln2R * (pr q k n g (qrow t b) s * w n g (qrow t b) e)

omit hq hk hv hw in
/-- A sum over all heads of terms that are zero outside one group. -/
theorem head_sum (n : Fin 2) (F : Fin 8 → EReal) (f : Fin 4 → ℝ) (h0 : ∀ n' g, n' ≠ n → F (hd n' g) = 0)
    (h1 : ∀ g, F (hd n g) = (f g : EReal)) : ∑ h : Fin 8, F h = ((∑ g : Fin 4, f g : ℝ) : EReal) := by
  rw [← Fin.sum_mul_add_fin 2 4 F rfl, Finset.sum_eq_single n]
  · rw [← coe_sum]; exact Finset.sum_congr rfl fun g _ => h1 g
  · exact fun n' _ hn => Finset.sum_eq_zero fun g _ => h0 n' g hn
  · exact fun h => absurd (Finset.mem_univ n) h

theorem dk_real (t : Fin cfg0.N) (n : Fin 2) (s : Fin 4096) (e : Fin 64) :
    dkAt m c t s ⟨n.val * 64 + e.val, by omega⟩ = (dkR q k v w t n s e : EReal) := by
  have hd64 : (n.val * 64 + e.val) / 64 = n.val := by omega
  have hm64 : (n.val * 64 + e.val) % 64 = e.val := by omega
  unfold dkAt dkRow dkR
  refine head_sum n _ (fun g => ∑ b : Fin 256, ds q k v w n g (qrow t b) s * (q n g (qrow t b) e * (1 / 8))) ?_ ?_
  · intro n' g hn
    refine Finset.sum_eq_zero fun b _ => ?_
    rw [QP_real m c q hq t n' g b, if_neg (fun h => hn (Fin.ext (by simp only [] at h; omega))), mul_zero]
  · intro g
    rw [← coe_sum]
    refine Finset.sum_congr rfl fun b _ => ?_
    rw [QP_real m c q hq t n g b, if_pos hd64, ds_real m c q k v w hq hk hv hw, ← EReal.coe_mul]
    refine congrArg _ ?_
    have he : (⟨(n.val * 64 + e.val) % 64, by omega⟩ : Fin 64) = e := Fin.ext hm64
    simp only [he]
    have := ln2R_pos.ne'
    field_simp

theorem dv_real (t : Fin cfg0.N) (n : Fin 2) (s : Fin 4096) (e : Fin 64) :
    dvAt m c t s ⟨n.val * 64 + e.val, by omega⟩ = (dvR q k w t n s e : EReal) := by
  have hd64 : (n.val * 64 + e.val) / 64 = n.val := by omega
  have hm64 : (n.val * 64 + e.val) % 64 = e.val := by omega
  unfold dvAt dvRow dvR
  refine head_sum n _ (fun g => ∑ b : Fin 256, ln2R * (pr q k n g (qrow t b) s * w n g (qrow t b) e)) ?_ ?_
  · intro n' g hn
    refine Finset.sum_eq_zero fun b _ => ?_
    rw [OP_real m c w hw t n' g b, if_neg (fun h => hn (Fin.ext (by simp only [] at h; omega))), mul_zero]
  · intro g
    rw [← coe_sum]
    refine Finset.sum_congr rfl fun b _ => ?_
    rw [OP_real m c w hw t n g b, if_pos hd64, p_real m c q k hq hk, ← EReal.coe_mul]
    refine congrArg _ ?_
    have he : (⟨(n.val * 64 + e.val) % 64, by omega⟩ : Fin 64) = e := Fin.ext hm64
    simp only [he]
    ring

end Cert.AttnIdeal.Value
-- ==== Proof.Attn.Final.lean ====
module

public import proofs.«01_k».proof.Proof.Attn.Real
public import proofs.«01_k».proof.Proof.Attn.Step

@[expose] public section

/-! The three arrays the backward pass of the attention leaves, on real arguments. -/

set_option maxRecDepth 16384

noncomputable section

namespace Cert.AttnIdeal.Value

open Cert.AttnIdeal Cert.AttnIdeal.Gen Attn Idealize.ShloMosaic Idealize.ShloMosaic.TcCoe Idealize.SL.Sem
open Idealize.ShloMosaic.Pipeline (Dat)

variable (m : (ℓ : Loc nD τ sig) → Buf (Elt Ideal) ℓ) (c : Dev nD)
  (q : Fin 2 → Fin 4 → Fin 4096 → Fin 64 → ℝ) (k v : Fin 2 → Fin 4096 → Fin 64 → ℝ)
  (w : Fin 2 → Fin 4 → Fin 4096 → Fin 64 → ℝ)
  (hq : ∀ n g i d, aQ m c (ix3 i (hd n g) d) = (q n g i d : EReal))
  (hk : ∀ n s d, aK m c (ix3 s n d) = (k n s d : EReal))
  (hv : ∀ n s d, aV m c (ix3 s n d) = (v n s d : EReal))
  (hw : ∀ n g i d, aDo m c (ix2 i (col n g d)) = (w n g i d : EReal))

/-- The gradients of the queries, of the keys and of the values, the whole arrays. -/
def dqAll (y : S512x4096.Idx) : EReal :=
  ((ln2R * gq q k v w ⟨(y 0).val / 256, by idx_bounds y; omega⟩ ⟨(y 0).val / 64 % 4, by omega⟩ (y 1) ⟨(y 0).val % 64, by omega⟩ : ℝ) : EReal)
def dkAll (y : S4096x128.Idx) : EReal :=
  (gk q k v w ⟨(y 1).val / 64, by idx_bounds y; omega⟩ (y 0) ⟨(y 1).val % 64, by omega⟩ : EReal)
def dvAll (y : S4096x128.Idx) : EReal :=
  ((ln2R * gv q k w ⟨(y 1).val / 64, by idx_bounds y; omega⟩ (y 0) ⟨(y 1).val % 64, by omega⟩ : ℝ) : EReal)

theorem dq_out (t : Fin cfg0.N) (d : Fin 512) (b : Fin 256) :
    (outsAt0 m c t.val t.isLt).1 (ix2 d b)
      = dqAt m c t ⟨d.val / 64, by omega⟩ ⟨64 * (d.val / 64 / 4) + d.val % 64, by omega⟩ b := by
  by_cases h0 : t.val % 16 = 0
  · exact dqA m c t h0 d b
  · exact dqB m c t h0 d b

include hq hk hv hw

theorem dq_block (t : Fin cfg0.N) (d : Fin 512) (b : Fin 256) :
    (outsAt0 m c t.val t.isLt).1 (ix2 d b) = dqAll q k v w (ix2 d (qrow t b)) := by
  refine (dq_out m c t d b).trans ?_
  refine Eq.trans ?_ (dq_real m c q k v w hq hk hv hw t ⟨d.val / 256, by omega⟩ ⟨d.val / 64 % 4, by omega⟩ ⟨d.val % 64, by omega⟩ b)
  exact congrArg₂ (fun x y => dqAt m c t x y b) (Fin.ext (by simp only []; omega)) (Fin.ext (by simp only []; omega))

theorem dq_final : (dats m 0 c).arrAt 7 (cfgs 0).N = dqAll q k v w := by
  refine (dats m 0 c).arrAt_eq_of_covers 7 _ (by decide +kernel) fun t hf y => ?_
  blk_simp
  rw [after0_7]
  idx_vars y
  refine (dq_block m c q k v w hq hk hv hw t _ _).trans ?_
  generalize dqAll q k v w = D
  unfold qrow
  blk_point [idx t]

theorem dk_acc (n : Fin 2) (s : Fin 4096) (e : Fin 64) :
    (outsAt0 m c t0_15.val t0_15.isLt).2.1 (ix2 s ⟨n.val * 64 + e.val, by omega⟩) = (gk q k v w n s e : EReal) := by
  rw [Pipeline.eq_sum_fin_of_reset_step_apply_last (fun n h => (outsAt0 m c n h).2.1) 16 (fun _ => (0 : EReal))
    (fun t y => dkAt m c t (y 0) (y 1))
    (fun t h j => by idx_vars j; exact dkA m c t h _ _)
    (fun t h j => by idx_vars j; exact dkB m c t h _ _)
    (le_of_eq N_0) t0_15 rfl _, zero_add]
  refine (Finset.sum_congr rfl fun t _ => dk_real m c q k v w hq hk hv hw _ n s e).trans ?_
  rw [coe_sum]
  refine congrArg _ ?_
  unfold dkR qrow
  rw [Finset.sum_comm]
  exact Finset.sum_congr rfl fun g _ => Fin.sum_mul_add_fin 16 256 (fun i => ds q k v w n g i s * (q n g i e * (1 / 8))) rfl

theorem dk_final : (dats m 0 c).arrAt 8 (cfgs 0).N = dkAll q k v w := by
  refine (dats m 0 c).arrAt_eq_of_after_last 8 t0_15 (by decide +kernel) _ fun j => ?_
  blk_simp
  rw [after0_8]
  obtain ⟨s, e, rfl⟩ : ∃ s e, j = ix2 s e := ⟨j 0, j 1, funext (Fin.forall_fin_two.mpr ⟨rfl, rfl⟩)⟩
  refine Eq.trans ?_ (dk_acc m c q k v w hq hk hv hw ⟨e.val / 64, by omega⟩ s ⟨e.val % 64, by omega⟩)
  exact congrArg (fun z => (outsAt0 m c t0_15.val t0_15.isLt).2.1 (ix2 s z)) (Fin.ext (by simp only []; omega))

theorem dv_acc (n : Fin 2) (s : Fin 4096) (e : Fin 64) :
    (outsAt0 m c t0_15.val t0_15.isLt).2.2 (ix2 s ⟨n.val * 64 + e.val, by omega⟩) = ((ln2R * gv q k w n s e : ℝ) : EReal) := by
  rw [Pipeline.eq_sum_fin_of_reset_step_apply_last (fun n h => (outsAt0 m c n h).2.2) 16 (fun _ => (0 : EReal))
    (fun t y => dvAt m c t (y 0) (y 1))
    (fun t h j => by idx_vars j; exact dvA m c t h _ _)
    (fun t h j => by idx_vars j; exact dvB m c t h _ _)
    (le_of_eq N_0) t0_15 rfl _, zero_add]
  refine (Finset.sum_congr rfl fun t _ => dv_real m c q k v w hq hk hv hw _ n s e).trans ?_
  rw [coe_sum]
  refine congrArg _ ?_
  unfold dvR qrow
  rw [Finset.sum_comm]
  rw [gv, Finset.mul_sum]
  refine Finset.sum_congr rfl fun g _ => ?_
  rw [Finset.mul_sum]
  exact Fin.sum_mul_add_fin 16 256 (fun i => ln2R * (pr q k n g i s * w n g i e)) rfl

theorem dv_final : (dats m 0 c).arrAt 9 (cfgs 0).N = dvAll q k  w := by
  refine (dats m 0 c).arrAt_eq_of_after_last 9 t0_15 (by decide +kernel) _ fun j => ?_
  blk_simp
  rw [after0_9]
  obtain ⟨s, e, rfl⟩ : ∃ s e, j = ix2 s e := ⟨j 0, j 1, funext (Fin.forall_fin_two.mpr ⟨rfl, rfl⟩)⟩
  refine Eq.trans ?_ (dv_acc m c q k v w hq hk hv hw ⟨e.val / 64, by omega⟩ s ⟨e.val % 64, by omega⟩)
  exact congrArg (fun z => (outsAt0 m c t0_15.val t0_15.isLt).2.2 (ix2 s z)) (Fin.ext (by simp only []; omega))

end Cert.AttnIdeal.Value
-- ==== Proof.Attn.Ref.lean ====
module

public import proofs.«01_k».proof.Proof.Attn.Final
public import proofs.«01_k».proof.Proof.Gen.AttnRefIdeal.Read

@[expose] public section

/-! The derivative of the attention, stage by stage, on real arguments. -/

set_option maxRecDepth 16384

noncomputable section

namespace Cert.AttnIdeal.Value

open Cert.AttnIdeal Cert.AttnIdeal.Gen Attn Cert.AttnRefIdeal.Read Idealize.ShloMosaic Idealize.ShloMosaic.TcCoe Idealize.SL.Sem
open Idealize.ShloMosaic.Pipeline (Dat)

variable (X0 : (⟨S4096x8x64, .f32⟩ : BufTy).Contents (Elt Ideal)) (X1 X2 : (⟨S4096x2x64, .f32⟩ : BufTy).Contents (Elt Ideal))
  (X3 : (⟨S4096x512, .f32⟩ : BufTy).Contents (Elt Ideal))
  (q : Fin 2 → Fin 4 → Fin 4096 → Fin 64 → ℝ) (k v : Fin 2 → Fin 4096 → Fin 64 → ℝ)
  (w : Fin 2 → Fin 4 → Fin 4096 → Fin 64 → ℝ)
  (hq : ∀ n g i d, X0 (ix3 i (hd n g) d) = (q n g i d : EReal))
  (hk : ∀ n s d, X1 (ix3 s n d) = (k n s d : EReal))
  (hv : ∀ n s d, X2 (ix3 s n d) = (v n s d : EReal))
  (hw : ∀ n g i d, X3 (ix2 i (col n g d)) = (w n g i d : EReal))

theorem max_at (y : FVec Ideal S2x4x4096x4096 .f32) (z : FVec Ideal S_ .f32) (n : Fin 2) (g : Fin 4) (i : Fin 4096) (a : EReal)
    (hz : z (Shape.Idx.first h_S_) = a) :
    Host.reduce (FloatOps.maximumf (F := Ideal) (φ := .f32)) y z reducesTo_S2x4x4096x4096_S2x4x4096_d3 h_S_ (ix3 n g i)
      = Finset.univ.fold max a fun s : Fin 4096 => y (ix4 n g i s) := by
  subst hz
  pointwise []

include hq in
theorem ref_q (n : Fin 2) (g : Fin 4) (i : Fin 4096) (d : Fin 64) :
    val_main_v1 (F := Ideal) X0 (ix4 n g i d) = (q n g i d : EReal) := by
  refine Eq.trans ?_ (hq n g i d)
  pointwise [val_main_v1, val_main_v0]

include hk in
theorem ref_k (n : Fin 2) (s : Fin 4096) (d : Fin 64) :
    val_main_v2 (F := Ideal) X1 (ix3 n s d) = (k n s d : EReal) := by
  refine Eq.trans ?_ (hk n s d)
  pointwise [val_main_v2]

include hv in
theorem ref_v (n : Fin 2) (s : Fin 4096) (d : Fin 64) :
    val_main_v3 (F := Ideal) X2 (ix3 n s d) = (v n s d : EReal) := by
  refine Eq.trans ?_ (hv n s d)
  pointwise [val_main_v3]

include hw in
theorem ref_w (n : Fin 2) (g : Fin 4) (i : Fin 4096) (d : Fin 64) :
    val_main_v39 (F := Ideal) X3 (ix4 n g i d) = (w n g i d : EReal) := by
  refine Eq.trans ?_ (hw n g i d)
  pointwise [val_main_v39, val_main_v38]

include hq hk

theorem ref_sc (n : Fin 2) (g : Fin 4) (i s : Fin 4096) :
    val_main_v6 (F := Ideal) X0 X1 (ix4 n g i s) = (sc q k n g i s : EReal) := by
  refine Eq.trans (b := (∑ d : Fin 64, val_main_v1 (F := Ideal) X0 (ix4 n g i d) * val_main_v2 (F := Ideal) X1 (ix3 n s d) : EReal)
    * Ideal.ofBits .f32 0x3E000000#32) (by pointwise [val_main_v6, val_main_v4, val_main_v5, val_main_cst]) ?_
  simp only [ref_q X0 q hq, ref_k X1 k hk, eighth_eq, ← EReal.coe_mul, coe_sum]
  rfl

theorem ref_max7 (n : Fin 2) (g : Fin 4) (i : Fin 4096) :
    ∃ M : ℝ, val_main_v7 (F := Ideal) X0 X1 (ix3 n g i) = (M : EReal) := by
  obtain ⟨M, hM⟩ := fold_max_real (Finset.univ : Finset (Fin 4096)) ⟨0, Finset.mem_univ _⟩ (fun s => sc q k n g i s)
  refine ⟨M, Eq.trans ?_ hM⟩
  unfold val_main_v7
  refine (max_at _ _ n g i ⊥ bot_eq).trans ?_
  exact congrArg (Finset.univ.fold max ⊥) (funext fun s => ref_sc X0 X1 q k hq hk n g i s)

omit hq hk in
theorem ref_max14 (n : Fin 2) (g : Fin 4) (i : Fin 4096) :
    val_main_v14 (F := Ideal) X0 X1 (ix3 n g i) = max ⊥ (val_main_v7 (F := Ideal) X0 X1 (ix3 n g i)) := by
  rw [val_main_v14_apply, val_main_v13_apply, val_main_cst_2_apply]
  generalize val_main_v7 (F := Ideal) X0 X1 (ix3 n g i) = y
  exact congrArg (fun z : EReal => max z y) bot_eq

theorem ref_max (n : Fin 2) (g : Fin 4) (i : Fin 4096) :
    ∃ M : ℝ, val_main_v14 (F := Ideal) X0 X1 (ix3 n g i) = (M : EReal) := by
  obtain ⟨M, hM⟩ := ref_max7 X0 X1 q k hq hk n g i
  exact ⟨M, (ref_max14 X0 X1 n g i).trans ((congrArg (max ⊥) hM).trans (max_bot_left _))⟩

theorem ref_exp (n : Fin 2) (g : Fin 4) (i : Fin 4096) :
    ∃ M : ℝ, (∀ s, val_main_v27 (F := Ideal) X0 X1 (ix4 n g i s) = (Real.exp (sc q k n g i s - M) : EReal))
      ∧ val_main_v28 (F := Ideal) X0 X1 (ix3 n g i) = ((∑ s : Fin 4096, Real.exp (sc q k n g i s - M) : ℝ) : EReal) := by
  obtain ⟨M, hM⟩ := ref_max X0 X1 q k hq hk n g i
  have he : ∀ s, val_main_v27 (F := Ideal) X0 X1 (ix4 n g i s) = (Real.exp (sc q k n g i s - M) : EReal) := fun s => by
    refine Eq.trans (b := Ideal.exp (val_main_v6 (F := Ideal) X0 X1 (ix4 n g i s) - val_main_v14 (F := Ideal) X0 X1 (ix3 n g i)))
      (by pointwise [val_main_v27, val_main_v26, val_main_v25, val_main_v24]) ?_
    rw [hM, ref_sc X0 X1 q k hq hk, ← EReal.coe_sub, Ideal.exp_coe]
  refine ⟨M, he, Eq.trans (b := (∑ s : Fin 4096, val_main_v27 (F := Ideal) X0 X1 (ix4 n g i s) : EReal))
    (by pointwise [val_main_v28, val_main_cst_8]) ?_⟩
  simp only [he, coe_sum]

theorem exp_sum_pos (n : Fin 2) (g : Fin 4) (i : Fin 4096) (M : ℝ) : 0 < ∑ s : Fin 4096, Real.exp (sc q k n g i s - M) :=
  Finset.sum_pos (fun s _ => Real.exp_pos _) ⟨0, Finset.mem_univ _⟩

theorem ref_pr (n : Fin 2) (g : Fin 4) (i s : Fin 4096) :
    val_main_v31 (F := Ideal) X0 X1 (ix4 n g i s) = (pr q k n g i s : EReal) := by
  obtain ⟨M, he, hs⟩ := ref_exp X0 X1 q k hq hk n g i
  refine Eq.trans (b := Ideal.div (val_main_v27 (F := Ideal) X0 X1 (ix4 n g i s)) (val_main_v28 (F := Ideal) X0 X1 (ix3 n g i)))
    (by pointwise [val_main_v31, val_main_v30, val_main_v29]) ?_
  rw [he, hs, div_real _ _ (exp_sum_pos X0 X1 q k hq hk n g i M).ne', pr_shift]

omit hq hk
include hv hw

theorem ref_dp (n : Fin 2) (g : Fin 4) (i s : Fin 4096) :
    val_main_v42 (F := Ideal) X2 X3 (ix4 n g i s) = (dp v w n g i s : EReal) := by
  refine Eq.trans (b := (∑ d : Fin 64, val_main_v39 (F := Ideal) X3 (ix4 n g i d) * val_main_v3 (F := Ideal) X2 (ix3 n s d) : EReal))
    (by pointwise [val_main_v42]) ?_
  simp only [ref_w X3 w hw, ref_v X2 v hv, ← EReal.coe_mul, coe_sum]
  rfl

include hq hk

theorem ref_ds (n : Fin 2) (g : Fin 4) (i s : Fin 4096) :
    val_main_v56 (F := Ideal) X0 X1 X2 X3 (ix4 n g i s) = ((ds q k v w n g i s * (1 / 8) : ℝ) : EReal) := by
  obtain ⟨M, he, hs⟩ := ref_exp X0 X1 q k hq hk n g i
  have hz := (exp_sum_pos X0 X1 q k hq hk n g i M).ne'
  have h34 : val_main_v34 (F := Ideal) X0 X1 (ix4 n g i 0)
      = ((1 / ((∑ s : Fin 4096, Real.exp (sc q k n g i s - M)) * (∑ s : Fin 4096, Real.exp (sc q k n g i s - M))) : ℝ) : EReal) := by
    refine Eq.trans (b := Ideal.div (Ideal.ofBits .f32 0x3F800000#32)
      (val_main_v28 (F := Ideal) X0 X1 (ix3 n g i) * val_main_v28 (F := Ideal) X0 X1 (ix3 n g i)))
      (by pointwise [val_main_v34, val_main_v33, val_main_v32, val_main_v29, val_main_cst_9]) ?_
    rw [hs, one_eq, ← EReal.coe_mul, div_real _ _ (mul_ne_zero hz hz)]
  have h45 : ∀ r, val_main_v45 (F := Ideal) X0 X1 X2 X3 (ix4 n g i r)
      = ((dp v w n g i r * (1 / ((∑ s : Fin 4096, Real.exp (sc q k n g i s - M)) * (∑ s : Fin 4096, Real.exp (sc q k n g i s - M))))
          * Real.exp (sc q k n g i r - M) : ℝ) : EReal) := fun r => by
    refine Eq.trans (b := val_main_v42 (F := Ideal) X2 X3 (ix4 n g i r) * val_main_v34 (F := Ideal) X0 X1 (ix4 n g i 0)
      * val_main_v27 (F := Ideal) X0 X1 (ix4 n g i r)) (by pointwise [val_main_v45, val_main_v44, val_main_v43]) ?_
    rw [h34, he, ref_dp X2 X3 v w hv hw, ← EReal.coe_mul, ← EReal.coe_mul]
  have h51 : val_main_v51 (F := Ideal) X0 X1 X2 X3 (ix3 n g i)
      = ((-(∑ r : Fin 4096, dp v w n g i r * (1 / ((∑ s : Fin 4096, Real.exp (sc q k n g i s - M)) * (∑ s : Fin 4096, Real.exp (sc q k n g i s - M))))
          * Real.exp (sc q k n g i r - M)) : ℝ) : EReal) := by
    refine Eq.trans (b := -(∑ r : Fin 4096, val_main_v45 (F := Ideal) X0 X1 X2 X3 (ix4 n g i r) : EReal))
      (by pointwise [val_main_v51, val_main_v48, val_main_v47, val_main_v46, val_main_cst_10, val_main_cst_11]; exact Fin.sum_univ_one _) ?_
    simp only [h45, coe_sum]
    exact (EReal.coe_neg _).symm
  refine Eq.trans (b := (Ideal.div (val_main_v42 (F := Ideal) X2 X3 (ix4 n g i s)) (val_main_v28 (F := Ideal) X0 X1 (ix3 n g i))
      + val_main_v51 (F := Ideal) X0 X1 X2 X3 (ix3 n g i)) * val_main_v27 (F := Ideal) X0 X1 (ix4 n g i s)
      * Ideal.ofBits .f32 0x3E000000#32)
    (by pointwise [val_main_v56, val_main_v55, val_main_v54, val_main_v53, val_main_v52, val_main_v50, val_main_v49, val_main_v29, val_main_cst_12]) ?_
  rw [h51, he, hs, ref_dp X2 X3 v w hv hw, div_real _ _ hz, eighth_eq, ← EReal.coe_add, ← EReal.coe_mul, ← EReal.coe_mul]
  exact congrArg (fun x : ℝ => ((x * (1 / 8) : ℝ) : EReal)) (ds_quot q k v w n g i s M)

theorem ref_gk (n : Fin 2) (s : Fin 4096) (d : Fin 64) :
    val_main_v57 (F := Ideal) X0 X1 X2 X3 (ix3 n s d) = (gk q k v w n s d : EReal) := by
  refine Eq.trans (b := (∑ g : Fin 4, ∑ i : Fin 4096, val_main_v56 (F := Ideal) X0 X1 X2 X3 (ix4 n g i s) * val_main_v1 (F := Ideal) X0 (ix4 n g i d) : EReal))
    (by pointwise [val_main_v57]) ?_
  simp only [ref_ds X0 X1 X2 X3 q k v w hq hk hv hw, ref_q X0 q hq, ← EReal.coe_mul, coe_sum]
  exact congrArg _ (Finset.sum_congr rfl fun g _ => Finset.sum_congr rfl fun i _ => by ring)

theorem ref_gq (n : Fin 2) (g : Fin 4) (i : Fin 4096) (d : Fin 64) :
    val_main_v58 (F := Ideal) X0 X1 X2 X3 (ix4 n g i d) = ((gq q k v w n g i d * (1 / 8) : ℝ) : EReal) := by
  refine Eq.trans (b := (∑ s : Fin 4096, val_main_v56 (F := Ideal) X0 X1 X2 X3 (ix4 n g i s) * val_main_v2 (F := Ideal) X1 (ix3 n s d) : EReal))
    (by pointwise [val_main_v58]) ?_
  simp only [ref_ds X0 X1 X2 X3 q k v w hq hk hv hw, ref_k X1 k hk, ← EReal.coe_mul, coe_sum]
  rw [gq, Finset.sum_mul]
  exact congrArg _ (Finset.sum_congr rfl fun s _ => by ring)

omit hv

theorem ref_gv (n : Fin 2) (s : Fin 4096) (d : Fin 64) :
    val_main_v41 (F := Ideal) X0 X1 X3 (ix3 n s d) = (gv q k w n s d : EReal) := by
  refine Eq.trans (b := (∑ g : Fin 4, ∑ i : Fin 4096, val_main_v39 (F := Ideal) X3 (ix4 n g i d) * val_main_v31 (F := Ideal) X0 X1 (ix4 n g i s) : EReal))
    (by pointwise [val_main_v41, val_main_v40]) ?_
  simp only [ref_pr X0 X1 q k hq hk, ref_w X3 w hw, ← EReal.coe_mul, coe_sum]
  exact congrArg _ (Finset.sum_congr rfl fun g _ => Finset.sum_congr rfl fun i _ => by ring)

theorem ref_dv : val_main_v72 (F := Ideal) X0 X1 X3 = dvAll q k w := by
  funext j
  obtain ⟨s, e, rfl⟩ : ∃ s e, j = ix2 s e := ⟨j 0, j 1, funext (Fin.forall_fin_two.mpr ⟨rfl, rfl⟩)⟩
  refine Eq.trans (b := val_main_v41 (F := Ideal) X0 X1 X3 (ix3 (⟨e.val / 64, by omega⟩ : Fin 2) s (⟨e.val % 64, by omega⟩ : Fin 64))
    * Ideal.log (Ideal.ofBits .f32 0x40000000#32))
    (by pointwise [val_main_v72, val_main_v71, val_main_v70, val_main_v63, val_main_v59, val_main_cst_13]) ?_
  rw [ref_gv X0 X1 X3 q k w hq hk hw, ln2_eq, ← EReal.coe_mul, mul_comm]
  rfl

include hv

theorem ref_dk : val_main_v69 (F := Ideal) X0 X1 X2 X3 = dkAll q k v w := by
  funext j
  obtain ⟨s, e, rfl⟩ : ∃ s e, j = ix2 s e := ⟨j 0, j 1, funext (Fin.forall_fin_two.mpr ⟨rfl, rfl⟩)⟩
  refine Eq.trans (b := val_main_v57 (F := Ideal) X0 X1 X2 X3 (ix3 (⟨e.val / 64, by omega⟩ : Fin 2) s (⟨e.val % 64, by omega⟩ : Fin 64)))
    (by pointwise [val_main_v69, val_main_v60]) ?_
  rw [ref_gk X0 X1 X2 X3 q k v w hq hk hv hw]
  rfl

theorem ref_dq : val_main_v68 (F := Ideal) X0 X1 X2 X3 = dqAll q k v w := by
  funext j
  obtain ⟨e, i, rfl⟩ : ∃ e i, j = ix2 e i := ⟨j 0, j 1, funext (Fin.forall_fin_two.mpr ⟨rfl, rfl⟩)⟩
  refine Eq.trans (b := val_main_v58 (F := Ideal) X0 X1 X2 X3
      (ix4 (⟨e.val / 256, by omega⟩ : Fin 2) (⟨e.val / 64 % 4, by omega⟩ : Fin 4) i (⟨e.val % 64, by omega⟩ : Fin 64))
    * Ideal.div (Ideal.log (Ideal.ofBits .f32 0x40000000#32)) (Ideal.ofBits .f32 0x3E000000#32))
    (by pointwise [val_main_v68, val_main_v67, val_main_v66, val_main_v65, val_main_v64, val_main_v63, val_main_v62, val_main_v61,
      val_main_cst_13, val_main_cst_14]) ?_
  rw [ref_gq X0 X1 X2 X3 q k v w hq hk hv hw, ln2_eq, eighth_eq, div_real _ _ (by norm_num), ← EReal.coe_mul]
  exact congrArg (fun x : ℝ => (x : EReal)) (Eq.trans (b := ln2R * gq q k v w ⟨e.val / 256, by omega⟩ ⟨e.val / 64 % 4, by omega⟩ i
    ⟨e.val % 64, by omega⟩) (by ring) rfl)

end Cert.AttnIdeal.Value
-- ==== Proof.Attn.Claim.lean ====
module

public import proofs.«01_k».proof.Defs
public import proofs.«01_k».proof.Proof.Attn.Ref
public import proofs.«01_k».proof.Proof.Gen.Attn.Frame
public import proofs.«01_k».proof.Proof.Gen.AttnIdeal.Value
public import proofs.«01_k».proof.Proof.Gen.AttnRefIdeal.Run
public import Idealize.ShloMosaic.Lib.ReduceAll

@[expose] public section

/-! On arguments without infinities, the backward pass of the attention computes its derivative. -/

set_option maxRecDepth 16384

noncomputable section

namespace Cert.AttnIdeal.Value

open Cert.AttnIdeal Cert.AttnIdeal.Gen Attn Idealize.ShloMosaic Idealize.ShloMosaic.TcCoe Idealize.SL.Sem
open Idealize.ShloMosaic.Pipeline (Dat)

instance facts_finite : Cert.Pre_finite2.Facts where
  bcast_S_S4096x8x64 := by decide
  reducesTo_S4096x8x64_S_d0_1_2 := by decide
  h_S_ := by decide
  bcast_S_S4096x2x64 := by decide
  reducesTo_S4096x2x64_S_d0_1_2 := by decide
  bcast_S_S4096x512 := by decide
  reducesTo_S4096x512_S_d0_1 := by decide

theorem top_eq : Ideal.ofBits .f32 0x7F800000#32 = ⊤ := by
  simp [Ideal.ofBits, Ideal.ieee]

/-- A value whose magnitude is below the infinity is a real. -/
theorem real_of_lt (x : EReal) (h : Ideal.cmp .olt (max x (-x)) (Ideal.ofBits .f32 0x7F800000#32) = 1#1) : x = (x.toReal : EReal) := by
  rw [top_eq] at h
  have hlt : max x (-x) < ⊤ := by
    by_contra hn
    simp [Ideal.cmp, hn] at h
  rw [EReal.coe_toReal]
  · exact (lt_of_le_of_lt (le_max_left _ _) hlt).ne
  · intro hb
    rw [hb] at hlt
    simp at hlt

theorem finite_at {a b c d} (h : Cert.Pre_finite2.fn (F := Ideal) a b c d = fun _ => 1#1) :
    (∀ i, a i = ((a i : EReal).toReal : EReal)) ∧ (∀ i, b i = ((b i : EReal).toReal : EReal))
      ∧ (∀ i, c i = ((c i : EReal).toReal : EReal)) ∧ (∀ i, d i = ((d i : EReal).toReal : EReal)) := by
  have h0 := congrFun h ix0
  haveI : Subsingleton Cert.Pre_finite2.S_.Idx := ⟨fun x y => funext fun z => z.elim0⟩
  obtain ⟨h1, hd⟩ := IntOp.andi_eq_one.1 (show IntOp.andi _ _ = 1#1 from h0)
  obtain ⟨h2, hc⟩ := IntOp.andi_eq_one.1 (show IntOp.andi _ _ = 1#1 from h1)
  obtain ⟨ha, hb⟩ := IntOp.andi_eq_one.1 (show IntOp.andi _ _ = 1#1 from h2)
  exact ⟨fun i => real_of_lt _ (Host.reduce_andi_all _ _ _ _ _ ha i), fun i => real_of_lt _ (Host.reduce_andi_all _ _ _ _ _ hb i),
    fun i => real_of_lt _ (Host.reduce_andi_all _ _ _ _ _ hc i), fun i => real_of_lt _ (Host.reduce_andi_all _ _ _ _ _ hd i)⟩

theorem frame_reference : Cert.quiescent_AttnRefIdeal := by
  intro m g _
  exact (θ_run Cert.AttnRefIdeal.defs _ _).mono (fun r h => ⟨fun c => (h c).2.2.2,
      sem_eq_zero_of_no_sems (by decide) r.2⟩) (Cert.AttnRefIdeal.Value.run (F := Ideal) m g)

variable (m : (ℓ : Loc nD τ sig) → Buf (Elt Ideal) ℓ) (c : Dev nD)

def rQ (n : Fin 2) (g : Fin 4) (i : Fin 4096) (d : Fin 64) : ℝ := (aQ m c (ix3 i (hd n g) d)).toReal
def rK (n : Fin 2) (s : Fin 4096) (d : Fin 64) : ℝ := (aK m c (ix3 s n d)).toReal
def rV (n : Fin 2) (s : Fin 4096) (d : Fin 64) : ℝ := (aV m c (ix3 s n d)).toReal
def rDo (n : Fin 2) (g : Fin 4) (i : Fin 4096) (d : Fin 64) : ℝ := (aDo m c (ix2 i (col n g d))).toReal

theorem dq_eq (h : Cert.Pre_finite2.fn (F := Ideal) (aQ m c) (aK m c) (aV m c) (aDo m c) = fun _ => 1#1) :
    Cert.AttnRefIdeal.Read.val_main_v68 (F := Ideal) (aQ m c) (aK m c) (aV m c) (aDo m c) = (dats m 0 c).arrAt 7 (cfgs 0).N :=
  have hf := finite_at h
  (ref_dq (aQ m c) (aK m c) (aV m c) (aDo m c) (rQ m c) (rK m c) (rV m c) (rDo m c) (fun _ _ _ _ => hf.1 _) (fun _ _ _ => hf.2.1 _) (fun _ _ _ => hf.2.2.1 _)
    (fun _ _ _ _ => hf.2.2.2 _)).trans
  (dq_final m c (rQ m c) (rK m c) (rV m c) (rDo m c) (fun _ _ _ _ => hf.1 _) (fun _ _ _ => hf.2.1 _) (fun _ _ _ => hf.2.2.1 _)
    (fun _ _ _ _ => hf.2.2.2 _)).symm

theorem dk_eq (h : Cert.Pre_finite2.fn (F := Ideal) (aQ m c) (aK m c) (aV m c) (aDo m c) = fun _ => 1#1) :
    Cert.AttnRefIdeal.Read.val_main_v69 (F := Ideal) (aQ m c) (aK m c) (aV m c) (aDo m c) = (dats m 0 c).arrAt 8 (cfgs 0).N :=
  have hf := finite_at h
  (ref_dk (aQ m c) (aK m c) (aV m c) (aDo m c) (rQ m c) (rK m c) (rV m c) (rDo m c) (fun _ _ _ _ => hf.1 _) (fun _ _ _ => hf.2.1 _) (fun _ _ _ => hf.2.2.1 _)
    (fun _ _ _ _ => hf.2.2.2 _)).trans
  (dk_final m c (rQ m c) (rK m c) (rV m c) (rDo m c) (fun _ _ _ _ => hf.1 _) (fun _ _ _ => hf.2.1 _) (fun _ _ _ => hf.2.2.1 _)
    (fun _ _ _ _ => hf.2.2.2 _)).symm

theorem dv_eq (h : Cert.Pre_finite2.fn (F := Ideal) (aQ m c) (aK m c) (aV m c) (aDo m c) = fun _ => 1#1) :
    Cert.AttnRefIdeal.Read.val_main_v72 (F := Ideal) (aQ m c) (aK m c) (aDo m c) = (dats m 0 c).arrAt 9 (cfgs 0).N :=
  have hf := finite_at h
  (ref_dv (aQ m c) (aK m c) (aDo m c) (rQ m c) (rK m c) (rDo m c) (fun _ _ _ _ => hf.1 _) (fun _ _ _ => hf.2.1 _)
    (fun _ _ _ _ => hf.2.2.2 _)).trans
  (dv_final m c (rQ m c) (rK m c) (rV m c) (rDo m c) (fun _ _ _ _ => hf.1 _) (fun _ _ _ => hf.2.1 _) (fun _ _ _ => hf.2.2.1 _)
    (fun _ _ _ _ => hf.2.2.2 _)).symm

theorem algebraic : Cert.algebraic_AttnIdeal_AttnRefIdeal_pre_finite2 := by
  pair_intro
  · run_from Cert.AttnIdeal.Value.run_blocks m g
  · run_from Cert.AttnRefIdeal.Value.run m' g'
    · refine (Cert.AttnRefIdeal.Read.val_main_v68_eq m' c).trans ?_
      rw [(hagree c).1, (hagree c).2.1, (hagree c).2.2.1, (hagree c).2.2.2]
      exact dq_eq m c (hpre c)
    · refine (Cert.AttnRefIdeal.Read.val_main_v69_eq m' c).trans ?_
      rw [(hagree c).1, (hagree c).2.1, (hagree c).2.2.1, (hagree c).2.2.2]
      exact dk_eq m c (hpre c)
    · exact (Cert.AttnRefIdeal.Read.val_main_v72_eq _ _ _).trans (dv_eq m c (hpre c))

end Cert.AttnIdeal.Value
-- ==== Proof.HGrad.Math.lean ====
module

public import Idealize.ShloMosaic.Lib.Pipeline.ValueKit
public import Idealize.ShloMosaic.Lib.IdealHost

@[expose] public section

/-! The root mean square and its derivative over the extended reals. The reciprocal root of a sum of squares plus a
positive number is a nonnegative real whatever the squares are, so that it may be moved into sums and differences. -/

noncomputable section

namespace Norm

open Idealize.ShloMosaic

/-- What the programs add to the mean square: the float nearest a millionth. -/
def eps : ℝ := (8796093 : ℝ) * 2 ^ (-43 : ℤ)

theorem eps_eq : Ideal.ofBits .f32 0x358637BD#32 = (eps : EReal) := by
  unfold eps
  simp [Ideal.ofBits, Ideal.ieee, -EReal.coe_mul]

theorem eps_pos : 0 < eps := by unfold eps; positivity

theorem width_eq : Ideal.ofBits .f32 0x44800000#32 = ((1024 : ℝ) : EReal) := by
  simp [Ideal.ofBits, Ideal.ieee, -EReal.coe_mul]; norm_num

theorem neg_half_eq : Ideal.ofBits .f32 0xBF000000#32 = ((-(1 / 2) : ℝ) : EReal) := by
  simp [Ideal.ofBits, Ideal.ieee, -EReal.coe_mul]; norm_num

/-- The mean of the squares of a row, plus `eps`. -/
def ms (x : Fin 1024 → EReal) : EReal := Ideal.div (∑ k, x k * x k) ((1024 : ℝ) : EReal) + (eps : EReal)

/-- Its reciprocal root. -/
def rs (x : Fin 1024 → EReal) : EReal := Ideal.rsqrt (ms x)

theorem sq_nonneg (x : EReal) : 0 ≤ x * x := by
  induction x using EReal.rec with
  | bot => rw [EReal.bot_mul_bot]; exact le_top
  | top => rw [EReal.top_mul_top]; exact le_top
  | coe a => rw [← EReal.coe_mul]; exact EReal.coe_nonneg.mpr (mul_self_nonneg a)

theorem ms_pos (x : Fin 1024 → EReal) : 0 < ms x := by
  unfold ms
  have h : (0 : EReal) ≤ Ideal.div (∑ k, x k * x k) ((1024 : ℝ) : EReal) := by
    rw [Ideal.div_coe (by norm_num)]
    exact EReal.mul_nonneg (Finset.sum_nonneg fun k _ => sq_nonneg (x k)) (EReal.coe_nonneg.mpr (by norm_num))
  have e : (0 : EReal) < (eps : EReal) := EReal.coe_pos.mpr eps_pos
  exact e.trans_le (by simpa using add_le_add h (le_refl (eps : EReal)))

/-- The reciprocal root is a nonnegative real, and over its argument it is its cube. -/
theorem rsqrt_real (v : EReal) (hv : 0 < v) :
    ∃ r : ℝ, 0 ≤ r ∧ Ideal.rsqrt v = (r : EReal) ∧ Ideal.div (r : EReal) v = ((r * r * r : ℝ) : EReal) := by
  induction v using EReal.rec with
  | bot => exact absurd hv (by simp)
  | top => exact ⟨0, le_refl _, by simp, by rw [Ideal.div, if_neg (by simp)]; simp⟩
  | coe a =>
    have ha : 0 < a := EReal.coe_pos.mp hv
    refine ⟨(Real.sqrt a)⁻¹, by positivity, ?_, ?_⟩
    · rw [Ideal.rsqrt_coe, if_neg (not_lt.mpr ha.le), if_neg ha.ne']
    · rw [Ideal.div_coe ha.ne', ← EReal.coe_mul]
      congr 1
      have h : (Real.sqrt a)⁻¹ * (Real.sqrt a)⁻¹ = 1 / a := by
        rw [← mul_inv, Real.mul_self_sqrt ha.le, one_div]
      rw [mul_assoc, h]

/-- A nonnegative real comes out of a sum. -/
theorem sum_mul_real (f : Fin 1024 → EReal) (r : ℝ) (hr : 0 ≤ r) : ∑ k, f k * (r : EReal) = (∑ k, f k) * (r : EReal) := by
  classical
  have key : ∀ s : Finset (Fin 1024), ∑ k ∈ s, f k * (r : EReal) = (∑ k ∈ s, f k) * (r : EReal) := by
    intro s
    induction s using Finset.induction_on with
    | empty => simp
    | insert a s ha ih =>
      rw [Finset.sum_insert ha, Finset.sum_insert ha, ih,
        EReal.right_distrib_of_nonneg_of_ne_top (EReal.coe_nonneg.mpr hr) (EReal.coe_ne_top r)]
  exact key Finset.univ

theorem add_self (a : EReal) : a + a = a * ((2 : ℝ) : EReal) := by
  induction a using EReal.rec with
  | bot => rw [EReal.bot_mul_coe_of_pos (by norm_num)]; rfl
  | top => rw [EReal.top_mul_coe_of_pos (by norm_num)]; rfl
  | coe a => rw [← EReal.coe_add, ← EReal.coe_mul]; congr 1; ring

/-- The kernel's gradient of a row under the norm is the derivative's: `u` is the scaled gradient, `x` the row. -/
theorem row_grad (x u : Fin 1024 → EReal) (j : Fin 1024) :
    rs x * (u j - x j * rs x * Ideal.div (∑ k, u k * (x k * rs x)) ((1024 : ℝ) : EReal))
      = u j * rs x + (x j * Ideal.div ((∑ k, u k * x k) * (((-(1 / 2) : ℝ) : EReal) * Ideal.div (rs x) (ms x))) ((1024 : ℝ) : EReal)
        + x j * Ideal.div ((∑ k, u k * x k) * (((-(1 / 2) : ℝ) : EReal) * Ideal.div (rs x) (ms x))) ((1024 : ℝ) : EReal)) := by
  obtain ⟨r, hr, h1, h2⟩ := rsqrt_real (ms x) (ms_pos x)
  have hrs : rs x = (r : EReal) := h1
  rw [hrs, h2, add_self]
  have hs : ∑ k, u k * (x k * (r : EReal)) = (∑ k, u k * x k) * (r : EReal) := by
    rw [← sum_mul_real _ r hr]
    exact Finset.sum_congr rfl fun k _ => (mul_assoc _ _ _).symm
  rw [hs]
  generalize ∑ k, u k * x k = B
  rw [Ideal.div_coe (by norm_num), Ideal.div_coe (by norm_num), sub_eq_add_neg, ← EReal.neg_mul]
  rw [EReal.left_distrib_of_nonneg_of_ne_top (EReal.coe_nonneg.mpr hr) (EReal.coe_ne_top r)]
  refine congrArg₂ (· + ·) (mul_comm _ _) ?_
  have e1 : (r : EReal) * (-(x j * (r : EReal)) * (B * (r : EReal) * ((1 / 1024 : ℝ) : EReal)))
      = x j * B * ((-(r * r * r * (1 / 1024)) : ℝ) : EReal) := by
    rw [EReal.neg_mul, mul_neg, EReal.coe_neg, mul_neg]
    congr 1
    rw [EReal.coe_mul, EReal.coe_mul, EReal.coe_mul]
    ac_rfl
  have e2 : x j * (B * (((-(1 / 2) : ℝ) : EReal) * ((r * r * r : ℝ) : EReal)) * ((1 / 1024 : ℝ) : EReal)) * ((2 : ℝ) : EReal)
      = x j * B * ((-(r * r * r * (1 / 1024)) : ℝ) : EReal) := by
    have h : (-(r * r * r * (1 / 1024)) : ℝ) = (-(1 / 2)) * (r * r * r) * (1 / 1024) * 2 := by ring
    rw [h]
    simp only [EReal.coe_mul]
    ac_rfl
  rw [e1, e2]

/-- A sum over the projection's columns, in the three pieces in which its gradient comes. -/
theorem sum_cols (f : Fin 6912 → EReal) : ∑ j, f j = (∑ l : Fin 768, f ⟨l.val, by omega⟩)
    + (∑ l : Fin 3072, f ⟨768 + l.val, by omega⟩) + ∑ l : Fin 3072, f ⟨3840 + l.val, by omega⟩ := by
  refine (Fin.sum_univ_add (a := 3840) (b := 3072) f).trans (congrArg₂ (· + ·) ?_ ?_)
  · refine (Fin.sum_univ_add (a := 768) (b := 3072) fun i => f (Fin.castAdd 3072 i)).trans (congrArg₂ (· + ·) ?_ ?_)
    · exact Finset.sum_congr rfl fun l _ => congrArg f (Fin.ext rfl)
    · exact Finset.sum_congr rfl fun l _ => congrArg f (Fin.ext rfl)
  · exact Finset.sum_congr rfl fun l _ => congrArg f (Fin.ext rfl)

end Norm
-- ==== Proof.WGrad.Entry.lean ====
module

public import proofs.«01_k».proof.Proof.Gen.WGradIdeal.Frame
public import Idealize.ShloMosaic.Lib.Pipeline.ValueKit
public import Idealize.ShloMosaic.Lib.StableHlo.ReadAt
public import Idealize.ShloMosaic.Lib.Claim
public import proofs.«01_k».proof.Proof.HGrad.Math

@[expose] public section

/-! The arguments of the call in terms of the step's. -/

set_option maxRecDepth 16384

noncomputable section

namespace Cert.WGradIdeal.Value

open Cert.WGradIdeal Cert.WGradIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments of the step's call, as arrays of extended reals. -/
abbrev aX : S4096x1024.Idx → EReal := m ((c : Thread nD τ).loc main_arg0)
abbrev aG : S1024.Idx → EReal := m ((c : Thread nD τ).loc main_arg1)
abbrev aW : S1024x6912.Idx → EReal := m ((c : Thread nD τ).loc main_arg2)
abbrev aD : S4096x6912.Idx → EReal := m ((c : Thread nD τ).loc main_arg3)

/-- Row `r` of the layer's input. -/
def xrow (r : Fin 4096) (k : Fin 1024) : EReal := aX m c (ix2 r k)

/-- The normalised row, the projection's operand. -/
def hAt (r : Fin 4096) (k : Fin 1024) : EReal := xrow m c r k * Norm.rs (xrow m c r) * aG m c (ix1 k)

theorem entry_h (r : Fin 4096) (k : Fin 1024) : V m c main_v13 (ix2 r k) = hAt m c r k := by
  unfold hAt Norm.rs Norm.ms xrow
  rw [← Norm.eps_eq, ← Norm.width_eq]
  unfold V; after_reads_at

theorem entry_d0 (r : Fin 4096) (j : Fin 768) : V m c main_v15 (ix2 r j) = aD m c (ix2 r ⟨j.val, by omega⟩) := by
  unfold V; after_reads_at

theorem entry_d1 (r : Fin 4096) (j : Fin 3072) : V m c main_v16 (ix2 r j) = aD m c (ix2 r ⟨768 + j.val, by omega⟩) := by
  unfold V; after_reads_at

theorem entry_d2 (r : Fin 4096) (j : Fin 3072) : V m c main_v17 (ix2 r j) = aD m c (ix2 r ⟨3840 + j.val, by omega⟩) := by
  unfold V; after_reads_at

end Cert.WGradIdeal.Value
-- ==== Proof.WGrad.Final.lean ====
module

public import proofs.«01_k».proof.Proof.WGrad.Entry

@[expose] public section

/-! What a grid point leaves in its block of the weight's gradient, and the two result arrays. -/

set_option maxRecDepth 16384

noncomputable section

namespace Cert.WGradIdeal.Value

open Cert.WGradIdeal Cert.WGradIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The windows' block indices: of the three pieces of the gradient only the one that holds the point's columns moves. -/
theorem idx : ∀ t : Fin cfg0.N, (win0_0.index t = ![0, 0] ∧ win0_1.index t = ![0, min (t.val - 1) 3]
      ∧ win0_2.index t = ![0, min (t.val - 5) 3] ∧ win0_3.index t = ![0, 0])
    ∧ win0_4.index t = ![t.val, 0] ∧ win0_5.index t = ![t.val, 0] ∧ t.val < 9 :=
  (by decide +kernel : ∀ t : Fin grid0.N, _)

/-- The column of the projection that column `q` of point `t`'s block is. -/
def col (t : Fin cfg0.N) (q : Fin 768) : Fin 6912 := ⟨t.val * 768 + q.val, by have := (idx t).2.2.2; omega⟩

/-- The gradient of the transposed weight. -/
def gw (i : S6912x1024.Idx) : EReal := ∑ r : Fin 4096, aD m c (ix2 r (i 0)) * hAt m c r (i 1)

theorem blk_h (t : Fin cfg0.N) (r : Fin 4096) (k : Fin 1024) :
    (show FVec Ideal S4096x1024 .bf16 from iblk m c 3 t) (ix2 r k) = hAt m c r k := by
  blk_simp [iblk]
  refine Eq.trans (b := V m c main_v13 (ix2 r k)) ?_ (entry_h m c r k)
  blk_ext [idx t]

theorem blk_d0 (t : Fin cfg0.N) (h : t.val = 0) (r : Fin 4096) (q : Fin 768) :
    (show FVec Ideal S4096x768 .bf16 from iblk m c 0 t) (ix2 r q) = aD m c (ix2 r (col t q)) := by
  blk_simp [iblk]
  refine Eq.trans (b := V m c main_v15 (ix2 r q)) ?_ ((entry_d0 m c r q).trans ?_)
  · blk_ext [idx t]
  · exact congrArg (fun j => aD m c (ix2 r j)) (Fin.ext (by show q.val = t.val * 768 + q.val; omega))

theorem blk_d1 (t : Fin cfg0.N) (h : 1 ≤ t.val ∧ t.val ≤ 4) (r : Fin 4096) (q : Fin 768) :
    (show FVec Ideal S4096x768 .bf16 from iblk m c 1 t) (ix2 r q) = aD m c (ix2 r (col t q)) := by
  blk_simp [iblk]
  refine Eq.trans (b := V m c main_v16 (ix2 r ⟨min (t.val - 1) 3 * 768 + q.val, by omega⟩)) ?_ ((entry_d1 m c r _).trans ?_)
  · blk_ext [idx t]
  · exact congrArg (fun j => aD m c (ix2 r j)) (Fin.ext (by
      show 768 + (min (t.val - 1) 3 * 768 + q.val) = t.val * 768 + q.val; omega))

theorem blk_d2 (t : Fin cfg0.N) (h : 5 ≤ t.val) (r : Fin 4096) (q : Fin 768) :
    (show FVec Ideal S4096x768 .bf16 from iblk m c 2 t) (ix2 r q) = aD m c (ix2 r (col t q)) := by
  have ht := (idx t).2.2.2
  blk_simp [iblk]
  refine Eq.trans (b := V m c main_v17 (ix2 r ⟨min (t.val - 5) 3 * 768 + q.val, by omega⟩)) ?_ ((entry_d2 m c r _).trans ?_)
  · blk_ext [idx t]
  · exact congrArg (fun j => aD m c (ix2 r j)) (Fin.ext (by
      show 3840 + (min (t.val - 5) 3 * 768 + q.val) = t.val * 768 + q.val; omega))

theorem pay2_at (t : Fin cfg0.N) (h : t.val = 0) (q : Fin 768) (k : Fin 1024) :
    k0_pay2 (F := Ideal) (iblk m c 0 t) (k0_pay1 (F := Ideal)) (iblk m c 3 t) (ix2 q k) = gw m c (ix2 (col t q) k) := by
  unfold gw
  pointwise [k0_pay2, k0_pay1, blk_d0 m c t h, blk_h]

theorem pay3_at (t : Fin cfg0.N) (h : 1 ≤ t.val ∧ t.val ≤ 4) (q : Fin 768) (k : Fin 1024) :
    k0_pay3 (F := Ideal) (iblk m c 1 t) (k0_pay1 (F := Ideal)) (iblk m c 3 t) (ix2 q k) = gw m c (ix2 (col t q) k) := by
  unfold gw
  pointwise [k0_pay3, k0_pay1, blk_d1 m c t h, blk_h]

theorem pay4_at (t : Fin cfg0.N) (h : 5 ≤ t.val) (q : Fin 768) (k : Fin 1024) :
    k0_pay4 (F := Ideal) (iblk m c 2 t) (k0_pay1 (F := Ideal)) (iblk m c 3 t) (ix2 q k) = gw m c (ix2 (col t q) k) := by
  unfold gw
  pointwise [k0_pay4, k0_pay1, blk_d2 m c t h, blk_h]

theorem b4 (t : Fin cfg0.N) (y : S768x1024.Idx) : (outsAt0 m c t.val t.isLt).1 y = gw m c (ix2 (col t (y 0)) (y 1)) := by
  obtain ⟨a, b, rfl⟩ : ∃ a b, y = ix2 a b := ⟨y 0, y 1, funext (Fin.forall_fin_two.mpr ⟨rfl, rfl⟩)⟩
  have ht := (idx t).2.2.2
  by_cases h1 : t.val = 0
  · rw [outsAt0_A m c t (by omega) (by omega) (by omega)]; frame_out
    exact pay2_at m c t h1 a b
  · by_cases h2 : t.val ≤ 4
    · rw [outsAt0_B m c t (by omega) (by omega) (by omega)]; frame_out
      exact pay3_at m c t (by omega) a b
    · rw [outsAt0_C m c t (by omega) (by omega) (by omega)]; frame_out
      exact pay4_at m c t (by omega) a b

theorem copy_at (acc : FVec Ideal S768x1024 .f32) (q : Fin 768) (k : Fin 1024) :
    k0_pay5 (F := Ideal) acc (ix2 q k) = acc (ix2 q k) := by
  pointwise [k0_pay5]

theorem b5 (t : Fin cfg0.N) (y : S768x1024.Idx) : (outsAt0 m c t.val t.isLt).2 y = gw m c (ix2 (col t (y 0)) (y 1)) := by
  obtain ⟨a, b, rfl⟩ : ∃ a b, y = ix2 a b := ⟨y 0, y 1, funext (Fin.forall_fin_two.mpr ⟨rfl, rfl⟩)⟩
  have ht := (idx t).2.2.2
  by_cases h1 : t.val = 0
  · rw [outsAt0_A m c t (by omega) (by omega) (by omega)]; frame_out
    exact (copy_at _ a b).trans (pay2_at m c t h1 a b)
  · by_cases h2 : t.val ≤ 4
    · rw [outsAt0_B m c t (by omega) (by omega) (by omega)]; frame_out
      exact (copy_at _ a b).trans (pay3_at m c t (by omega) a b)
    · rw [outsAt0_C m c t (by omega) (by omega) (by omega)]; frame_out
      exact (copy_at _ a b).trans (pay4_at m c t (by omega) a b)

theorem final4 : (dats m 0 c).arrAt 4 (cfgs 0).N = gw m c := by
  refine (dats m 0 c).arrAt_eq_of_covers 4 _ (by decide +kernel) fun t hf y => ?_
  blk_simp
  rw [after0_4]
  refine (b4 m c t y).trans ?_
  generalize gw m c = D
  unfold col
  blk_point [idx t]

theorem final5 : (dats m 0 c).arrAt 5 (cfgs 0).N = gw m c := by
  refine (dats m 0 c).arrAt_eq_of_covers 5 _ (by decide +kernel) fun t hf y => ?_
  blk_simp
  rw [after0_5]
  refine (b5 m c t y).trans ?_
  generalize gw m c = D
  unfold col
  blk_point [idx t]

end Cert.WGradIdeal.Value
-- ==== Proof.WGrad.Claim.lean ====
module

public import proofs.«01_k».proof.Defs
public import proofs.«01_k».proof.Proof.WGrad.Final
public import proofs.«01_k».proof.Proof.Gen.WGradIdeal.Value
public import proofs.«01_k».proof.Proof.Gen.WGradRefIdeal.Run
public import proofs.«01_k».proof.Proof.Gen.WGradRefIdeal.Read

@[expose] public section

/-! The call computes the derivative of the projection with respect to its weight. -/

set_option maxRecDepth 16384

noncomputable section

namespace Cert.WGradIdeal.Value

open Cert.WGradIdeal Cert.WGradIdeal.Gen Idealize.ShloMosaic Idealize.ShloMosaic.TcCoe Idealize.SL.Sem
open Idealize.ShloMosaic.Pipeline (Dat)

open Cert.WGradRefIdeal.Read

variable (m : (ℓ : Loc nD τ sig) → Buf (Elt Ideal) ℓ) (c : Dev nD)

theorem ref_h (r : Fin 4096) (k : Fin 1024) : val_main_v12 (F := Ideal) (aX m c) (aG m c) (ix2 r k) = hAt m c r k := by
  unfold hAt Norm.rs Norm.ms xrow
  rw [← Norm.eps_eq, ← Norm.width_eq]
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]

theorem ref_gw : val_main_v16 (F := Ideal) (aX m c) (aG m c) (aD m c) = gw m c := by
  funext y
  obtain ⟨a, b, rfl⟩ : ∃ a b, y = ix2 a b := ⟨y 0, y 1, funext (Fin.forall_fin_two.mpr ⟨rfl, rfl⟩)⟩
  unfold gw
  pointwise [val_main_v16, val_main_v15, val_main_v14, ref_h]

theorem ref_gw16 : val_main_v17 (F := Ideal) (aX m c) (aG m c) (aD m c) = gw m c := by
  rw [← ref_gw]; funext i
  pointwise [val_main_v17]

theorem frame_reference : Cert.quiescent_WGradRefIdeal := by
  intro m g _
  exact (θ_run Cert.WGradRefIdeal.defs _ _).mono (fun r h => ⟨fun c => (h c).2.2,
      sem_eq_zero_of_no_sems (by decide) r.2⟩) (Cert.WGradRefIdeal.Value.run (F := Ideal) m g)

theorem algebraic : Cert.algebraic_WGradIdeal_WGradRefIdeal := by
  pair_intro
  · run_from Cert.WGradIdeal.Value.run_blocks m g
  · run_from Cert.WGradRefIdeal.Value.run m' g'
    · exact (Cert.WGradRefIdeal.Read.val_main_v16_eq _ _ _).trans ((ref_gw m c).trans (final4 m c).symm)
    · exact (Cert.WGradRefIdeal.Read.val_main_v17_eq _ _ _).trans ((ref_gw16 m c).trans (final5 m c).symm)

end Cert.WGradIdeal.Value
-- ==== Proof.HGrad.Entry.lean ====
module

public import proofs.«01_k».proof.Proof.Gen.HGradIdeal.Frame.Runs
public import Idealize.ShloMosaic.Lib.Pipeline.ValueKit
public import Idealize.ShloMosaic.Lib.StableHlo.ReadAt
public import Idealize.ShloMosaic.Lib.Claim
public import proofs.«01_k».proof.Proof.HGrad.Math

@[expose] public section

/-! The arguments of the call in terms of the step's. -/

set_option maxRecDepth 16384

noncomputable section

namespace Cert.HGradIdeal.Value

open Cert.HGradIdeal Cert.HGradIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The five arguments of the step's call, as arrays of extended reals. -/
abbrev aX : S4096x1024.Idx → EReal := m ((c : Thread nD τ).loc main_arg0)
abbrev aG : S1024.Idx → EReal := m ((c : Thread nD τ).loc main_arg1)
abbrev aW : S1024x6912.Idx → EReal := m ((c : Thread nD τ).loc main_arg2)
abbrev aD : S4096x6912.Idx → EReal := m ((c : Thread nD τ).loc main_arg3)
abbrev aO : S4096x1024.Idx → EReal := m ((c : Thread nD τ).loc main_arg4)

theorem entry_d0 (r : Fin 4096) (j : Fin 768) : V m c main_v1 (ix2 r j) = aD m c (ix2 r ⟨j.val, by omega⟩) := by
  unfold V; after_reads_at

theorem entry_d1 (r : Fin 4096) (j : Fin 3072) : V m c main_v2 (ix2 r j) = aD m c (ix2 r ⟨768 + j.val, by omega⟩) := by
  unfold V; after_reads_at

theorem entry_d2 (r : Fin 4096) (j : Fin 3072) : V m c main_v3 (ix2 r j) = aD m c (ix2 r ⟨3840 + j.val, by omega⟩) := by
  unfold V; after_reads_at

theorem entry_w (j : Fin 6912) (k : Fin 1024) : V m c main_v5 (ix2 j k) = aW m c (ix2 k j) := by
  unfold V; after_reads_at

theorem entry_g (k : Fin 1024) : V m c main_v6 (ix2 0 k) = aG m c (ix1 k) := by
  unfold V; after_reads_at

end Cert.HGradIdeal.Value
-- ==== Proof.HGrad.Tile.lean ====
module

public import proofs.«01_k».proof.Proof.HGrad.Entry
public import proofs.«01_k».proof.Proof.Gen.HGradIdeal.Frame

@[expose] public section

/-! What the tiles of one grid point hold, in terms of the arguments. -/

set_option maxRecDepth 16384

noncomputable section

namespace Cert.HGradIdeal.Value

open Cert.HGradIdeal Cert.HGradIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The windows' block indices: a block of rows, or the whole array. -/
theorem idx : ∀ t : Fin cfg0.N, (win0_0.index t = ![t.val, 0] ∧ win0_1.index t = ![t.val, 0] ∧ win0_2.index t = ![t.val, 0]
      ∧ win0_3.index t = ![0, 0] ∧ win0_4.index t = ![t.val, 0] ∧ win0_5.index t = ![t.val, 0])
    ∧ win0_6.index t = ![0, 0] ∧ win0_7.index t = ![t.val, 0] ∧ win0_8.index t = ![0, 0] ∧ t.val < 8 :=
  (by decide +kernel : ∀ t : Fin grid0.N, _)

/-- The row of the arrays that row `r` of point `t`'s blocks is. -/
def row (t : Fin cfg0.N) (r : Fin 512) : Fin 4096 := ⟨t.val * 512 + r.val, by have := (idx t).2.2.2.2; omega⟩

/-- Row `r` of the layer's input. -/
def xrow (r : Fin 4096) (k : Fin 1024) : EReal := aX m c (ix2 r k)

/-- The gradient of the normalised row: the projection's gradient against the weight. -/
def dhAt (r : Fin 4096) (k : Fin 1024) : EReal := ∑ j : Fin 6912, aD m c (ix2 r j) * aW m c (ix2 k j)

theorem blk_d0 (t : Fin cfg0.N) (r : Fin 512) (j : Fin 768) :
    (show FVec Ideal S512x768 .bf16 from iblk m c 0 t) (ix2 r j) = aD m c (ix2 (row t r) ⟨j.val, by omega⟩) := by
  blk_simp [iblk]
  refine Eq.trans (b := V m c main_v1 (ix2 (row t r) j)) ?_ (entry_d0 m c _ _)
  unfold row; blk_ext [idx t]

theorem blk_d1 (t : Fin cfg0.N) (r : Fin 512) (j : Fin 3072) :
    (show FVec Ideal S512x3072 .bf16 from iblk m c 1 t) (ix2 r j) = aD m c (ix2 (row t r) ⟨768 + j.val, by omega⟩) := by
  blk_simp [iblk]
  refine Eq.trans (b := V m c main_v2 (ix2 (row t r) j)) ?_ (entry_d1 m c _ _)
  unfold row; blk_ext [idx t]

theorem blk_d2 (t : Fin cfg0.N) (r : Fin 512) (j : Fin 3072) :
    (show FVec Ideal S512x3072 .bf16 from iblk m c 2 t) (ix2 r j) = aD m c (ix2 (row t r) ⟨3840 + j.val, by omega⟩) := by
  blk_simp [iblk]
  refine Eq.trans (b := V m c main_v3 (ix2 (row t r) j)) ?_ (entry_d2 m c _ _)
  unfold row; blk_ext [idx t]

theorem blk_w (t : Fin cfg0.N) (j : Fin 6912) (k : Fin 1024) :
    (show FVec Ideal S6912x1024 .bf16 from iblk m c 3 t) (ix2 j k) = aW m c (ix2 k j) := by
  blk_simp [iblk]
  refine Eq.trans (b := V m c main_v5 (ix2 j k)) ?_ (entry_w m c j k)
  blk_ext [idx t]

theorem blk_x (t : Fin cfg0.N) (r : Fin 512) (k : Fin 1024) :
    (show FVec Ideal S512x1024 .f32 from iblk m c 4 t) (ix2 r k) = xrow m c (row t r) k := by
  unfold xrow row; blk_point [iblk, V, idx t]

theorem blk_o (t : Fin cfg0.N) (r : Fin 512) (k : Fin 1024) :
    (show FVec Ideal S512x1024 .f32 from iblk m c 5 t) (ix2 r k) = aO m c (ix2 (row t r) k) := by
  unfold row; blk_point [iblk, V, idx t]

theorem blk_g (t : Fin cfg0.N) (k : Fin 1024) :
    (show FVec Ideal S1x1024 .f32 from iblk m c 6 t) (ix2 0 k) = aG m c (ix1 k) := by
  blk_simp [iblk]
  refine Eq.trans (b := V m c main_v6 (ix2 0 k)) ?_ (entry_g m c k)
  blk_ext [idx t]

/-- The row's scaled gradient. -/
def uAt (r : Fin 4096) (k : Fin 1024) : EReal := dhAt m c r k * aG m c (ix1 k)

/-- The gradient of the layer's input. -/
def dxAt (r : Fin 4096) (k : Fin 1024) : EReal :=
  aO m c (ix2 r k) + Norm.rs (xrow m c r) * (uAt m c r k - xrow m c r k * Norm.rs (xrow m c r)
    * Ideal.div (∑ l, uAt m c r l * (xrow m c r l * Norm.rs (xrow m c r))) ((1024 : ℝ) : EReal))

/-- A point's share of the gradient of the norm's scale. -/
def ggAt (t : Fin cfg0.N) (k : Fin 1024) : EReal :=
  ∑ r : Fin 512, dhAt m c (row t r) k * (xrow m c (row t r) k * Norm.rs (xrow m c (row t r)))

end Cert.HGradIdeal.Value
-- ==== Proof.HGrad.Final.lean ====
module

public import proofs.«01_k».proof.Proof.HGrad.Tile

@[expose] public section

/-! What one grid point leaves in each output block. -/

set_option maxRecDepth 16384

noncomputable section

namespace Cert.HGradIdeal.Value

open Cert.HGradIdeal Cert.HGradIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev w0 (t : Fin cfg0.N) : FVec Ideal S768x1024 .bf16 :=
  View.ld (iblk m c 3 t) (Rect.unit ![0, 0] ![768, 1024] inb_S6912x1024_S768x1024_0_0)
abbrev w1 (t : Fin cfg0.N) : FVec Ideal S3072x1024 .bf16 :=
  View.ld (iblk m c 3 t) (Rect.unit ![768, 0] ![3072, 1024] inb_S6912x1024_S3072x1024_768_0)
abbrev w2 (t : Fin cfg0.N) : FVec Ideal S3072x1024 .bf16 :=
  View.ld (iblk m c 3 t) (Rect.unit ![3840, 0] ![3072, 1024] inb_S6912x1024_S3072x1024_3840_0)

theorem w0_at (t : Fin cfg0.N) (j : Fin 768) (k : Fin 1024) : w0 m c t (ix2 j k) = aW m c (ix2 k ⟨j.val, by omega⟩) := by
  refine Eq.trans (congrArg (iblk m c 3 t) (funext fun q => Fin.ext ?_)) (blk_w m c t ⟨j.val, by omega⟩ k)
  revert q
  refine Fin.forall_fin_two.mpr ⟨?_, ?_⟩
  · show 0 + 1 * j.val = j.val
    omega
  · show 0 + 1 * k.val = k.val
    omega

theorem w1_at (t : Fin cfg0.N) (j : Fin 3072) (k : Fin 1024) : w1 m c t (ix2 j k) = aW m c (ix2 k ⟨768 + j.val, by omega⟩) := by
  refine Eq.trans (congrArg (iblk m c 3 t) (funext fun q => Fin.ext ?_)) (blk_w m c t ⟨768 + j.val, by omega⟩ k)
  revert q
  refine Fin.forall_fin_two.mpr ⟨?_, ?_⟩
  · show 768 + 1 * j.val = 768 + j.val
    omega
  · show 0 + 1 * k.val = k.val
    omega

theorem w2_at (t : Fin cfg0.N) (j : Fin 3072) (k : Fin 1024) : w2 m c t (ix2 j k) = aW m c (ix2 k ⟨3840 + j.val, by omega⟩) := by
  refine Eq.trans (congrArg (iblk m c 3 t) (funext fun q => Fin.ext ?_)) (blk_w m c t ⟨3840 + j.val, by omega⟩ k)
  revert q
  refine Fin.forall_fin_two.mpr ⟨?_, ?_⟩
  · show 3840 + 1 * j.val = 3840 + j.val
    omega
  · show 0 + 1 * k.val = k.val
    omega

theorem dh_at (t : Fin cfg0.N) (r : Fin 512) (k : Fin 1024) :
    k0_pay4 (F := Ideal) (iblk m c 0 t) (w0 m c t) (iblk m c 1 t) (w1 m c t) (iblk m c 2 t) (w2 m c t) (ix2 r k)
      = dhAt m c (row t r) k := by
  unfold dhAt
  rw [Norm.sum_cols]
  pointwise [k0_pay4, blk_d0, blk_d1, blk_d2, w0_at, w1_at, w2_at]

theorem rs_at (t : Fin cfg0.N) (r : Fin 512) :
    k0_pay5 (F := Ideal) (iblk m c 4 t) (ix2 r 0) = Norm.rs (xrow m c (row t r)) := by
  unfold Norm.rs Norm.ms
  pointwise [k0_pay5, blk_x]
  rw [Norm.eps_eq, Norm.width_eq]

theorem xh_at (t : Fin cfg0.N) (r : Fin 512) (k : Fin 1024) :
    k0_pay6 (F := Ideal) (iblk m c 4 t) (ix2 r k) = xrow m c (row t r) k * Norm.rs (xrow m c (row t r)) := by
  pointwise [k0_pay6, blk_x, rs_at]

theorem dx_at (t : Fin cfg0.N) (r : Fin 512) (k : Fin 1024) :
    k0_pay2 (F := Ideal) (k0_pay4 (iblk m c 0 t) (w0 m c t) (iblk m c 1 t) (w1 m c t) (iblk m c 2 t) (w2 m c t))
      (k0_pay5 (iblk m c 4 t)) (k0_pay6 (iblk m c 4 t)) (iblk m c 6 t) (iblk m c 5 t) (ix2 r k) = dxAt m c (row t r) k := by
  unfold dxAt uAt
  pointwise [k0_pay2, dh_at, rs_at, xh_at, blk_g, blk_o]
  rw [Norm.width_eq]

theorem gg_at (t : Fin cfg0.N) (acc : FVec Ideal S1x1024 .f32) (k : Fin 1024) :
    k0_pay1 (F := Ideal) (k0_pay7 acc) (k0_pay8 (iblk m c 0 t) (w0 m c t) (iblk m c 1 t) (w1 m c t) (iblk m c 2 t) (w2 m c t)
      (iblk m c 4 t)) (ix2 0 k) = acc (ix2 0 k) + ggAt m c t k := by
  unfold ggAt
  pointwise [k0_pay1, k0_pay7, k0_pay8, dh_at, xh_at]

theorem b7 (t : Fin cfg0.N) (y : S512x1024.Idx) : (outsAt0 m c t.val t.isLt).1 y = dxAt m c (row t (y 0)) (y 1) := by
  obtain ⟨r, k, rfl⟩ : ∃ r k, y = ix2 r k := ⟨y 0, y 1, funext (Fin.forall_fin_two.mpr ⟨rfl, rfl⟩)⟩
  by_cases h0 : t.val % 8 = 0
  · rw [outsAt0_A m c t h0]; frame_out
    exact dx_at m c t r k
  · rw [outsAt0_B m c t h0]; frame_out
    exact dx_at m c t r k

theorem zero_at (k : Fin 1024) : k0_pay3 (F := Ideal) (ix2 0 k) = (0 : EReal) := by pointwise [k0_pay3]

theorem b8A (t : Fin cfg0.N) (h0 : t.val % 8 = 0) (y : S1x1024.Idx) :
    (outsAt0 m c t.val t.isLt).2 y = (0 : EReal) + ggAt m c t (y 1) := by
  obtain ⟨r, k, rfl⟩ : ∃ r k, y = ix2 r k := ⟨y 0, y 1, funext (Fin.forall_fin_two.mpr ⟨rfl, rfl⟩)⟩
  obtain rfl : r = 0 := Subsingleton.elim _ _
  rw [outsAt0_A m c t h0]; frame_out
  exact (gg_at m c t _ k).trans (congrArg (· + _) (zero_at k))

theorem b8B (t : Fin cfg0.N) (h0 : ¬t.val % 8 = 0) (y : S1x1024.Idx) :
    (outsAt0 m c t.val t.isLt).2 y
      = (outsAt0 m c (t.val - 1) (Nat.lt_of_le_of_lt (Nat.sub_le _ _) t.isLt)).2 y + ggAt m c t (y 1) := by
  obtain ⟨r, k, rfl⟩ : ∃ r k, y = ix2 r k := ⟨y 0, y 1, funext (Fin.forall_fin_two.mpr ⟨rfl, rfl⟩)⟩
  obtain rfl : r = 0 := Subsingleton.elim _ _
  rw [outsAt0_B m c t h0]; frame_out
  exact gg_at m c t _ k

/-- The gradient of the norm's scale, the whole row. -/
def ggAll (i : S1x1024.Idx) : EReal := ∑ r : Fin 4096, dhAt m c r (i 1) * (xrow m c r (i 1) * Norm.rs (xrow m c r))

/-- The gradient of the layer's input, the whole array. -/
def dxAll (i : S4096x1024.Idx) : EReal := dxAt m c (i 0) (i 1)

theorem final7 : (dats m 0 c).arrAt 7 (cfgs 0).N = dxAll m c := by
  refine (dats m 0 c).arrAt_eq_of_covers 7 _ (by decide +kernel) fun t hf y => ?_
  blk_simp
  rw [after0_7]
  refine (b7 m c t y).trans ?_
  show dxAll m c (ix2 (row t (y 0)) (y 1)) = _
  generalize dxAll m c = D
  unfold row
  blk_point [idx t]

theorem acc8 (y : S1x1024.Idx) : (outsAt0 m c t0_7.val t0_7.isLt).2 y = ggAll m c y := by
  rw [Pipeline.eq_sum_fin_of_reset_step_apply_last (fun n h => (outsAt0 m c n h).2) 8 (fun _ => (0 : EReal))
    (fun t y => ggAt m c t (y 1)) (fun t h j => b8A m c t h j) (fun t h j => b8B m c t h j)
    (le_of_eq N_0) t0_7 rfl y, zero_add]
  unfold ggAt ggAll row
  exact Fin.sum_mul_add_fin 8 512 (fun r => dhAt m c r (y 1) * (xrow m c r (y 1) * Norm.rs (xrow m c r))) rfl

theorem final8 : (dats m 0 c).arrAt 8 (cfgs 0).N = ggAll m c := by
  refine (dats m 0 c).arrAt_eq_of_after_last 8 t0_7 (by decide +kernel) _ fun j => ?_
  blk_simp
  rw [after0_8]
  exact acc8 m c j

end Cert.HGradIdeal.Value
-- ==== Proof.HGrad.Ref.lean ====
module

public import proofs.«01_k».proof.Proof.HGrad.Final
public import proofs.«01_k».proof.Proof.Gen.HGradRefIdeal.Read

@[expose] public section

/-! The derivative of the norm and the projection, stage by stage, is the same two arrays. -/

set_option maxRecDepth 16384

noncomputable section

namespace Cert.HGradIdeal.Value

open Cert.HGradIdeal Cert.HGradIdeal.Gen Idealize.ShloMosaic Idealize.ShloMosaic.TcCoe Idealize.SL.Sem
open Idealize.ShloMosaic.Pipeline (Dat)

open Cert.HGradRefIdeal.Read

variable (m : (ℓ : Loc nD τ sig) → Buf (Elt Ideal) ℓ) (c : Dev nD)

theorem ref_ms (r : Fin 4096) : val_main_v6 (F := Ideal) (aX m c) (ix2 r 0) = Norm.ms (xrow m c r) := by
  unfold Norm.ms xrow
  pointwise [val_main_v6, val_main_v5, val_main_cst_1, val_main_v4, val_main_v3, val_main_cst_0, val_main_v2, val_main_v1,
    val_main_cst, val_main_v0]
  rw [Norm.eps_eq, Norm.width_eq]

theorem ref_rs (r : Fin 4096) : val_main_v7 (F := Ideal) (aX m c) (ix2 r 0) = Norm.rs (xrow m c r) := by
  unfold Norm.rs
  pointwise [val_main_v7, ref_ms]

theorem ref_xh (r : Fin 4096) (k : Fin 1024) :
    val_main_v12 (F := Ideal) (aX m c) (ix2 r k) = xrow m c r k * Norm.rs (xrow m c r) := by
  pointwise [val_main_v12, val_main_v11, ref_rs]
  rfl

theorem ref_q (r : Fin 4096) : val_main_v10 (F := Ideal) (aX m c) (ix2 r 0)
    = ((-(1 / 2) : ℝ) : EReal) * Ideal.div (Norm.rs (xrow m c r)) (Norm.ms (xrow m c r)) := by
  pointwise [val_main_v10, val_main_v9, val_main_cst_2, val_main_v8, ref_rs, ref_ms]
  rw [Norm.neg_half_eq]

theorem ref_dh (r : Fin 4096) (k : Fin 1024) :
    val_main_v17 (F := Ideal) (aW m c) (aD m c) (ix2 r k) = dhAt m c r k := by
  unfold dhAt
  pointwise [val_main_v17]

theorem ref_u (r : Fin 4096) (k : Fin 1024) :
    val_main_v22 (F := Ideal) (aG m c) (aW m c) (aD m c) (ix2 r k) = uAt m c r k := by
  unfold uAt
  pointwise [val_main_v22, val_main_v21, val_main_v13, ref_dh]

theorem ref_b (r : Fin 4096) : val_main_v26 (F := Ideal) (aX m c) (aG m c) (aW m c) (aD m c) (ix2 r 0)
    = ∑ k, uAt m c r k * xrow m c r k := by
  unfold xrow
  pointwise [val_main_v26, val_main_v25, val_main_cst_5, val_main_v24, ref_u]
  exact Fin.sum_fin_congr fun k => mul_comm _ _

theorem ref_c (r : Fin 4096) (k : Fin 1024) : val_main_v33 (F := Ideal) (aX m c) (aG m c) (aW m c) (aD m c) (ix2 r k)
    = Ideal.div ((∑ k, uAt m c r k * xrow m c r k)
      * (((-(1 / 2) : ℝ) : EReal) * Ideal.div (Norm.rs (xrow m c r)) (Norm.ms (xrow m c r)))) ((1024 : ℝ) : EReal) := by
  pointwise [val_main_v33, val_main_v32, val_main_cst_7, val_main_v31, val_main_v30, val_main_cst_6, val_main_v29, ref_b, ref_q]
  rw [Norm.width_eq]
  refine (Fin.sum_univ_one (M := EReal) _).trans ?_
  exact congrArg (fun z => Ideal.div z ((1024 : ℝ) : EReal)) (congrArg₂ (· * ·) (ref_b m c r) (ref_q m c r))

theorem ref_dx : val_main_v38 (F := Ideal) (aX m c) (aG m c) (aW m c) (aD m c) (aO m c) = dxAll m c := by
  funext i
  obtain ⟨r, k, rfl⟩ : ∃ r k, i = ix2 r k := ⟨i 0, i 1, funext (Fin.forall_fin_two.mpr ⟨rfl, rfl⟩)⟩
  show _ = dxAt m c r k
  unfold dxAt
  rw [Norm.row_grad (xrow m c r) (uAt m c r) k]
  pointwise [val_main_v38, val_main_v37, val_main_v36, val_main_v35, val_main_v34, val_main_v28, val_main_v27, ref_u, ref_c, ref_rs]
  rw [add_assoc]
  unfold xrow
  exact congrArg (fun z => _ + (_ + (_ + z))) (mul_comm _ _)

theorem ref_gg : val_main_v39 (F := Ideal) (aX m c) (aW m c) (aD m c) = ggAll m c := by
  funext i
  obtain ⟨r, k, rfl⟩ : ∃ r k, i = ix2 r k := ⟨i 0, i 1, funext (Fin.forall_fin_two.mpr ⟨rfl, rfl⟩)⟩
  obtain rfl : r = 0 := Subsingleton.elim _ _
  unfold ggAll
  pointwise [val_main_v39, val_main_v23, val_main_cst_4, val_main_v20, val_main_v19, val_main_cst_3, val_main_v18, ref_dh, ref_xh]
  refine (Fin.sum_univ_one (M := EReal) _).trans ?_
  exact Fin.sum_fin_congr fun k => mul_comm _ _

end Cert.HGradIdeal.Value
-- ==== Proof.HGrad.Claim.lean ====
module

public import proofs.«01_k».proof.Defs
public import proofs.«01_k».proof.Proof.HGrad.Ref
public import proofs.«01_k».proof.Proof.Gen.HGradIdeal.Value
public import proofs.«01_k».proof.Proof.Gen.HGradRefIdeal.Run

@[expose] public section

/-! The call computes the derivative of the norm and the projection. -/

set_option maxRecDepth 16384

noncomputable section

namespace Cert.HGradIdeal.Value

open Cert.HGradIdeal Cert.HGradIdeal.Gen Idealize.ShloMosaic Idealize.ShloMosaic.TcCoe Idealize.SL.Sem
open Idealize.ShloMosaic.Pipeline (Dat)

theorem frame_reference : Cert.quiescent_HGradRefIdeal := by
  intro m g _
  exact (θ_run Cert.HGradRefIdeal.defs _ _).mono (fun r h => ⟨fun c => (h c).2.2,
      sem_eq_zero_of_no_sems (by decide) r.2⟩) (Cert.HGradRefIdeal.Value.run (F := Ideal) m g)

theorem algebraic : Cert.algebraic_HGradIdeal_HGradRefIdeal := by
  pair_intro
  · run_from Cert.HGradIdeal.Value.run_blocks m g
  · run_from Cert.HGradRefIdeal.Value.run m' g'
    · refine (Cert.HGradRefIdeal.Read.val_main_v38_eq m' c).trans ?_
      rw [(hagree c).1, (hagree c).2.1, (hagree c).2.2.1, (hagree c).2.2.2.1, (hagree c).2.2.2.2]
      exact (ref_dx m c).trans (final7 m c).symm
    · exact (Cert.HGradRefIdeal.Read.val_main_v39_eq _ _ _).trans ((ref_gg m c).trans (final8 m c).symm)

end Cert.HGradIdeal.Value
-- ==== Proof.Proj.Final.lean ====
module

public import proofs.«01_k».proof.Proof.Gen.ProjIdeal.Frame
public import Idealize.ShloMosaic.Lib.Pipeline.ValueKit
public import Idealize.ShloMosaic.Lib.StableHlo.ReadAt
public import Idealize.ShloMosaic.Lib.Claim
public import proofs.«01_k».proof.Proof.HGrad.Math

@[expose] public section

/-! What a grid point leaves in its block of the projection, and the result array. -/

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments of the step's call, as arrays of extended reals. -/
abbrev aX : S4096x1024.Idx → EReal := m ((c : Thread nD τ).loc main_arg0)
abbrev aG : S1024.Idx → EReal := m ((c : Thread nD τ).loc main_arg1)
abbrev aW : S1024x6912.Idx → EReal := m ((c : Thread nD τ).loc main_arg2)

/-- Row `r` of the layer's input. -/
def xrow (r : Fin 4096) (k : Fin 1024) : EReal := aX m c (ix2 r k)

/-- The normalised row, the projection's operand. -/
def hAt (r : Fin 4096) (k : Fin 1024) : EReal := xrow m c r k * Norm.rs (xrow m c r) * aG m c (ix1 k)

theorem entry_h (r : Fin 4096) (k : Fin 1024) : V m c main_v13 (ix2 r k) = hAt m c r k := by
  unfold hAt Norm.rs Norm.ms xrow
  rw [← Norm.eps_eq, ← Norm.width_eq]
  unfold V; after_reads_at

theorem entry_w (j : Fin 6912) (k : Fin 1024) : V m c main_v15 (ix2 j k) = aW m c (ix2 k j) := by
  unfold V; after_reads_at

/-- The windows' block indices: point `t` takes columns `t / 4` and rows `t % 4`. -/
theorem idx : ∀ t : Fin cfg0.N, (win0_0.index t = ![t.val % 4, 0] ∧ win0_1.index t = ![t.val / 4, 0])
    ∧ win0_2.index t = ![t.val % 4, t.val / 4] ∧ t.val < 12 :=
  (by decide +kernel : ∀ t : Fin grid0.N, _)

def row (t : Fin cfg0.N) (r : Fin 1024) : Fin 4096 := ⟨t.val % 4 * 1024 + r.val, by omega⟩

def col (t : Fin cfg0.N) (q : Fin 2304) : Fin 6912 := ⟨t.val / 4 * 2304 + q.val, by have := (idx t).2.2; omega⟩

/-- The projection of the normalised rows. -/
def pr (i : S4096x6912.Idx) : EReal := ∑ k : Fin 1024, hAt m c (i 0) k * aW m c (ix2 k (i 1))

theorem blk_h (t : Fin cfg0.N) (r : Fin 1024) (k : Fin 1024) :
    (show FVec Ideal S1024x1024 .bf16 from iblk m c 0 t) (ix2 r k) = hAt m c (row t r) k := by
  blk_simp [iblk]
  refine Eq.trans (b := V m c main_v13 (ix2 (row t r) k)) ?_ (entry_h m c _ k)
  unfold row; blk_ext [idx t]

theorem blk_w (t : Fin cfg0.N) (q : Fin 2304) (k : Fin 1024) :
    (show FVec Ideal S2304x1024 .bf16 from iblk m c 1 t) (ix2 q k) = aW m c (ix2 k (col t q)) := by
  blk_simp [iblk]
  refine Eq.trans (b := V m c main_v15 (ix2 (col t q) k)) ?_ (entry_w m c _ k)
  unfold col; blk_ext [idx t]

theorem pay_at (t : Fin cfg0.N) (r : Fin 1024) (q : Fin 2304) :
    k0_pay1 (F := Ideal) (iblk m c 0 t) (iblk m c 1 t) (ix2 r q) = pr m c (ix2 (row t r) (col t q)) := by
  unfold pr
  pointwise [k0_pay1, blk_h, blk_w]

theorem final2 : (dats m 0 c).arrAt 2 (cfgs 0).N = pr m c := by
  refine (dats m 0 c).arrAt_eq_of_covers 2 _ (by decide +kernel) fun t hf y => ?_
  blk_simp
  rw [after0_2]
  frame_out
  obtain ⟨a, b, rfl⟩ : ∃ a b, y = ix2 a b := ⟨y 0, y 1, funext (Fin.forall_fin_two.mpr ⟨rfl, rfl⟩)⟩
  refine (pay_at m c t a b).trans ?_
  generalize pr m c = D
  unfold row col
  blk_point [idx t]

end Cert.ProjIdeal.Value
-- ==== Proof.Proj.Claim.lean ====
module

public import proofs.«01_k».proof.Defs
public import proofs.«01_k».proof.Proof.Proj.Final
public import proofs.«01_k».proof.Proof.Gen.ProjIdeal.Value
public import proofs.«01_k».proof.Proof.Gen.ProjRefIdeal.Run
public import proofs.«01_k».proof.Proof.Gen.ProjRefIdeal.Read

@[expose] public section

/-! The call computes the projection of the normalised rows. -/

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

open Cert.ProjRefIdeal.Read

variable (m : (ℓ : Loc nD τ sig) → Buf (Elt Ideal) ℓ) (c : Dev nD)

theorem ref_h (r : Fin 4096) (k : Fin 1024) : val_main_v12 (F := Ideal) (aX m c) (aG m c) (ix2 r k) = hAt m c r k := by
  unfold hAt Norm.rs Norm.ms xrow
  rw [← Norm.eps_eq, ← Norm.width_eq]
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]

theorem ref_pr : val_main_v14 (F := Ideal) (aX m c) (aG m c) (aW m c) = pr m c := by
  funext y
  obtain ⟨a, b, rfl⟩ : ∃ a b, y = ix2 a b := ⟨y 0, y 1, funext (Fin.forall_fin_two.mpr ⟨rfl, rfl⟩)⟩
  unfold pr
  pointwise [val_main_v14, val_main_v13, ref_h]

theorem frame_reference : Cert.quiescent_ProjRefIdeal := by
  intro m g _
  exact (θ_run Cert.ProjRefIdeal.defs _ _).mono (fun r h => ⟨fun c => (h c).2,
      sem_eq_zero_of_no_sems (by decide) r.2⟩) (Cert.ProjRefIdeal.Value.run (F := Ideal) m g)

theorem algebraic : Cert.algebraic_ProjIdeal_ProjRefIdeal := by
  pair_intro
  · run_from Cert.ProjIdeal.Value.run_blocks m g
  · run_from Cert.ProjRefIdeal.Value.run m' g'
    · exact (Cert.ProjRefIdeal.Read.val_main_v14_eq _ _ _).trans ((ref_pr m c).trans (final2 m c).symm)

end Cert.ProjIdeal.Value
-- ==== Proof.AttnF.Entry.lean ====
module

public import proofs.«01_k».proof.Proof.Gen.AttnFIdeal.Value
public import proofs.«01_k».proof.Proof.Common.Canon
public import Idealize.ShloMosaic.Lib.StableHlo.ReadAt
public import Idealize.ShloMosaic.Lib.Claim

@[expose] public section

/-! The arrays the call is given, and their blocks, in terms of the arguments. -/

set_option maxRecDepth 16384

noncomputable section

namespace Cert.AttnFIdeal.Value

open Cert.AttnFIdeal Cert.AttnFIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The three arguments, as arrays of extended reals. -/
abbrev aQ : S4096x8x64.Idx → EReal := m ((c : Thread nD τ).loc main_arg0)
abbrev aK : S4096x2x64.Idx → EReal := m ((c : Thread nD τ).loc main_arg1)
abbrev aV : S4096x2x64.Idx → EReal := m ((c : Thread nD τ).loc main_arg2)

/-- The logarithm of two, the score scale and one, as the program writes them. -/
def ln2 : EReal := Ideal.log (Ideal.ofBits .f32 0x40000000#32)
def scale : EReal := Ideal.ofBits .f32 0x3E000000#32
def one : EReal := Ideal.ofBits .bf16 0x3F80#16

/-- The head `g` of the group that shares key head `n`. -/
abbrev hd (n : Fin 2) (g : Fin 4) : Fin 8 := ⟨n.val * 4 + g.val, by omega⟩

/-- The values of a group, turned, with rows of ones below. -/
def vteAt (n : Fin 2) (e : Fin 80) (s : Fin 4096) : EReal := if h : e.val < 64 then aV m c (ix3 s n ⟨e.val, h⟩) else one

theorem entry_qt (e : Fin 512) (i : Fin 4096) :
    V m c main_v6 (ix2 e i) = aQ m c (ix3 i ⟨e.val / 64, by omega⟩ ⟨e.val % 64, by omega⟩) * Ideal.div scale ln2 := by
  unfold scale ln2
  unfold V; after_reads_at

theorem entry_kr (s : Fin 4096) (e : Fin 128) :
    V m c main_v12 (ix2 s e) = aK m c (ix3 s ⟨e.val / 64, by omega⟩ ⟨e.val % 64, by omega⟩) := by
  unfold V; after_reads_at

theorem entry_v0 (e : Fin 80) (s : Fin 4096) : V m c main_v14 (ix2 e s) = vteAt m c 0 e s := by
  unfold vteAt one
  unfold V; after_reads_at
  refine dite_congr rfl (fun h => congrArg₂ (fun x y => aV m c (ix3 s x y)) (Fin.ext ?_) (Fin.ext ?_)) fun _ => rfl
  · show (e.val) / 64 = 0
    omega
  · show (e.val) % 64 = e.val
    omega

theorem entry_v1 (e : Fin 80) (s : Fin 4096) : V m c main_v16 (ix2 e s) = vteAt m c 1 e s := by
  unfold vteAt one
  unfold V; after_reads_at
  refine dite_congr rfl (fun h => congrArg₂ (fun x y => aV m c (ix3 s x y)) (Fin.ext ?_) (Fin.ext ?_)) fun _ => rfl
  · show (64 + e.val) / 64 = 1
    omega
  · show (64 + e.val) % 64 = e.val
    omega

/-- The windows' block indices: a block of queries per point, and whole arrays of keys and values. -/
theorem idx : ∀ t : Fin cfg0.N, (win0_0.index t = ![0, t.val] ∧ win0_1.index t = ![0, 0] ∧ win0_2.index t = ![0, 0]
      ∧ win0_3.index t = ![0, 0]) ∧ win0_4.index t = ![t.val, 0] ∧ win0_5.index t = ![0, t.val] ∧ t.val < 8 :=
  (by decide +kernel : ∀ t : Fin grid0.N, _)

/-- The query of the arrays that query `b` of point `t`'s blocks is. -/
def qrow (t : Fin cfg0.N) (b : Fin 512) : Fin 4096 := ⟨t.val * 512 + b.val, by have := (idx t).2.2.2; omega⟩

theorem blk_q (t : Fin cfg0.N) (e : Fin 512) (b : Fin 512) :
    (show FVec Ideal S512x512 .bf16 from iblk m c 0 t) (ix2 e b)
      = aQ m c (ix3 (qrow t b) ⟨e.val / 64, by omega⟩ ⟨e.val % 64, by omega⟩) * Ideal.div scale ln2 := by
  blk_simp [iblk]
  refine Eq.trans (b := V m c main_v6 (ix2 e (qrow t b))) ?_ (entry_qt m c e (qrow t b))
  unfold qrow; blk_ext [idx t]

theorem blk_k (t : Fin cfg0.N) (s : Fin 4096) (e : Fin 128) :
    (show FVec Ideal S4096x128 .bf16 from iblk m c 1 t) (ix2 s e) = aK m c (ix3 s ⟨e.val / 64, by omega⟩ ⟨e.val % 64, by omega⟩) := by
  blk_simp [iblk]
  refine Eq.trans (b := V m c main_v12 (ix2 s e)) ?_ (entry_kr m c s e)
  blk_ext [idx t]

theorem blk_v0 (t : Fin cfg0.N) (e : Fin 80) (s : Fin 4096) :
    (show FVec Ideal S80x4096 .bf16 from iblk m c 2 t) (ix2 e s) = vteAt m c 0 e s := by
  blk_simp [iblk]
  refine Eq.trans (b := V m c main_v14 (ix2 e s)) ?_ (entry_v0 m c e s)
  blk_ext [idx t]

theorem blk_v1 (t : Fin cfg0.N) (e : Fin 80) (s : Fin 4096) :
    (show FVec Ideal S80x4096 .bf16 from iblk m c 3 t) (ix2 e s) = vteAt m c 1 e s := by
  blk_simp [iblk]
  refine Eq.trans (b := V m c main_v16 (ix2 e s)) ?_ (entry_v1 m c e s)
  blk_ext [idx t]

end Cert.AttnFIdeal.Value
-- ==== Proof.AttnF.Load.lean ====
module

public import Idealize.ShloMosaic.Lib.WritesUnit
public import proofs.«01_k».proof.Proof.Gen.AttnFIdeal.Value
public import proofs.«01_k».proof.Proof.Common.Canon

@[expose] public section

/-! Loads of the key loop, read at an index. -/

set_option maxRecDepth 16384

noncomputable section

namespace Cert.AttnFIdeal.Value

open Cert.AttnFIdeal Cert.AttnFIdeal.Gen Idealize.ShloMosaic Idealize.ShloMosaic.TcCoe Idealize.SL.Sem
open Idealize.ShloMosaic.Pipeline (Dat)

theorem trips_eq : k0_t1_loop.trips = 16 := by decide +kernel

theorem off1_eq : ∀ k : Fin k0_t1_loop.trips, k0_off1 k = ![256 * k.val, 0] := by decide +kernel

theorem off2_eq : ∀ k : Fin k0_t1_loop.trips, k0_off2 k = ![0, 256 * k.val] := by decide +kernel

/-- Row `a` of the key chunk of trip `k`. -/
def crow (k : Fin k0_t1_loop.trips) (a : Fin 256) : Fin 4096 :=
  ⟨k.val * 256 + a.val, by have := Nat.lt_of_lt_of_eq k.isLt trips_eq; omega⟩

theorem ld_rows {e : EltTy} (v : View sig .tc .vmem S4096x128 e) (X : v.ty.Contents (Elt Ideal)) (k : Fin k0_t1_loop.trips)
    (inb : ∀ a, (k0_off1 k) a + (![256, 128] : Fin 2 → ℕ) a ≤ S4096x128.size a) (a : Fin 256) (d : Fin 128) :
    View.readAt (Elt Ideal) v (Rect.unit (s := S4096x128) (k0_off1 k) ![256, 128] inb).toLoadRect X (ix2 a d)
      = v.read (Elt Ideal) X (ix2 (crow k a) d) := by
  refine congrArg (v.read (Elt Ideal) X) (funext fun b => Fin.ext ?_)
  show k0_off1 k b + 1 * _ = _
  rw [congrFun (off1_eq k) b]
  revert b
  refine Fin.forall_fin_two.mpr ⟨?_, ?_⟩
  · show 256 * k.val + 1 * a.val = k.val * 256 + a.val
    omega
  · show 0 + 1 * d.val = d.val
    omega

theorem ld_cols {e : EltTy} (v : View sig .tc .vmem S80x4096 e) (X : v.ty.Contents (Elt Ideal)) (k : Fin k0_t1_loop.trips)
    (inb : ∀ a, (k0_off2 k) a + (![80, 256] : Fin 2 → ℕ) a ≤ S80x4096.size a) (d : Fin 80) (a : Fin 256) :
    View.readAt (Elt Ideal) v (Rect.unit (s := S80x4096) (k0_off2 k) ![80, 256] inb).toLoadRect X (ix2 d a)
      = v.read (Elt Ideal) X (ix2 d (crow k a)) := by
  refine congrArg (v.read (Elt Ideal) X) (funext fun b => Fin.ext ?_)
  show k0_off2 k b + 1 * _ = _
  rw [congrFun (off2_eq k) b]
  revert b
  refine Fin.forall_fin_two.mpr ⟨?_, ?_⟩
  · show 0 + 1 * d.val = d.val
    omega
  · show 256 * k.val + 1 * a.val = k.val * 256 + a.val
    omega

theorem ld_row {e : EltTy} (v : View sig .tc .vmem S8x512 e) (X : v.ty.Contents (Elt Ideal)) (h : ℕ) (g : Fin 8) (hg : g.val = h)
    (inb : ∀ a, (![h, 0] : Fin 2 → ℕ) a + (![1, 512] : Fin 2 → ℕ) a ≤ S8x512.size a) (z : Fin 1) (b : Fin 512) :
    View.readAt (Elt Ideal) v (Rect.unit (s := S8x512) ![h, 0] ![1, 512] inb).toLoadRect X (ix2 z b)
      = v.read (Elt Ideal) X (ix2 g b) := by
  refine congrArg (v.read (Elt Ideal) X) (funext fun q => Fin.ext ?_)
  show (![h, 0] : Fin 2 → ℕ) q + 1 * _ = _
  revert q
  refine Fin.forall_fin_two.mpr ⟨?_, ?_⟩
  · show h + 1 * z.val = g.val
    omega
  · show 0 + 1 * b.val = b.val
    omega

theorem ld_slab {e : EltTy} (v : View sig .tc .vmem S8x128x512 e) (X : v.ty.Contents (Elt Ideal)) (h : ℕ) (g : Fin 8) (hg : g.val = h)
    (inb : ∀ a, (![h, 0, 0] : Fin 3 → ℕ) a + (![1, 128, 512] : Fin 3 → ℕ) a ≤ S8x128x512.size a) (z : Fin 1) (d : Fin 128) (b : Fin 512) :
    View.readAt (Elt Ideal) v (Rect.unit (s := S8x128x512) ![h, 0, 0] ![1, 128, 512] inb).toLoadRect X (ix3 z d b)
      = v.read (Elt Ideal) X (ix3 g d b) := by
  refine congrArg (v.read (Elt Ideal) X) (funext fun q => Fin.ext ?_)
  show (![h, 0, 0] : Fin 3 → ℕ) q + 1 * _ = _
  revert q
  refine Fin.forall_fin_succ.mpr ⟨?_, Fin.forall_fin_two.mpr ⟨?_, ?_⟩⟩
  · show h + 1 * z.val = g.val
    omega
  · show 0 + 1 * d.val = d.val
    omega
  · show 0 + 1 * b.val = b.val
    omega

theorem ld_acc {e : EltTy} (v : View sig .tc .vmem S8x80x512 e) (X : v.ty.Contents (Elt Ideal)) (h : ℕ) (g : Fin 8) (hg : g.val = h)
    (inb : ∀ a, (![h, 0, 0] : Fin 3 → ℕ) a + (![1, 80, 512] : Fin 3 → ℕ) a ≤ S8x80x512.size a) (z : Fin 1) (d : Fin 80) (b : Fin 512) :
    View.readAt (Elt Ideal) v (Rect.unit (s := S8x80x512) ![h, 0, 0] ![1, 80, 512] inb).toLoadRect X (ix3 z d b)
      = v.read (Elt Ideal) X (ix3 g d b) := by
  refine congrArg (v.read (Elt Ideal) X) (funext fun q => Fin.ext ?_)
  show (![h, 0, 0] : Fin 3 → ℕ) q + 1 * _ = _
  revert q
  refine Fin.forall_fin_succ.mpr ⟨?_, Fin.forall_fin_two.mpr ⟨?_, ?_⟩⟩
  · show h + 1 * z.val = g.val
    omega
  · show 0 + 1 * d.val = d.val
    omega
  · show 0 + 1 * b.val = b.val
    omega

theorem slab_at (h : ℕ) (g : Fin 8) (hg : g.val = h) (d : Fin 128) (b : Fin 512) (q : Fin 3) :
    (ix3 g d b q).val = (![h, 0, 0] : Fin 3 → ℕ) q + (ix3 (0 : Fin 1) d b q).val := by
  revert q
  refine Fin.forall_fin_succ.mpr ⟨?_, Fin.forall_fin_two.mpr ⟨?_, ?_⟩⟩
  · show g.val = h + 0
    omega
  · show d.val = 0 + d.val
    omega
  · show b.val = 0 + b.val
    omega

theorem acc_at (h : ℕ) (g : Fin 8) (hg : g.val = h) (d : Fin 80) (b : Fin 512) (q : Fin 3) :
    (ix3 g d b q).val = (![h, 0, 0] : Fin 3 → ℕ) q + (ix3 (0 : Fin 1) d b q).val := by
  revert q
  refine Fin.forall_fin_succ.mpr ⟨?_, Fin.forall_fin_two.mpr ⟨?_, ?_⟩⟩
  · show g.val = h + 0
    omega
  · show d.val = 0 + d.val
    omega
  · show b.val = 0 + b.val
    omega

theorem row_at (h : ℕ) (g : Fin 8) (hg : g.val = h) (b : Fin 512) (q : Fin 2) :
    (ix2 g b q).val = (![h, 0] : Fin 2 → ℕ) q + (ix2 (0 : Fin 1) b q).val := by
  revert q
  refine Fin.forall_fin_two.mpr ⟨?_, ?_⟩
  · show g.val = h + 0
    omega
  · show b.val = 0 + b.val
    omega

end Cert.AttnFIdeal.Value
-- ==== Proof.AttnF.Trip.lean ====
module

public import proofs.«01_k».proof.Proof.AttnF.Load

@[expose] public section

/-! One trip of the key loop: the running maximum and the running sums of each head. -/

set_option maxRecDepth 16384

noncomputable section

namespace Cert.AttnFIdeal.Value

open Cert.AttnFIdeal Cert.AttnFIdeal.Gen Idealize.ShloMosaic Idealize.ShloMosaic.TcCoe Idealize.SL.Sem
open Idealize.ShloMosaic.Pipeline (Dat)

/-- The score of query `b` at key `r`, head `h`. -/
def sAt (K : S4096x128.Idx → EReal) (Q : S8x128x512.Idx → EReal) (h : Fin 8) (r : Fin 4096) (b : Fin 512) : EReal :=
  ∑ d : Fin 128, K (ix2 r d) * Q (ix3 h d b)

/-- The running maximum after the chunk of trip `k`. -/
def mNew (K : S4096x128.Idx → EReal) (Q : S8x128x512.Idx → EReal) (M : EReal) (h : Fin 8) (k : Fin k0_t1_loop.trips) (b : Fin 512) : EReal :=
  max M (Finset.univ.fold max (Ideal.ofBits .f32 0xFF800000#32) fun a : Fin 256 => sAt K Q h (crow k a) b)

/-- The running sum after the chunk of trip `k`. -/
def aNew (K : S4096x128.Idx → EReal) (Q : S8x128x512.Idx → EReal) (W : S80x4096.Idx → EReal) (M A : EReal) (h : Fin 8)
    (k : Fin k0_t1_loop.trips) (d : Fin 80) (b : Fin 512) : EReal :=
  A * FloatOps.exp2 (F := Ideal) (φ := .f32) (M - mNew K Q M h k b)
    + ∑ a : Fin 256, W (ix2 d (crow k a)) * FloatOps.exp2 (F := Ideal) (φ := .f32) (sAt K Q h (crow k a) b - mNew K Q M h k b)

variable (a2 : Memref sig .tc .vmem S4096x128 .bf16) (a3 : Memref sig .tc .vmem S80x4096 .bf16) (a4 : Memref sig .tc .vmem S80x4096 .bf16) (a7 : Memref sig .tc .vmem S8x128x512 .bf16) (a8 : Memref sig .tc .vmem S8x512 .f32) (a9 : Memref sig .tc .vmem S8x80x512 .f32)
  (X2 : BufTy.Contents (Elt Ideal) a2.view.ty) (X3 : BufTy.Contents (Elt Ideal) a3.view.ty) (X4 : BufTy.Contents (Elt Ideal) a4.view.ty) (X7 : BufTy.Contents (Elt Ideal) a7.view.ty)
  (f8 : BufTy.Contents (Elt Ideal) a8.view.ty) (f9 : BufTy.Contents (Elt Ideal) a9.view.ty)

theorem s_0 (k : Fin k0_t1_loop.trips) (a : Fin 256) (b : Fin 512) :
    trip_k0_t1.sl.r_3 a2 a7 X2 X7 k (ix2 a b) = sAt (a2.view.read (Elt Ideal) X2) (a7.view.read (Elt Ideal) X7) 0 (crow k a) b := by
  unfold trip_k0_t1.sl.r_3 sAt
  pointwise [k0_pay10, k0_pay7, trip_k0_t1.sl.r, ld_rows, ld_slab a7.view X7 0 0 rfl]

theorem s_1 (k : Fin k0_t1_loop.trips) (a : Fin 256) (b : Fin 512) :
    trip_k0_t1.sl.r_4 a2 a7 X2 X7 k (ix2 a b) = sAt (a2.view.read (Elt Ideal) X2) (a7.view.read (Elt Ideal) X7) 1 (crow k a) b := by
  unfold trip_k0_t1.sl.r_4 sAt
  pointwise [k0_pay11, k0_pay7, trip_k0_t1.sl.r, ld_rows, ld_slab a7.view X7 1 1 rfl]

theorem s_2 (k : Fin k0_t1_loop.trips) (a : Fin 256) (b : Fin 512) :
    trip_k0_t1.sl.r_5 a2 a7 X2 X7 k (ix2 a b) = sAt (a2.view.read (Elt Ideal) X2) (a7.view.read (Elt Ideal) X7) 2 (crow k a) b := by
  unfold trip_k0_t1.sl.r_5 sAt
  pointwise [k0_pay12, k0_pay7, trip_k0_t1.sl.r, ld_rows, ld_slab a7.view X7 2 2 rfl]

theorem s_3 (k : Fin k0_t1_loop.trips) (a : Fin 256) (b : Fin 512) :
    trip_k0_t1.sl.r_6 a2 a7 X2 X7 k (ix2 a b) = sAt (a2.view.read (Elt Ideal) X2) (a7.view.read (Elt Ideal) X7) 3 (crow k a) b := by
  unfold trip_k0_t1.sl.r_6 sAt
  pointwise [k0_pay13, k0_pay7, trip_k0_t1.sl.r, ld_rows, ld_slab a7.view X7 3 3 rfl]

theorem s_4 (k : Fin k0_t1_loop.trips) (a : Fin 256) (b : Fin 512) :
    trip_k0_t1.sl.r_7 a2 a7 X2 X7 k (ix2 a b) = sAt (a2.view.read (Elt Ideal) X2) (a7.view.read (Elt Ideal) X7) 4 (crow k a) b := by
  unfold trip_k0_t1.sl.r_7 sAt
  pointwise [k0_pay14, k0_pay7, trip_k0_t1.sl.r, ld_rows, ld_slab a7.view X7 4 4 rfl]

theorem s_5 (k : Fin k0_t1_loop.trips) (a : Fin 256) (b : Fin 512) :
    trip_k0_t1.sl.r_8 a2 a7 X2 X7 k (ix2 a b) = sAt (a2.view.read (Elt Ideal) X2) (a7.view.read (Elt Ideal) X7) 5 (crow k a) b := by
  unfold trip_k0_t1.sl.r_8 sAt
  pointwise [k0_pay15, k0_pay7, trip_k0_t1.sl.r, ld_rows, ld_slab a7.view X7 5 5 rfl]

theorem s_6 (k : Fin k0_t1_loop.trips) (a : Fin 256) (b : Fin 512) :
    trip_k0_t1.sl.r_9 a2 a7 X2 X7 k (ix2 a b) = sAt (a2.view.read (Elt Ideal) X2) (a7.view.read (Elt Ideal) X7) 6 (crow k a) b := by
  unfold trip_k0_t1.sl.r_9 sAt
  pointwise [k0_pay16, k0_pay7, trip_k0_t1.sl.r, ld_rows, ld_slab a7.view X7 6 6 rfl]

theorem s_7 (k : Fin k0_t1_loop.trips) (a : Fin 256) (b : Fin 512) :
    trip_k0_t1.sl.r_10 a2 a7 X2 X7 k (ix2 a b) = sAt (a2.view.read (Elt Ideal) X2) (a7.view.read (Elt Ideal) X7) 7 (crow k a) b := by
  unfold trip_k0_t1.sl.r_10 sAt
  pointwise [k0_pay17, k0_pay7, trip_k0_t1.sl.r, ld_rows, ld_slab a7.view X7 7 7 rfl]

theorem w_1 (k : Fin k0_t1_loop.trips) (d : Fin 80) (a : Fin 256) :
    trip_k0_t1.sl.r_1 a3 X3 k (ix2 d a) = a3.view.read (Elt Ideal) X3 (ix2 d (crow k a)) := by
  unfold trip_k0_t1.sl.r_1
  pointwise [k0_pay8, ld_cols]

theorem w_2 (k : Fin k0_t1_loop.trips) (d : Fin 80) (a : Fin 256) :
    trip_k0_t1.sl.r_2 a4 X4 k (ix2 d a) = a4.view.read (Elt Ideal) X4 (ix2 d (crow k a)) := by
  unfold trip_k0_t1.sl.r_2
  pointwise [k0_pay9, ld_cols]

theorem mt_0 (k : Fin k0_t1_loop.trips) (b : Fin 512) :
    (k0_pay20 (trip_k0_t1.sl.r_3 a2 a7 X2 X7 k) (View.readAt (Elt Ideal) a8.view (Rect.unit (s := S8x512) ![0, 0] ![1, 512] inb_S8x512_S1x512_0_0).toLoadRect f8)) (ix2 0 b) = mNew (a2.view.read (Elt Ideal) X2) (a7.view.read (Elt Ideal) X7) (a8.view.read (Elt Ideal) f8 (ix2 0 b)) 0 k b := by
  unfold mNew
  pointwise [k0_pay20, k0_pay18, s_0, ld_row a8.view f8 0 0 rfl]

theorem at_0 (k : Fin k0_t1_loop.trips) (d : Fin 80) (b : Fin 512) :
    (k0_pay19 (trip_k0_t1.sl.r_1 a3 X3 k) (trip_k0_t1.sl.r_3 a2 a7 X2 X7 k) (View.readAt (Elt Ideal) a8.view (Rect.unit (s := S8x512) ![0, 0] ![1, 512] inb_S8x512_S1x512_0_0).toLoadRect f8) (View.readAt (Elt Ideal) a9.view (Rect.unit (s := S8x80x512) ![0, 0, 0] ![1, 80, 512] inb_S8x80x512_S1x80x512_0_0_0).toLoadRect f9)) (ix3 0 d b) = aNew (a2.view.read (Elt Ideal) X2) (a7.view.read (Elt Ideal) X7) (a3.view.read (Elt Ideal) X3) (a8.view.read (Elt Ideal) f8 (ix2 0 b)) (a9.view.read (Elt Ideal) f9 (ix3 0 d b)) 0 k d b := by
  unfold aNew mNew
  pointwise [k0_pay19, k0_pay18, s_0, w_1, ld_row a8.view f8 0 0 rfl, ld_acc a9.view f9 0 0 rfl]

theorem mt_1 (k : Fin k0_t1_loop.trips) (b : Fin 512) :
    (k0_pay24 (trip_k0_t1.sl.r_11 a2 a7 a8 X2 X7 k f8)) (ix2 0 b) = mNew (a2.view.read (Elt Ideal) X2) (a7.view.read (Elt Ideal) X7) (a8.view.read (Elt Ideal) f8 (ix2 1 b)) 1 k b := by
  unfold mNew
  pointwise [k0_pay24, k0_pay21, trip_k0_t1.sl.r_11, s_1, trip_k0_t1.sl.v223, ld_row a8.view f8 1 1 rfl]

theorem at_1 (k : Fin k0_t1_loop.trips) (d : Fin 80) (b : Fin 512) :
    (k0_pay23 (trip_k0_t1.sl.r_1 a3 X3 k) (trip_k0_t1.sl.v223 a8 f8) (trip_k0_t1.sl.r_11 a2 a7 a8 X2 X7 k f8) (trip_k0_t1.sl.r_12 a2 a7 a8 X2 X7 k f8) (trip_k0_t1.sl.v230 a9 f9)) (ix3 0 d b) = aNew (a2.view.read (Elt Ideal) X2) (a7.view.read (Elt Ideal) X7) (a3.view.read (Elt Ideal) X3) (a8.view.read (Elt Ideal) f8 (ix2 1 b)) (a9.view.read (Elt Ideal) f9 (ix3 1 d b)) 1 k d b := by
  unfold aNew mNew
  pointwise [k0_pay23, k0_pay22, k0_pay21, trip_k0_t1.sl.r_11, trip_k0_t1.sl.r_12, s_1, w_1, trip_k0_t1.sl.v223, trip_k0_t1.sl.v230, ld_row a8.view f8 1 1 rfl, ld_acc a9.view f9 1 1 rfl]

theorem mt_2 (k : Fin k0_t1_loop.trips) (b : Fin 512) :
    (k0_pay27 (trip_k0_t1.sl.r_5 a2 a7 X2 X7 k) (trip_k0_t1.sl.v245 a8 f8)) (ix2 0 b) = mNew (a2.view.read (Elt Ideal) X2) (a7.view.read (Elt Ideal) X7) (a8.view.read (Elt Ideal) f8 (ix2 2 b)) 2 k b := by
  unfold mNew
  pointwise [k0_pay27, k0_pay25, s_2, trip_k0_t1.sl.v245, ld_row a8.view f8 2 2 rfl]

theorem at_2 (k : Fin k0_t1_loop.trips) (d : Fin 80) (b : Fin 512) :
    (k0_pay26 (trip_k0_t1.sl.r_1 a3 X3 k) (trip_k0_t1.sl.r_5 a2 a7 X2 X7 k) (trip_k0_t1.sl.v245 a8 f8) (trip_k0_t1.sl.v252 a9 f9)) (ix3 0 d b) = aNew (a2.view.read (Elt Ideal) X2) (a7.view.read (Elt Ideal) X7) (a3.view.read (Elt Ideal) X3) (a8.view.read (Elt Ideal) f8 (ix2 2 b)) (a9.view.read (Elt Ideal) f9 (ix3 2 d b)) 2 k d b := by
  unfold aNew mNew
  pointwise [k0_pay26, k0_pay25, s_2, w_1, trip_k0_t1.sl.v245, trip_k0_t1.sl.v252, ld_row a8.view f8 2 2 rfl, ld_acc a9.view f9 2 2 rfl]

theorem mt_3 (k : Fin k0_t1_loop.trips) (b : Fin 512) :
    (k0_pay30 (trip_k0_t1.sl.r_6 a2 a7 X2 X7 k) (trip_k0_t1.sl.v267 a8 f8)) (ix2 0 b) = mNew (a2.view.read (Elt Ideal) X2) (a7.view.read (Elt Ideal) X7) (a8.view.read (Elt Ideal) f8 (ix2 3 b)) 3 k b := by
  unfold mNew
  pointwise [k0_pay30, k0_pay28, s_3, trip_k0_t1.sl.v267, ld_row a8.view f8 3 3 rfl]

theorem at_3 (k : Fin k0_t1_loop.trips) (d : Fin 80) (b : Fin 512) :
    (k0_pay29 (trip_k0_t1.sl.r_1 a3 X3 k) (trip_k0_t1.sl.r_6 a2 a7 X2 X7 k) (trip_k0_t1.sl.v267 a8 f8) (trip_k0_t1.sl.v274 a9 f9)) (ix3 0 d b) = aNew (a2.view.read (Elt Ideal) X2) (a7.view.read (Elt Ideal) X7) (a3.view.read (Elt Ideal) X3) (a8.view.read (Elt Ideal) f8 (ix2 3 b)) (a9.view.read (Elt Ideal) f9 (ix3 3 d b)) 3 k d b := by
  unfold aNew mNew
  pointwise [k0_pay29, k0_pay28, s_3, w_1, trip_k0_t1.sl.v267, trip_k0_t1.sl.v274, ld_row a8.view f8 3 3 rfl, ld_acc a9.view f9 3 3 rfl]

theorem mt_4 (k : Fin k0_t1_loop.trips) (b : Fin 512) :
    (k0_pay34 (trip_k0_t1.sl.r_13 a2 a7 a8 X2 X7 k f8)) (ix2 0 b) = mNew (a2.view.read (Elt Ideal) X2) (a7.view.read (Elt Ideal) X7) (a8.view.read (Elt Ideal) f8 (ix2 4 b)) 4 k b := by
  unfold mNew
  pointwise [k0_pay34, k0_pay31, trip_k0_t1.sl.r_13, s_4, trip_k0_t1.sl.v289, ld_row a8.view f8 4 4 rfl]

theorem at_4 (k : Fin k0_t1_loop.trips) (d : Fin 80) (b : Fin 512) :
    (k0_pay33 (trip_k0_t1.sl.r_14 a2 a4 a7 a8 a9 X2 X4 X7 k f8 f9)) (ix3 0 d b) = aNew (a2.view.read (Elt Ideal) X2) (a7.view.read (Elt Ideal) X7) (a4.view.read (Elt Ideal) X4) (a8.view.read (Elt Ideal) f8 (ix2 4 b)) (a9.view.read (Elt Ideal) f9 (ix3 4 d b)) 4 k d b := by
  unfold aNew mNew
  pointwise [k0_pay33, k0_pay32, k0_pay31, trip_k0_t1.sl.r_14, s_4, w_2, trip_k0_t1.sl.v289, trip_k0_t1.sl.v296, ld_row a8.view f8 4 4 rfl, ld_acc a9.view f9 4 4 rfl]

theorem mt_5 (k : Fin k0_t1_loop.trips) (b : Fin 512) :
    (k0_pay37 (trip_k0_t1.sl.r_8 a2 a7 X2 X7 k) (trip_k0_t1.sl.v311 a8 f8)) (ix2 0 b) = mNew (a2.view.read (Elt Ideal) X2) (a7.view.read (Elt Ideal) X7) (a8.view.read (Elt Ideal) f8 (ix2 5 b)) 5 k b := by
  unfold mNew
  pointwise [k0_pay37, k0_pay35, s_5, trip_k0_t1.sl.v311, ld_row a8.view f8 5 5 rfl]

theorem at_5 (k : Fin k0_t1_loop.trips) (d : Fin 80) (b : Fin 512) :
    (k0_pay36 (trip_k0_t1.sl.r_2 a4 X4 k) (trip_k0_t1.sl.r_8 a2 a7 X2 X7 k) (trip_k0_t1.sl.v311 a8 f8) (trip_k0_t1.sl.v318 a9 f9)) (ix3 0 d b) = aNew (a2.view.read (Elt Ideal) X2) (a7.view.read (Elt Ideal) X7) (a4.view.read (Elt Ideal) X4) (a8.view.read (Elt Ideal) f8 (ix2 5 b)) (a9.view.read (Elt Ideal) f9 (ix3 5 d b)) 5 k d b := by
  unfold aNew mNew
  pointwise [k0_pay36, k0_pay35, s_5, w_2, trip_k0_t1.sl.v311, trip_k0_t1.sl.v318, ld_row a8.view f8 5 5 rfl, ld_acc a9.view f9 5 5 rfl]

theorem mt_6 (k : Fin k0_t1_loop.trips) (b : Fin 512) :
    (k0_pay41 (trip_k0_t1.sl.r_15 a2 a7 a8 X2 X7 k f8)) (ix2 0 b) = mNew (a2.view.read (Elt Ideal) X2) (a7.view.read (Elt Ideal) X7) (a8.view.read (Elt Ideal) f8 (ix2 6 b)) 6 k b := by
  unfold mNew
  pointwise [k0_pay41, k0_pay38, trip_k0_t1.sl.r_15, s_6, trip_k0_t1.sl.v333, ld_row a8.view f8 6 6 rfl]

theorem at_6 (k : Fin k0_t1_loop.trips) (d : Fin 80) (b : Fin 512) :
    (k0_pay40 (trip_k0_t1.sl.r_2 a4 X4 k) (trip_k0_t1.sl.v333 a8 f8) (trip_k0_t1.sl.r_15 a2 a7 a8 X2 X7 k f8) (trip_k0_t1.sl.r_16 a2 a7 a8 X2 X7 k f8) (trip_k0_t1.sl.v340 a9 f9)) (ix3 0 d b) = aNew (a2.view.read (Elt Ideal) X2) (a7.view.read (Elt Ideal) X7) (a4.view.read (Elt Ideal) X4) (a8.view.read (Elt Ideal) f8 (ix2 6 b)) (a9.view.read (Elt Ideal) f9 (ix3 6 d b)) 6 k d b := by
  unfold aNew mNew
  pointwise [k0_pay40, k0_pay39, k0_pay38, trip_k0_t1.sl.r_15, trip_k0_t1.sl.r_16, s_6, w_2, trip_k0_t1.sl.v333, trip_k0_t1.sl.v340, ld_row a8.view f8 6 6 rfl, ld_acc a9.view f9 6 6 rfl]

theorem mt_7 (k : Fin k0_t1_loop.trips) (b : Fin 512) :
    (k0_pay44 (trip_k0_t1.sl.r_10 a2 a7 X2 X7 k) (trip_k0_t1.sl.v355 a8 f8)) (ix2 0 b) = mNew (a2.view.read (Elt Ideal) X2) (a7.view.read (Elt Ideal) X7) (a8.view.read (Elt Ideal) f8 (ix2 7 b)) 7 k b := by
  unfold mNew
  pointwise [k0_pay44, k0_pay42, s_7, trip_k0_t1.sl.v355, ld_row a8.view f8 7 7 rfl]

theorem at_7 (k : Fin k0_t1_loop.trips) (d : Fin 80) (b : Fin 512) :
    (k0_pay43 (trip_k0_t1.sl.r_2 a4 X4 k) (trip_k0_t1.sl.r_10 a2 a7 X2 X7 k) (trip_k0_t1.sl.v355 a8 f8) (trip_k0_t1.sl.v362 a9 f9)) (ix3 0 d b) = aNew (a2.view.read (Elt Ideal) X2) (a7.view.read (Elt Ideal) X7) (a4.view.read (Elt Ideal) X4) (a8.view.read (Elt Ideal) f8 (ix2 7 b)) (a9.view.read (Elt Ideal) f9 (ix3 7 d b)) 7 k d b := by
  unfold aNew mNew
  pointwise [k0_pay43, k0_pay42, s_7, w_2, trip_k0_t1.sl.v355, trip_k0_t1.sl.v362, ld_row a8.view f8 7 7 rfl, ld_acc a9.view f9 7 7 rfl]

end Cert.AttnFIdeal.Value
-- ==== Proof.AttnF.Loop.lean ====
module

public import proofs.«01_k».proof.Proof.AttnF.Trip

@[expose] public section

/-! The running maximum and sums after a trip of the key loop. -/

set_option maxRecDepth 16384

noncomputable section

namespace Cert.AttnFIdeal.Value

open Cert.AttnFIdeal Cert.AttnFIdeal.Gen Idealize.ShloMosaic Idealize.ShloMosaic.TcCoe Idealize.SL.Sem
open Idealize.ShloMosaic.Pipeline (Dat)

variable (𝒱 : Variants) (c : Dev nD) (bd : Option 𝒱.V) (i : grid0.Coords)
  (a1 : Memref sig .tc .vmem S512x512 .bf16) (h1 : a1.IsWhole)
  (a2 : Memref sig .tc .vmem S4096x128 .bf16) (h2 : a2.IsWhole)
  (a3 : Memref sig .tc .vmem S80x4096 .bf16) (h3 : a3.IsWhole)
  (a4 : Memref sig .tc .vmem S80x4096 .bf16) (h4 : a4.IsWhole)
  (a5 : Memref sig .tc .vmem S512x512 .f32) (h5 : a5.IsWhole)
  (a6 : Memref sig .tc .vmem S8x512 .f32) (h6 : a6.IsWhole)
  (a7 : Memref sig .tc .vmem S8x128x512 .bf16) (h7 : a7.IsWhole)
  (a8 : Memref sig .tc .vmem S8x512 .f32) (h8 : a8.IsWhole)
  (a9 : Memref sig .tc .vmem S8x80x512 .f32) (h9 : a9.IsWhole)
  (v59 : FVec Ideal S8x512 .f32)
  (X2 : BufTy.Contents (Elt Ideal) a2.view.ty)
  (X3 : BufTy.Contents (Elt Ideal) a3.view.ty)
  (X4 : BufTy.Contents (Elt Ideal) a4.view.ty)
  (X7 : BufTy.Contents (Elt Ideal) a7.view.ty)
  (f8 : BufTy.Contents (Elt Ideal) a8.view.ty) (f9 : BufTy.Contents (Elt Ideal) a9.view.ty)

theorem m_read0 (k : Fin k0_t1_loop.trips) (b : Fin 512) :
    a8.view.read (Elt Ideal) (a8.view.writes (Elt Ideal) f8 (tripL_k0_t1 (F := Ideal) 𝒱 c bd i a1 h1 a2 h2 a3 h3 a4 h4 a5 h5 a6 h6 a7 h7 a8 h8 a9 h9 v59 X2 X3 X4 X7 k f8 f9).1) (ix2 0 b)
      = mNew (a2.view.read (Elt Ideal) X2) (a7.view.read (Elt Ideal) X7) (a8.view.read (Elt Ideal) f8 (ix2 0 b)) 0 k b := by
  unfold tripL_k0_t1 trip_k0_t1
  dsimp only
  refine (View.read_writes_cons_unit_of_not_mem a8.view f8 _ _ _ (ix2 0 b) (off' := ![7, 0]) rfl 0 (Or.inl (by show 0 < 7; decide))).trans ?_
  refine (View.read_writes_cons_unit_of_not_mem a8.view f8 _ _ _ (ix2 0 b) (off' := ![6, 0]) rfl 0 (Or.inl (by show 0 < 6; decide))).trans ?_
  refine (View.read_writes_cons_unit_of_not_mem a8.view f8 _ _ _ (ix2 0 b) (off' := ![5, 0]) rfl 0 (Or.inl (by show 0 < 5; decide))).trans ?_
  refine (View.read_writes_cons_unit_of_not_mem a8.view f8 _ _ _ (ix2 0 b) (off' := ![4, 0]) rfl 0 (Or.inl (by show 0 < 4; decide))).trans ?_
  refine (View.read_writes_cons_unit_of_not_mem a8.view f8 _ _ _ (ix2 0 b) (off' := ![3, 0]) rfl 0 (Or.inl (by show 0 < 3; decide))).trans ?_
  refine (View.read_writes_cons_unit_of_not_mem a8.view f8 _ _ _ (ix2 0 b) (off' := ![2, 0]) rfl 0 (Or.inl (by show 0 < 2; decide))).trans ?_
  refine (View.read_writes_cons_unit_of_not_mem a8.view f8 _ _ _ (ix2 0 b) (off' := ![1, 0]) rfl 0 (Or.inl (by show 0 < 1; decide))).trans ?_
  refine (View.read_writes_cons_unit_of_mem a8.view f8 _ _ _ (ix2 0 b) (ix2 0 b) (off' := ![0, 0]) rfl
    (row_at 0 0 rfl b)).trans ?_
  exact mt_0 a2 a7 a8 X2 X7 f8 k b

theorem a_read0 (k : Fin k0_t1_loop.trips) (d : Fin 80) (b : Fin 512) :
    a9.view.read (Elt Ideal) (a9.view.writes (Elt Ideal) f9 (tripL_k0_t1 (F := Ideal) 𝒱 c bd i a1 h1 a2 h2 a3 h3 a4 h4 a5 h5 a6 h6 a7 h7 a8 h8 a9 h9 v59 X2 X3 X4 X7 k f8 f9).2) (ix3 0 d b)
      = aNew (a2.view.read (Elt Ideal) X2) (a7.view.read (Elt Ideal) X7) (a3.view.read (Elt Ideal) X3) (a8.view.read (Elt Ideal) f8 (ix2 0 b)) (a9.view.read (Elt Ideal) f9 (ix3 0 d b)) 0 k d b := by
  unfold tripL_k0_t1 trip_k0_t1
  dsimp only
  refine (View.read_writes_cons_unit_of_not_mem a9.view f9 _ _ _ (ix3 0 d b) (off' := ![7, 0, 0]) rfl 0 (Or.inl (by show 0 < 7; decide))).trans ?_
  refine (View.read_writes_cons_unit_of_not_mem a9.view f9 _ _ _ (ix3 0 d b) (off' := ![6, 0, 0]) rfl 0 (Or.inl (by show 0 < 6; decide))).trans ?_
  refine (View.read_writes_cons_unit_of_not_mem a9.view f9 _ _ _ (ix3 0 d b) (off' := ![5, 0, 0]) rfl 0 (Or.inl (by show 0 < 5; decide))).trans ?_
  refine (View.read_writes_cons_unit_of_not_mem a9.view f9 _ _ _ (ix3 0 d b) (off' := ![4, 0, 0]) rfl 0 (Or.inl (by show 0 < 4; decide))).trans ?_
  refine (View.read_writes_cons_unit_of_not_mem a9.view f9 _ _ _ (ix3 0 d b) (off' := ![3, 0, 0]) rfl 0 (Or.inl (by show 0 < 3; decide))).trans ?_
  refine (View.read_writes_cons_unit_of_not_mem a9.view f9 _ _ _ (ix3 0 d b) (off' := ![2, 0, 0]) rfl 0 (Or.inl (by show 0 < 2; decide))).trans ?_
  refine (View.read_writes_cons_unit_of_not_mem a9.view f9 _ _ _ (ix3 0 d b) (off' := ![1, 0, 0]) rfl 0 (Or.inl (by show 0 < 1; decide))).trans ?_
  refine (View.read_writes_cons_unit_of_mem a9.view f9 _ _ _ (ix3 0 d b) (ix3 0 d b) (off' := ![0, 0, 0]) rfl
    (acc_at 0 0 rfl d b)).trans ?_
  exact at_0 a2 a3 a7 a8 a9 X2 X3 X7 f8 f9 k d b

theorem m_read1 (k : Fin k0_t1_loop.trips) (b : Fin 512) :
    a8.view.read (Elt Ideal) (a8.view.writes (Elt Ideal) f8 (tripL_k0_t1 (F := Ideal) 𝒱 c bd i a1 h1 a2 h2 a3 h3 a4 h4 a5 h5 a6 h6 a7 h7 a8 h8 a9 h9 v59 X2 X3 X4 X7 k f8 f9).1) (ix2 1 b)
      = mNew (a2.view.read (Elt Ideal) X2) (a7.view.read (Elt Ideal) X7) (a8.view.read (Elt Ideal) f8 (ix2 1 b)) 1 k b := by
  unfold tripL_k0_t1 trip_k0_t1
  dsimp only
  refine (View.read_writes_cons_unit_of_not_mem a8.view f8 _ _ _ (ix2 1 b) (off' := ![7, 0]) rfl 0 (Or.inl (by show 1 < 7; decide))).trans ?_
  refine (View.read_writes_cons_unit_of_not_mem a8.view f8 _ _ _ (ix2 1 b) (off' := ![6, 0]) rfl 0 (Or.inl (by show 1 < 6; decide))).trans ?_
  refine (View.read_writes_cons_unit_of_not_mem a8.view f8 _ _ _ (ix2 1 b) (off' := ![5, 0]) rfl 0 (Or.inl (by show 1 < 5; decide))).trans ?_
  refine (View.read_writes_cons_unit_of_not_mem a8.view f8 _ _ _ (ix2 1 b) (off' := ![4, 0]) rfl 0 (Or.inl (by show 1 < 4; decide))).trans ?_
  refine (View.read_writes_cons_unit_of_not_mem a8.view f8 _ _ _ (ix2 1 b) (off' := ![3, 0]) rfl 0 (Or.inl (by show 1 < 3; decide))).trans ?_
  refine (View.read_writes_cons_unit_of_not_mem a8.view f8 _ _ _ (ix2 1 b) (off' := ![2, 0]) rfl 0 (Or.inl (by show 1 < 2; decide))).trans ?_
  refine (View.read_writes_cons_unit_of_mem a8.view f8 _ _ _ (ix2 1 b) (ix2 0 b) (off' := ![1, 0]) rfl
    (row_at 1 1 rfl b)).trans ?_
  exact mt_1 a2 a7 a8 X2 X7 f8 k b

theorem a_read1 (k : Fin k0_t1_loop.trips) (d : Fin 80) (b : Fin 512) :
    a9.view.read (Elt Ideal) (a9.view.writes (Elt Ideal) f9 (tripL_k0_t1 (F := Ideal) 𝒱 c bd i a1 h1 a2 h2 a3 h3 a4 h4 a5 h5 a6 h6 a7 h7 a8 h8 a9 h9 v59 X2 X3 X4 X7 k f8 f9).2) (ix3 1 d b)
      = aNew (a2.view.read (Elt Ideal) X2) (a7.view.read (Elt Ideal) X7) (a3.view.read (Elt Ideal) X3) (a8.view.read (Elt Ideal) f8 (ix2 1 b)) (a9.view.read (Elt Ideal) f9 (ix3 1 d b)) 1 k d b := by
  unfold tripL_k0_t1 trip_k0_t1
  dsimp only
  refine (View.read_writes_cons_unit_of_not_mem a9.view f9 _ _ _ (ix3 1 d b) (off' := ![7, 0, 0]) rfl 0 (Or.inl (by show 1 < 7; decide))).trans ?_
  refine (View.read_writes_cons_unit_of_not_mem a9.view f9 _ _ _ (ix3 1 d b) (off' := ![6, 0, 0]) rfl 0 (Or.inl (by show 1 < 6; decide))).trans ?_
  refine (View.read_writes_cons_unit_of_not_mem a9.view f9 _ _ _ (ix3 1 d b) (off' := ![5, 0, 0]) rfl 0 (Or.inl (by show 1 < 5; decide))).trans ?_
  refine (View.read_writes_cons_unit_of_not_mem a9.view f9 _ _ _ (ix3 1 d b) (off' := ![4, 0, 0]) rfl 0 (Or.inl (by show 1 < 4; decide))).trans ?_
  refine (View.read_writes_cons_unit_of_not_mem a9.view f9 _ _ _ (ix3 1 d b) (off' := ![3, 0, 0]) rfl 0 (Or.inl (by show 1 < 3; decide))).trans ?_
  refine (View.read_writes_cons_unit_of_not_mem a9.view f9 _ _ _ (ix3 1 d b) (off' := ![2, 0, 0]) rfl 0 (Or.inl (by show 1 < 2; decide))).trans ?_
  refine (View.read_writes_cons_unit_of_mem a9.view f9 _ _ _ (ix3 1 d b) (ix3 0 d b) (off' := ![1, 0, 0]) rfl
    (acc_at 1 1 rfl d b)).trans ?_
  exact at_1 a2 a3 a7 a8 a9 X2 X3 X7 f8 f9 k d b

theorem m_read2 (k : Fin k0_t1_loop.trips) (b : Fin 512) :
    a8.view.read (Elt Ideal) (a8.view.writes (Elt Ideal) f8 (tripL_k0_t1 (F := Ideal) 𝒱 c bd i a1 h1 a2 h2 a3 h3 a4 h4 a5 h5 a6 h6 a7 h7 a8 h8 a9 h9 v59 X2 X3 X4 X7 k f8 f9).1) (ix2 2 b)
      = mNew (a2.view.read (Elt Ideal) X2) (a7.view.read (Elt Ideal) X7) (a8.view.read (Elt Ideal) f8 (ix2 2 b)) 2 k b := by
  unfold tripL_k0_t1 trip_k0_t1
  dsimp only
  refine (View.read_writes_cons_unit_of_not_mem a8.view f8 _ _ _ (ix2 2 b) (off' := ![7, 0]) rfl 0 (Or.inl (by show 2 < 7; decide))).trans ?_
  refine (View.read_writes_cons_unit_of_not_mem a8.view f8 _ _ _ (ix2 2 b) (off' := ![6, 0]) rfl 0 (Or.inl (by show 2 < 6; decide))).trans ?_
  refine (View.read_writes_cons_unit_of_not_mem a8.view f8 _ _ _ (ix2 2 b) (off' := ![5, 0]) rfl 0 (Or.inl (by show 2 < 5; decide))).trans ?_
  refine (View.read_writes_cons_unit_of_not_mem a8.view f8 _ _ _ (ix2 2 b) (off' := ![4, 0]) rfl 0 (Or.inl (by show 2 < 4; decide))).trans ?_
  refine (View.read_writes_cons_unit_of_not_mem a8.view f8 _ _ _ (ix2 2 b) (off' := ![3, 0]) rfl 0 (Or.inl (by show 2 < 3; decide))).trans ?_
  refine (View.read_writes_cons_unit_of_mem a8.view f8 _ _ _ (ix2 2 b) (ix2 0 b) (off' := ![2, 0]) rfl
    (row_at 2 2 rfl b)).trans ?_
  exact mt_2 a2 a7 a8 X2 X7 f8 k b

theorem a_read2 (k : Fin k0_t1_loop.trips) (d : Fin 80) (b : Fin 512) :
    a9.view.read (Elt Ideal) (a9.view.writes (Elt Ideal) f9 (tripL_k0_t1 (F := Ideal) 𝒱 c bd i a1 h1 a2 h2 a3 h3 a4 h4 a5 h5 a6 h6 a7 h7 a8 h8 a9 h9 v59 X2 X3 X4 X7 k f8 f9).2) (ix3 2 d b)
      = aNew (a2.view.read (Elt Ideal) X2) (a7.view.read (Elt Ideal) X7) (a3.view.read (Elt Ideal) X3) (a8.view.read (Elt Ideal) f8 (ix2 2 b)) (a9.view.read (Elt Ideal) f9 (ix3 2 d b)) 2 k d b := by
  unfold tripL_k0_t1 trip_k0_t1
  dsimp only
  refine (View.read_writes_cons_unit_of_not_mem a9.view f9 _ _ _ (ix3 2 d b) (off' := ![7, 0, 0]) rfl 0 (Or.inl (by show 2 < 7; decide))).trans ?_
  refine (View.read_writes_cons_unit_of_not_mem a9.view f9 _ _ _ (ix3 2 d b) (off' := ![6, 0, 0]) rfl 0 (Or.inl (by show 2 < 6; decide))).trans ?_
  refine (View.read_writes_cons_unit_of_not_mem a9.view f9 _ _ _ (ix3 2 d b) (off' := ![5, 0, 0]) rfl 0 (Or.inl (by show 2 < 5; decide))).trans ?_
  refine (View.read_writes_cons_unit_of_not_mem a9.view f9 _ _ _ (ix3 2 d b) (off' := ![4, 0, 0]) rfl 0 (Or.inl (by show 2 < 4; decide))).trans ?_
  refine (View.read_writes_cons_unit_of_not_mem a9.view f9 _ _ _ (ix3 2 d b) (off' := ![3, 0, 0]) rfl 0 (Or.inl (by show 2 < 3; decide))).trans ?_
  refine (View.read_writes_cons_unit_of_mem a9.view f9 _ _ _ (ix3 2 d b) (ix3 0 d b) (off' := ![2, 0, 0]) rfl
    (acc_at 2 2 rfl d b)).trans ?_
  exact at_2 a2 a3 a7 a8 a9 X2 X3 X7 f8 f9 k d b

theorem m_read3 (k : Fin k0_t1_loop.trips) (b : Fin 512) :
    a8.view.read (Elt Ideal) (a8.view.writes (Elt Ideal) f8 (tripL_k0_t1 (F := Ideal) 𝒱 c bd i a1 h1 a2 h2 a3 h3 a4 h4 a5 h5 a6 h6 a7 h7 a8 h8 a9 h9 v59 X2 X3 X4 X7 k f8 f9).1) (ix2 3 b)
      = mNew (a2.view.read (Elt Ideal) X2) (a7.view.read (Elt Ideal) X7) (a8.view.read (Elt Ideal) f8 (ix2 3 b)) 3 k b := by
  unfold tripL_k0_t1 trip_k0_t1
  dsimp only
  refine (View.read_writes_cons_unit_of_not_mem a8.view f8 _ _ _ (ix2 3 b) (off' := ![7, 0]) rfl 0 (Or.inl (by show 3 < 7; decide))).trans ?_
  refine (View.read_writes_cons_unit_of_not_mem a8.view f8 _ _ _ (ix2 3 b) (off' := ![6, 0]) rfl 0 (Or.inl (by show 3 < 6; decide))).trans ?_
  refine (View.read_writes_cons_unit_of_not_mem a8.view f8 _ _ _ (ix2 3 b) (off' := ![5, 0]) rfl 0 (Or.inl (by show 3 < 5; decide))).trans ?_
  refine (View.read_writes_cons_unit_of_not_mem a8.view f8 _ _ _ (ix2 3 b) (off' := ![4, 0]) rfl 0 (Or.inl (by show 3 < 4; decide))).trans ?_
  refine (View.read_writes_cons_unit_of_mem a8.view f8 _ _ _ (ix2 3 b) (ix2 0 b) (off' := ![3, 0]) rfl
    (row_at 3 3 rfl b)).trans ?_
  exact mt_3 a2 a7 a8 X2 X7 f8 k b

theorem a_read3 (k : Fin k0_t1_loop.trips) (d : Fin 80) (b : Fin 512) :
    a9.view.read (Elt Ideal) (a9.view.writes (Elt Ideal) f9 (tripL_k0_t1 (F := Ideal) 𝒱 c bd i a1 h1 a2 h2 a3 h3 a4 h4 a5 h5 a6 h6 a7 h7 a8 h8 a9 h9 v59 X2 X3 X4 X7 k f8 f9).2) (ix3 3 d b)
      = aNew (a2.view.read (Elt Ideal) X2) (a7.view.read (Elt Ideal) X7) (a3.view.read (Elt Ideal) X3) (a8.view.read (Elt Ideal) f8 (ix2 3 b)) (a9.view.read (Elt Ideal) f9 (ix3 3 d b)) 3 k d b := by
  unfold tripL_k0_t1 trip_k0_t1
  dsimp only
  refine (View.read_writes_cons_unit_of_not_mem a9.view f9 _ _ _ (ix3 3 d b) (off' := ![7, 0, 0]) rfl 0 (Or.inl (by show 3 < 7; decide))).trans ?_
  refine (View.read_writes_cons_unit_of_not_mem a9.view f9 _ _ _ (ix3 3 d b) (off' := ![6, 0, 0]) rfl 0 (Or.inl (by show 3 < 6; decide))).trans ?_
  refine (View.read_writes_cons_unit_of_not_mem a9.view f9 _ _ _ (ix3 3 d b) (off' := ![5, 0, 0]) rfl 0 (Or.inl (by show 3 < 5; decide))).trans ?_
  refine (View.read_writes_cons_unit_of_not_mem a9.view f9 _ _ _ (ix3 3 d b) (off' := ![4, 0, 0]) rfl 0 (Or.inl (by show 3 < 4; decide))).trans ?_
  refine (View.read_writes_cons_unit_of_mem a9.view f9 _ _ _ (ix3 3 d b) (ix3 0 d b) (off' := ![3, 0, 0]) rfl
    (acc_at 3 3 rfl d b)).trans ?_
  exact at_3 a2 a3 a7 a8 a9 X2 X3 X7 f8 f9 k d b

theorem m_read4 (k : Fin k0_t1_loop.trips) (b : Fin 512) :
    a8.view.read (Elt Ideal) (a8.view.writes (Elt Ideal) f8 (tripL_k0_t1 (F := Ideal) 𝒱 c bd i a1 h1 a2 h2 a3 h3 a4 h4 a5 h5 a6 h6 a7 h7 a8 h8 a9 h9 v59 X2 X3 X4 X7 k f8 f9).1) (ix2 4 b)
      = mNew (a2.view.read (Elt Ideal) X2) (a7.view.read (Elt Ideal) X7) (a8.view.read (Elt Ideal) f8 (ix2 4 b)) 4 k b := by
  unfold tripL_k0_t1 trip_k0_t1
  dsimp only
  refine (View.read_writes_cons_unit_of_not_mem a8.view f8 _ _ _ (ix2 4 b) (off' := ![7, 0]) rfl 0 (Or.inl (by show 4 < 7; decide))).trans ?_
  refine (View.read_writes_cons_unit_of_not_mem a8.view f8 _ _ _ (ix2 4 b) (off' := ![6, 0]) rfl 0 (Or.inl (by show 4 < 6; decide))).trans ?_
  refine (View.read_writes_cons_unit_of_not_mem a8.view f8 _ _ _ (ix2 4 b) (off' := ![5, 0]) rfl 0 (Or.inl (by show 4 < 5; decide))).trans ?_
  refine (View.read_writes_cons_unit_of_mem a8.view f8 _ _ _ (ix2 4 b) (ix2 0 b) (off' := ![4, 0]) rfl
    (row_at 4 4 rfl b)).trans ?_
  exact mt_4 a2 a7 a8 X2 X7 f8 k b

theorem a_read4 (k : Fin k0_t1_loop.trips) (d : Fin 80) (b : Fin 512) :
    a9.view.read (Elt Ideal) (a9.view.writes (Elt Ideal) f9 (tripL_k0_t1 (F := Ideal) 𝒱 c bd i a1 h1 a2 h2 a3 h3 a4 h4 a5 h5 a6 h6 a7 h7 a8 h8 a9 h9 v59 X2 X3 X4 X7 k f8 f9).2) (ix3 4 d b)
      = aNew (a2.view.read (Elt Ideal) X2) (a7.view.read (Elt Ideal) X7) (a4.view.read (Elt Ideal) X4) (a8.view.read (Elt Ideal) f8 (ix2 4 b)) (a9.view.read (Elt Ideal) f9 (ix3 4 d b)) 4 k d b := by
  unfold tripL_k0_t1 trip_k0_t1
  dsimp only
  refine (View.read_writes_cons_unit_of_not_mem a9.view f9 _ _ _ (ix3 4 d b) (off' := ![7, 0, 0]) rfl 0 (Or.inl (by show 4 < 7; decide))).trans ?_
  refine (View.read_writes_cons_unit_of_not_mem a9.view f9 _ _ _ (ix3 4 d b) (off' := ![6, 0, 0]) rfl 0 (Or.inl (by show 4 < 6; decide))).trans ?_
  refine (View.read_writes_cons_unit_of_not_mem a9.view f9 _ _ _ (ix3 4 d b) (off' := ![5, 0, 0]) rfl 0 (Or.inl (by show 4 < 5; decide))).trans ?_
  refine (View.read_writes_cons_unit_of_mem a9.view f9 _ _ _ (ix3 4 d b) (ix3 0 d b) (off' := ![4, 0, 0]) rfl
    (acc_at 4 4 rfl d b)).trans ?_
  exact at_4 a2 a4 a7 a8 a9 X2 X4 X7 f8 f9 k d b

theorem m_read5 (k : Fin k0_t1_loop.trips) (b : Fin 512) :
    a8.view.read (Elt Ideal) (a8.view.writes (Elt Ideal) f8 (tripL_k0_t1 (F := Ideal) 𝒱 c bd i a1 h1 a2 h2 a3 h3 a4 h4 a5 h5 a6 h6 a7 h7 a8 h8 a9 h9 v59 X2 X3 X4 X7 k f8 f9).1) (ix2 5 b)
      = mNew (a2.view.read (Elt Ideal) X2) (a7.view.read (Elt Ideal) X7) (a8.view.read (Elt Ideal) f8 (ix2 5 b)) 5 k b := by
  unfold tripL_k0_t1 trip_k0_t1
  dsimp only
  refine (View.read_writes_cons_unit_of_not_mem a8.view f8 _ _ _ (ix2 5 b) (off' := ![7, 0]) rfl 0 (Or.inl (by show 5 < 7; decide))).trans ?_
  refine (View.read_writes_cons_unit_of_not_mem a8.view f8 _ _ _ (ix2 5 b) (off' := ![6, 0]) rfl 0 (Or.inl (by show 5 < 6; decide))).trans ?_
  refine (View.read_writes_cons_unit_of_mem a8.view f8 _ _ _ (ix2 5 b) (ix2 0 b) (off' := ![5, 0]) rfl
    (row_at 5 5 rfl b)).trans ?_
  exact mt_5 a2 a7 a8 X2 X7 f8 k b

theorem a_read5 (k : Fin k0_t1_loop.trips) (d : Fin 80) (b : Fin 512) :
    a9.view.read (Elt Ideal) (a9.view.writes (Elt Ideal) f9 (tripL_k0_t1 (F := Ideal) 𝒱 c bd i a1 h1 a2 h2 a3 h3 a4 h4 a5 h5 a6 h6 a7 h7 a8 h8 a9 h9 v59 X2 X3 X4 X7 k f8 f9).2) (ix3 5 d b)
      = aNew (a2.view.read (Elt Ideal) X2) (a7.view.read (Elt Ideal) X7) (a4.view.read (Elt Ideal) X4) (a8.view.read (Elt Ideal) f8 (ix2 5 b)) (a9.view.read (Elt Ideal) f9 (ix3 5 d b)) 5 k d b := by
  unfold tripL_k0_t1 trip_k0_t1
  dsimp only
  refine (View.read_writes_cons_unit_of_not_mem a9.view f9 _ _ _ (ix3 5 d b) (off' := ![7, 0, 0]) rfl 0 (Or.inl (by show 5 < 7; decide))).trans ?_
  refine (View.read_writes_cons_unit_of_not_mem a9.view f9 _ _ _ (ix3 5 d b) (off' := ![6, 0, 0]) rfl 0 (Or.inl (by show 5 < 6; decide))).trans ?_
  refine (View.read_writes_cons_unit_of_mem a9.view f9 _ _ _ (ix3 5 d b) (ix3 0 d b) (off' := ![5, 0, 0]) rfl
    (acc_at 5 5 rfl d b)).trans ?_
  exact at_5 a2 a4 a7 a8 a9 X2 X4 X7 f8 f9 k d b

theorem m_read6 (k : Fin k0_t1_loop.trips) (b : Fin 512) :
    a8.view.read (Elt Ideal) (a8.view.writes (Elt Ideal) f8 (tripL_k0_t1 (F := Ideal) 𝒱 c bd i a1 h1 a2 h2 a3 h3 a4 h4 a5 h5 a6 h6 a7 h7 a8 h8 a9 h9 v59 X2 X3 X4 X7 k f8 f9).1) (ix2 6 b)
      = mNew (a2.view.read (Elt Ideal) X2) (a7.view.read (Elt Ideal) X7) (a8.view.read (Elt Ideal) f8 (ix2 6 b)) 6 k b := by
  unfold tripL_k0_t1 trip_k0_t1
  dsimp only
  refine (View.read_writes_cons_unit_of_not_mem a8.view f8 _ _ _ (ix2 6 b) (off' := ![7, 0]) rfl 0 (Or.inl (by show 6 < 7; decide))).trans ?_
  refine (View.read_writes_cons_unit_of_mem a8.view f8 _ _ _ (ix2 6 b) (ix2 0 b) (off' := ![6, 0]) rfl
    (row_at 6 6 rfl b)).trans ?_
  exact mt_6 a2 a7 a8 X2 X7 f8 k b

theorem a_read6 (k : Fin k0_t1_loop.trips) (d : Fin 80) (b : Fin 512) :
    a9.view.read (Elt Ideal) (a9.view.writes (Elt Ideal) f9 (tripL_k0_t1 (F := Ideal) 𝒱 c bd i a1 h1 a2 h2 a3 h3 a4 h4 a5 h5 a6 h6 a7 h7 a8 h8 a9 h9 v59 X2 X3 X4 X7 k f8 f9).2) (ix3 6 d b)
      = aNew (a2.view.read (Elt Ideal) X2) (a7.view.read (Elt Ideal) X7) (a4.view.read (Elt Ideal) X4) (a8.view.read (Elt Ideal) f8 (ix2 6 b)) (a9.view.read (Elt Ideal) f9 (ix3 6 d b)) 6 k d b := by
  unfold tripL_k0_t1 trip_k0_t1
  dsimp only
  refine (View.read_writes_cons_unit_of_not_mem a9.view f9 _ _ _ (ix3 6 d b) (off' := ![7, 0, 0]) rfl 0 (Or.inl (by show 6 < 7; decide))).trans ?_
  refine (View.read_writes_cons_unit_of_mem a9.view f9 _ _ _ (ix3 6 d b) (ix3 0 d b) (off' := ![6, 0, 0]) rfl
    (acc_at 6 6 rfl d b)).trans ?_
  exact at_6 a2 a4 a7 a8 a9 X2 X4 X7 f8 f9 k d b

theorem m_read7 (k : Fin k0_t1_loop.trips) (b : Fin 512) :
    a8.view.read (Elt Ideal) (a8.view.writes (Elt Ideal) f8 (tripL_k0_t1 (F := Ideal) 𝒱 c bd i a1 h1 a2 h2 a3 h3 a4 h4 a5 h5 a6 h6 a7 h7 a8 h8 a9 h9 v59 X2 X3 X4 X7 k f8 f9).1) (ix2 7 b)
      = mNew (a2.view.read (Elt Ideal) X2) (a7.view.read (Elt Ideal) X7) (a8.view.read (Elt Ideal) f8 (ix2 7 b)) 7 k b := by
  unfold tripL_k0_t1 trip_k0_t1
  dsimp only
  refine (View.read_writes_cons_unit_of_mem a8.view f8 _ _ _ (ix2 7 b) (ix2 0 b) (off' := ![7, 0]) rfl
    (row_at 7 7 rfl b)).trans ?_
  exact mt_7 a2 a7 a8 X2 X7 f8 k b

theorem a_read7 (k : Fin k0_t1_loop.trips) (d : Fin 80) (b : Fin 512) :
    a9.view.read (Elt Ideal) (a9.view.writes (Elt Ideal) f9 (tripL_k0_t1 (F := Ideal) 𝒱 c bd i a1 h1 a2 h2 a3 h3 a4 h4 a5 h5 a6 h6 a7 h7 a8 h8 a9 h9 v59 X2 X3 X4 X7 k f8 f9).2) (ix3 7 d b)
      = aNew (a2.view.read (Elt Ideal) X2) (a7.view.read (Elt Ideal) X7) (a4.view.read (Elt Ideal) X4) (a8.view.read (Elt Ideal) f8 (ix2 7 b)) (a9.view.read (Elt Ideal) f9 (ix3 7 d b)) 7 k d b := by
  unfold tripL_k0_t1 trip_k0_t1
  dsimp only
  refine (View.read_writes_cons_unit_of_mem a9.view f9 _ _ _ (ix3 7 d b) (ix3 0 d b) (off' := ![7, 0, 0]) rfl
    (acc_at 7 7 rfl d b)).trans ?_
  exact at_7 a2 a4 a7 a8 a9 X2 X4 X7 f8 f9 k d b

/-- The values, with rows of ones, of the group of head `h`. -/
def wAt (W0 W1 : S80x4096.Idx → EReal) (h : Fin 8) : S80x4096.Idx → EReal := if h.val < 4 then W0 else W1

theorem m_read (k : Fin k0_t1_loop.trips) (h : Fin 8) (b : Fin 512) :
    a8.view.read (Elt Ideal) (a8.view.writes (Elt Ideal) f8 (tripL_k0_t1 (F := Ideal) 𝒱 c bd i a1 h1 a2 h2 a3 h3 a4 h4 a5 h5 a6 h6 a7 h7 a8 h8 a9 h9 v59 X2 X3 X4 X7 k f8 f9).1) (ix2 h b)
      = mNew (a2.view.read (Elt Ideal) X2) (a7.view.read (Elt Ideal) X7) (a8.view.read (Elt Ideal) f8 (ix2 h b)) h k b := by
  fin_cases h
  · exact m_read0 𝒱 c bd i a1 h1 a2 h2 a3 h3 a4 h4 a5 h5 a6 h6 a7 h7 a8 h8 a9 h9 v59 X2 X3 X4 X7 f8 f9 k b
  · exact m_read1 𝒱 c bd i a1 h1 a2 h2 a3 h3 a4 h4 a5 h5 a6 h6 a7 h7 a8 h8 a9 h9 v59 X2 X3 X4 X7 f8 f9 k b
  · exact m_read2 𝒱 c bd i a1 h1 a2 h2 a3 h3 a4 h4 a5 h5 a6 h6 a7 h7 a8 h8 a9 h9 v59 X2 X3 X4 X7 f8 f9 k b
  · exact m_read3 𝒱 c bd i a1 h1 a2 h2 a3 h3 a4 h4 a5 h5 a6 h6 a7 h7 a8 h8 a9 h9 v59 X2 X3 X4 X7 f8 f9 k b
  · exact m_read4 𝒱 c bd i a1 h1 a2 h2 a3 h3 a4 h4 a5 h5 a6 h6 a7 h7 a8 h8 a9 h9 v59 X2 X3 X4 X7 f8 f9 k b
  · exact m_read5 𝒱 c bd i a1 h1 a2 h2 a3 h3 a4 h4 a5 h5 a6 h6 a7 h7 a8 h8 a9 h9 v59 X2 X3 X4 X7 f8 f9 k b
  · exact m_read6 𝒱 c bd i a1 h1 a2 h2 a3 h3 a4 h4 a5 h5 a6 h6 a7 h7 a8 h8 a9 h9 v59 X2 X3 X4 X7 f8 f9 k b
  · exact m_read7 𝒱 c bd i a1 h1 a2 h2 a3 h3 a4 h4 a5 h5 a6 h6 a7 h7 a8 h8 a9 h9 v59 X2 X3 X4 X7 f8 f9 k b

theorem a_read (k : Fin k0_t1_loop.trips) (h : Fin 8) (d : Fin 80) (b : Fin 512) :
    a9.view.read (Elt Ideal) (a9.view.writes (Elt Ideal) f9 (tripL_k0_t1 (F := Ideal) 𝒱 c bd i a1 h1 a2 h2 a3 h3 a4 h4 a5 h5 a6 h6 a7 h7 a8 h8 a9 h9 v59 X2 X3 X4 X7 k f8 f9).2) (ix3 h d b)
      = aNew (a2.view.read (Elt Ideal) X2) (a7.view.read (Elt Ideal) X7) (wAt (a3.view.read (Elt Ideal) X3) (a4.view.read (Elt Ideal) X4) h) (a8.view.read (Elt Ideal) f8 (ix2 h b)) (a9.view.read (Elt Ideal) f9 (ix3 h d b)) h k d b := by
  fin_cases h
  · exact a_read0 𝒱 c bd i a1 h1 a2 h2 a3 h3 a4 h4 a5 h5 a6 h6 a7 h7 a8 h8 a9 h9 v59 X2 X3 X4 X7 f8 f9 k d b
  · exact a_read1 𝒱 c bd i a1 h1 a2 h2 a3 h3 a4 h4 a5 h5 a6 h6 a7 h7 a8 h8 a9 h9 v59 X2 X3 X4 X7 f8 f9 k d b
  · exact a_read2 𝒱 c bd i a1 h1 a2 h2 a3 h3 a4 h4 a5 h5 a6 h6 a7 h7 a8 h8 a9 h9 v59 X2 X3 X4 X7 f8 f9 k d b
  · exact a_read3 𝒱 c bd i a1 h1 a2 h2 a3 h3 a4 h4 a5 h5 a6 h6 a7 h7 a8 h8 a9 h9 v59 X2 X3 X4 X7 f8 f9 k d b
  · exact a_read4 𝒱 c bd i a1 h1 a2 h2 a3 h3 a4 h4 a5 h5 a6 h6 a7 h7 a8 h8 a9 h9 v59 X2 X3 X4 X7 f8 f9 k d b
  · exact a_read5 𝒱 c bd i a1 h1 a2 h2 a3 h3 a4 h4 a5 h5 a6 h6 a7 h7 a8 h8 a9 h9 v59 X2 X3 X4 X7 f8 f9 k d b
  · exact a_read6 𝒱 c bd i a1 h1 a2 h2 a3 h3 a4 h4 a5 h5 a6 h6 a7 h7 a8 h8 a9 h9 v59 X2 X3 X4 X7 f8 f9 k d b
  · exact a_read7 𝒱 c bd i a1 h1 a2 h2 a3 h3 a4 h4 a5 h5 a6 h6 a7 h7 a8 h8 a9 h9 v59 X2 X3 X4 X7 f8 f9 k d b

end Cert.AttnFIdeal.Value
-- ==== Proof.AttnF.Heads.lean ====
module

public import proofs.«01_k».proof.Proof.AttnF.Loop

@[expose] public section

/-! The outputs of a point, head by head, from its sums and maxima. -/

set_option maxRecDepth 16384

noncomputable section

namespace Cert.AttnFIdeal.Value

open Cert.AttnFIdeal Cert.AttnFIdeal.Gen Idealize.ShloMosaic Idealize.ShloMosaic.TcCoe Idealize.SL.Sem
open Idealize.ShloMosaic.Pipeline (Dat)

theorem o_at (f : Fin 8 → Fin 80 → Fin 512 → EReal) (x0 x1 x2 x3 x4 x5 x6 x7 : FVec Ideal S1x80x512 .f32)
    (h0 : ∀ d b, x0 (ix3 0 d b) = f 0 d b)
    (h1 : ∀ d b, x1 (ix3 0 d b) = f 1 d b)
    (h2 : ∀ d b, x2 (ix3 0 d b) = f 2 d b)
    (h3 : ∀ d b, x3 (ix3 0 d b) = f 3 d b)
    (h4 : ∀ d b, x4 (ix3 0 d b) = f 4 d b)
    (h5 : ∀ d b, x5 (ix3 0 d b) = f 5 d b)
    (h6 : ∀ d b, x6 (ix3 0 d b) = f 6 d b)
    (h7 : ∀ d b, x7 (ix3 0 d b) = f 7 d b)
    (b e : Fin 512) :
    k0_pay5 (F := Ideal) (k0_pay57 x0) (k0_pay61 x1) (k0_pay67 (k0_pay65 x2) (k0_pay66 x2)) (k0_pay71 x3) (k0_pay75 x4) (k0_pay79 x5) x6 x7 (ix2 b e)
      = Ideal.div (f ⟨e.val / 64, by omega⟩ ⟨e.val % 64, by omega⟩ b) (f ⟨e.val / 64, by omega⟩ 64 b) := by
  pointwise [k0_pay5, k0_pay1, k0_pay2, k0_pay3, k0_pay4, k0_pay55, k0_pay56, k0_pay57, k0_pay59, k0_pay60, k0_pay61, k0_pay63, k0_pay64,
    k0_pay65, k0_pay66, k0_pay67, k0_pay69, k0_pay70, k0_pay71, k0_pay73, k0_pay74, k0_pay75, k0_pay77, k0_pay78, k0_pay79, h0, h1, h2, h3, h4, h5, h6, h7]
  split_ifs <;> exact congrArg₂ (fun h e => Ideal.div (f h e b) (f h 64 b)) (Fin.ext (by simp only []; omega)) (Fin.ext (by simp only []; omega))

theorem l_at (f : Fin 8 → Fin 80 → Fin 512 → EReal) (g : Fin 8 → Fin 512 → EReal) (x0 x1 x2 x3 x4 x5 x6 x7 : FVec Ideal S1x80x512 .f32)
    (y0 y1 y2 y3 y4 y5 y6 y7 : FVec Ideal S1x512 .f32)
    (h0 : ∀ d b, x0 (ix3 0 d b) = f 0 d b)
    (h1 : ∀ d b, x1 (ix3 0 d b) = f 1 d b)
    (h2 : ∀ d b, x2 (ix3 0 d b) = f 2 d b)
    (h3 : ∀ d b, x3 (ix3 0 d b) = f 3 d b)
    (h4 : ∀ d b, x4 (ix3 0 d b) = f 4 d b)
    (h5 : ∀ d b, x5 (ix3 0 d b) = f 5 d b)
    (h6 : ∀ d b, x6 (ix3 0 d b) = f 6 d b)
    (h7 : ∀ d b, x7 (ix3 0 d b) = f 7 d b)
    (g0 : ∀ z b, y0 (ix2 z b) = g 0 b)
    (g1 : ∀ z b, y1 (ix2 z b) = g 1 b)
    (g2 : ∀ z b, y2 (ix2 z b) = g 2 b)
    (g3 : ∀ z b, y3 (ix2 z b) = g 3 b)
    (g4 : ∀ z b, y4 (ix2 z b) = g 4 b)
    (g5 : ∀ z b, y5 (ix2 z b) = g 5 b)
    (g6 : ∀ z b, y6 (ix2 z b) = g 6 b)
    (g7 : ∀ z b, y7 (ix2 z b) = g 7 b)
    (h : Fin 8) (b : Fin 512) :
    k0_pay6 (F := Ideal) (k0_pay58 x0 y0) (k0_pay62 x1 y1) (k0_pay68 (k0_pay64 x2) y2) (k0_pay72 x3 y3) (k0_pay76 x4 y4) y5 (k0_pay80 x5) (Scalar.ofBits .f32 0x40000000#32) x6 y6 x7 y7 (ix2 h b)
      = g h b + Ideal.div (Ideal.log (f h 64 b)) (Ideal.log (Ideal.ofBits .f32 0x40000000#32)) := by
  pointwise [k0_pay6, k0_pay1, k0_pay2, k0_pay3, k0_pay4, k0_pay55, k0_pay56, k0_pay58, k0_pay59, k0_pay60, k0_pay62, k0_pay63, k0_pay64,
    k0_pay68, k0_pay69, k0_pay70, k0_pay72, k0_pay73, k0_pay74, k0_pay76, k0_pay77, k0_pay78, k0_pay80, h0, h1, h2, h3, h4, h5, h6, h7, g0, g1, g2, g3, g4, g5, g6, g7]
  split_ifs <;> exact congrArg₂ (fun h e => g h b + Ideal.div (Ideal.log (f h e b)) (Ideal.log (Ideal.ofBits .f32 0x40000000#32)))
    (Fin.ext (by omega)) (Fin.ext (by show 64 + _ = 64; omega))

end Cert.AttnFIdeal.Value
-- ==== Proof.AttnF.Math.lean ====
module

public import proofs.«01_k».proof.Proof.Attn.Math

@[expose] public section

/-! The running softmax of one query, over the extended reals: a step keeps the maximum real and the sums a
real multiple of the sums of the unshifted terms. The values that are weighted may be any extended reals. -/

noncomputable section

namespace Online

open Idealize.ShloMosaic Attn

/-- Two to the power of a real. -/
def p2 (x : ℝ) : EReal := ((Real.rpow 2 x : ℝ) : EReal)

theorem p2_pos (x : ℝ) : 0 < Real.rpow 2 x := Real.rpow_pos_of_pos two_pos x

theorem p2_add (x y : ℝ) : p2 x * p2 y = p2 (x + y) := by
  unfold p2
  rw [← EReal.coe_mul]
  exact congrArg _ (Real.rpow_add two_pos x y).symm

theorem p2_zero : p2 0 = 1 := congrArg _ (Real.rpow_zero 2)

theorem add_mul_real (a b : EReal) (r : ℝ) (hr : 0 ≤ r) : (a + b) * (r : EReal) = a * (r : EReal) + b * (r : EReal) :=
  EReal.right_distrib_of_nonneg_of_ne_top (EReal.coe_nonneg.mpr hr) (EReal.coe_ne_top r) a b

/-- A nonnegative real comes out of a sum. -/
theorem sum_mul_nonneg {ι : Type} (s : Finset ι) (f : ι → EReal) (r : ℝ) (hr : 0 ≤ r) :
    ∑ i ∈ s, f i * (r : EReal) = (∑ i ∈ s, f i) * (r : EReal) := by
  classical
  induction s using Finset.induction_on with
  | empty => rw [Finset.sum_empty, Finset.sum_empty, zero_mul]
  | insert a s ha ih => rw [Finset.sum_insert ha, Finset.sum_insert ha, ih, add_mul_real _ _ _ hr]

theorem sum_mul_p2 {ι : Type} (s : Finset ι) (f : ι → EReal) (x : ℝ) : ∑ i ∈ s, f i * p2 x = (∑ i ∈ s, f i) * p2 x :=
  sum_mul_nonneg s f _ (p2_pos x).le

/-- The maximum after a chunk is a real. -/
theorem max_step (M : ℝ) (t : Fin 256 → ℝ) :
    ∃ M' : ℝ, max (M : EReal) (Finset.univ.fold max (Ideal.ofBits .f32 0xFF800000#32) fun a : Fin 256 => (t a : EReal)) = (M' : EReal) := by
  obtain ⟨N, hN⟩ := fold_max_real Finset.univ ⟨0, Finset.mem_univ _⟩ t
  exact ⟨max M N, by rw [bot_eq, hN]; exact (EReal.coe_strictMono.monotone.map_max).symm⟩

/-- The sum after a chunk, in units of the new maximum. -/
theorem sum_step (M M' : ℝ) (t : Fin 256 → ℝ) (w : Fin 256 → EReal) (S : EReal) :
    (S * p2 (-M)) * p2 (M - M') + ∑ a, w a * p2 (t a - M') = (S + ∑ a, w a * p2 (t a)) * p2 (-M') := by
  refine Eq.trans (congrArg₂ (· + ·) ?_ ?_) (add_mul_real _ _ _ (p2_pos (-M')).le).symm
  · rw [mul_assoc, p2_add]
    exact congrArg (fun x => S * p2 x) (by ring)
  · refine Eq.trans (Finset.sum_congr rfl fun a _ => ?_) (sum_mul_p2 Finset.univ (fun a => w a * p2 (t a)) (-M'))
    rw [mul_assoc, p2_add]
    exact congrArg (fun x => w a * p2 x) (by ring)

/-- The quotient of two sums in the same units does not see the units. -/
theorem quot (N : EReal) (Z x : ℝ) (hZ : 0 < Z) :
    Ideal.div (N * p2 x) ((Z : EReal) * p2 x) = N * ((1 / Z : ℝ) : EReal) := by
  have hp := p2_pos x
  unfold p2
  rw [← EReal.coe_mul, Ideal.div_coe (mul_pos hZ hp).ne', mul_assoc, ← EReal.coe_mul]
  refine congrArg (fun r : ℝ => N * (r : EReal)) ?_
  field_simp

/-- The logarithm of a sum, brought back from its units. -/
theorem log_back (M Z : ℝ) (hZ : 0 < Z) :
    (M : EReal) + Ideal.div (Ideal.log ((Z : EReal) * p2 (-M))) (Ideal.log (Ideal.ofBits .f32 0x40000000#32))
      = ((Real.log Z / ln2R : ℝ) : EReal) := by
  have hp := p2_pos (-M)
  unfold p2
  rw [ln2_eq, ← EReal.coe_mul, Ideal.log_coe, if_neg (mul_pos hZ hp).not_ge, div_real _ _ ln2R_pos.ne', ← EReal.coe_add]
  refine congrArg _ ?_
  have h : Real.log (Real.rpow 2 (-M)) = -M * ln2R := Real.log_rpow two_pos (-M)
  rw [Real.log_mul hZ.ne' hp.ne', h]
  have := ln2R_pos.ne'
  field_simp
  ring

end Online
-- ==== Proof.AttnF.Run.lean ====
module

public import proofs.«01_k».proof.Proof.AttnF.Heads
public import proofs.«01_k».proof.Proof.AttnF.Math

@[expose] public section

/-! The key loop: the maximum of each query stays real, and its sums are real multiples of the sums of the unshifted terms. -/

set_option maxRecDepth 16384

noncomputable section

namespace Cert.AttnFIdeal.Value

open Attn Online Cert.AttnFIdeal Cert.AttnFIdeal.Gen Idealize.ShloMosaic Idealize.ShloMosaic.TcCoe Idealize.SL.Sem
open Idealize.ShloMosaic.Pipeline (Dat)

variable (𝒱 : Variants) (c : Dev nD) (bd : Option 𝒱.V) (i : grid0.Coords)
  (a1 : Memref sig .tc .vmem S512x512 .bf16) (h1 : a1.IsWhole)
  (a2 : Memref sig .tc .vmem S4096x128 .bf16) (h2 : a2.IsWhole)
  (a3 : Memref sig .tc .vmem S80x4096 .bf16) (h3 : a3.IsWhole)
  (a4 : Memref sig .tc .vmem S80x4096 .bf16) (h4 : a4.IsWhole)
  (a5 : Memref sig .tc .vmem S512x512 .f32) (h5 : a5.IsWhole)
  (a6 : Memref sig .tc .vmem S8x512 .f32) (h6 : a6.IsWhole)
  (a7 : Memref sig .tc .vmem S8x128x512 .bf16) (h7 : a7.IsWhole)
  (a8 : Memref sig .tc .vmem S8x512 .f32) (h8 : a8.IsWhole)
  (a9 : Memref sig .tc .vmem S8x80x512 .f32) (h9 : a9.IsWhole)
  (v59 : FVec Ideal S8x512 .f32)
  (X2 : BufTy.Contents (Elt Ideal) a2.view.ty)
  (X3 : BufTy.Contents (Elt Ideal) a3.view.ty)
  (X4 : BufTy.Contents (Elt Ideal) a4.view.ty)
  (X7 : BufTy.Contents (Elt Ideal) a7.view.ty)
  (f8 : BufTy.Contents (Elt Ideal) a8.view.ty) (f9 : BufTy.Contents (Elt Ideal) a9.view.ty)
  (t : Fin 8 → Fin 4096 → Fin 512 → ℝ) (ht : ∀ h r b, sAt (a2.view.read (Elt Ideal) X2) (a7.view.read (Elt Ideal) X7) h r b = (t h r b : EReal))
  (M0 : ℝ) (hM : ∀ h b, a8.view.read (Elt Ideal) f8 (ix2 h b) = (M0 : EReal))
  (hA : ∀ h d b, a9.view.read (Elt Ideal) f9 (ix3 h d b) = (0 : EReal))

omit a1 h1 a3 h3 a4 h4 a5 h5 a6 h6 a8 h8 a9 h9 v59 X3 X4 f8 f9 c bd i in
include ht in
theorem m_step (h : Fin 8) (k : Fin k0_t1_loop.trips) (b : Fin 512) (M : ℝ) :
    ∃ M' : ℝ, mNew (a2.view.read (Elt Ideal) X2) (a7.view.read (Elt Ideal) X7) (M : EReal) h k b = (M' : EReal) := by
  unfold mNew
  simp only [ht]
  exact max_step M fun a => t h (crow k a) b

omit a1 h1 a3 h3 a4 h4 a5 h5 a6 h6 a8 h8 a9 h9 v59 X3 X4 f8 f9 c bd i in
include ht in
theorem a_step (h : Fin 8) (k : Fin k0_t1_loop.trips) (d : Fin 80) (b : Fin 512) (W : S80x4096.Idx → EReal) (M M' : ℝ) (T : EReal)
    (hM' : mNew (a2.view.read (Elt Ideal) X2) (a7.view.read (Elt Ideal) X7) (M : EReal) h k b = (M' : EReal)) :
    aNew (a2.view.read (Elt Ideal) X2) (a7.view.read (Elt Ideal) X7) W (M : EReal) (T * p2 (-M)) h k d b
      = (T + ∑ a : Fin 256, W (ix2 d (crow k a)) * p2 (t h (crow k a) b)) * p2 (-M') := by
  unfold aNew
  rw [hM']
  simp only [ht]
  exact sum_step M M' (fun a => t h (crow k a) b) (fun a => W (ix2 d (crow k a))) T

include ht hM hA

theorem upto (n : ℕ) (hn : n ≤ k0_t1_loop.trips) (h : Fin 8) (b : Fin 512) :
    ∃ M : ℝ, a8.view.read (Elt Ideal) (a8.view.writes (Elt Ideal) f8 (pb_k0_t1 (F := Ideal) 𝒱 c bd i a1 h1 a2 h2 a3 h3 a4 h4 a5 h5 a6 h6 a7 h7 a8 h8 a9 h9 v59 X2 X3 X4 X7 f8 f9 n).1) (ix2 h b) = (M : EReal)
      ∧ ∀ d, a9.view.read (Elt Ideal) (a9.view.writes (Elt Ideal) f9 (pb_k0_t1 (F := Ideal) 𝒱 c bd i a1 h1 a2 h2 a3 h3 a4 h4 a5 h5 a6 h6 a7 h7 a8 h8 a9 h9 v59 X2 X3 X4 X7 f8 f9 n).2) (ix3 h d b)
        = (∑ k : Fin n, ∑ a : Fin 256, wAt (a3.view.read (Elt Ideal) X3) (a4.view.read (Elt Ideal) X4) h (ix2 d (crow (Fin.castLE hn k) a)) * p2 (t h (crow (Fin.castLE hn k) a) b)) * p2 (-M) := by
  induction n with
  | zero =>
    refine ⟨M0, hM h b, fun d => ?_⟩
    rw [Fin.sum_univ_zero, zero_mul]
    exact hA h d b
  | succ n ih =>
    obtain ⟨M, hm, ha⟩ := ih (Nat.le_of_succ_le hn)
    obtain ⟨M', hM'⟩ := m_step a2 a7 X2 X7 t ht h ⟨n, hn⟩ b M
    rw [pb_k0_t1_succ 𝒱 c bd i a1 h1 a2 h2 a3 h3 a4 h4 a5 h5 a6 h6 a7 h7 a8 h8 a9 h9 v59 X2 X3 X4 X7 f8 f9 ⟨n, hn⟩]
    refine ⟨M', ?_, fun d => ?_⟩
    · rw [View.writes_append, m_read, hm, hM']
    · rw [View.writes_append, a_read, hm, ha, a_step a2 a7 X2 X7 t ht h ⟨n, hn⟩ d b _ M M' _ hM']
      exact congrArg (· * p2 (-M')) (Fin.sum_univ_castSucc (fun k : Fin (n + 1) => ∑ a : Fin 256, wAt (a3.view.read (Elt Ideal) X3) (a4.view.read (Elt Ideal) X4) h (ix2 d (crow (Fin.castLE hn k) a)) * p2 (t h (crow (Fin.castLE hn k) a) b))).symm

theorem after (h : Fin 8) (b : Fin 512) :
    ∃ M : ℝ, a8.view.read (Elt Ideal) (a8.view.writes (Elt Ideal) f8 (pb_k0_t1 (F := Ideal) 𝒱 c bd i a1 h1 a2 h2 a3 h3 a4 h4 a5 h5 a6 h6 a7 h7 a8 h8 a9 h9 v59 X2 X3 X4 X7 f8 f9 k0_t1_loop.trips).1) (ix2 h b) = (M : EReal)
      ∧ ∀ d, a9.view.read (Elt Ideal) (a9.view.writes (Elt Ideal) f9 (pb_k0_t1 (F := Ideal) 𝒱 c bd i a1 h1 a2 h2 a3 h3 a4 h4 a5 h5 a6 h6 a7 h7 a8 h8 a9 h9 v59 X2 X3 X4 X7 f8 f9 k0_t1_loop.trips).2) (ix3 h d b)
        = (∑ r : Fin 4096, wAt (a3.view.read (Elt Ideal) X3) (a4.view.read (Elt Ideal) X4) h (ix2 d r) * p2 (t h r b)) * p2 (-M) := by
  obtain ⟨M, hm, ha⟩ := upto 𝒱 c bd i a1 h1 a2 h2 a3 h3 a4 h4 a5 h5 a6 h6 a7 h7 a8 h8 a9 h9 v59 X2 X3 X4 X7 f8 f9 t ht M0 hM hA k0_t1_loop.trips le_rfl h b
  refine ⟨M, hm, fun d => (ha d).trans (congrArg (· * p2 (-M)) ?_)⟩
  exact Fin.sum_mul_add_fin k0_t1_loop.trips 256 (fun r => wAt (a3.view.read (Elt Ideal) X3) (a4.view.read (Elt Ideal) X4) h (ix2 d r) * p2 (t h r b)) (by rw [trips_eq])

end Cert.AttnFIdeal.Value
-- ==== Proof.AttnF.Pad.lean ====
module

public import proofs.«01_k».proof.Proof.AttnF.Load

@[expose] public section

/-! The queries, padded to one slab of zeros and values per head. -/

set_option maxRecDepth 16384

noncomputable section

namespace Cert.AttnFIdeal.Value

open Cert.AttnFIdeal Cert.AttnFIdeal.Gen Idealize.ShloMosaic Idealize.ShloMosaic.TcCoe Idealize.SL.Sem
open Idealize.ShloMosaic.Pipeline (Dat)

/-- Head `h` of a block of `512` rows, in the half of `128` rows its group owns; zero in the other half. -/
def padAt (X : S512x512.Idx → EReal) (h : Fin 8) (d : Fin 128) (b : Fin 512) : EReal :=
  if d.val / 64 = h.val / 4 then X (ix2 ⟨64 * h.val + d.val % 64, by omega⟩ b) else 0

theorem ld_head {e : EltTy} (v : View sig .tc .vmem S512x512 e) (X : v.ty.Contents (Elt Ideal)) (o : ℕ) (ho : o + 64 ≤ 512)
    (inb : ∀ a, (![o, 0] : Fin 2 → ℕ) a + (![64, 512] : Fin 2 → ℕ) a ≤ S512x512.size a) (d : Fin 64) (b : Fin 512) :
    View.readAt (Elt Ideal) v (Rect.unit (s := S512x512) ![o, 0] ![64, 512] inb).toLoadRect X (ix2 d b)
      = v.read (Elt Ideal) X (ix2 ⟨o + d.val, by omega⟩ b) := by
  refine congrArg (v.read (Elt Ideal) X) (funext fun q => Fin.ext ?_)
  show (![o, 0] : Fin 2 → ℕ) q + 1 * _ = _
  revert q
  refine Fin.forall_fin_two.mpr ⟨?_, ?_⟩
  · show o + 1 * d.val = o + d.val
    omega
  · show 0 + 1 * b.val = b.val
    omega

theorem pad_lo (x : S64x512.Idx → EReal) (X : S512x512.Idx → EReal) (h : Fin 8) (hh : h.val < 4)
    (hx : ∀ (e : Fin 64) (b : Fin 512), x (ix2 e b) = X (ix2 ⟨64 * h.val + e.val, by omega⟩ b)) (d : Fin 128) (b : Fin 512) :
    (if hd : d.val < 64 then x (ix2 ⟨d.val, hd⟩ b) else 0) = padAt X h d b := by
  unfold padAt
  by_cases hd : d.val < 64
  · rw [dif_pos hd, if_pos (by omega), hx]
    exact congrArg X (congrArg (fun r => ix2 r b) (Fin.ext (by show 64 * h.val + d.val = 64 * h.val + d.val % 64; omega)))
  · rw [dif_neg hd, if_neg (by omega)]

theorem pad_hi (x : S64x512.Idx → EReal) (X : S512x512.Idx → EReal) (h : Fin 8) (hh : 4 ≤ h.val)
    (hx : ∀ (e : Fin 64) (b : Fin 512), x (ix2 e b) = X (ix2 ⟨64 * h.val + e.val, by omega⟩ b)) (d : Fin 128) (b : Fin 512) :
    (if hd : d.val < 64 then 0 else x (ix2 ⟨d.val - 64, by omega⟩ b)) = padAt X h d b := by
  unfold padAt
  by_cases hd : d.val < 64
  · rw [dif_pos hd, if_neg (by omega)]
  · rw [dif_neg hd, if_pos (by omega), hx]
    exact congrArg X (congrArg (fun r => ix2 r b) (Fin.ext (by show 64 * h.val + (d.val - 64) = 64 * h.val + d.val % 64; omega)))

section Slabs

variable {e : EltTy} (v : View sig .tc .vmem S8x128x512 e) (f : v.ty.Contents (Elt Ideal))
  (w0 w1 w2 w3 w4 w5 w6 w7 : S1x128x512.Idx → Elt Ideal e) (d : Fin 128) (b : Fin 512)

theorem slabs_read0 :
    v.read (Elt Ideal) (v.writes (Elt Ideal) f
      [⟨Rect.unit (s := S8x128x512) ![7, 0, 0] S1x128x512.size inb_S8x128x512_S1x128x512_7_0_0, w7⟩,
        ⟨Rect.unit (s := S8x128x512) ![6, 0, 0] S1x128x512.size inb_S8x128x512_S1x128x512_6_0_0, w6⟩,
        ⟨Rect.unit (s := S8x128x512) ![5, 0, 0] S1x128x512.size inb_S8x128x512_S1x128x512_5_0_0, w5⟩,
        ⟨Rect.unit (s := S8x128x512) ![4, 0, 0] S1x128x512.size inb_S8x128x512_S1x128x512_4_0_0, w4⟩,
        ⟨Rect.unit (s := S8x128x512) ![3, 0, 0] S1x128x512.size inb_S8x128x512_S1x128x512_3_0_0, w3⟩,
        ⟨Rect.unit (s := S8x128x512) ![2, 0, 0] S1x128x512.size inb_S8x128x512_S1x128x512_2_0_0, w2⟩,
        ⟨Rect.unit (s := S8x128x512) ![1, 0, 0] S1x128x512.size inb_S8x128x512_S1x128x512_1_0_0, w1⟩,
        ⟨Rect.unit (s := S8x128x512) ![0, 0, 0] S1x128x512.size inb_S8x128x512_S1x128x512_0_0_0, w0⟩]) (ix3 0 d b) = w0 (ix3 0 d b) := by
  refine (View.read_writes_cons_unit_of_not_mem v f _ _ _ (ix3 0 d b) (off' := ![7, 0, 0]) rfl 0 (Or.inl (by show 0 < 7; decide))).trans ?_
  refine (View.read_writes_cons_unit_of_not_mem v f _ _ _ (ix3 0 d b) (off' := ![6, 0, 0]) rfl 0 (Or.inl (by show 0 < 6; decide))).trans ?_
  refine (View.read_writes_cons_unit_of_not_mem v f _ _ _ (ix3 0 d b) (off' := ![5, 0, 0]) rfl 0 (Or.inl (by show 0 < 5; decide))).trans ?_
  refine (View.read_writes_cons_unit_of_not_mem v f _ _ _ (ix3 0 d b) (off' := ![4, 0, 0]) rfl 0 (Or.inl (by show 0 < 4; decide))).trans ?_
  refine (View.read_writes_cons_unit_of_not_mem v f _ _ _ (ix3 0 d b) (off' := ![3, 0, 0]) rfl 0 (Or.inl (by show 0 < 3; decide))).trans ?_
  refine (View.read_writes_cons_unit_of_not_mem v f _ _ _ (ix3 0 d b) (off' := ![2, 0, 0]) rfl 0 (Or.inl (by show 0 < 2; decide))).trans ?_
  refine (View.read_writes_cons_unit_of_not_mem v f _ _ _ (ix3 0 d b) (off' := ![1, 0, 0]) rfl 0 (Or.inl (by show 0 < 1; decide))).trans ?_
  exact View.read_writes_cons_unit_of_mem v f _ _ _ (ix3 0 d b) (ix3 0 d b) (off' := ![0, 0, 0]) rfl (slab_at 0 0 rfl d b)

theorem slabs_read1 :
    v.read (Elt Ideal) (v.writes (Elt Ideal) f
      [⟨Rect.unit (s := S8x128x512) ![7, 0, 0] S1x128x512.size inb_S8x128x512_S1x128x512_7_0_0, w7⟩,
        ⟨Rect.unit (s := S8x128x512) ![6, 0, 0] S1x128x512.size inb_S8x128x512_S1x128x512_6_0_0, w6⟩,
        ⟨Rect.unit (s := S8x128x512) ![5, 0, 0] S1x128x512.size inb_S8x128x512_S1x128x512_5_0_0, w5⟩,
        ⟨Rect.unit (s := S8x128x512) ![4, 0, 0] S1x128x512.size inb_S8x128x512_S1x128x512_4_0_0, w4⟩,
        ⟨Rect.unit (s := S8x128x512) ![3, 0, 0] S1x128x512.size inb_S8x128x512_S1x128x512_3_0_0, w3⟩,
        ⟨Rect.unit (s := S8x128x512) ![2, 0, 0] S1x128x512.size inb_S8x128x512_S1x128x512_2_0_0, w2⟩,
        ⟨Rect.unit (s := S8x128x512) ![1, 0, 0] S1x128x512.size inb_S8x128x512_S1x128x512_1_0_0, w1⟩,
        ⟨Rect.unit (s := S8x128x512) ![0, 0, 0] S1x128x512.size inb_S8x128x512_S1x128x512_0_0_0, w0⟩]) (ix3 1 d b) = w1 (ix3 0 d b) := by
  refine (View.read_writes_cons_unit_of_not_mem v f _ _ _ (ix3 1 d b) (off' := ![7, 0, 0]) rfl 0 (Or.inl (by show 1 < 7; decide))).trans ?_
  refine (View.read_writes_cons_unit_of_not_mem v f _ _ _ (ix3 1 d b) (off' := ![6, 0, 0]) rfl 0 (Or.inl (by show 1 < 6; decide))).trans ?_
  refine (View.read_writes_cons_unit_of_not_mem v f _ _ _ (ix3 1 d b) (off' := ![5, 0, 0]) rfl 0 (Or.inl (by show 1 < 5; decide))).trans ?_
  refine (View.read_writes_cons_unit_of_not_mem v f _ _ _ (ix3 1 d b) (off' := ![4, 0, 0]) rfl 0 (Or.inl (by show 1 < 4; decide))).trans ?_
  refine (View.read_writes_cons_unit_of_not_mem v f _ _ _ (ix3 1 d b) (off' := ![3, 0, 0]) rfl 0 (Or.inl (by show 1 < 3; decide))).trans ?_
  refine (View.read_writes_cons_unit_of_not_mem v f _ _ _ (ix3 1 d b) (off' := ![2, 0, 0]) rfl 0 (Or.inl (by show 1 < 2; decide))).trans ?_
  exact View.read_writes_cons_unit_of_mem v f _ _ _ (ix3 1 d b) (ix3 0 d b) (off' := ![1, 0, 0]) rfl (slab_at 1 1 rfl d b)

theorem slabs_read2 :
    v.read (Elt Ideal) (v.writes (Elt Ideal) f
      [⟨Rect.unit (s := S8x128x512) ![7, 0, 0] S1x128x512.size inb_S8x128x512_S1x128x512_7_0_0, w7⟩,
        ⟨Rect.unit (s := S8x128x512) ![6, 0, 0] S1x128x512.size inb_S8x128x512_S1x128x512_6_0_0, w6⟩,
        ⟨Rect.unit (s := S8x128x512) ![5, 0, 0] S1x128x512.size inb_S8x128x512_S1x128x512_5_0_0, w5⟩,
        ⟨Rect.unit (s := S8x128x512) ![4, 0, 0] S1x128x512.size inb_S8x128x512_S1x128x512_4_0_0, w4⟩,
        ⟨Rect.unit (s := S8x128x512) ![3, 0, 0] S1x128x512.size inb_S8x128x512_S1x128x512_3_0_0, w3⟩,
        ⟨Rect.unit (s := S8x128x512) ![2, 0, 0] S1x128x512.size inb_S8x128x512_S1x128x512_2_0_0, w2⟩,
        ⟨Rect.unit (s := S8x128x512) ![1, 0, 0] S1x128x512.size inb_S8x128x512_S1x128x512_1_0_0, w1⟩,
        ⟨Rect.unit (s := S8x128x512) ![0, 0, 0] S1x128x512.size inb_S8x128x512_S1x128x512_0_0_0, w0⟩]) (ix3 2 d b) = w2 (ix3 0 d b) := by
  refine (View.read_writes_cons_unit_of_not_mem v f _ _ _ (ix3 2 d b) (off' := ![7, 0, 0]) rfl 0 (Or.inl (by show 2 < 7; decide))).trans ?_
  refine (View.read_writes_cons_unit_of_not_mem v f _ _ _ (ix3 2 d b) (off' := ![6, 0, 0]) rfl 0 (Or.inl (by show 2 < 6; decide))).trans ?_
  refine (View.read_writes_cons_unit_of_not_mem v f _ _ _ (ix3 2 d b) (off' := ![5, 0, 0]) rfl 0 (Or.inl (by show 2 < 5; decide))).trans ?_
  refine (View.read_writes_cons_unit_of_not_mem v f _ _ _ (ix3 2 d b) (off' := ![4, 0, 0]) rfl 0 (Or.inl (by show 2 < 4; decide))).trans ?_
  refine (View.read_writes_cons_unit_of_not_mem v f _ _ _ (ix3 2 d b) (off' := ![3, 0, 0]) rfl 0 (Or.inl (by show 2 < 3; decide))).trans ?_
  exact View.read_writes_cons_unit_of_mem v f _ _ _ (ix3 2 d b) (ix3 0 d b) (off' := ![2, 0, 0]) rfl (slab_at 2 2 rfl d b)

theorem slabs_read3 :
    v.read (Elt Ideal) (v.writes (Elt Ideal) f
      [⟨Rect.unit (s := S8x128x512) ![7, 0, 0] S1x128x512.size inb_S8x128x512_S1x128x512_7_0_0, w7⟩,
        ⟨Rect.unit (s := S8x128x512) ![6, 0, 0] S1x128x512.size inb_S8x128x512_S1x128x512_6_0_0, w6⟩,
        ⟨Rect.unit (s := S8x128x512) ![5, 0, 0] S1x128x512.size inb_S8x128x512_S1x128x512_5_0_0, w5⟩,
        ⟨Rect.unit (s := S8x128x512) ![4, 0, 0] S1x128x512.size inb_S8x128x512_S1x128x512_4_0_0, w4⟩,
        ⟨Rect.unit (s := S8x128x512) ![3, 0, 0] S1x128x512.size inb_S8x128x512_S1x128x512_3_0_0, w3⟩,
        ⟨Rect.unit (s := S8x128x512) ![2, 0, 0] S1x128x512.size inb_S8x128x512_S1x128x512_2_0_0, w2⟩,
        ⟨Rect.unit (s := S8x128x512) ![1, 0, 0] S1x128x512.size inb_S8x128x512_S1x128x512_1_0_0, w1⟩,
        ⟨Rect.unit (s := S8x128x512) ![0, 0, 0] S1x128x512.size inb_S8x128x512_S1x128x512_0_0_0, w0⟩]) (ix3 3 d b) = w3 (ix3 0 d b) := by
  refine (View.read_writes_cons_unit_of_not_mem v f _ _ _ (ix3 3 d b) (off' := ![7, 0, 0]) rfl 0 (Or.inl (by show 3 < 7; decide))).trans ?_
  refine (View.read_writes_cons_unit_of_not_mem v f _ _ _ (ix3 3 d b) (off' := ![6, 0, 0]) rfl 0 (Or.inl (by show 3 < 6; decide))).trans ?_
  refine (View.read_writes_cons_unit_of_not_mem v f _ _ _ (ix3 3 d b) (off' := ![5, 0, 0]) rfl 0 (Or.inl (by show 3 < 5; decide))).trans ?_
  refine (View.read_writes_cons_unit_of_not_mem v f _ _ _ (ix3 3 d b) (off' := ![4, 0, 0]) rfl 0 (Or.inl (by show 3 < 4; decide))).trans ?_
  exact View.read_writes_cons_unit_of_mem v f _ _ _ (ix3 3 d b) (ix3 0 d b) (off' := ![3, 0, 0]) rfl (slab_at 3 3 rfl d b)

theorem slabs_read4 :
    v.read (Elt Ideal) (v.writes (Elt Ideal) f
      [⟨Rect.unit (s := S8x128x512) ![7, 0, 0] S1x128x512.size inb_S8x128x512_S1x128x512_7_0_0, w7⟩,
        ⟨Rect.unit (s := S8x128x512) ![6, 0, 0] S1x128x512.size inb_S8x128x512_S1x128x512_6_0_0, w6⟩,
        ⟨Rect.unit (s := S8x128x512) ![5, 0, 0] S1x128x512.size inb_S8x128x512_S1x128x512_5_0_0, w5⟩,
        ⟨Rect.unit (s := S8x128x512) ![4, 0, 0] S1x128x512.size inb_S8x128x512_S1x128x512_4_0_0, w4⟩,
        ⟨Rect.unit (s := S8x128x512) ![3, 0, 0] S1x128x512.size inb_S8x128x512_S1x128x512_3_0_0, w3⟩,
        ⟨Rect.unit (s := S8x128x512) ![2, 0, 0] S1x128x512.size inb_S8x128x512_S1x128x512_2_0_0, w2⟩,
        ⟨Rect.unit (s := S8x128x512) ![1, 0, 0] S1x128x512.size inb_S8x128x512_S1x128x512_1_0_0, w1⟩,
        ⟨Rect.unit (s := S8x128x512) ![0, 0, 0] S1x128x512.size inb_S8x128x512_S1x128x512_0_0_0, w0⟩]) (ix3 4 d b) = w4 (ix3 0 d b) := by
  refine (View.read_writes_cons_unit_of_not_mem v f _ _ _ (ix3 4 d b) (off' := ![7, 0, 0]) rfl 0 (Or.inl (by show 4 < 7; decide))).trans ?_
  refine (View.read_writes_cons_unit_of_not_mem v f _ _ _ (ix3 4 d b) (off' := ![6, 0, 0]) rfl 0 (Or.inl (by show 4 < 6; decide))).trans ?_
  refine (View.read_writes_cons_unit_of_not_mem v f _ _ _ (ix3 4 d b) (off' := ![5, 0, 0]) rfl 0 (Or.inl (by show 4 < 5; decide))).trans ?_
  exact View.read_writes_cons_unit_of_mem v f _ _ _ (ix3 4 d b) (ix3 0 d b) (off' := ![4, 0, 0]) rfl (slab_at 4 4 rfl d b)

theorem slabs_read5 :
    v.read (Elt Ideal) (v.writes (Elt Ideal) f
      [⟨Rect.unit (s := S8x128x512) ![7, 0, 0] S1x128x512.size inb_S8x128x512_S1x128x512_7_0_0, w7⟩,
        ⟨Rect.unit (s := S8x128x512) ![6, 0, 0] S1x128x512.size inb_S8x128x512_S1x128x512_6_0_0, w6⟩,
        ⟨Rect.unit (s := S8x128x512) ![5, 0, 0] S1x128x512.size inb_S8x128x512_S1x128x512_5_0_0, w5⟩,
        ⟨Rect.unit (s := S8x128x512) ![4, 0, 0] S1x128x512.size inb_S8x128x512_S1x128x512_4_0_0, w4⟩,
        ⟨Rect.unit (s := S8x128x512) ![3, 0, 0] S1x128x512.size inb_S8x128x512_S1x128x512_3_0_0, w3⟩,
        ⟨Rect.unit (s := S8x128x512) ![2, 0, 0] S1x128x512.size inb_S8x128x512_S1x128x512_2_0_0, w2⟩,
        ⟨Rect.unit (s := S8x128x512) ![1, 0, 0] S1x128x512.size inb_S8x128x512_S1x128x512_1_0_0, w1⟩,
        ⟨Rect.unit (s := S8x128x512) ![0, 0, 0] S1x128x512.size inb_S8x128x512_S1x128x512_0_0_0, w0⟩]) (ix3 5 d b) = w5 (ix3 0 d b) := by
  refine (View.read_writes_cons_unit_of_not_mem v f _ _ _ (ix3 5 d b) (off' := ![7, 0, 0]) rfl 0 (Or.inl (by show 5 < 7; decide))).trans ?_
  refine (View.read_writes_cons_unit_of_not_mem v f _ _ _ (ix3 5 d b) (off' := ![6, 0, 0]) rfl 0 (Or.inl (by show 5 < 6; decide))).trans ?_
  exact View.read_writes_cons_unit_of_mem v f _ _ _ (ix3 5 d b) (ix3 0 d b) (off' := ![5, 0, 0]) rfl (slab_at 5 5 rfl d b)

theorem slabs_read6 :
    v.read (Elt Ideal) (v.writes (Elt Ideal) f
      [⟨Rect.unit (s := S8x128x512) ![7, 0, 0] S1x128x512.size inb_S8x128x512_S1x128x512_7_0_0, w7⟩,
        ⟨Rect.unit (s := S8x128x512) ![6, 0, 0] S1x128x512.size inb_S8x128x512_S1x128x512_6_0_0, w6⟩,
        ⟨Rect.unit (s := S8x128x512) ![5, 0, 0] S1x128x512.size inb_S8x128x512_S1x128x512_5_0_0, w5⟩,
        ⟨Rect.unit (s := S8x128x512) ![4, 0, 0] S1x128x512.size inb_S8x128x512_S1x128x512_4_0_0, w4⟩,
        ⟨Rect.unit (s := S8x128x512) ![3, 0, 0] S1x128x512.size inb_S8x128x512_S1x128x512_3_0_0, w3⟩,
        ⟨Rect.unit (s := S8x128x512) ![2, 0, 0] S1x128x512.size inb_S8x128x512_S1x128x512_2_0_0, w2⟩,
        ⟨Rect.unit (s := S8x128x512) ![1, 0, 0] S1x128x512.size inb_S8x128x512_S1x128x512_1_0_0, w1⟩,
        ⟨Rect.unit (s := S8x128x512) ![0, 0, 0] S1x128x512.size inb_S8x128x512_S1x128x512_0_0_0, w0⟩]) (ix3 6 d b) = w6 (ix3 0 d b) := by
  refine (View.read_writes_cons_unit_of_not_mem v f _ _ _ (ix3 6 d b) (off' := ![7, 0, 0]) rfl 0 (Or.inl (by show 6 < 7; decide))).trans ?_
  exact View.read_writes_cons_unit_of_mem v f _ _ _ (ix3 6 d b) (ix3 0 d b) (off' := ![6, 0, 0]) rfl (slab_at 6 6 rfl d b)

theorem slabs_read7 :
    v.read (Elt Ideal) (v.writes (Elt Ideal) f
      [⟨Rect.unit (s := S8x128x512) ![7, 0, 0] S1x128x512.size inb_S8x128x512_S1x128x512_7_0_0, w7⟩,
        ⟨Rect.unit (s := S8x128x512) ![6, 0, 0] S1x128x512.size inb_S8x128x512_S1x128x512_6_0_0, w6⟩,
        ⟨Rect.unit (s := S8x128x512) ![5, 0, 0] S1x128x512.size inb_S8x128x512_S1x128x512_5_0_0, w5⟩,
        ⟨Rect.unit (s := S8x128x512) ![4, 0, 0] S1x128x512.size inb_S8x128x512_S1x128x512_4_0_0, w4⟩,
        ⟨Rect.unit (s := S8x128x512) ![3, 0, 0] S1x128x512.size inb_S8x128x512_S1x128x512_3_0_0, w3⟩,
        ⟨Rect.unit (s := S8x128x512) ![2, 0, 0] S1x128x512.size inb_S8x128x512_S1x128x512_2_0_0, w2⟩,
        ⟨Rect.unit (s := S8x128x512) ![1, 0, 0] S1x128x512.size inb_S8x128x512_S1x128x512_1_0_0, w1⟩,
        ⟨Rect.unit (s := S8x128x512) ![0, 0, 0] S1x128x512.size inb_S8x128x512_S1x128x512_0_0_0, w0⟩]) (ix3 7 d b) = w7 (ix3 0 d b) := by
  exact View.read_writes_cons_unit_of_mem v f _ _ _ (ix3 7 d b) (ix3 0 d b) (off' := ![7, 0, 0]) rfl (slab_at 7 7 rfl d b)

end Slabs

section Pads

variable (v : View sig .tc .vmem S8x128x512 .bf16) (f : v.ty.Contents (Elt Ideal))
  (u : View sig .tc .vmem S512x512 .bf16) (X : u.ty.Contents (Elt Ideal))

theorem qp0 (d : Fin 128) (b : Fin 512) :
    k0_pay45 (F := Ideal) (View.readAt (Elt Ideal) u (Rect.unit (s := S512x512) ![0, 0] S64x512.size inb_S512x512_S64x512_0_0).toLoadRect X) (ix3 0 d b) = padAt (u.read (Elt Ideal) X) 0 d b := by
  refine Eq.trans ?_ (pad_lo (View.readAt (Elt Ideal) u (Rect.unit (s := S512x512) ![0, 0] S64x512.size inb_S512x512_S64x512_0_0).toLoadRect X) (u.read (Elt Ideal) X) 0 (by decide) (fun e b => ld_head u X 0 (by decide) _ e b) d b)
  pointwise [k0_pay45]

theorem qp1 (d : Fin 128) (b : Fin 512) :
    k0_pay46 (F := Ideal) (View.readAt (Elt Ideal) u (Rect.unit (s := S512x512) ![64, 0] S64x512.size inb_S512x512_S64x512_64_0).toLoadRect X) (ix3 0 d b) = padAt (u.read (Elt Ideal) X) 1 d b := by
  refine Eq.trans ?_ (pad_lo (View.readAt (Elt Ideal) u (Rect.unit (s := S512x512) ![64, 0] S64x512.size inb_S512x512_S64x512_64_0).toLoadRect X) (u.read (Elt Ideal) X) 1 (by decide) (fun e b => ld_head u X 64 (by decide) _ e b) d b)
  pointwise [k0_pay46]

theorem qp2 (d : Fin 128) (b : Fin 512) :
    k0_pay47 (F := Ideal) (View.readAt (Elt Ideal) u (Rect.unit (s := S512x512) ![128, 0] S64x512.size inb_S512x512_S64x512_128_0).toLoadRect X) (ix3 0 d b) = padAt (u.read (Elt Ideal) X) 2 d b := by
  refine Eq.trans ?_ (pad_lo (View.readAt (Elt Ideal) u (Rect.unit (s := S512x512) ![128, 0] S64x512.size inb_S512x512_S64x512_128_0).toLoadRect X) (u.read (Elt Ideal) X) 2 (by decide) (fun e b => ld_head u X 128 (by decide) _ e b) d b)
  pointwise [k0_pay47]

theorem qp3 (d : Fin 128) (b : Fin 512) :
    k0_pay48 (F := Ideal) (View.readAt (Elt Ideal) u (Rect.unit (s := S512x512) ![192, 0] S64x512.size inb_S512x512_S64x512_192_0).toLoadRect X) (ix3 0 d b) = padAt (u.read (Elt Ideal) X) 3 d b := by
  refine Eq.trans ?_ (pad_lo (View.readAt (Elt Ideal) u (Rect.unit (s := S512x512) ![192, 0] S64x512.size inb_S512x512_S64x512_192_0).toLoadRect X) (u.read (Elt Ideal) X) 3 (by decide) (fun e b => ld_head u X 192 (by decide) _ e b) d b)
  pointwise [k0_pay48]

theorem qp4 (d : Fin 128) (b : Fin 512) :
    k0_pay49 (F := Ideal) (View.readAt (Elt Ideal) u (Rect.unit (s := S512x512) ![256, 0] S64x512.size inb_S512x512_S64x512_256_0).toLoadRect X) (ix3 0 d b) = padAt (u.read (Elt Ideal) X) 4 d b := by
  refine Eq.trans ?_ (pad_hi (View.readAt (Elt Ideal) u (Rect.unit (s := S512x512) ![256, 0] S64x512.size inb_S512x512_S64x512_256_0).toLoadRect X) (u.read (Elt Ideal) X) 4 (by decide) (fun e b => ld_head u X 256 (by decide) _ e b) d b)
  pointwise [k0_pay49]

theorem qp5 (d : Fin 128) (b : Fin 512) :
    k0_pay50 (F := Ideal) (View.readAt (Elt Ideal) u (Rect.unit (s := S512x512) ![320, 0] S64x512.size inb_S512x512_S64x512_320_0).toLoadRect X) (ix3 0 d b) = padAt (u.read (Elt Ideal) X) 5 d b := by
  refine Eq.trans ?_ (pad_hi (View.readAt (Elt Ideal) u (Rect.unit (s := S512x512) ![320, 0] S64x512.size inb_S512x512_S64x512_320_0).toLoadRect X) (u.read (Elt Ideal) X) 5 (by decide) (fun e b => ld_head u X 320 (by decide) _ e b) d b)
  pointwise [k0_pay50]

theorem qp6 (d : Fin 128) (b : Fin 512) :
    k0_pay51 (F := Ideal) (View.readAt (Elt Ideal) u (Rect.unit (s := S512x512) ![384, 0] S64x512.size inb_S512x512_S64x512_384_0).toLoadRect X) (ix3 0 d b) = padAt (u.read (Elt Ideal) X) 6 d b := by
  refine Eq.trans ?_ (pad_hi (View.readAt (Elt Ideal) u (Rect.unit (s := S512x512) ![384, 0] S64x512.size inb_S512x512_S64x512_384_0).toLoadRect X) (u.read (Elt Ideal) X) 6 (by decide) (fun e b => ld_head u X 384 (by decide) _ e b) d b)
  pointwise [k0_pay51]

theorem qp7 (d : Fin 128) (b : Fin 512) :
    k0_pay52 (F := Ideal) (View.readAt (Elt Ideal) u (Rect.unit (s := S512x512) ![448, 0] S64x512.size inb_S512x512_S64x512_448_0).toLoadRect X) (ix3 0 d b) = padAt (u.read (Elt Ideal) X) 7 d b := by
  refine Eq.trans ?_ (pad_hi (View.readAt (Elt Ideal) u (Rect.unit (s := S512x512) ![448, 0] S64x512.size inb_S512x512_S64x512_448_0).toLoadRect X) (u.read (Elt Ideal) X) 7 (by decide) (fun e b => ld_head u X 448 (by decide) _ e b) d b)
  pointwise [k0_pay52]

theorem qp_read :
    v.read (Elt Ideal) (v.writes (Elt Ideal) f
      [⟨Rect.unit (s := S8x128x512) ![7, 0, 0] S1x128x512.size inb_S8x128x512_S1x128x512_7_0_0, k0_pay52 (View.readAt (Elt Ideal) u (Rect.unit (s := S512x512) ![448, 0] S64x512.size inb_S512x512_S64x512_448_0).toLoadRect X)⟩,
        ⟨Rect.unit (s := S8x128x512) ![6, 0, 0] S1x128x512.size inb_S8x128x512_S1x128x512_6_0_0, k0_pay51 (View.readAt (Elt Ideal) u (Rect.unit (s := S512x512) ![384, 0] S64x512.size inb_S512x512_S64x512_384_0).toLoadRect X)⟩,
        ⟨Rect.unit (s := S8x128x512) ![5, 0, 0] S1x128x512.size inb_S8x128x512_S1x128x512_5_0_0, k0_pay50 (View.readAt (Elt Ideal) u (Rect.unit (s := S512x512) ![320, 0] S64x512.size inb_S512x512_S64x512_320_0).toLoadRect X)⟩,
        ⟨Rect.unit (s := S8x128x512) ![4, 0, 0] S1x128x512.size inb_S8x128x512_S1x128x512_4_0_0, k0_pay49 (View.readAt (Elt Ideal) u (Rect.unit (s := S512x512) ![256, 0] S64x512.size inb_S512x512_S64x512_256_0).toLoadRect X)⟩,
        ⟨Rect.unit (s := S8x128x512) ![3, 0, 0] S1x128x512.size inb_S8x128x512_S1x128x512_3_0_0, k0_pay48 (View.readAt (Elt Ideal) u (Rect.unit (s := S512x512) ![192, 0] S64x512.size inb_S512x512_S64x512_192_0).toLoadRect X)⟩,
        ⟨Rect.unit (s := S8x128x512) ![2, 0, 0] S1x128x512.size inb_S8x128x512_S1x128x512_2_0_0, k0_pay47 (View.readAt (Elt Ideal) u (Rect.unit (s := S512x512) ![128, 0] S64x512.size inb_S512x512_S64x512_128_0).toLoadRect X)⟩,
        ⟨Rect.unit (s := S8x128x512) ![1, 0, 0] S1x128x512.size inb_S8x128x512_S1x128x512_1_0_0, k0_pay46 (View.readAt (Elt Ideal) u (Rect.unit (s := S512x512) ![64, 0] S64x512.size inb_S512x512_S64x512_64_0).toLoadRect X)⟩,
        ⟨Rect.unit (s := S8x128x512) ![0, 0, 0] S1x128x512.size inb_S8x128x512_S1x128x512_0_0_0, k0_pay45 (View.readAt (Elt Ideal) u (Rect.unit (s := S512x512) ![0, 0] S64x512.size inb_S512x512_S64x512_0_0).toLoadRect X)⟩]) = fun y => padAt (u.read (Elt Ideal) X) (y 0) (y 1) (y 2) := by
  funext y
  obtain ⟨h, d, b, rfl⟩ : ∃ (h : Fin 8) (d : Fin 128) (b : Fin 512), y = ix3 h d b :=
    ⟨y 0, y 1, y 2, funext (Fin.forall_fin_succ.mpr ⟨rfl, Fin.forall_fin_two.mpr ⟨rfl, rfl⟩⟩)⟩
  fin_cases h
  · exact (slabs_read0 v f _ _ _ _ _ _ _ _ d b).trans (qp0 u X d b)
  · exact (slabs_read1 v f _ _ _ _ _ _ _ _ d b).trans (qp1 u X d b)
  · exact (slabs_read2 v f _ _ _ _ _ _ _ _ d b).trans (qp2 u X d b)
  · exact (slabs_read3 v f _ _ _ _ _ _ _ _ d b).trans (qp3 u X d b)
  · exact (slabs_read4 v f _ _ _ _ _ _ _ _ d b).trans (qp4 u X d b)
  · exact (slabs_read5 v f _ _ _ _ _ _ _ _ d b).trans (qp5 u X d b)
  · exact (slabs_read6 v f _ _ _ _ _ _ _ _ d b).trans (qp6 u X d b)
  · exact (slabs_read7 v f _ _ _ _ _ _ _ _ d b).trans (qp7 u X d b)

end Pads

end Cert.AttnFIdeal.Value
-- ==== Proof.AttnF.After.lean ====
module

public import Idealize.ShloMosaic.Lib.VecWindow
public import proofs.«01_k».proof.Proof.AttnF.Run
public import proofs.«01_k».proof.Proof.AttnF.Pad

@[expose] public section

/-! What a grid point leaves in its two output blocks. -/

set_option maxRecDepth 16384

noncomputable section

namespace Cert.AttnFIdeal.Value

open Attn Online Cert.AttnFIdeal Cert.AttnFIdeal.Gen Idealize.ShloMosaic Idealize.ShloMosaic.TcCoe Idealize.SL.Sem
open Idealize.ShloMosaic.Pipeline (Dat)

/-- The sum, over the keys, of the weighted rows of the values, before any shift. -/
def nAt (W0 W1 : S80x4096.Idx → EReal) (t : Fin 8 → Fin 4096 → Fin 512 → ℝ) (h : Fin 8) (d : Fin 80) (b : Fin 512) : EReal :=
  ∑ r : Fin 4096, wAt W0 W1 h (ix2 d r) * p2 (t h r b)

theorem start_real : ∃ M : ℝ, Ideal.ofBits .f32 0xF149F2CA#32 = (M : EReal) := by
  refine ⟨-(13234890 * 2 ^ (76 : ℤ)), ?_⟩
  simp [Ideal.ofBits, Ideal.ieee, -EReal.coe_mul]

theorem z54 (y : S8x80x512.Idx) : k0_pay54 (F := Ideal) y = (0 : EReal) := by pointwise [k0_pay54]

theorem z53 (y : S8x512.Idx) : k0_pay53 (F := Ideal) y = Ideal.ofBits .f32 0xF149F2CA#32 := by pointwise [k0_pay53]

section Point

variable (𝒱 : Variants) (c : Dev nD) (bd : Option 𝒱.V) (i : grid0.Coords)
  (a1 : Memref sig .tc .vmem S512x512 .bf16) (h1 : a1.IsWhole)
  (a2 : Memref sig .tc .vmem S4096x128 .bf16) (h2 : a2.IsWhole)
  (a3 : Memref sig .tc .vmem S80x4096 .bf16) (h3 : a3.IsWhole)
  (a4 : Memref sig .tc .vmem S80x4096 .bf16) (h4 : a4.IsWhole)
  (a5 : Memref sig .tc .vmem S512x512 .f32) (h5 : a5.IsWhole)
  (a6 : Memref sig .tc .vmem S8x512 .f32) (h6 : a6.IsWhole)
  (a7 : Memref sig .tc .vmem S8x128x512 .bf16) (h7 : a7.IsWhole)
  (a8 : Memref sig .tc .vmem S8x512 .f32) (h8 : a8.IsWhole)
  (a9 : Memref sig .tc .vmem S8x80x512 .f32) (h9 : a9.IsWhole)
  (v59 : FVec Ideal S8x512 .f32)
  (X2 : BufTy.Contents (Elt Ideal) a2.view.ty)
  (X3 : BufTy.Contents (Elt Ideal) a3.view.ty)
  (X4 : BufTy.Contents (Elt Ideal) a4.view.ty)
  (X7 : BufTy.Contents (Elt Ideal) a7.view.ty)
  (t : Fin 8 → Fin 4096 → Fin 512 → ℝ) (ht : ∀ h r b, sAt (a2.view.read (Elt Ideal) X2) (a7.view.read (Elt Ideal) X7) h r b = (t h r b : EReal))

include ht in
theorem loads (h : Fin 8) (b : Fin 512) :
    ∃ M : ℝ, a8.view.read (Elt Ideal) (a8.view.writes (Elt Ideal) (a8.view.writes (Elt Ideal) a8.view.junk [⟨Rect.unit (s := S8x512) ![0, 0] S8x512.size inb_S8x512_S8x512_0_0, k0_pay53 (F := Ideal)⟩]) (pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1) (ix2 h b) = (M : EReal)
      ∧ ∀ d, a9.view.read (Elt Ideal) (a9.view.writes (Elt Ideal) (a9.view.writes (Elt Ideal) a9.view.junk [⟨Rect.unit (s := S8x80x512) ![0, 0, 0] S8x80x512.size inb_S8x80x512_S8x80x512_0_0_0, k0_pay54 (F := Ideal)⟩]) (pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2) (ix3 h d b)
        = nAt (a3.view.read (Elt Ideal) X3) (a4.view.read (Elt Ideal) X4) t h d b * p2 (-M) := by
  obtain ⟨M0, h0⟩ := start_real
  exact after 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) t ht M0
    (fun h b => by rw [View.read_writes_full, z53, h0]) (fun h d b => by rw [View.read_writes_full, z54]) h b

theorem m_load (h : ℕ) (g : Fin 8) (hg : g.val = h) (M : ℝ) (b : Fin 512)
    (inb : ∀ a, (![h, 0] : Fin 2 → ℕ) a + (![1, 512] : Fin 2 → ℕ) a ≤ S8x512.size a) (z : Fin 1)
    (hM : a8.view.read (Elt Ideal) (a8.view.writes (Elt Ideal) (a8.view.writes (Elt Ideal) a8.view.junk [⟨Rect.unit (s := S8x512) ![0, 0] S8x512.size inb_S8x512_S8x512_0_0, k0_pay53 (F := Ideal)⟩]) (pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1) (ix2 g b) = (M : EReal)) :
    a8.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1 ++ [⟨Rect.unit (s := S8x512) ![0, 0] S8x512.size inb_S8x512_S8x512_0_0, k0_pay53 (F := Ideal)⟩]) (Rect.unit (s := S8x512) ![h, 0] ![1, 512] inb).toLoadRect (ix2 z b) = (M : EReal) := by
  refine (ld_row a8.view (a8.view.writes (Elt Ideal) a8.view.junk _) h g hg inb z b).trans ?_
  rw [View.writes_append, hM]

theorem a_load (h : ℕ) (g : Fin 8) (hg : g.val = h) (N : EReal) (d : Fin 80) (b : Fin 512)
    (inb : ∀ a, (![h, 0, 0] : Fin 3 → ℕ) a + (![1, 80, 512] : Fin 3 → ℕ) a ≤ S8x80x512.size a)
    (hN : a9.view.read (Elt Ideal) (a9.view.writes (Elt Ideal) (a9.view.writes (Elt Ideal) a9.view.junk [⟨Rect.unit (s := S8x80x512) ![0, 0, 0] S8x80x512.size inb_S8x80x512_S8x80x512_0_0_0, k0_pay54 (F := Ideal)⟩]) (pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2) (ix3 g d b) = N) :
    a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![h, 0, 0] ![1, 80, 512] inb).toLoadRect (ix3 0 d b) = N := by
  refine (ld_acc a9.view (a9.view.writes (Elt Ideal) a9.view.junk _) h g hg inb 0 d b).trans ?_
  rw [View.writes_append, hN]

variable (K : S4096x128.Idx → EReal) (Q : S8x128x512.Idx → EReal) (W0 W1 : S80x4096.Idx → EReal)
  (hK : (a2.view.read (Elt Ideal) X2) = K) (hQ : (a7.view.read (Elt Ideal) X7) = Q) (hW0 : (a3.view.read (Elt Ideal) X3) = W0) (hW1 : (a4.view.read (Elt Ideal) X4) = W1)
  (hz : ∀ h r b, sAt K Q h r b = (t h r b : EReal))

omit ht
include hK hQ hW0 hW1 hz

theorem o_gen (b e : Fin 512) :
    ∃ M : ℝ, k0_pay5 (F := Ideal) (k0_pay57 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![0, 0, 0] ![1, 80, 512] inb_S8x80x512_S1x80x512_0_0_0).toLoadRect)) (k0_pay61 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![1, 0, 0] ![1, 80, 512] inb_S8x80x512_S1x80x512_1_0_0).toLoadRect)) (k0_pay67 (k0_pay65 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![2, 0, 0] ![1, 80, 512] inb_S8x80x512_S1x80x512_2_0_0).toLoadRect)) (k0_pay66 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![2, 0, 0] ![1, 80, 512] inb_S8x80x512_S1x80x512_2_0_0).toLoadRect))) (k0_pay71 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![3, 0, 0] ![1, 80, 512] inb_S8x80x512_S1x80x512_3_0_0).toLoadRect)) (k0_pay75 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![4, 0, 0] ![1, 80, 512] inb_S8x80x512_S1x80x512_4_0_0).toLoadRect)) (k0_pay79 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![5, 0, 0] ![1, 80, 512] inb_S8x80x512_S1x80x512_5_0_0).toLoadRect)) (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![6, 0, 0] ![1, 80, 512] inb_S8x80x512_S1x80x512_6_0_0).toLoadRect) (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![7, 0, 0] ![1, 80, 512] inb_S8x80x512_S1x80x512_7_0_0).toLoadRect) (ix2 b e)
      = Ideal.div (nAt W0 W1 t ⟨e.val / 64, by omega⟩ ⟨e.val % 64, by omega⟩ b * p2 (-M)) (nAt W0 W1 t ⟨e.val / 64, by omega⟩ 64 b * p2 (-M)) := by
  subst hK hQ hW0 hW1
  choose M hM hN using loads 𝒱 c bd i a1 h1 a2 h2 a3 h3 a4 h4 a5 h5 a6 h6 a7 h7 a8 h8 a9 h9 v59 X2 X3 X4 X7 t hz
  refine ⟨M ⟨e.val / 64, by omega⟩ b, ?_⟩
  exact o_at (fun h d b => nAt (a3.view.read (Elt Ideal) X3) (a4.view.read (Elt Ideal) X4) t h d b * p2 (-M h b)) _ _ _ _ _ _ _ _
    (fun d b => a_load 𝒱 c bd i a1 h1 a2 h2 a3 h3 a4 h4 a5 h5 a6 h6 a7 h7 a8 h8 a9 h9 v59 X2 X3 X4 X7 0 0 rfl _ d b _ (hN 0 b d))
    (fun d b => a_load 𝒱 c bd i a1 h1 a2 h2 a3 h3 a4 h4 a5 h5 a6 h6 a7 h7 a8 h8 a9 h9 v59 X2 X3 X4 X7 1 1 rfl _ d b _ (hN 1 b d))
    (fun d b => a_load 𝒱 c bd i a1 h1 a2 h2 a3 h3 a4 h4 a5 h5 a6 h6 a7 h7 a8 h8 a9 h9 v59 X2 X3 X4 X7 2 2 rfl _ d b _ (hN 2 b d))
    (fun d b => a_load 𝒱 c bd i a1 h1 a2 h2 a3 h3 a4 h4 a5 h5 a6 h6 a7 h7 a8 h8 a9 h9 v59 X2 X3 X4 X7 3 3 rfl _ d b _ (hN 3 b d))
    (fun d b => a_load 𝒱 c bd i a1 h1 a2 h2 a3 h3 a4 h4 a5 h5 a6 h6 a7 h7 a8 h8 a9 h9 v59 X2 X3 X4 X7 4 4 rfl _ d b _ (hN 4 b d))
    (fun d b => a_load 𝒱 c bd i a1 h1 a2 h2 a3 h3 a4 h4 a5 h5 a6 h6 a7 h7 a8 h8 a9 h9 v59 X2 X3 X4 X7 5 5 rfl _ d b _ (hN 5 b d))
    (fun d b => a_load 𝒱 c bd i a1 h1 a2 h2 a3 h3 a4 h4 a5 h5 a6 h6 a7 h7 a8 h8 a9 h9 v59 X2 X3 X4 X7 6 6 rfl _ d b _ (hN 6 b d))
    (fun d b => a_load 𝒱 c bd i a1 h1 a2 h2 a3 h3 a4 h4 a5 h5 a6 h6 a7 h7 a8 h8 a9 h9 v59 X2 X3 X4 X7 7 7 rfl _ d b _ (hN 7 b d))
    b e

theorem l_gen (h : Fin 8) (b : Fin 512) :
    ∃ M : ℝ, k0_pay6 (F := Ideal) (k0_pay58 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![0, 0, 0] ![1, 80, 512] inb_S8x80x512_S1x80x512_0_0_0).toLoadRect) (a8.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1 ++ [⟨Rect.unit (s := S8x512) ![0, 0] S8x512.size inb_S8x512_S8x512_0_0, k0_pay53 (F := Ideal)⟩]) (Rect.unit (s := S8x512) ![0, 0] ![1, 512] inb_S8x512_S1x512_0_0).toLoadRect)) (k0_pay62 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![1, 0, 0] ![1, 80, 512] inb_S8x80x512_S1x80x512_1_0_0).toLoadRect) (a8.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1 ++ [⟨Rect.unit (s := S8x512) ![0, 0] S8x512.size inb_S8x512_S8x512_0_0, k0_pay53 (F := Ideal)⟩]) (Rect.unit (s := S8x512) ![1, 0] ![1, 512] inb_S8x512_S1x512_1_0).toLoadRect)) (k0_pay68 (k0_pay64 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![2, 0, 0] ![1, 80, 512] inb_S8x80x512_S1x80x512_2_0_0).toLoadRect)) (a8.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1 ++ [⟨Rect.unit (s := S8x512) ![0, 0] S8x512.size inb_S8x512_S8x512_0_0, k0_pay53 (F := Ideal)⟩]) (Rect.unit (s := S8x512) ![2, 0] ![1, 512] inb_S8x512_S1x512_2_0).toLoadRect)) (k0_pay72 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![3, 0, 0] ![1, 80, 512] inb_S8x80x512_S1x80x512_3_0_0).toLoadRect) (a8.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1 ++ [⟨Rect.unit (s := S8x512) ![0, 0] S8x512.size inb_S8x512_S8x512_0_0, k0_pay53 (F := Ideal)⟩]) (Rect.unit (s := S8x512) ![3, 0] ![1, 512] inb_S8x512_S1x512_3_0).toLoadRect)) (k0_pay76 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![4, 0, 0] ![1, 80, 512] inb_S8x80x512_S1x80x512_4_0_0).toLoadRect) (a8.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1 ++ [⟨Rect.unit (s := S8x512) ![0, 0] S8x512.size inb_S8x512_S8x512_0_0, k0_pay53 (F := Ideal)⟩]) (Rect.unit (s := S8x512) ![4, 0] ![1, 512] inb_S8x512_S1x512_4_0).toLoadRect)) (a8.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1 ++ [⟨Rect.unit (s := S8x512) ![0, 0] S8x512.size inb_S8x512_S8x512_0_0, k0_pay53 (F := Ideal)⟩]) (Rect.unit (s := S8x512) ![5, 0] ![1, 512] inb_S8x512_S1x512_5_0).toLoadRect) (k0_pay80 (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![5, 0, 0] ![1, 80, 512] inb_S8x80x512_S1x80x512_5_0_0).toLoadRect)) (Scalar.ofBits .f32 0x40000000#32) (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![6, 0, 0] ![1, 80, 512] inb_S8x80x512_S1x80x512_6_0_0).toLoadRect) (a8.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1 ++ [⟨Rect.unit (s := S8x512) ![0, 0] S8x512.size inb_S8x512_S8x512_0_0, k0_pay53 (F := Ideal)⟩]) (Rect.unit (s := S8x512) ![6, 0] ![1, 512] inb_S8x512_S1x512_6_0).toLoadRect) (a9.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).2 ++ [⟨Rect.unit (s := S8x80x512) ![0, 0, 0] S8x80x512.size inb_S8x80x512_S8x80x512_0_0_0, k0_pay54 (F := Ideal)⟩]) (Rect.unit (s := S8x80x512) ![7, 0, 0] ![1, 80, 512] inb_S8x80x512_S1x80x512_7_0_0).toLoadRect) (a8.view.readCov ((pb_k0_t1 (F := Ideal) 𝒱 c bd i a1 h1 a2 h2 a3 h3 a4 h4 a5 h5 a6 h6 a7 h7 a8 h8 a9 h9 v59 X2 X3 X4 X7 (a8.view.writes (Elt Ideal) a8.view.junk [⟨Rect.unit (s := S8x512) ![0, 0] S8x512.size inb_S8x512_S8x512_0_0, k0_pay53 (F := Ideal)⟩]) (a9.view.writes (Elt Ideal) a9.view.junk [⟨Rect.unit (s := S8x80x512) ![0, 0, 0] S8x80x512.size inb_S8x80x512_S8x80x512_0_0_0, k0_pay54 (F := Ideal)⟩]) k0_t1_loop.trips).1 ++ [⟨Rect.unit (s := S8x512) ![0, 0] S8x512.size inb_S8x512_S8x512_0_0, k0_pay53 (F := Ideal)⟩]) (Rect.unit (s := S8x512) ![7, 0] ![1, 512] inb_S8x512_S1x512_7_0).toLoadRect) (ix2 h b)
      = (M : EReal) + Ideal.div (Ideal.log (nAt W0 W1 t h 64 b * p2 (-M))) (Ideal.log (Ideal.ofBits .f32 0x40000000#32)) := by
  subst hK hQ hW0 hW1
  choose M hM hN using loads 𝒱 c bd i a1 h1 a2 h2 a3 h3 a4 h4 a5 h5 a6 h6 a7 h7 a8 h8 a9 h9 v59 X2 X3 X4 X7 t hz
  refine ⟨M h b, ?_⟩
  exact l_at (fun h d b => nAt (a3.view.read (Elt Ideal) X3) (a4.view.read (Elt Ideal) X4) t h d b * p2 (-M h b)) (fun h b => (M h b : EReal)) _ _ _ _ _ _ _ _ _ _ _ _ _ _ _ _
    (fun d b => a_load 𝒱 c bd i a1 h1 a2 h2 a3 h3 a4 h4 a5 h5 a6 h6 a7 h7 a8 h8 a9 h9 v59 X2 X3 X4 X7 0 0 rfl _ d b _ (hN 0 b d))
    (fun d b => a_load 𝒱 c bd i a1 h1 a2 h2 a3 h3 a4 h4 a5 h5 a6 h6 a7 h7 a8 h8 a9 h9 v59 X2 X3 X4 X7 1 1 rfl _ d b _ (hN 1 b d))
    (fun d b => a_load 𝒱 c bd i a1 h1 a2 h2 a3 h3 a4 h4 a5 h5 a6 h6 a7 h7 a8 h8 a9 h9 v59 X2 X3 X4 X7 2 2 rfl _ d b _ (hN 2 b d))
    (fun d b => a_load 𝒱 c bd i a1 h1 a2 h2 a3 h3 a4 h4 a5 h5 a6 h6 a7 h7 a8 h8 a9 h9 v59 X2 X3 X4 X7 3 3 rfl _ d b _ (hN 3 b d))
    (fun d b => a_load 𝒱 c bd i a1 h1 a2 h2 a3 h3 a4 h4 a5 h5 a6 h6 a7 h7 a8 h8 a9 h9 v59 X2 X3 X4 X7 4 4 rfl _ d b _ (hN 4 b d))
    (fun d b => a_load 𝒱 c bd i a1 h1 a2 h2 a3 h3 a4 h4 a5 h5 a6 h6 a7 h7 a8 h8 a9 h9 v59 X2 X3 X4 X7 5 5 rfl _ d b _ (hN 5 b d))
    (fun d b => a_load 𝒱 c bd i a1 h1 a2 h2 a3 h3 a4 h4 a5 h5 a6 h6 a7 h7 a8 h8 a9 h9 v59 X2 X3 X4 X7 6 6 rfl _ d b _ (hN 6 b d))
    (fun d b => a_load 𝒱 c bd i a1 h1 a2 h2 a3 h3 a4 h4 a5 h5 a6 h6 a7 h7 a8 h8 a9 h9 v59 X2 X3 X4 X7 7 7 rfl _ d b _ (hN 7 b d))
    (fun z b => m_load 𝒱 c bd i a1 h1 a2 h2 a3 h3 a4 h4 a5 h5 a6 h6 a7 h7 a8 h8 a9 h9 v59 X2 X3 X4 X7 0 0 rfl _ b _ z (hM 0 b))
    (fun z b => m_load 𝒱 c bd i a1 h1 a2 h2 a3 h3 a4 h4 a5 h5 a6 h6 a7 h7 a8 h8 a9 h9 v59 X2 X3 X4 X7 1 1 rfl _ b _ z (hM 1 b))
    (fun z b => m_load 𝒱 c bd i a1 h1 a2 h2 a3 h3 a4 h4 a5 h5 a6 h6 a7 h7 a8 h8 a9 h9 v59 X2 X3 X4 X7 2 2 rfl _ b _ z (hM 2 b))
    (fun z b => m_load 𝒱 c bd i a1 h1 a2 h2 a3 h3 a4 h4 a5 h5 a6 h6 a7 h7 a8 h8 a9 h9 v59 X2 X3 X4 X7 3 3 rfl _ b _ z (hM 3 b))
    (fun z b => m_load 𝒱 c bd i a1 h1 a2 h2 a3 h3 a4 h4 a5 h5 a6 h6 a7 h7 a8 h8 a9 h9 v59 X2 X3 X4 X7 4 4 rfl _ b _ z (hM 4 b))
    (fun z b => m_load 𝒱 c bd i a1 h1 a2 h2 a3 h3 a4 h4 a5 h5 a6 h6 a7 h7 a8 h8 a9 h9 v59 X2 X3 X4 X7 5 5 rfl _ b _ z (hM 5 b))
    (fun z b => m_load 𝒱 c bd i a1 h1 a2 h2 a3 h3 a4 h4 a5 h5 a6 h6 a7 h7 a8 h8 a9 h9 v59 X2 X3 X4 X7 6 6 rfl _ b _ z (hM 6 b))
    (fun z b => m_load 𝒱 c bd i a1 h1 a2 h2 a3 h3 a4 h4 a5 h5 a6 h6 a7 h7 a8 h8 a9 h9 v59 X2 X3 X4 X7 7 7 rfl _ b _ z (hM 7 b))
    h b

end Point

variable (m : (ℓ : Loc nD τ sig) → Buf (Elt Ideal) ℓ) (c : Dev nD)

/-- The queries of one point, one zero padded slab per head. -/
def QP (t : Fin cfg0.N) : FVec Ideal S8x128x512 .bf16 := fun y => padAt (iblk m c 0 t) (y 0) (y 1) (y 2)

theorem o_point (t : Fin cfg0.N) (z : Fin 8 → Fin 4096 → Fin 512 → ℝ)
    (hz : ∀ h r b, sAt (iblk m c 1 t) (QP m c t) h r b = (z h r b : EReal)) (b e : Fin 512) :
    ∃ M : ℝ, (outsAt0 m c t).1 (ix2 b e)
      = Ideal.div (nAt (iblk m c 2 t) (iblk m c 3 t) z ⟨e.val / 64, by omega⟩ ⟨e.val % 64, by omega⟩ b * p2 (-M))
          (nAt (iblk m c 2 t) (iblk m c 3 t) z ⟨e.val / 64, by omega⟩ 64 b * p2 (-M)) := by
  unfold outsAt0; dsimp only; frame_open
  rw [View.read_writes_full]
  exact o_gen _ _ _ _ _ (hs0_0 t) _ (hs0_1 t) _ (hs0_2 t) _ (hs0_3 t) _ (hs0_4 t) _ (hs0_5 t) _ (Memref.isWhole_whole _) _ (Memref.isWhole_whole _) _ (Memref.isWhole_whole _)
    _ _ _ _ _ z (iblk m c 1 t) (QP m c t) (iblk m c 2 t) (iblk m c 3 t)
    (Memref.IsWhole.read_unread _ _) ((qp_read _ _ _ _).trans (by rw [Memref.IsWhole.read_unread]; rfl)) (Memref.IsWhole.read_unread _ _) (Memref.IsWhole.read_unread _ _) hz b e

theorem l_point (t : Fin cfg0.N) (z : Fin 8 → Fin 4096 → Fin 512 → ℝ)
    (hz : ∀ h r b, sAt (iblk m c 1 t) (QP m c t) h r b = (z h r b : EReal)) (h : Fin 8) (b : Fin 512) :
    ∃ M : ℝ, (outsAt0 m c t).2 (ix2 h b)
      = (M : EReal) + Ideal.div (Ideal.log (nAt (iblk m c 2 t) (iblk m c 3 t) z h 64 b * p2 (-M))) (Ideal.log (Ideal.ofBits .f32 0x40000000#32)) := by
  unfold outsAt0; dsimp only; frame_open
  rw [View.read_writes_full]
  exact l_gen _ _ _ _ _ (hs0_0 t) _ (hs0_1 t) _ (hs0_2 t) _ (hs0_3 t) _ (hs0_4 t) _ (hs0_5 t) _ (Memref.isWhole_whole _) _ (Memref.isWhole_whole _) _ (Memref.isWhole_whole _)
    _ _ _ _ _ z (iblk m c 1 t) (QP m c t) (iblk m c 2 t) (iblk m c 3 t)
    (Memref.IsWhole.read_unread _ _) ((qp_read _ _ _ _).trans (by rw [Memref.IsWhole.read_unread]; rfl)) (Memref.IsWhole.read_unread _ _) (Memref.IsWhole.read_unread _ _) hz h b

end Cert.AttnFIdeal.Value
-- ==== Proof.AttnF.Real.lean ====
module

public import proofs.«01_k».proof.Proof.AttnF.Entry
public import proofs.«01_k».proof.Proof.AttnF.After
public import proofs.«01_k».proof.Proof.Attn.Math

@[expose] public section

/-! With real queries and keys, every value of a grid point is what the plain softmax says; the values may be any extended reals. -/

set_option maxRecDepth 16384

noncomputable section

namespace Cert.AttnFIdeal.Value

open Attn Online Cert.AttnFIdeal Cert.AttnFIdeal.Gen Idealize.ShloMosaic Idealize.ShloMosaic.TcCoe Idealize.SL.Sem
open Idealize.ShloMosaic.Pipeline (Dat)

variable (m : (ℓ : Loc nD τ sig) → Buf (Elt Ideal) ℓ) (c : Dev nD)
  (q : Fin 2 → Fin 4 → Fin 4096 → Fin 64 → ℝ) (k : Fin 2 → Fin 4096 → Fin 64 → ℝ)
  (hq : ∀ n g i d, aQ m c (ix3 i (hd n g) d) = (q n g i d : EReal))
  (hk : ∀ n s d, aK m c (ix3 s n d) = (k n s d : EReal))

theorem one_real : one = 1 := by
  unfold one
  simp [Ideal.ofBits, Ideal.ieee, -EReal.coe_mul]
  norm_num

theorem qscale_real : Ideal.div scale ln2 = ((1 / 8 / ln2R : ℝ) : EReal) := by
  rw [show ln2 = (ln2R : EReal) from ln2_eq, scale, eighth_eq, div_real _ _ ln2R_pos.ne']

/-- The scores of point `t`, in units of the logarithm of two. -/
def zAt (t : Fin cfg0.N) (h : Fin 8) (r : Fin 4096) (b : Fin 512) : ℝ :=
  sc q k ⟨h.val / 4, by omega⟩ ⟨h.val % 4, by omega⟩ (qrow t b) r / ln2R

theorem p2_score (t : Fin cfg0.N) (h : Fin 8) (r : Fin 4096) (b : Fin 512) :
    p2 (zAt q k t h r b) = (Real.exp (sc q k ⟨h.val / 4, by omega⟩ ⟨h.val % 4, by omega⟩ (qrow t b) r) : EReal) := by
  unfold p2 zAt
  refine congrArg _ ?_
  show (2 : ℝ) ^ (_ / Real.log 2) = _
  rw [Real.rpow_def_of_pos two_pos, mul_div_cancel₀ _ (Real.log_pos one_lt_two).ne']

include hq in
theorem QP_real (t : Fin cfg0.N) (n : Fin 2) (g : Fin 4) (b : Fin 512) (d : Fin 128) :
    QP m c t (ix3 (hd n g) d b)
      = if d.val / 64 = n.val then ((q n g (qrow t b) ⟨d.val % 64, by omega⟩ * (1 / 8 / ln2R) : ℝ) : EReal) else 0 := by
  have hn : (n.val * 4 + g.val) / 4 = n.val := by omega
  show (if d.val / 64 = (n.val * 4 + g.val) / 4 then _ else _) = _
  rw [hn]
  refine if_congr Iff.rfl ?_ rfl
  refine (blk_q m c t _ b).trans ?_
  rw [qscale_real, EReal.coe_mul, ← hq]
  refine congrArg₂ (fun x y => aQ m c (ix3 (qrow t b) x y) * _) (Fin.ext ?_) (Fin.ext ?_)
  · show (64 * (n.val * 4 + g.val) + d.val % 64) / 64 = n.val * 4 + g.val
    omega
  · show (64 * (n.val * 4 + g.val) + d.val % 64) % 64 = d.val % 64
    omega

include hk in
theorem k_real (t : Fin cfg0.N) (n : Fin 2) (s : Fin 4096) (e : Fin 64) :
    (show FVec Ideal S4096x128 .bf16 from iblk m c 1 t) (ix2 s ⟨n.val * 64 + e.val, by omega⟩) = (k n s e : EReal) := by
  rw [← hk]
  exact (blk_k m c t s _).trans (congrArg₂ (fun x y => aK m c (ix3 s x y)) (Fin.ext (by simp only []; omega)) (Fin.ext (by simp only []; omega)))

include hq hk

theorem s_real (t : Fin cfg0.N) (h : Fin 8) (r : Fin 4096) (b : Fin 512) :
    sAt (iblk m c 1 t) (QP m c t) h r b = (zAt q k t h r b : EReal) := by
  obtain ⟨n, g, rfl⟩ : ∃ n g, h = hd n g := ⟨⟨h.val / 4, by omega⟩, ⟨h.val % 4, by omega⟩, Fin.ext (by simp only []; omega)⟩
  have hn : (⟨(hd n g).val / 4, by omega⟩ : Fin 2) = n := Fin.ext (by simp only []; omega)
  have hg : (⟨(hd n g).val % 4, by omega⟩ : Fin 4) = g := Fin.ext (by simp only []; omega)
  unfold zAt sAt
  rw [hn, hg]
  refine (pad_sum n _ (fun e => ((q n g (qrow t b) e * (1 / 8 / ln2R) : ℝ) : EReal)) _ (QP_real m c q hq t n g b)).trans ?_
  refine (Finset.sum_congr rfl fun e _ => congrArg (· * _) (k_real m c k hk t n r e)).trans ?_
  simp only [← EReal.coe_mul, coe_sum]
  rw [sc, Finset.sum_mul, Finset.sum_div]
  exact congrArg _ (Finset.sum_congr rfl fun e _ => by ring)

omit hq hk

/-- The values that head `h` weights. -/
theorem w_at (t : Fin cfg0.N) (h : Fin 8) (e : Fin 80) (s : Fin 4096) :
    wAt (iblk m c 2 t) (iblk m c 3 t) h (ix2 e s) = vteAt m c ⟨h.val / 4, by omega⟩ e s := by
  unfold wAt
  split
  · next h4 =>
    refine (blk_v0 m c t e s).trans (congrArg (fun n => vteAt m c n e s) (Fin.ext ?_))
    show 0 = h.val / 4
    omega
  · next h4 =>
    refine (blk_v1 m c t e s).trans (congrArg (fun n => vteAt m c n e s) (Fin.ext ?_))
    show 1 = h.val / 4
    omega

theorem z_at (t : Fin cfg0.N) (h : Fin 8) (b : Fin 512) :
    nAt (iblk m c 2 t) (iblk m c 3 t) (zAt q k t) h 64 b
      = (zs q k ⟨h.val / 4, by omega⟩ ⟨h.val % 4, by omega⟩ (qrow t b) : EReal) := by
  unfold nAt zs
  rw [← coe_sum]
  refine Finset.sum_congr rfl fun r _ => ?_
  rw [p2_score]
  refine (congrArg (fun x : EReal => x * _) (w_at m c t h 64 r)).trans ?_
  rw [vteAt, dif_neg (by decide), one_real, one_mul]

theorem n_at (t : Fin cfg0.N) (h : Fin 8) (d : Fin 64) (b : Fin 512) :
    nAt (iblk m c 2 t) (iblk m c 3 t) (zAt q k t) h ⟨d.val, by omega⟩ b
      = ∑ s : Fin 4096, aV m c (ix3 s ⟨h.val / 4, by omega⟩ d)
          * (Real.exp (sc q k ⟨h.val / 4, by omega⟩ ⟨h.val % 4, by omega⟩ (qrow t b) s) : EReal) := by
  unfold nAt
  refine Finset.sum_congr rfl fun r _ => ?_
  rw [p2_score]
  refine (congrArg (fun x : EReal => x * _) (w_at m c t h _ r)).trans ?_
  rw [vteAt, dif_pos d.isLt]

/-- The attention's output of one query, head and channel. -/
def oVal (v : S4096x2x64.Idx → EReal) (n : Fin 2) (g : Fin 4) (i : Fin 4096) (d : Fin 64) : EReal :=
  ∑ s : Fin 4096, (pr q k n g i s : EReal) * v (ix3 s n d)

theorem o_val (v : S4096x2x64.Idx → EReal) (n : Fin 2) (g : Fin 4) (i : Fin 4096) (d : Fin 64) :
    (∑ s : Fin 4096, v (ix3 s n d) * (Real.exp (sc q k n g i s) : EReal)) * ((1 / zs q k n g i : ℝ) : EReal) = oVal q k v n g i d := by
  unfold oVal
  rw [← sum_mul_nonneg Finset.univ _ _ (one_div_pos.mpr (zs_pos q k n g i)).le]
  refine Finset.sum_congr rfl fun s _ => ?_
  rw [mul_assoc, ← EReal.coe_mul, mul_one_div, mul_comm]
  rfl

include hq hk

theorem o_block (t : Fin cfg0.N) (b e : Fin 512) : (outsAt0 m c t).1 (ix2 b e)
    = oVal q k (aV m c) ⟨e.val / 256, by omega⟩ ⟨e.val / 64 % 4, by omega⟩ (qrow t b) ⟨e.val % 64, by omega⟩ := by
  obtain ⟨M, h⟩ := o_point m c t (zAt q k t) (s_real m c q k hq hk t) b e
  have h1 := n_at m c q k t ⟨e.val / 64, by omega⟩ ⟨e.val % 64, by omega⟩ b
  have h2 := z_at m c q k t ⟨e.val / 64, by omega⟩ b
  rw [h]
  refine (congrArg₂ (fun x y => Ideal.div (x * p2 (-M)) (y * p2 (-M))) h1 h2).trans ?_
  refine (quot _ _ _ (zs_pos _ _ _ _ _)).trans ?_
  refine (o_val q k (aV m c) _ _ _ _).trans ?_
  exact congrArg (fun n => oVal q k (aV m c) n _ _ _) (Fin.ext (by simp only []; omega))

theorem l_block (t : Fin cfg0.N) (h : Fin 8) (b : Fin 512) : (outsAt0 m c t).2 (ix2 h b)
    = ((Real.log (zs q k ⟨h.val / 4, by omega⟩ ⟨h.val % 4, by omega⟩ (qrow t b)) / ln2R : ℝ) : EReal) := by
  obtain ⟨M, hM⟩ := l_point m c t (zAt q k t) (s_real m c q k hq hk t) h b
  rw [hM]
  refine (congrArg (fun x => (M : EReal) + Ideal.div (Ideal.log (x * p2 (-M))) (Ideal.log (Ideal.ofBits .f32 0x40000000#32)))
    (z_at m c q k t h b)).trans ?_
  exact log_back _ _ (zs_pos _ _ _ _ _)

omit hq hk

/-- The outputs and the logarithms of the sums, the whole arrays. -/
def oAll (v : S4096x2x64.Idx → EReal) (y : S4096x512.Idx) : EReal :=
  oVal q k v ⟨(y 1).val / 256, by idx_bounds y; omega⟩ ⟨(y 1).val / 64 % 4, by omega⟩ (y 0) ⟨(y 1).val % 64, by omega⟩
def lAll (y : S8x4096.Idx) : EReal :=
  ((Real.log (zs q k ⟨(y 0).val / 4, by idx_bounds y; omega⟩ ⟨(y 0).val % 4, by omega⟩ (y 1)) / ln2R : ℝ) : EReal)

include hq hk

theorem o_final : (dats m 0 c).arrAt 4 (cfgs 0).N = oAll q k (aV m c) := by
  refine (dats m 0 c).arrAt_eq_of_covers 4 _ (by decide +kernel) fun t hf y => ?_
  blk_simp
  rw [after0_4]
  idx_vars y
  refine (o_block m c q k hq hk t _ _).trans ?_
  refine (rfl : _ = oAll q k (aV m c) (ix2 (qrow t _) _)).trans ?_
  generalize oAll q k (aV m c) = D
  unfold qrow
  blk_point [idx t]

theorem l_final : (dats m 0 c).arrAt 5 (cfgs 0).N = lAll q k := by
  refine (dats m 0 c).arrAt_eq_of_covers 5 _ (by decide +kernel) fun t hf y => ?_
  blk_simp
  rw [after0_5]
  idx_vars y
  refine (l_block m c q k hq hk t _ _).trans ?_
  refine (rfl : _ = lAll q k (ix2 _ (qrow t _))).trans ?_
  generalize lAll q k = D
  unfold qrow
  blk_point [idx t]

end Cert.AttnFIdeal.Value
-- ==== Proof.AttnF.Ref.lean ====
module

public import proofs.«01_k».proof.Proof.AttnF.Real
public import proofs.«01_k».proof.Proof.Gen.AttnFRefIdeal.Read

@[expose] public section

/-! The plain attention, stage by stage, on real queries and keys. -/

set_option maxRecDepth 16384

noncomputable section

namespace Cert.AttnFIdeal.Value

open Attn Online Cert.AttnFRefIdeal.Read Cert.AttnFIdeal Cert.AttnFIdeal.Gen Idealize.ShloMosaic Idealize.ShloMosaic.TcCoe Idealize.SL.Sem
open Idealize.ShloMosaic.Pipeline (Dat)
open Cert.AttnFRefIdeal (S2x4x4096x4096 S2x4x4096)

variable (X0 : (⟨S4096x8x64, .f32⟩ : BufTy).Contents (Elt Ideal)) (X1 X2 : (⟨S4096x2x64, .f32⟩ : BufTy).Contents (Elt Ideal))
  (q : Fin 2 → Fin 4 → Fin 4096 → Fin 64 → ℝ) (k : Fin 2 → Fin 4096 → Fin 64 → ℝ)
  (hq : ∀ n g i d, X0 (ix3 i (hd n g) d) = (q n g i d : EReal))
  (hk : ∀ n s d, X1 (ix3 s n d) = (k n s d : EReal))

/-- The maximum of a row of scores. -/
theorem max_of (y : FVec Ideal S2x4x4096x4096 .f32) (z : FVec Ideal S_ .f32) (n : Fin 2) (g : Fin 4) (i : Fin 4096) (a : EReal)
    (hR : S2x4x4096x4096.ReducesTo [3] S2x4x4096) (h0 : 0 < S_.numel) (hz : z (Shape.Idx.first h0) = a) :
    Host.reduce (FloatOps.maximumf (F := Ideal) (φ := .f32)) y z hR h0 (ix3 n g i)
      = Finset.univ.fold max a fun s : Fin 4096 => y (ix4 n g i s) := by
  subst hz
  pointwise []

/-- The sum of the shifted terms is positive. -/
theorem shifted_pos (n : Fin 2) (g : Fin 4) (i : Fin 4096) (M : ℝ) : 0 < ∑ s : Fin 4096, Real.exp (sc q k n g i s - M) :=
  Finset.sum_pos (fun s _ => Real.exp_pos _) ⟨0, Finset.mem_univ _⟩

include hq in
theorem ref_q1 (n : Fin 2) (g : Fin 4) (i : Fin 4096) (d : Fin 64) :
    val_main_v1 (F := Ideal) X0 (ix4 n g i d) = (q n g i d : EReal) := by
  refine Eq.trans ?_ (hq n g i d)
  pointwise [val_main_v1, val_main_v0]

include hq in
theorem ref_q14 (n : Fin 2) (g : Fin 4) (i : Fin 4096) (d : Fin 64) :
    val_main_v14 (F := Ideal) X0 (ix4 n g i d) = (q n g i d : EReal) := by
  refine Eq.trans ?_ (hq n g i d)
  pointwise [val_main_v14, val_main_v13]

include hk in
theorem ref_k15 (n : Fin 2) (s : Fin 4096) (d : Fin 64) :
    val_main_v15 (F := Ideal) X1 (ix3 n s d) = (k n s d : EReal) := by
  refine Eq.trans ?_ (hk n s d)
  pointwise [val_main_v15]

theorem ref_v16 (n : Fin 2) (s : Fin 4096) (d : Fin 64) : val_main_v16 (F := Ideal) X2 (ix3 n s d) = X2 (ix3 s n d) := by
  pointwise [val_main_v16]

include hq hk

/-! The logarithms of the sums. -/

theorem ref_sc4 (n : Fin 2) (g : Fin 4) (i s : Fin 4096) :
    val_main_v4 (F := Ideal) X0 X1 (ix4 n g i s) = (sc q k n g i s : EReal) := by
  refine Eq.trans (b := (∑ d : Fin 64, val_main_v1 (F := Ideal) X0 (ix4 n g i d) * X1 (ix3 s n d) : EReal)
    * Ideal.ofBits .f32 0x3E000000#32) (by pointwise [val_main_v4, val_main_v2, val_main_v3, val_main_cst]) ?_
  simp only [ref_q1 X0 q hq, hk, eighth_eq, ← EReal.coe_mul, coe_sum]
  rfl

theorem ref_max5 (n : Fin 2) (g : Fin 4) (i : Fin 4096) :
    ∃ M : ℝ, val_main_v5 (F := Ideal) X0 X1 (ix3 n g i) = (M : EReal) := by
  obtain ⟨M, hM⟩ := fold_max_real (Finset.univ : Finset (Fin 4096)) ⟨0, Finset.mem_univ _⟩ (fun s => sc q k n g i s)
  refine ⟨M, Eq.trans ?_ hM⟩
  unfold val_main_v5
  refine (max_of _ _ n g i ⊥ _ _ bot_eq).trans ?_
  exact congrArg (Finset.univ.fold max ⊥) (funext fun s => ref_sc4 X0 X1 q k hq hk n g i s)

omit hq hk in
theorem exp9_at (n : Fin 2) (g : Fin 4) (i s : Fin 4096) : val_main_v9 (F := Ideal) X0 X1 (ix4 n g i s)
    = Ideal.exp (val_main_v4 (F := Ideal) X0 X1 (ix4 n g i s) - val_main_v5 (F := Ideal) X0 X1 (ix3 n g i)) := by
  rw [val_main_v9_apply, val_main_v8_apply, val_main_v7_apply, val_main_v6_apply]
  exact congrArg (fun j => Ideal.exp (val_main_v4 (F := Ideal) X0 X1 (ix4 n g i s) - val_main_v5 (F := Ideal) X0 X1 j))
    (funext fun a => by fin_cases a <;> rfl)

omit hq hk in
theorem sum10_at (n : Fin 2) (g : Fin 4) (i : Fin 4096) : val_main_v10 (F := Ideal) X0 X1 (ix3 n g i)
    = (∑ s : Fin 4096, val_main_v9 (F := Ideal) X0 X1 (ix4 n g i s) : EReal) := by
  unfold val_main_v10
  generalize val_main_v9 (F := Ideal) X0 X1 = y
  pointwise [val_main_cst_1]

omit hq hk in
theorem log12_at (n : Fin 2) (g : Fin 4) (i : Fin 4096) : val_main_v12 (F := Ideal) X0 X1 (ix3 n g i)
    = val_main_v5 (F := Ideal) X0 X1 (ix3 n g i) + Ideal.log (val_main_v10 (F := Ideal) X0 X1 (ix3 n g i)) := by
  rw [val_main_v12_apply, val_main_v11_apply]
  generalize val_main_v5 (F := Ideal) X0 X1 (ix3 n g i) = y
  generalize val_main_v10 (F := Ideal) X0 X1 (ix3 n g i) = z
  rfl

theorem ref_lse (n : Fin 2) (g : Fin 4) (i : Fin 4096) :
    val_main_v12 (F := Ideal) X0 X1 (ix3 n g i) = (Real.log (zs q k n g i) : EReal) := by
  obtain ⟨M, hM⟩ := ref_max5 X0 X1 q k hq hk n g i
  have he : ∀ s, val_main_v9 (F := Ideal) X0 X1 (ix4 n g i s) = (Real.exp (sc q k n g i s - M) : EReal) := fun s => by
    rw [exp9_at, hM, ref_sc4 X0 X1 q k hq hk, ← EReal.coe_sub, Ideal.exp_coe]
  have hs : val_main_v10 (F := Ideal) X0 X1 (ix3 n g i) = ((∑ s : Fin 4096, Real.exp (sc q k n g i s - M) : ℝ) : EReal) := by
    rw [sum10_at]
    simp only [he, coe_sum]
  rw [log12_at, hM, hs, Ideal.log_coe, if_neg (shifted_pos q k n g i M).not_ge, ← EReal.coe_add, log_shift]

theorem ref_l : val_main_v37 (F := Ideal) X0 X1 = lAll q k := by
  funext j
  obtain ⟨h, i, rfl⟩ : ∃ h i, j = ix2 h i := ⟨j 0, j 1, funext (Fin.forall_fin_two.mpr ⟨rfl, rfl⟩)⟩
  refine Eq.trans (b := Ideal.div (val_main_v12 (F := Ideal) X0 X1 (ix3 (⟨h.val / 4, by omega⟩ : Fin 2) (⟨h.val % 4, by omega⟩ : Fin 4) i))
    (Ideal.log (Ideal.ofBits .f32 0x40000000#32)))
    (by pointwise [val_main_v37, val_main_v36, val_main_v35, val_main_v34, val_main_cst_6]) ?_
  rw [ref_lse X0 X1 q k hq hk, ln2_eq, div_real _ _ ln2R_pos.ne']
  rfl

/-! The outputs. -/

theorem ref_sc19 (n : Fin 2) (g : Fin 4) (i s : Fin 4096) :
    val_main_v19 (F := Ideal) X0 X1 (ix4 n g i s) = (sc q k n g i s : EReal) := by
  refine Eq.trans (b := (∑ d : Fin 64, val_main_v14 (F := Ideal) X0 (ix4 n g i d) * val_main_v15 (F := Ideal) X1 (ix3 n s d) : EReal)
    * Ideal.ofBits .f32 0x3E000000#32) (by pointwise [val_main_v19, val_main_v17, val_main_v18, val_main_cst_2]) ?_
  simp only [ref_q14 X0 q hq, ref_k15 X1 k hk, eighth_eq, ← EReal.coe_mul, coe_sum]
  rfl

theorem ref_max20 (n : Fin 2) (g : Fin 4) (i : Fin 4096) :
    ∃ M : ℝ, val_main_v20 (F := Ideal) X0 X1 (ix3 n g i) = (M : EReal) := by
  obtain ⟨M, hM⟩ := fold_max_real (Finset.univ : Finset (Fin 4096)) ⟨0, Finset.mem_univ _⟩ (fun s => sc q k n g i s)
  refine ⟨M, Eq.trans ?_ hM⟩
  unfold val_main_v20
  refine (max_of _ _ n g i ⊥ _ _ bot_eq).trans ?_
  exact congrArg (Finset.univ.fold max ⊥) (funext fun s => ref_sc19 X0 X1 q k hq hk n g i s)

omit hq hk in
theorem ref_max22 (n : Fin 2) (g : Fin 4) (i : Fin 4096) :
    val_main_v22 (F := Ideal) X0 X1 (ix3 n g i) = max ⊥ (val_main_v20 (F := Ideal) X0 X1 (ix3 n g i)) := by
  rw [val_main_v22_apply, val_main_v21_apply, val_main_cst_4_apply]
  generalize val_main_v20 (F := Ideal) X0 X1 (ix3 n g i) = y
  exact congrArg (fun z : EReal => max z y) bot_eq

theorem ref_weight (n : Fin 2) (g : Fin 4) (i s : Fin 4096) :
    val_main_v30 (F := Ideal) X0 X1 (ix4 n g i s) = (pr q k n g i s : EReal) := by
  obtain ⟨M, hM'⟩ := ref_max20 X0 X1 q k hq hk n g i
  have hM : val_main_v22 (F := Ideal) X0 X1 (ix3 n g i) = (M : EReal) :=
    (ref_max22 X0 X1 n g i).trans ((congrArg (max ⊥) hM').trans (max_bot_left _))
  have he : ∀ s, val_main_v26 (F := Ideal) X0 X1 (ix4 n g i s) = (Real.exp (sc q k n g i s - M) : EReal) := fun s => by
    refine Eq.trans (b := Ideal.exp (val_main_v19 (F := Ideal) X0 X1 (ix4 n g i s) - val_main_v22 (F := Ideal) X0 X1 (ix3 n g i)))
      (by pointwise [val_main_v26, val_main_v25, val_main_v24, val_main_v23]) ?_
    rw [hM, ref_sc19 X0 X1 q k hq hk, ← EReal.coe_sub, Ideal.exp_coe]
  have hs : val_main_v27 (F := Ideal) X0 X1 (ix3 n g i) = ((∑ s : Fin 4096, Real.exp (sc q k n g i s - M) : ℝ) : EReal) := by
    refine Eq.trans (b := (∑ s : Fin 4096, val_main_v26 (F := Ideal) X0 X1 (ix4 n g i s) : EReal))
      (by pointwise [val_main_v27, val_main_cst_5]) ?_
    simp only [he, coe_sum]
  refine Eq.trans (b := Ideal.div (val_main_v26 (F := Ideal) X0 X1 (ix4 n g i s)) (val_main_v27 (F := Ideal) X0 X1 (ix3 n g i)))
    (by pointwise [val_main_v30, val_main_v29, val_main_v28]) ?_
  rw [he, hs, div_real _ _ (shifted_pos q k n g i M).ne', pr_shift]

theorem ref_o : val_main_v33 (F := Ideal) X0 X1 X2 = oAll q k X2 := by
  funext j
  obtain ⟨i, e, rfl⟩ : ∃ i e, j = ix2 i e := ⟨j 0, j 1, funext (Fin.forall_fin_two.mpr ⟨rfl, rfl⟩)⟩
  refine Eq.trans (b := (∑ s : Fin 4096,
      val_main_v30 (F := Ideal) X0 X1 (ix4 (⟨e.val / 256, by omega⟩ : Fin 2) (⟨e.val / 64 % 4, by omega⟩ : Fin 4) i s)
        * val_main_v16 (F := Ideal) X2 (ix3 (⟨e.val / 256, by omega⟩ : Fin 2) s (⟨e.val % 64, by omega⟩ : Fin 64)) : EReal))
    (by pointwise [val_main_v33, val_main_v32, val_main_v31]) ?_
  simp only [ref_weight X0 X1 q k hq hk, ref_v16]
  rfl

end Cert.AttnFIdeal.Value
-- ==== Proof.AttnF.Claim.lean ====
module

public import proofs.«01_k».proof.Defs
public import proofs.«01_k».proof.Proof.AttnF.Ref
public import proofs.«01_k».proof.Proof.Gen.AttnF.Frame
public import proofs.«01_k».proof.Proof.Gen.AttnFIdeal.Value
public import proofs.«01_k».proof.Proof.Gen.AttnFRefIdeal.Run
public import Idealize.ShloMosaic.Lib.ReduceAll

@[expose] public section

/-! On queries and keys without infinities, the kernel computes the attention. -/

set_option maxRecDepth 16384

noncomputable section

namespace Cert.AttnFIdeal.Value

open Attn Cert.AttnFIdeal Cert.AttnFIdeal.Gen Idealize.ShloMosaic Idealize.ShloMosaic.TcCoe Idealize.SL.Sem
open Idealize.ShloMosaic.Pipeline (Dat)

instance facts_finite : Cert.Pre_finite6.Facts where
  bcast_S_S4096x8x64 := by decide
  reducesTo_S4096x8x64_S_d0_1_2 := by decide
  h_S_ := by decide
  bcast_S_S4096x2x64 := by decide
  reducesTo_S4096x2x64_S_d0_1_2 := by decide

/-- A magnitude that compares below the infinity belongs to a real. -/
theorem real_of_below (x : EReal) (h : Ideal.cmp .olt (max x (-x)) (Ideal.ofBits .f32 0x7F800000#32) = 1#1) : x = (x.toReal : EReal) := by
  rw [show Ideal.ofBits .f32 0x7F800000#32 = ⊤ by simp [Ideal.ofBits, Ideal.ieee]] at h
  have hlt : max x (-x) < ⊤ := by
    by_contra hn
    simp [Ideal.cmp, hn] at h
  refine (EReal.coe_toReal (lt_of_le_of_lt (le_max_left _ _) hlt).ne fun hb => ?_).symm
  rw [hb] at hlt
  simp at hlt

theorem real_args {a b d} (h : Cert.Pre_finite6.fn (F := Ideal) a b d = fun _ => 1#1) :
    (∀ i, a i = ((a i : EReal).toReal : EReal)) ∧ (∀ i, b i = ((b i : EReal).toReal : EReal)) := by
  haveI : Subsingleton Cert.Pre_finite6.S_.Idx := ⟨fun x y => funext fun z => z.elim0⟩
  obtain ⟨ha, hb⟩ := IntOp.andi_eq_one.1 (show IntOp.andi _ _ = 1#1 from congrFun h ix0)
  exact ⟨fun i => real_of_below _ (Host.reduce_andi_all _ _ _ _ _ ha i), fun i => real_of_below _ (Host.reduce_andi_all _ _ _ _ _ hb i)⟩

theorem frame_reference : Cert.quiescent_AttnFRefIdeal := by
  intro m g _
  exact (θ_run Cert.AttnFRefIdeal.defs _ _).mono (fun r h => ⟨fun c => (h c).2.2,
      sem_eq_zero_of_no_sems (by decide) r.2⟩) (Cert.AttnFRefIdeal.Value.run (F := Ideal) m g)

variable (m : (ℓ : Loc nD τ sig) → Buf (Elt Ideal) ℓ) (c : Dev nD)

/-- The real queries and keys. -/
def rQ (n : Fin 2) (g : Fin 4) (i : Fin 4096) (d : Fin 64) : ℝ := (aQ m c (ix3 i (hd n g) d)).toReal
def rK (n : Fin 2) (s : Fin 4096) (d : Fin 64) : ℝ := (aK m c (ix3 s n d)).toReal

theorem o_eq (h : Cert.Pre_finite6.fn (F := Ideal) (aQ m c) (aK m c) (aV m c) = fun _ => 1#1) :
    Cert.AttnFRefIdeal.Read.val_main_v33 (F := Ideal) (aQ m c) (aK m c) (aV m c) = (dats m 0 c).arrAt 4 (cfgs 0).N :=
  have hf := real_args h
  (ref_o (aQ m c) (aK m c) (aV m c) (rQ m c) (rK m c) (fun _ _ _ _ => hf.1 _) (fun _ _ _ => hf.2 _)).trans
    (o_final m c (rQ m c) (rK m c) (fun _ _ _ _ => hf.1 _) (fun _ _ _ => hf.2 _)).symm

theorem l_eq (h : Cert.Pre_finite6.fn (F := Ideal) (aQ m c) (aK m c) (aV m c) = fun _ => 1#1) :
    Cert.AttnFRefIdeal.Read.val_main_v37 (F := Ideal) (aQ m c) (aK m c) = (dats m 0 c).arrAt 5 (cfgs 0).N :=
  have hf := real_args h
  (ref_l (aQ m c) (aK m c) (rQ m c) (rK m c) (fun _ _ _ _ => hf.1 _) (fun _ _ _ => hf.2 _)).trans
    (l_final m c (rQ m c) (rK m c) (fun _ _ _ _ => hf.1 _) (fun _ _ _ => hf.2 _)).symm

theorem algebraic : Cert.algebraic_AttnFIdeal_AttnFRefIdeal_pre_finite6 := by
  pair_intro
  · run_from Cert.AttnFIdeal.Value.run_blocks m g
  · run_from Cert.AttnFRefIdeal.Value.run m' g'
    · exact (Cert.AttnFRefIdeal.Read.val_main_v33_eq _ _ _).trans (o_eq m c (hpre c))
    · exact (Cert.AttnFRefIdeal.Read.val_main_v37_eq _ _).trans (l_eq m c (hpre c))

end Cert.AttnFIdeal.Value
-- ==== Proof.Branch.Math.lean ====
module

public import proofs.«01_k».proof.Proof.Gen.BranchIdeal.Frame
public import Idealize.ShloMosaic.Lib.Pipeline.ValueKit
public import Idealize.ShloMosaic.Lib.Claim

@[expose] public section

/-! The functions of a row that both programs compute. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)

/-- The gate of a logit. -/
def gate (x : EReal) : EReal := Ideal.div 1 (1 + Ideal.exp (-x))

/-- The activation of a gating lane. -/
def silu (x : EReal) : EReal := x * gate x

/-- A row of the spatial branch with its mean taken off. -/
def cen (v : Fin 512 → EReal) (k : Fin 512) : EReal := v k - Ideal.div (∑ l, v l) (Ideal.ofBits .f32 0x44000000#32)

/-- The same row over its deviation. -/
def xh (v : Fin 512 → EReal) (k : Fin 512) : EReal :=
  cen v k * Ideal.rsqrt (Ideal.div (∑ l, cen v l * cen v l) (Ideal.ofBits .f32 0x44000000#32) + Ideal.ofBits .f32 0x358637BD#32)

/-- The softmax of a row of scores. -/
def soft (s : Fin 256 → EReal) (k : Fin 256) : EReal :=
  Ideal.div (Ideal.exp (s k - Finset.univ.fold max (Ideal.ofBits .f32 0xFF800000#32) s)) (∑ l, Ideal.exp (s l - Finset.univ.fold max (Ideal.ofBits .f32 0xFF800000#32) s))

theorem bot_eq : Ideal.ofBits .f32 0xFF800000#32 = (⊥ : EReal) := by
  simp [Ideal.ofBits, Ideal.ieee]

/-- A row over the root of its mean square. -/
def nrm (v : Fin 1024 → EReal) (k : Fin 1024) : EReal :=
  v k * Ideal.rsqrt (Ideal.div (∑ l, v l * v l) (Ideal.ofBits .f32 0x44800000#32) + Ideal.ofBits .f32 0x358637BD#32)

/-- The spatial mixing of a block of rows: each chunk of 128 rows is mixed by its group's matrix, plus the row's bias. -/
def mixB (x4 x5 : S4x128x128.Idx → EReal) (v : S512x512.Idx → EReal) (r w : Fin 512) : EReal :=
  (∑ q : Fin 128, x4 (ix3 ⟨w.val / 128, by omega⟩ ⟨r.val % 128, by omega⟩ q) * v (ix2 ⟨r.val / 128 * 128 + q.val, by omega⟩ w))
    + x5 (ix3 ⟨w.val / 128, by omega⟩ ⟨r.val % 128, by omega⟩ ⟨w.val % 128, by omega⟩)

/-- The scores of one head of a block of queries against the memory's keys. -/
def scB (q : S512x512.Idx → EReal) (kv : S256x1024.Idx → EReal) (h : Fin 4) (r : Fin 512) (s : Fin 256) : EReal :=
  (∑ d : Fin 128, q (ix2 r ⟨h.val * 128 + d.val, by omega⟩) * kv (ix2 s ⟨h.val * 128 + d.val, by omega⟩)) * Ideal.ofBits .f32 0x3DB504F3#32

/-- The memory's answer to a block of queries. -/
def omB (q : S512x512.Idx → EReal) (kv : S256x1024.Idx → EReal) (r w : Fin 512) : EReal :=
  ∑ s : Fin 256, soft (scB q kv ⟨w.val / 128, by omega⟩ r) s * kv (ix2 s ⟨512 + w.val, by omega⟩)

end Cert.BranchIdeal.Value
-- ==== Proof.Branch.Load.lean ====
module

public import proofs.«01_k».proof.Proof.Branch.Math

@[expose] public section

/-! The parts of the blocks that the body loads. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)

theorem ld_s0 (x : Vec Ideal S512x6912 .bf16) (r : Fin 512) (w : Fin 512) : View.ld x r0_0 (ix2 r w) = x (ix2 r ⟨768 + w.val, by omega⟩) := by
  refine congrArg x (funext fun q => Fin.ext ?_)
  revert q
  refine Fin.forall_fin_two.mpr ⟨?_, ?_⟩
  · show 0 + 1 * r.val = r.val
    omega
  · show 768 + 1 * w.val = 768 + w.val
    omega

theorem ld_s1 (x : Vec Ideal S512x6912 .bf16) (r : Fin 512) (w : Fin 512) : View.ld x r0_1 (ix2 r w) = x (ix2 r ⟨1280 + w.val, by omega⟩) := by
  refine congrArg x (funext fun q => Fin.ext ?_)
  revert q
  refine Fin.forall_fin_two.mpr ⟨?_, ?_⟩
  · show 0 + 1 * r.val = r.val
    omega
  · show 1280 + 1 * w.val = 1280 + w.val
    omega

theorem ld_s2 (x : Vec Ideal S512x6912 .bf16) (r : Fin 512) (w : Fin 512) : View.ld x r0_2 (ix2 r w) = x (ix2 r ⟨1792 + w.val, by omega⟩) := by
  refine congrArg x (funext fun q => Fin.ext ?_)
  revert q
  refine Fin.forall_fin_two.mpr ⟨?_, ?_⟩
  · show 0 + 1 * r.val = r.val
    omega
  · show 1792 + 1 * w.val = 1792 + w.val
    omega

theorem ld_s3 (x : Vec Ideal S512x6912 .bf16) (r : Fin 512) (w : Fin 512) : View.ld x r0_3 (ix2 r w) = x (ix2 r ⟨2304 + w.val, by omega⟩) := by
  refine congrArg x (funext fun q => Fin.ext ?_)
  revert q
  refine Fin.forall_fin_two.mpr ⟨?_, ?_⟩
  · show 0 + 1 * r.val = r.val
    omega
  · show 2304 + 1 * w.val = 2304 + w.val
    omega

theorem ld_s4 (x : Vec Ideal S512x6912 .bf16) (r : Fin 512) (w : Fin 512) : View.ld x r0_4 (ix2 r w) = x (ix2 r ⟨2816 + w.val, by omega⟩) := by
  refine congrArg x (funext fun q => Fin.ext ?_)
  revert q
  refine Fin.forall_fin_two.mpr ⟨?_, ?_⟩
  · show 0 + 1 * r.val = r.val
    omega
  · show 2816 + 1 * w.val = 2816 + w.val
    omega

theorem ld_s5 (x : Vec Ideal S512x6912 .bf16) (r : Fin 512) (w : Fin 512) : View.ld x r0_5 (ix2 r w) = x (ix2 r ⟨3328 + w.val, by omega⟩) := by
  refine congrArg x (funext fun q => Fin.ext ?_)
  revert q
  refine Fin.forall_fin_two.mpr ⟨?_, ?_⟩
  · show 0 + 1 * r.val = r.val
    omega
  · show 3328 + 1 * w.val = 3328 + w.val
    omega

theorem ld_s26 (x : Vec Ideal S512x6912 .bf16) (r : Fin 512) (w : Fin 1024) : View.ld x r0_26 (ix2 r w) = x (ix2 r ⟨3840 + w.val, by omega⟩) := by
  refine congrArg x (funext fun q => Fin.ext ?_)
  revert q
  refine Fin.forall_fin_two.mpr ⟨?_, ?_⟩
  · show 0 + 1 * r.val = r.val
    omega
  · show 3840 + 1 * w.val = 3840 + w.val
    omega

theorem ld_s33 (x : Vec Ideal S512x6912 .bf16) (r : Fin 512) (w : Fin 1024) : View.ld x r0_33 (ix2 r w) = x (ix2 r ⟨4864 + w.val, by omega⟩) := by
  refine congrArg x (funext fun q => Fin.ext ?_)
  revert q
  refine Fin.forall_fin_two.mpr ⟨?_, ?_⟩
  · show 0 + 1 * r.val = r.val
    omega
  · show 4864 + 1 * w.val = 4864 + w.val
    omega

theorem ld_s40 (x : Vec Ideal S512x6912 .bf16) (r : Fin 512) (w : Fin 1024) : View.ld x r0_40 (ix2 r w) = x (ix2 r ⟨5888 + w.val, by omega⟩) := by
  refine congrArg x (funext fun q => Fin.ext ?_)
  revert q
  refine Fin.forall_fin_two.mpr ⟨?_, ?_⟩
  · show 0 + 1 * r.val = r.val
    omega
  · show 5888 + 1 * w.val = 5888 + w.val
    omega

theorem ld_s11 (x : Vec Ideal S256x1024 .bf16) (r : Fin 256) (w : Fin 128) : View.ld x r0_11 (ix2 r w) = x (ix2 r ⟨0 + w.val, by omega⟩) := by
  refine congrArg x (funext fun q => Fin.ext ?_)
  revert q
  refine Fin.forall_fin_two.mpr ⟨?_, ?_⟩
  · show 0 + 1 * r.val = r.val
    omega
  · show 0 + 1 * w.val = 0 + w.val
    omega

theorem ld_s12 (x : Vec Ideal S256x1024 .bf16) (r : Fin 256) (w : Fin 128) : View.ld x r0_12 (ix2 r w) = x (ix2 r ⟨512 + w.val, by omega⟩) := by
  refine congrArg x (funext fun q => Fin.ext ?_)
  revert q
  refine Fin.forall_fin_two.mpr ⟨?_, ?_⟩
  · show 0 + 1 * r.val = r.val
    omega
  · show 512 + 1 * w.val = 512 + w.val
    omega

theorem ld_s13 (x : Vec Ideal S256x1024 .bf16) (r : Fin 256) (w : Fin 128) : View.ld x r0_13 (ix2 r w) = x (ix2 r ⟨128 + w.val, by omega⟩) := by
  refine congrArg x (funext fun q => Fin.ext ?_)
  revert q
  refine Fin.forall_fin_two.mpr ⟨?_, ?_⟩
  · show 0 + 1 * r.val = r.val
    omega
  · show 128 + 1 * w.val = 128 + w.val
    omega

theorem ld_s14 (x : Vec Ideal S256x1024 .bf16) (r : Fin 256) (w : Fin 128) : View.ld x r0_14 (ix2 r w) = x (ix2 r ⟨640 + w.val, by omega⟩) := by
  refine congrArg x (funext fun q => Fin.ext ?_)
  revert q
  refine Fin.forall_fin_two.mpr ⟨?_, ?_⟩
  · show 0 + 1 * r.val = r.val
    omega
  · show 640 + 1 * w.val = 640 + w.val
    omega

theorem ld_s15 (x : Vec Ideal S256x1024 .bf16) (r : Fin 256) (w : Fin 128) : View.ld x r0_15 (ix2 r w) = x (ix2 r ⟨256 + w.val, by omega⟩) := by
  refine congrArg x (funext fun q => Fin.ext ?_)
  revert q
  refine Fin.forall_fin_two.mpr ⟨?_, ?_⟩
  · show 0 + 1 * r.val = r.val
    omega
  · show 256 + 1 * w.val = 256 + w.val
    omega

theorem ld_s16 (x : Vec Ideal S256x1024 .bf16) (r : Fin 256) (w : Fin 128) : View.ld x r0_16 (ix2 r w) = x (ix2 r ⟨768 + w.val, by omega⟩) := by
  refine congrArg x (funext fun q => Fin.ext ?_)
  revert q
  refine Fin.forall_fin_two.mpr ⟨?_, ?_⟩
  · show 0 + 1 * r.val = r.val
    omega
  · show 768 + 1 * w.val = 768 + w.val
    omega

theorem ld_s17 (x : Vec Ideal S256x1024 .bf16) (r : Fin 256) (w : Fin 128) : View.ld x r0_17 (ix2 r w) = x (ix2 r ⟨384 + w.val, by omega⟩) := by
  refine congrArg x (funext fun q => Fin.ext ?_)
  revert q
  refine Fin.forall_fin_two.mpr ⟨?_, ?_⟩
  · show 0 + 1 * r.val = r.val
    omega
  · show 384 + 1 * w.val = 384 + w.val
    omega

theorem ld_s18 (x : Vec Ideal S256x1024 .bf16) (r : Fin 256) (w : Fin 128) : View.ld x r0_18 (ix2 r w) = x (ix2 r ⟨896 + w.val, by omega⟩) := by
  refine congrArg x (funext fun q => Fin.ext ?_)
  revert q
  refine Fin.forall_fin_two.mpr ⟨?_, ?_⟩
  · show 0 + 1 * r.val = r.val
    omega
  · show 896 + 1 * w.val = 896 + w.val
    omega

theorem ld_ws0 (x : Vec Ideal S4x128x128 .bf16) (p q : Fin 128) : View.ld x r0_7 (ix3 0 p q) = x (ix3 0 p q) := by
  refine congrArg x (funext fun a => Fin.ext ?_)
  revert a
  refine Fin.forall_fin_succ.mpr ⟨rfl, Fin.forall_fin_two.mpr ⟨?_, ?_⟩⟩
  · show 0 + 1 * p.val = p.val
    omega
  · show 0 + 1 * q.val = q.val
    omega

theorem ld_bs0 (x : Vec Ideal S4x128x128 .f32) (p q : Fin 128) : View.ld x r0_7 (ix3 0 p q) = x (ix3 0 p q) := by
  refine congrArg x (funext fun a => Fin.ext ?_)
  revert a
  refine Fin.forall_fin_succ.mpr ⟨rfl, Fin.forall_fin_two.mpr ⟨?_, ?_⟩⟩
  · show 0 + 1 * p.val = p.val
    omega
  · show 0 + 1 * q.val = q.val
    omega

theorem ld_ws1 (x : Vec Ideal S4x128x128 .bf16) (p q : Fin 128) : View.ld x r0_8 (ix3 0 p q) = x (ix3 1 p q) := by
  refine congrArg x (funext fun a => Fin.ext ?_)
  revert a
  refine Fin.forall_fin_succ.mpr ⟨rfl, Fin.forall_fin_two.mpr ⟨?_, ?_⟩⟩
  · show 0 + 1 * p.val = p.val
    omega
  · show 0 + 1 * q.val = q.val
    omega

theorem ld_bs1 (x : Vec Ideal S4x128x128 .f32) (p q : Fin 128) : View.ld x r0_8 (ix3 0 p q) = x (ix3 1 p q) := by
  refine congrArg x (funext fun a => Fin.ext ?_)
  revert a
  refine Fin.forall_fin_succ.mpr ⟨rfl, Fin.forall_fin_two.mpr ⟨?_, ?_⟩⟩
  · show 0 + 1 * p.val = p.val
    omega
  · show 0 + 1 * q.val = q.val
    omega

theorem ld_ws2 (x : Vec Ideal S4x128x128 .bf16) (p q : Fin 128) : View.ld x r0_9 (ix3 0 p q) = x (ix3 2 p q) := by
  refine congrArg x (funext fun a => Fin.ext ?_)
  revert a
  refine Fin.forall_fin_succ.mpr ⟨rfl, Fin.forall_fin_two.mpr ⟨?_, ?_⟩⟩
  · show 0 + 1 * p.val = p.val
    omega
  · show 0 + 1 * q.val = q.val
    omega

theorem ld_bs2 (x : Vec Ideal S4x128x128 .f32) (p q : Fin 128) : View.ld x r0_9 (ix3 0 p q) = x (ix3 2 p q) := by
  refine congrArg x (funext fun a => Fin.ext ?_)
  revert a
  refine Fin.forall_fin_succ.mpr ⟨rfl, Fin.forall_fin_two.mpr ⟨?_, ?_⟩⟩
  · show 0 + 1 * p.val = p.val
    omega
  · show 0 + 1 * q.val = q.val
    omega

theorem ld_ws3 (x : Vec Ideal S4x128x128 .bf16) (p q : Fin 128) : View.ld x r0_10 (ix3 0 p q) = x (ix3 3 p q) := by
  refine congrArg x (funext fun a => Fin.ext ?_)
  revert a
  refine Fin.forall_fin_succ.mpr ⟨rfl, Fin.forall_fin_two.mpr ⟨?_, ?_⟩⟩
  · show 0 + 1 * p.val = p.val
    omega
  · show 0 + 1 * q.val = q.val
    omega

theorem ld_bs3 (x : Vec Ideal S4x128x128 .f32) (p q : Fin 128) : View.ld x r0_10 (ix3 0 p q) = x (ix3 3 p q) := by
  refine congrArg x (funext fun a => Fin.ext ?_)
  revert a
  refine Fin.forall_fin_succ.mpr ⟨rfl, Fin.forall_fin_two.mpr ⟨?_, ?_⟩⟩
  · show 0 + 1 * p.val = p.val
    omega
  · show 0 + 1 * q.val = q.val
    omega

theorem ld_wb00 (x : Vec Ideal S4x3x512x256 .bf16) (w : Fin 512) (l : Fin 256) : View.ld x r0_21 (ix4 0 0 w l) = x (ix4 0 0 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb01 (x : Vec Ideal S4x3x512x256 .bf16) (w : Fin 512) (l : Fin 256) : View.ld x r0_22 (ix4 0 0 w l) = x (ix4 1 0 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb02 (x : Vec Ideal S4x3x512x256 .bf16) (w : Fin 512) (l : Fin 256) : View.ld x r0_23 (ix4 0 0 w l) = x (ix4 2 0 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb03 (x : Vec Ideal S4x3x512x256 .bf16) (w : Fin 512) (l : Fin 256) : View.ld x r0_24 (ix4 0 0 w l) = x (ix4 3 0 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb10 (x : Vec Ideal S4x3x512x256 .bf16) (w : Fin 512) (l : Fin 256) : View.ld x r0_28 (ix4 0 0 w l) = x (ix4 0 1 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb11 (x : Vec Ideal S4x3x512x256 .bf16) (w : Fin 512) (l : Fin 256) : View.ld x r0_29 (ix4 0 0 w l) = x (ix4 1 1 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb12 (x : Vec Ideal S4x3x512x256 .bf16) (w : Fin 512) (l : Fin 256) : View.ld x r0_30 (ix4 0 0 w l) = x (ix4 2 1 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb13 (x : Vec Ideal S4x3x512x256 .bf16) (w : Fin 512) (l : Fin 256) : View.ld x r0_31 (ix4 0 0 w l) = x (ix4 3 1 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb20 (x : Vec Ideal S4x3x512x256 .bf16) (w : Fin 512) (l : Fin 256) : View.ld x r0_35 (ix4 0 0 w l) = x (ix4 0 2 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb21 (x : Vec Ideal S4x3x512x256 .bf16) (w : Fin 512) (l : Fin 256) : View.ld x r0_36 (ix4 0 0 w l) = x (ix4 1 2 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb22 (x : Vec Ideal S4x3x512x256 .bf16) (w : Fin 512) (l : Fin 256) : View.ld x r0_37 (ix4 0 0 w l) = x (ix4 2 2 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_wb23 (x : Vec Ideal S4x3x512x256 .bf16) (w : Fin 512) (l : Fin 256) : View.ld x r0_38 (ix4 0 0 w l) = x (ix4 3 2 w l) := by
  refine congrArg x (funext fun a => Fin.ext ?_)
  revert a
  refine Fin.forall_fin_succ.mpr ⟨rfl, Fin.forall_fin_succ.mpr ⟨rfl, Fin.forall_fin_two.mpr ⟨?_, ?_⟩⟩⟩
  · show 0 + 1 * w.val = w.val
    omega
  · show 0 + 1 * l.val = l.val
    omega

theorem ld_ln (x : Vec Ideal S1x512 .f32) : View.ld x r0_6 = x := by
  funext i
  refine congrArg x (funext fun q => Fin.ext ?_)
  revert q
  refine Fin.forall_fin_two.mpr ⟨?_, ?_⟩
  · show 0 + 1 * (i 0).val = (i 0).val
    omega
  · show 0 + 1 * (i 1).val = (i 1).val
    omega

theorem ld_oa (x : Vec Ideal S512x512 .f32) : View.ld x r0_19 = x := by
  funext i
  refine congrArg x (funext fun q => Fin.ext ?_)
  revert q
  refine Fin.forall_fin_two.mpr ⟨?_, ?_⟩
  · show 0 + 1 * (i 0).val = (i 0).val
    omega
  · show 0 + 1 * (i 1).val = (i 1).val
    omega

theorem ld_x (x : Vec Ideal S512x1024 .f32) : View.ld x r0_41 = x := by
  funext i
  refine congrArg x (funext fun q => Fin.ext ?_)
  revert q
  refine Fin.forall_fin_two.mpr ⟨?_, ?_⟩
  · show 0 + 1 * (i 0).val = (i 0).val
    omega
  · show 0 + 1 * (i 1).val = (i 1).val
    omega

theorem ld_wo (x : Vec Ideal S1024x1024 .bf16) : View.ld x r0_42 = x := by
  funext i
  refine congrArg x (funext fun q => Fin.ext ?_)
  revert q
  refine Fin.forall_fin_two.mpr ⟨?_, ?_⟩
  · show 0 + 1 * (i 0).val = (i 0).val
    omega
  · show 0 + 1 * (i 1).val = (i 1).val
    omega

theorem ld_ng (x : Vec Ideal S1x1024 .f32) : View.ld x r0_43 = x := by
  funext i
  refine congrArg x (funext fun q => Fin.ext ?_)
  revert q
  refine Fin.forall_fin_two.mpr ⟨?_, ?_⟩
  · show 0 + 1 * (i 0).val = (i 0).val
    omega
  · show 0 + 1 * (i 1).val = (i 1).val
    omega

end Cert.BranchIdeal.Value
-- ==== Proof.Branch.Pay.lean ====
module

public import proofs.«01_k».proof.Proof.Branch.Load

@[expose] public section

/-! What each value of the kernel body holds, in terms of the blocks it is computed from. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)

theorem p8 (v6 : Vec Ideal S512x512 .bf16) (v34 : Vec Ideal S1x512 .f32) (r w : Fin 512) :
    k0_pay8 (F := Ideal) v6 v34 (ix2 r w) = xh (fun k => v6 (ix2 r k)) w * v34 (ix2 0 w) := by
  unfold xh cen
  pointwise [k0_pay8]

theorem p9 (v37 : Vec Ideal S512x512 .f32) (v38 : Vec Ideal S1x512 .f32) (r w : Fin 512) :
    k0_pay9 (F := Ideal) v37 v38 (ix2 r w) = v37 (ix2 r w) + v38 (ix2 0 w) := by
  pointwise [k0_pay9]

theorem mix0 (v37 : Vec Ideal S512x512 .f32) (v38 : Vec Ideal S1x512 .f32) (x4 : Vec Ideal S4x128x128 .bf16) (x5 : Vec Ideal S4x128x128 .f32) (p : Fin 128) (w : Fin 512) :
    k0_pay15 (F := Ideal) (k0_pay10 v37 v38 (View.ld x4 r0_7) (View.ld x5 r0_7)) (k0_pay11 v37 v38 (View.ld x4 r0_8) (View.ld x5 r0_8))
      (k0_pay12 v37 v38 (View.ld x4 r0_9) (View.ld x5 r0_9)) (k0_pay13 v37 v38 (View.ld x4 r0_10)) (k0_pay14 (View.ld x5 r0_10)) (ix2 p w)
      = mixB x4 x5 (k0_pay9 v37 v38) ⟨p.val, by omega⟩ w := by
  unfold mixB
  pointwise [k0_pay15, k0_pay10, k0_pay11, k0_pay12, k0_pay13, k0_pay14, ld_ws0, ld_ws1, ld_ws2, ld_ws3, ld_bs0, ld_bs1, ld_bs2, ld_bs3]
  generalize k0_pay9 (F := Ideal) v37 v38 = V
  split
  · blk_point []
  · split
    · blk_point []
    · split
      · blk_point []
      · blk_point []

theorem mix1 (v : Vec Ideal S512x512 .bf16) (x4 : Vec Ideal S4x128x128 .bf16) (x5 : Vec Ideal S4x128x128 .f32) (p : Fin 128) (w : Fin 512) :
    k0_pay16 (F := Ideal) v (View.ld x4 r0_7) (View.ld x5 r0_7) (View.ld x4 r0_8) (View.ld x5 r0_8) (View.ld x4 r0_9) (View.ld x5 r0_9) (View.ld x4 r0_10) (View.ld x5 r0_10) (ix2 p w)
      = mixB x4 x5 v ⟨128 + p.val, by omega⟩ w := by
  unfold mixB
  pointwise [k0_pay16, k0_pay17, ld_ws0, ld_ws1, ld_ws2, ld_ws3, ld_bs0, ld_bs1, ld_bs2, ld_bs3]
  split
  · blk_point []
  · split
    · blk_point []
    · split
      · blk_point []
      · blk_point []

theorem mix2 (v : Vec Ideal S512x512 .bf16) (x4 : Vec Ideal S4x128x128 .bf16) (x5 : Vec Ideal S4x128x128 .f32) (p : Fin 128) (w : Fin 512) :
    k0_pay18 (F := Ideal) v (k0_pay17 v) (View.ld x4 r0_7) (View.ld x5 r0_7) (View.ld x4 r0_8) (View.ld x5 r0_8) (View.ld x4 r0_9) (View.ld x5 r0_9) (View.ld x4 r0_10) (View.ld x5 r0_10) (ix2 p w)
      = mixB x4 x5 v ⟨256 + p.val, by omega⟩ w := by
  unfold mixB
  pointwise [k0_pay18, k0_pay17, ld_ws0, ld_ws1, ld_ws2, ld_ws3, ld_bs0, ld_bs1, ld_bs2, ld_bs3]
  split
  · blk_point []
  · split
    · blk_point []
    · split
      · blk_point []
      · blk_point []

end Cert.BranchIdeal.Value
-- ==== Proof.Branch.Mix.lean ====
module

public import proofs.«01_k».proof.Proof.Branch.Pay

@[expose] public section

/-! The spatial branch of a block of rows. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)

theorem p20 (u : Vec Ideal S512x512 .f32) (v : Vec Ideal S512x512 .bf16) (a b d : Vec Ideal S128x512 .f32)
    (x4 : Vec Ideal S4x128x128 .bf16) (x5 : Vec Ideal S4x128x128 .f32)
    (ha : ∀ (p : Fin 128) (w : Fin 512), a (ix2 p w) = mixB x4 x5 v ⟨p.val, by omega⟩ w)
    (hb : ∀ (p : Fin 128) (w : Fin 512), b (ix2 p w) = mixB x4 x5 v ⟨128 + p.val, by omega⟩ w)
    (hd : ∀ (p : Fin 128) (w : Fin 512), d (ix2 p w) = mixB x4 x5 v ⟨256 + p.val, by omega⟩ w) (r w : Fin 512) :
    k0_pay20 (F := Ideal) u v a b d (k0_pay19 v) (View.ld x4 r0_7) (View.ld x5 r0_7) (View.ld x4 r0_8) (View.ld x5 r0_8) (View.ld x4 r0_9) (View.ld x5 r0_9) (View.ld x4 r0_10) (View.ld x5 r0_10) (ix2 r w) = u (ix2 r w) * mixB x4 x5 v r w := by
  pointwise [k0_pay20, k0_pay19, ld_ws0, ld_ws1, ld_ws2, ld_ws3, ld_bs0, ld_bs1, ld_bs2, ld_bs3]
  congr 1
  split
  · exact (ha ⟨r.val, _⟩ w)
  · split
    · refine (hb ⟨r.val - 128, _⟩ w).trans ?_
      exact congrArg (fun z => mixB x4 x5 v z w) (Fin.ext (by show 128 + (r.val - 128) = r.val; omega))
    · split
      · refine (hd ⟨r.val - 128 - 128, _⟩ w).trans ?_
        exact congrArg (fun z => mixB x4 x5 v z w) (Fin.ext (by show 256 + (r.val - 128 - 128) = r.val; omega))
      · unfold mixB
        split
        · blk_point []
        · split
          · blk_point []
          · split
            · blk_point []
            · blk_point []

theorem p22 (z a : Vec Ideal S512x512 .f32) (r w : Fin 512) :
    k0_pay22 (F := Ideal) z a (k0_pay21 z) (Scalar.ofBits .f32 0x3F800000#32) (ix2 r w) = a (ix2 r w) * silu (z (ix2 r w)) := by
  unfold silu gate
  pointwise [k0_pay22, k0_pay21]
  rw [zero_sub]

/-- The normalised values of a block of rows. -/
def vlnB (x1 : S512x6912.Idx → EReal) (x6 x7 : S1x512.Idx → EReal) (i : S512x512.Idx) : EReal :=
  xh (fun k => x1 (ix2 (i 0) ⟨1792 + k.val, by omega⟩)) (i 1) * x6 (ix2 0 (i 1)) + x7 (ix2 0 (i 1))

variable (x0 : Vec Ideal S512x1024 .f32) (x1 : Vec Ideal S512x6912 .bf16) (x2 : Vec Ideal S512x512 .f32) (x3 : Vec Ideal S256x1024 .bf16) (x4 : Vec Ideal S4x128x128 .bf16) (x5 : Vec Ideal S4x128x128 .f32) (x6 x7 : Vec Ideal S1x512 .f32)
  (x8 : Vec Ideal S4x3x512x256 .bf16) (x9 : Vec Ideal S1024x1024 .bf16) (x10 : Vec Ideal S1x1024 .f32)

theorem p57 : k0_pay57 (F := Ideal) x0 x1 x2 x3 x4 x5 x6 x7 x8 x9 x10 = vlnB x1 x6 x7 := by
  funext i
  obtain ⟨r, w, rfl⟩ : ∃ r w, i = ix2 r w := ⟨i 0, i 1, funext (Fin.forall_fin_two.mpr ⟨rfl, rfl⟩)⟩
  unfold k0_pay57 k0_pay56
  rw [p9, p8, ld_ln, ld_ln]
  exact congrArg (fun v => xh v w * x6 (ix2 0 w) + x7 (ix2 0 w)) (funext fun k => ld_s2 x1 r k)

theorem p58 (r w : Fin 512) : k0_pay58 (F := Ideal) x0 x1 x2 x3 x4 x5 x6 x7 x8 x9 x10 (ix2 r w)
    = x1 (ix2 r ⟨1280 + w.val, by omega⟩) * mixB x4 x5 (vlnB x1 x6 x7) r w * silu (x1 (ix2 r ⟨2304 + w.val, by omega⟩)) := by
  unfold k0_pay58
  refine (p22 _ _ r w).trans ?_
  rw [p20 _ (k0_pay57 x0 x1 x2 x3 x4 x5 x6 x7 x8 x9 x10) _ _ _ x4 x5 (fun p w => (mix0 _ _ x4 x5 p w).trans rfl) (fun p w => mix1 _ x4 x5 p w) (fun p w => mix2 _ x4 x5 p w), p57]
  have h4 : k0_pay4 (F := Ideal) (View.ld x1 r0_1) (ix2 r w) = x1 (ix2 r ⟨1280 + w.val, by omega⟩) := by
    refine Eq.trans ?_ (ld_s1 x1 r w)
    pointwise [k0_pay4]
  have h5 : k0_pay54 (F := Ideal) x0 x1 x2 x3 x4 x5 x6 x7 x8 x9 x10 (ix2 r w) = x1 (ix2 r ⟨2304 + w.val, by omega⟩) := by
    unfold k0_pay54
    refine Eq.trans ?_ (ld_s3 x1 r w)
    pointwise [k0_pay5]
  rw [h4, h5]

end Cert.BranchIdeal.Value
-- ==== Proof.Branch.Mem.lean ====
module

public import proofs.«01_k».proof.Proof.Branch.Load

@[expose] public section

/-! The memory branch of a block of rows. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)

theorem a0 (q : Vec Ideal S512x512 .f32) (x3 : Vec Ideal S256x1024 .bf16) (r : Fin 512) (d : Fin 128) :
    k0_pay23 (F := Ideal) q (View.ld x3 r0_11) (View.ld x3 r0_12) (ix2 r d)
      = ∑ s : Fin 256, soft (scB q x3 0 r) s * x3 (ix2 s ⟨512 + (0 + d.val), by omega⟩) := by
  unfold soft scB
  pointwise [k0_pay23, ld_s11, ld_s12]
  all_goals blk_point []

theorem a2 (q : Vec Ideal S512x512 .f32) (x3 : Vec Ideal S256x1024 .bf16) (r : Fin 512) (d : Fin 128) :
    k0_pay28 (F := Ideal) q (View.ld x3 r0_15) (View.ld x3 r0_16) (ix2 r d)
      = ∑ s : Fin 256, soft (scB q x3 2 r) s * x3 (ix2 s ⟨512 + (256 + d.val), by omega⟩) := by
  unfold soft scB
  pointwise [k0_pay28, ld_s15, ld_s16]
  all_goals blk_point []

theorem a1 (q : Vec Ideal S512x512 .f32) (x3 : Vec Ideal S256x1024 .bf16) (r : Fin 512) (d : Fin 128) :
    k0_pay27 (F := Ideal) (k0_pay24 (View.ld x3 r0_14)) (k0_pay25 q (View.ld x3 r0_13)) (k0_pay26 q (View.ld x3 r0_13)) (ix2 r d)
      = ∑ s : Fin 256, soft (scB q x3 1 r) s * x3 (ix2 s ⟨512 + (128 + d.val), by omega⟩) := by
  unfold soft scB
  pointwise [k0_pay27, k0_pay24, k0_pay25, k0_pay26, ld_s13, ld_s14]
  blk_point []

theorem a3 (q : Vec Ideal S512x512 .f32) (x3 : Vec Ideal S256x1024 .bf16) (r : Fin 512) (s : Fin 256) :
    k0_pay30 (F := Ideal) q (View.ld x3 r0_17) (ix2 r s) = soft (scB q x3 3 r) s := by
  unfold soft scB
  pointwise [k0_pay30, ld_s17]

theorem p31 (z : Vec Ideal S512x512 .f32) (a b d : Vec Ideal S512x128 .f32) (v : Vec Ideal S256x128 .bf16) (e : Vec Ideal S512x256 .f32) (r w : Fin 512) :
    k0_pay31 (F := Ideal) z a b d v e (ix2 r w)
      = (if h : w.val < 128 then a (ix2 r ⟨w.val, h⟩) else if h : w.val - 128 < 128 then b (ix2 r ⟨w.val - 128, h⟩)
        else if h : w.val - 128 - 128 < 128 then d (ix2 r ⟨w.val - 128 - 128, h⟩)
        else ∑ s : Fin 256, e (ix2 r s) * v (ix2 s ⟨w.val - 128 - 128 - 128, by omega⟩)) * silu (z (ix2 r w)) := by
  unfold silu gate
  pointwise [k0_pay31]
  rw [zero_sub]

variable (x0 : Vec Ideal S512x1024 .f32) (x1 : Vec Ideal S512x6912 .bf16) (x2 : Vec Ideal S512x512 .f32) (x3 : Vec Ideal S256x1024 .bf16) (x4 : Vec Ideal S4x128x128 .bf16) (x5 : Vec Ideal S4x128x128 .f32) (x6 x7 : Vec Ideal S1x512 .f32)
  (x8 : Vec Ideal S4x3x512x256 .bf16) (x9 : Vec Ideal S1024x1024 .bf16) (x10 : Vec Ideal S1x1024 .f32)

theorem p59 (r w : Fin 512) : k0_pay59 (F := Ideal) x0 x1 x2 x3 x4 x5 x6 x7 x8 x9 x10 (ix2 r w)
    = omB (fun i => x1 (ix2 (i 0) ⟨2816 + (i 1 : Fin 512).val, by idx_bounds i; omega⟩)) x3 r w * silu (x1 (ix2 r ⟨3328 + w.val, by omega⟩)) := by
  have hq : k0_pay55 (F := Ideal) x0 x1 x2 x3 x4 x5 x6 x7 x8 x9 x10 = fun i => x1 (ix2 (i 0) ⟨2816 + (i 1 : Fin 512).val, by idx_bounds i; omega⟩) := by
    funext i
    obtain ⟨r, w, rfl⟩ : ∃ r w, i = ix2 r w := ⟨i 0, i 1, funext (Fin.forall_fin_two.mpr ⟨rfl, rfl⟩)⟩
    unfold k0_pay55
    refine Eq.trans ?_ (ld_s4 x1 r w)
    pointwise [k0_pay6]
  have hz : k0_pay7 (F := Ideal) (View.ld x1 r0_5) (ix2 r w) = x1 (ix2 r ⟨3328 + w.val, by omega⟩) := by
    refine Eq.trans ?_ (ld_s5 x1 r w)
    pointwise [k0_pay7]
  unfold k0_pay59
  rw [p31, hz, hq]
  generalize (fun i : S512x512.Idx => x1 (ix2 (i 0) ⟨2816 + (i 1 : Fin 512).val, by idx_bounds i; omega⟩)) = q
  congr 1
  have h29 : ∀ s d, k0_pay29 (F := Ideal) (View.ld x3 r0_18) (ix2 s d) = x3 (ix2 s ⟨896 + d.val, by omega⟩) := fun s d => by
    refine Eq.trans ?_ (ld_s18 x3 s d)
    pointwise [k0_pay29]
  have key : ∀ (h : Fin 4) (d : Fin 128) (hw : w.val = h.val * 128 + d.val),
      omB q x3 r w = ∑ s : Fin 256, soft (scB q x3 h r) s * x3 (ix2 s ⟨512 + (h.val * 128 + d.val), by omega⟩) := fun h d hw => by
    have hh : (⟨w.val / 128, by omega⟩ : Fin 4) = h := Fin.ext (by show w.val / 128 = h.val; omega)
    have hc : (⟨512 + w.val, by omega⟩ : Fin 1024) = ⟨512 + (h.val * 128 + d.val), by omega⟩ :=
      Fin.ext (by show 512 + w.val = 512 + (h.val * 128 + d.val); omega)
    unfold omB
    rw [hh, hc]
  split
  · rename_i h
    refine (a0 q x3 r ⟨w.val, h⟩).trans ((key 0 ⟨w.val, h⟩ (by simp)).trans ?_).symm
    blk_point []
  · split
    · rename_i h
      refine (a1 q x3 r ⟨w.val - 128, h⟩).trans ((key 1 ⟨w.val - 128, h⟩ (by show w.val = 1 * 128 + (w.val - 128); omega)).trans ?_).symm
      blk_point []
    · split
      · rename_i h
        refine (a2 q x3 r ⟨w.val - 128 - 128, h⟩).trans ((key 2 ⟨w.val - 128 - 128, h⟩ (by show w.val = 2 * 128 + (w.val - 128 - 128); omega)).trans ?_).symm
        blk_point []
      · refine Eq.trans ?_ (key 3 ⟨w.val - 128 - 128 - 128, by omega⟩ (by show w.val = 3 * 128 + (w.val - 128 - 128 - 128); omega)).symm
        refine Finset.sum_congr rfl fun s _ => ?_
        rw [a3, h29]
        refine congrArg (fun z => soft (scB q x3 3 r) s * x3 (ix2 s z)) (Fin.ext ?_)
        show 896 + (w.val - 128 - 128 - 128) = 512 + (3 * 128 + (w.val - 128 - 128 - 128))
        omega

end Cert.BranchIdeal.Value
-- ==== Proof.Branch.Merge.lean ====
module

public import proofs.«01_k».proof.Proof.Branch.Mix
public import proofs.«01_k».proof.Proof.Branch.Mem

@[expose] public section

/-! The merge of a block of rows. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)

theorem p32 (z : Vec Ideal S512x512 .f32) (o : Vec Ideal S512x512 .f32) (r w : Fin 512) :
    k0_pay32 (F := Ideal) z o (ix2 r w) = o (ix2 r w) * silu (z (ix2 r w)) := by
  unfold silu gate
  pointwise [k0_pay32]
  rw [zero_sub]

theorem p33 (z : Vec Ideal S512x512 .f32) (o : Vec Ideal S512x512 .f32) (r w : Fin 512) :
    k0_pay33 (F := Ideal) z o (ix3 0 r w) = k0_pay32 (F := Ideal) z o (ix2 r w) := by
  pointwise [k0_pay33]

theorem p40 (a : Vec Ideal S512x512 .f32) (r w : Fin 512) : k0_pay40 (F := Ideal) a (ix3 0 r w) = a (ix2 r w) := by
  pointwise [k0_pay40, k0_pay39]

theorem p47 (a : Vec Ideal S512x512 .f32) (r w : Fin 512) : k0_pay47 (F := Ideal) a (ix3 0 r w) = a (ix2 r w) := by
  pointwise [k0_pay47, k0_pay46]

/-- A block of branch rows times its merge matrix. -/
def upB (y : S512x512.Idx → EReal) (x8 : S4x3x512x256.Idx → EReal) (n : Fin 3) (r : Fin 512) (j : Fin 1024) : EReal :=
  ∑ w : Fin 512, y (ix2 r w) * x8 (ix4 ⟨j.val / 256, by omega⟩ n w ⟨j.val % 256, by omega⟩)

theorem u0 (z o : Vec Ideal S512x512 .f32) (x8 : Vec Ideal S4x3x512x256 .bf16) (r : Fin 512) (j : Fin 1024) :
    k0_pay36 (F := Ideal) (k0_pay32 z o) (k0_pay34 z o (View.ld x8 r0_21)) (k0_pay35 z o (View.ld x8 r0_22)) (View.ld x8 r0_23) (View.ld x8 r0_24) (ix2 r j) = upB (k0_pay32 (F := Ideal) z o) x8 0 r j := by
  unfold upB
  pointwise [k0_pay36, k0_pay34, k0_pay35, ld_wb00, ld_wb01, ld_wb02, ld_wb03]
  generalize k0_pay32 (F := Ideal) z o = Y
  split
  · blk_point []
  · split
    · blk_point []
    · split
      · blk_point []
      · blk_point []

theorem u1 (a : Vec Ideal S512x512 .f32) (x8 : Vec Ideal S4x3x512x256 .bf16) (r : Fin 512) (j : Fin 1024) :
    k0_pay43 (F := Ideal) (k0_pay39 a) (k0_pay41 a (View.ld x8 r0_28)) (k0_pay42 a (View.ld x8 r0_29)) (View.ld x8 r0_30) (View.ld x8 r0_31) (ix2 r j) = upB a x8 1 r j := by
  unfold upB
  pointwise [k0_pay43, k0_pay39, k0_pay41, k0_pay42, ld_wb10, ld_wb11, ld_wb12, ld_wb13]
  skip
  split
  · blk_point []
  · split
    · blk_point []
    · split
      · blk_point []
      · blk_point []

theorem u2 (a : Vec Ideal S512x512 .f32) (x8 : Vec Ideal S4x3x512x256 .bf16) (r : Fin 512) (j : Fin 1024) :
    k0_pay49 (F := Ideal) (k0_pay46 a) (k0_pay48 a (View.ld x8 r0_35)) (View.ld x8 r0_36) (View.ld x8 r0_37) (View.ld x8 r0_38) (ix2 r j) = upB a x8 2 r j := by
  unfold upB
  pointwise [k0_pay49, k0_pay46, k0_pay48, ld_wb20, ld_wb21, ld_wb22, ld_wb23]
  skip
  split
  · blk_point []
  · split
    · blk_point []
    · split
      · blk_point []
      · blk_point []

theorem p37 (a : Vec Ideal S512x512 .bf16) (b d : Vec Ideal S512x256 .f32) (e f : Vec Ideal S1x1x512x256 .bf16) (r : Fin 512) (j : Fin 1024) :
    k0_pay37 (F := Ideal) a b d e f (ix3 0 r j) = k0_pay36 (F := Ideal) a b d e f (ix2 r j) := by
  pointwise [k0_pay37]

theorem p44 (a : Vec Ideal S512x512 .bf16) (b d : Vec Ideal S512x256 .f32) (e f : Vec Ideal S1x1x512x256 .bf16) (r : Fin 512) (j : Fin 1024) :
    k0_pay44 (F := Ideal) a b d e f (ix3 0 r j) = k0_pay43 (F := Ideal) a b d e f (ix2 r j) := by
  pointwise [k0_pay44]

theorem p50 (a : Vec Ideal S512x512 .bf16) (b : Vec Ideal S512x256 .f32) (d e f : Vec Ideal S1x1x512x256 .bf16) (r : Fin 512) (j : Fin 1024) :
    k0_pay50 (F := Ideal) a b d e f (ix3 0 r j) = k0_pay49 (F := Ideal) a b d e f (ix2 r j) := by
  pointwise [k0_pay50]

theorem p38 (a : Vec Ideal S512x512 .bf16) (b d : Vec Ideal S512x256 .f32) (e f : Vec Ideal S1x1x512x256 .bf16) (l : Vec Ideal S512x1024 .bf16)
    (r : Fin 512) (j : Fin 1024) :
    k0_pay38 (F := Ideal) a b d e f l (ix2 r j) = gate (l (ix2 r j)) * k0_pay36 (F := Ideal) a b d e f (ix2 r j) := by
  unfold gate
  pointwise [k0_pay38]
  rw [zero_sub]

theorem p45 (g : Vec Ideal S512x1024 .f32) (a : Vec Ideal S512x512 .bf16) (b d : Vec Ideal S512x256 .f32) (e f : Vec Ideal S1x1x512x256 .bf16)
    (l : Vec Ideal S512x1024 .bf16) (r : Fin 512) (j : Fin 1024) :
    k0_pay45 (F := Ideal) g a b d e f l (ix2 r j) = g (ix2 r j) + gate (l (ix2 r j)) * k0_pay43 (F := Ideal) a b d e f (ix2 r j) := by
  unfold gate
  pointwise [k0_pay45]
  rw [zero_sub]

theorem p51 (g : Vec Ideal S512x1024 .f32) (a : Vec Ideal S512x512 .bf16) (b : Vec Ideal S512x256 .f32) (d e f : Vec Ideal S1x1x512x256 .bf16)
    (l : Vec Ideal S512x1024 .bf16) (r : Fin 512) (j : Fin 1024) :
    k0_pay51 (F := Ideal) g a b d e f l (ix2 r j) = g (ix2 r j) + gate (l (ix2 r j)) * k0_pay49 (F := Ideal) a b d e f (ix2 r j) := by
  unfold gate
  pointwise [k0_pay51]
  rw [zero_sub]

theorem p1 (g : Vec Ideal S512x1024 .bf16) (x : Vec Ideal S512x1024 .f32) (w : Vec Ideal S1024x1024 .bf16) (r : Fin 512) (j : Fin 1024) :
    k0_pay1 (F := Ideal) g x w (ix2 r j) = x (ix2 r j) + ∑ k : Fin 1024, g (ix2 r k) * w (ix2 k j) := by
  pointwise [k0_pay1]

theorem p2 (g : Vec Ideal S512x1024 .bf16) (x : Vec Ideal S512x1024 .f32) (w : Vec Ideal S1024x1024 .bf16) (e : Vec Ideal S1x1024 .f32)
    (r : Fin 512) (j : Fin 1024) :
    k0_pay2 (F := Ideal) g x w e (ix2 r j) = nrm (fun k => k0_pay1 (F := Ideal) g x w (ix2 r k)) j * e (ix2 0 j) := by
  unfold nrm
  pointwise [k0_pay2]

end Cert.BranchIdeal.Value
-- ==== Proof.Branch.Entry.lean ====
module

public import proofs.«01_k».proof.Proof.Branch.Merge
public import Idealize.ShloMosaic.Lib.StableHlo.ReadAt

@[expose] public section

/-! The arrays that the region starts from, and the results as functions of the arguments. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments of the step's call, as arrays of extended reals. -/
abbrev aX : S4096x1024.Idx → EReal := m ((c : Thread nD τ).loc main_arg0)
abbrev aPr : S4096x6912.Idx → EReal := m ((c : Thread nD τ).loc main_arg1)
abbrev aOa : S4096x512.Idx → EReal := m ((c : Thread nD τ).loc main_arg2)
abbrev aMn : S256x1024.Idx → EReal := m ((c : Thread nD τ).loc main_arg3)
abbrev aKv : S1024x1024.Idx → EReal := m ((c : Thread nD τ).loc main_arg4)
abbrev aWs : S4x128x128.Idx → EReal := m ((c : Thread nD τ).loc main_arg5)
abbrev aBs : S4x128.Idx → EReal := m ((c : Thread nD τ).loc main_arg6)
abbrev aLg : S512.Idx → EReal := m ((c : Thread nD τ).loc main_arg7)
abbrev aLb : S512.Idx → EReal := m ((c : Thread nD τ).loc main_arg8)
abbrev aWb : S3x512x1024.Idx → EReal := m ((c : Thread nD τ).loc main_arg9)
abbrev aWo : S1024x1024.Idx → EReal := m ((c : Thread nD τ).loc main_arg10)
abbrev aNg : S1024.Idx → EReal := m ((c : Thread nD τ).loc main_arg11)

/-- The memory's keys and values. -/
def kv (s : Fin 256) (j : Fin 1024) : EReal := ∑ k : Fin 1024, aMn m c (ix2 s k) * aKv m c (ix2 k j)

/-- The spatial branch's values after the layer norm. -/
def vln (r : Fin 4096) (w : Fin 512) : EReal :=
  xh (fun k => aPr m c (ix2 r ⟨1792 + k.val, by omega⟩)) w * aLg m c (ix1 w) + aLb m c (ix1 w)

/-- The values of a chunk of 128 rows, mixed by the matrix of the lane's group, plus the row's bias. -/
def mixed (r : Fin 4096) (w : Fin 512) : EReal :=
  (∑ q : Fin 128, aWs m c (ix3 ⟨w.val / 128, by omega⟩ ⟨r.val % 128, by omega⟩ q) * vln m c ⟨r.val / 128 * 128 + q.val, by omega⟩ w)
    + aBs m c (ix2 ⟨w.val / 128, by omega⟩ ⟨r.val % 128, by omega⟩)

/-- The scores of a head of the memory branch. -/
def sc (h : Fin 4) (r : Fin 4096) (s : Fin 256) : EReal :=
  (∑ d : Fin 128, aPr m c (ix2 r ⟨2816 + (h.val * 128 + d.val), by omega⟩) * kv m c s ⟨h.val * 128 + d.val, by omega⟩)
    * Ideal.ofBits .f32 0x3DB504F3#32

/-- The memory's answer. -/
def om (r : Fin 4096) (w : Fin 512) : EReal :=
  ∑ s : Fin 256, soft (sc m c ⟨w.val / 128, by omega⟩ r) s * kv m c s ⟨512 + w.val, by omega⟩

/-- The three branches of a row. -/
def yA (r : Fin 4096) (w : Fin 512) : EReal := aOa m c (ix2 r w) * silu (aPr m c (ix2 r ⟨768 + w.val, by omega⟩))
def yB (r : Fin 4096) (w : Fin 512) : EReal :=
  aPr m c (ix2 r ⟨1280 + w.val, by omega⟩) * mixed m c r w * silu (aPr m c (ix2 r ⟨2304 + w.val, by omega⟩))
def yM (r : Fin 4096) (w : Fin 512) : EReal := om m c r w * silu (aPr m c (ix2 r ⟨3328 + w.val, by omega⟩))

/-- The branches together. -/
def y (n : Fin 3) (r : Fin 4096) (w : Fin 512) : EReal := (![yA m c r w, yB m c r w, yM m c r w] : Fin 3 → EReal) n

/-- The branch products. -/
def up (n : Fin 3) (r : Fin 4096) (j : Fin 1024) : EReal := ∑ w : Fin 512, y m c n r w * aWb m c (ix3 n w j)

/-- The merged row. -/
def merged (r : Fin 4096) (j : Fin 1024) : EReal :=
  gate (aPr m c (ix2 r ⟨3840 + j.val, by omega⟩)) * up m c 0 r j + gate (aPr m c (ix2 r ⟨4864 + j.val, by omega⟩)) * up m c 1 r j
    + gate (aPr m c (ix2 r ⟨5888 + j.val, by omega⟩)) * up m c 2 r j

/-- The residual row. -/
def xn (r : Fin 4096) (j : Fin 1024) : EReal := aX m c (ix2 r j) + ∑ k : Fin 1024, merged m c r k * aWo m c (ix2 k j)

/-- The next layer's normalised row. -/
def hn (r : Fin 4096) (j : Fin 1024) : EReal := nrm (fun k => xn m c r k) j * aNg m c (ix1 j)

/-- The five results. -/
def yAll (i : S3x4096x512.Idx) : EReal := y m c (i 0) (i 1) (i 2)
def upAll (i : S3x4096x1024.Idx) : EReal := up m c (i 0) (i 1) (i 2)
def mergedAll (i : S4096x1024.Idx) : EReal := merged m c (i 0) (i 1)
def xnAll (i : S4096x1024.Idx) : EReal := xn m c (i 0) (i 1)
def hnAll (i : S4096x1024.Idx) : EReal := hn m c (i 0) (i 1)

theorem entry_bs (g : Fin 4) (p q : Fin 128) : V m c main_v1 (ix3 g p q) = aBs m c (ix2 g p) := by
  unfold V; after_reads_at

theorem entry_pr (r : Fin 4096) (j : Fin 6912) : V m c main_v2 (ix2 r j) = aPr m c (ix2 r j) := by
  unfold V; after_reads_at

theorem entry_kv (s : Fin 256) (j : Fin 1024) : V m c main_v4 (ix2 s j) = kv m c s j := by
  unfold kv
  unfold V; after_reads_at

theorem entry_ws (g : Fin 4) (p q : Fin 128) : V m c main_v5 (ix3 g p q) = aWs m c (ix3 g p q) := by
  unfold V; after_reads_at

theorem entry_lg (w : Fin 512) : V m c main_v6 (ix2 0 w) = aLg m c (ix1 w) := by
  unfold V; after_reads_at

theorem entry_lb (w : Fin 512) : V m c main_v7 (ix2 0 w) = aLb m c (ix1 w) := by
  unfold V; after_reads_at

theorem entry_wb (k : Fin 4) (n : Fin 3) (w : Fin 512) (l : Fin 256) :
    V m c main_v10 (ix4 k n w l) = aWb m c (ix3 n w ⟨k.val * 256 + l.val, by omega⟩) := by
  unfold V; after_reads_at

theorem entry_wo (i j : Fin 1024) : V m c main_v11 (ix2 i j) = aWo m c (ix2 i j) := by
  unfold V; after_reads_at

theorem entry_ng (j : Fin 1024) : V m c main_v12 (ix2 0 j) = aNg m c (ix1 j) := by
  unfold V; after_reads_at

/-- The windows' block indices: blocks of rows, and whole arrays. -/
theorem idx : ∀ t : Fin cfg0.N, (win0_0.index t = ![t.val, 0] ∧ win0_1.index t = ![t.val, 0] ∧ win0_2.index t = ![t.val, 0]
      ∧ win0_3.index t = ![0, 0] ∧ win0_4.index t = ![0, 0, 0] ∧ win0_5.index t = ![0, 0, 0])
    ∧ (win0_6.index t = ![0, 0] ∧ win0_7.index t = ![0, 0] ∧ win0_8.index t = ![0, 0, 0, 0] ∧ win0_9.index t = ![0, 0] ∧ win0_10.index t = ![0, 0])
    ∧ (win0_11.index t = ![0, t.val, 0] ∧ win0_12.index t = ![0, t.val, 0] ∧ win0_13.index t = ![t.val, 0]
      ∧ win0_14.index t = ![t.val, 0] ∧ win0_15.index t = ![t.val, 0]) ∧ t.val < 8 :=
  (by decide +kernel : ∀ t : Fin grid0.N, _)

/-- The row of the arrays that row `r` of point `t`'s blocks is. -/
def row (t : Fin cfg0.N) (r : Fin 512) : Fin 4096 := ⟨t.val * 512 + r.val, by have := (idx t).2.2.2; omega⟩

theorem blk_x (t : Fin cfg0.N) (r : Fin 512) (k : Fin 1024) :
    (show FVec Ideal S512x1024 .f32 from iblk m c 0 t) (ix2 r k) = aX m c (ix2 (row t r) k) := by
  unfold row; blk_point [iblk, V, idx t]

theorem blk_oa (t : Fin cfg0.N) (r w : Fin 512) :
    (show FVec Ideal S512x512 .f32 from iblk m c 2 t) (ix2 r w) = aOa m c (ix2 (row t r) w) := by
  unfold row; blk_point [iblk, V, idx t]

theorem blk_pr (t : Fin cfg0.N) (r : Fin 512) (j : Fin 6912) :
    (show FVec Ideal S512x6912 .bf16 from iblk m c 1 t) (ix2 r j) = aPr m c (ix2 (row t r) j) := by
  blk_simp [iblk]
  refine Eq.trans (b := V m c main_v2 (ix2 (row t r) j)) ?_ (entry_pr m c _ _)
  unfold row; blk_ext [idx t]

theorem blk_kv (t : Fin cfg0.N) (s : Fin 256) (j : Fin 1024) :
    (show FVec Ideal S256x1024 .bf16 from iblk m c 3 t) (ix2 s j) = kv m c s j := by
  blk_simp [iblk]
  refine Eq.trans (b := V m c main_v4 (ix2 s j)) ?_ (entry_kv m c s j)
  blk_ext [idx t]

theorem blk_ws (t : Fin cfg0.N) (g : Fin 4) (p q : Fin 128) :
    (show FVec Ideal S4x128x128 .bf16 from iblk m c 4 t) (ix3 g p q) = aWs m c (ix3 g p q) := by
  blk_simp [iblk]
  refine Eq.trans (b := V m c main_v5 (ix3 g p q)) ?_ (entry_ws m c g p q)
  blk_ext [idx t]

theorem blk_bs (t : Fin cfg0.N) (g : Fin 4) (p q : Fin 128) :
    (show FVec Ideal S4x128x128 .f32 from iblk m c 5 t) (ix3 g p q) = aBs m c (ix2 g p) := by
  blk_simp [iblk]
  refine Eq.trans (b := V m c main_v1 (ix3 g p q)) ?_ (entry_bs m c g p q)
  blk_ext [idx t]

theorem blk_lg (t : Fin cfg0.N) (w : Fin 512) :
    (show FVec Ideal S1x512 .f32 from iblk m c 6 t) (ix2 0 w) = aLg m c (ix1 w) := by
  blk_simp [iblk]
  refine Eq.trans (b := V m c main_v6 (ix2 0 w)) ?_ (entry_lg m c w)
  blk_ext [idx t]

theorem blk_lb (t : Fin cfg0.N) (w : Fin 512) :
    (show FVec Ideal S1x512 .f32 from iblk m c 7 t) (ix2 0 w) = aLb m c (ix1 w) := by
  blk_simp [iblk]
  refine Eq.trans (b := V m c main_v7 (ix2 0 w)) ?_ (entry_lb m c w)
  blk_ext [idx t]

theorem blk_wb (t : Fin cfg0.N) (k : Fin 4) (n : Fin 3) (w : Fin 512) (l : Fin 256) :
    (show FVec Ideal S4x3x512x256 .bf16 from iblk m c 8 t) (ix4 k n w l) = aWb m c (ix3 n w ⟨k.val * 256 + l.val, by omega⟩) := by
  blk_simp [iblk]
  refine Eq.trans (b := V m c main_v10 (ix4 k n w l)) ?_ (entry_wb m c k n w l)
  blk_ext [idx t]

theorem blk_wo (t : Fin cfg0.N) (i j : Fin 1024) :
    (show FVec Ideal S1024x1024 .bf16 from iblk m c 9 t) (ix2 i j) = aWo m c (ix2 i j) := by
  blk_simp [iblk]
  refine Eq.trans (b := V m c main_v11 (ix2 i j)) ?_ (entry_wo m c i j)
  blk_ext [idx t]

theorem blk_ng (t : Fin cfg0.N) (j : Fin 1024) :
    (show FVec Ideal S1x1024 .f32 from iblk m c 10 t) (ix2 0 j) = aNg m c (ix1 j) := by
  blk_simp [iblk]
  refine Eq.trans (b := V m c main_v12 (ix2 0 j)) ?_ (entry_ng m c j)
  blk_ext [idx t]

end Cert.BranchIdeal.Value
-- ==== Proof.Branch.Tile.lean ====
module

public import proofs.«01_k».proof.Proof.Branch.Entry

@[expose] public section

/-! What one grid point computes, in terms of the arguments. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem row_mod (t : Fin cfg0.N) (r : Fin 512) : (⟨r.val % 128, by omega⟩ : Fin 128) = ⟨(row t r).val % 128, by omega⟩ :=
  Fin.ext (by show r.val % 128 = (t.val * 512 + r.val) % 128; omega)

theorem row_chunk (t : Fin cfg0.N) (r : Fin 512) (q : Fin 128) :
    row t ⟨r.val / 128 * 128 + q.val, by omega⟩ = ⟨(row t r).val / 128 * 128 + q.val, by omega⟩ :=
  Fin.ext (by show t.val * 512 + (r.val / 128 * 128 + q.val) = (t.val * 512 + r.val) / 128 * 128 + q.val; omega)

theorem t_vln (t : Fin cfg0.N) (r w : Fin 512) : vlnB (iblk m c 1 t) (iblk m c 6 t) (iblk m c 7 t) (ix2 r w) = vln m c (row t r) w :=
  congrArg₂ (fun a b : EReal => a + b) (congrArg₂ (fun a b : EReal => a * b)
    (congrArg (fun v => xh v w) (funext fun k => blk_pr m c t r _)) (blk_lg m c t w)) (blk_lb m c t w)

theorem t_mix (t : Fin cfg0.N) (r w : Fin 512) :
    mixB (iblk m c 4 t) (iblk m c 5 t) (vlnB (iblk m c 1 t) (iblk m c 6 t) (iblk m c 7 t)) r w = mixed m c (row t r) w := by
  unfold mixB mixed
  refine congrArg₂ (fun a b : EReal => a + b) (Finset.sum_congr rfl fun q _ => congrArg₂ (fun a b : EReal => a * b)
    ((blk_ws m c t _ _ _).trans ?_) ((t_vln m c t _ _).trans ?_)) ((blk_bs m c t _ _ _).trans ?_)
  · rw [row_mod t r]
  · rw [row_chunk t r q]
  · rw [row_mod t r]

theorem t_yB (t : Fin cfg0.N) (r w : Fin 512) : k0_pay58 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r w) = yB m c (row t r) w :=
  (p58 _ _ _ _ _ _ _ _ _ _ _ r w).trans (congrArg₂ (fun a b : EReal => a * b) (congrArg₂ (fun a b : EReal => a * b) (blk_pr m c t r _) (t_mix m c t r w))
    (congrArg silu (blk_pr m c t r _)))

theorem t_sc (t : Fin cfg0.N) (h : Fin 4) (r : Fin 512) :
    scB (fun i => (show FVec Ideal S512x6912 .bf16 from iblk m c 1 t) (ix2 (i 0) ⟨2816 + (i 1 : Fin 512).val, by idx_bounds i; omega⟩)) (iblk m c 3 t) h r = sc m c h (row t r) := by
  funext s
  unfold scB sc
  exact congrArg (fun a : EReal => a * _) (Finset.sum_congr rfl fun d _ => congrArg₂ (fun a b : EReal => a * b)
    (blk_pr m c t r _) (blk_kv m c t s _))

theorem t_yM (t : Fin cfg0.N) (r w : Fin 512) : k0_pay59 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r w) = yM m c (row t r) w := by
  refine (p59 _ _ _ _ _ _ _ _ _ _ _ r w).trans (congrArg₂ (fun a b : EReal => a * b) ?_ (congrArg silu (blk_pr m c t r _)))
  unfold omB om
  exact Finset.sum_congr rfl fun s _ => congrArg₂ (fun a b : EReal => a * b)
    (congrArg (fun v => soft v s) (t_sc m c t _ r)) (blk_kv m c t s _)

theorem t_za (t : Fin cfg0.N) (r w : Fin 512) : k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r w) = aPr m c (ix2 (row t r) ⟨768 + w.val, by omega⟩) := by
  unfold k0_pay53
  refine Eq.trans ?_ ((ld_s0 (iblk m c 1 t) r w).trans (blk_pr m c t r _))
  pointwise [k0_pay3]

theorem t_yA (t : Fin cfg0.N) (r w : Fin 512) :
    k0_pay32 (F := Ideal) (k0_pay53 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 2 t) r0_19) (ix2 r w) = yA m c (row t r) w := by
  rw [ld_oa]
  refine (p32 _ _ r w).trans (congrArg₂ (fun a b : EReal => a * b) (blk_oa m c t r w) (congrArg silu (t_za m c t r w)))

theorem t_up (t : Fin cfg0.N) (Y : S512x512.Idx → EReal) (n : Fin 3) (hY : ∀ r w, Y (ix2 r w) = y m c n (row t r) w) (r : Fin 512) (j : Fin 1024) :
    upB Y (iblk m c 8 t) n r j = up m c n (row t r) j := by
  unfold upB up
  refine Finset.sum_congr rfl fun w _ => congrArg₂ (fun a b : EReal => a * b) (hY r w) ((blk_wb m c t _ n w _).trans ?_)
  exact congrArg (fun z => aWb m c (ix3 n w z)) (Fin.ext (by show j.val / 256 * 256 + j.val % 256 = j.val; omega))

theorem t_up0 (t : Fin cfg0.N) (r : Fin 512) (j : Fin 1024) : k0_pay36 (F := Ideal) (k0_pay60 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay61 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay62 (iblk m c 0 t) (iblk m c 1 t) (iblk m c 2 t) (iblk m c 3 t) (iblk m c 4 t) (iblk m c 5 t) (iblk m c 6 t) (iblk m c 7 t) (iblk m c 8 t) (iblk m c 9 t) (iblk m c 10 t))
    (View.ld (iblk m c 8 t) r0_23) (View.ld (iblk m c 8 t) r0_24) (ix2 r j) = up m c 0 (row t r) j :=
  (u0 _ _ (iblk m c 8 t) r j).trans (t_up m c t _ 0 (fun r w => t_yA m c t r w) r j)

theorem t_up1 (t : Fin cfg0.N) (r : Fin 512) (j : Fin 1024) : k0_pay43 (F := Ideal) (k0_pay63 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay64 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay65 (iblk m c 0 t) (iblk m c 1 t) (iblk m c 2 t) (iblk m c 3 t) (iblk m c 4 t) (iblk m c 5 t) (iblk m c 6 t) (iblk m c 7 t) (iblk m c 8 t) (iblk m c 9 t) (iblk m c 10 t))
    (View.ld (iblk m c 8 t) r0_30) (View.ld (iblk m c 8 t) r0_31) (ix2 r j) = up m c 1 (row t r) j :=
  (u1 _ (iblk m c 8 t) r j).trans (t_up m c t _ 1 (fun r w => t_yB m c t r w) r j)

theorem t_up2 (t : Fin cfg0.N) (r : Fin 512) (j : Fin 1024) : k0_pay49 (F := Ideal) (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay68 (iblk m c 0 t) (iblk m c 1 t) (iblk m c 2 t) (iblk m c 3 t) (iblk m c 4 t) (iblk m c 5 t) (iblk m c 6 t) (iblk m c 7 t) (iblk m c 8 t) (iblk m c 9 t) (iblk m c 10 t))
    (View.ld (iblk m c 8 t) r0_36) (View.ld (iblk m c 8 t) r0_37) (View.ld (iblk m c 8 t) r0_38) (ix2 r j) = up m c 2 (row t r) j :=
  (u2 _ (iblk m c 8 t) r j).trans (t_up m c t _ 2 (fun r w => t_yM m c t r w) r j)

theorem t_merged (t : Fin cfg0.N) (r : Fin 512) (j : Fin 1024) : k0_pay69 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = merged m c (row t r) j := by
  unfold k0_pay69 k0_pay66 merged
  refine (p51 _ _ _ _ _ _ _ r j).trans (congrArg₂ (fun a b : EReal => a + b) ((p45 _ _ _ _ _ _ _ r j).trans
    (congrArg₂ (fun a b : EReal => a + b) ((p38 _ _ _ _ _ _ r j).trans ?_) ?_)) ?_)
  · exact congrArg₂ (fun a b : EReal => a * b) (congrArg gate ((ld_s26 (iblk m c 1 t) r j).trans (blk_pr m c t r _))) (t_up0 m c t r j)
  · exact congrArg₂ (fun a b : EReal => a * b) (congrArg gate ((ld_s33 (iblk m c 1 t) r j).trans (blk_pr m c t r _))) (t_up1 m c t r j)
  · exact congrArg₂ (fun a b : EReal => a * b) (congrArg gate ((ld_s40 (iblk m c 1 t) r j).trans (blk_pr m c t r _))) (t_up2 m c t r j)

theorem t_wo (t : Fin cfg0.N) (i j : Fin 1024) : k0_pay70 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = aWo m c (ix2 i j) := by
  unfold k0_pay70
  rw [ld_wo]
  refine Eq.trans ?_ (blk_wo m c t i j)
  pointwise [k0_pay52]

theorem t_xn (t : Fin cfg0.N) (r : Fin 512) (j : Fin 1024) :
    k0_pay1 (F := Ideal) (k0_pay69 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 0 t) (k0_pay70 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r j) = xn m c (row t r) j := by
  unfold xn
  exact (p1 _ _ _ r j).trans (congrArg₂ (fun a b : EReal => a + b) (blk_x m c t r j)
    (Finset.sum_congr rfl fun k _ => congrArg₂ (fun a b : EReal => a * b) (t_merged m c t r k) (t_wo m c t k j)))

theorem t_hn (t : Fin cfg0.N) (r : Fin 512) (j : Fin 1024) :
    k0_pay2 (F := Ideal) (k0_pay69 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 0 t) (k0_pay70 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 10 t) (ix2 r j)
      = hn m c (row t r) j := by
  unfold hn
  exact (p2 _ _ _ _ r j).trans (congrArg₂ (fun a b : EReal => a * b)
    (congrArg (fun v => nrm v j) (funext fun k => t_xn m c t r k)) (blk_ng m c t j))

end Cert.BranchIdeal.Value
-- ==== Proof.Branch.Final.lean ====
module

public import proofs.«01_k».proof.Proof.Branch.Tile

@[expose] public section

/-! The five result arrays after the run, as functions of the arguments. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem b11 (t : Fin cfg0.N) (i : S3x512x512.Idx) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) i = yAll m c (ix3 (i 0) (row t (i 1)) (i 2)) := by
  unfold out0_11
  canon_tiles x h
  · obtain ⟨n, r, w, rfl⟩ : ∃ n r w, x = ix3 n r w := ⟨x 0, x 1, x 2, by idx_vars x⟩
    obtain rfl : n = 0 := Subsingleton.elim _ _
    refine (p47 _ r w).trans ((t_yM m c t r w).trans ?_)
    show yAll m c (ix3 2 (row t r) w) = _
    generalize yAll m c = Y
    unfold row
    blk_point []
    all_goals first | exact congrArg (t.val * 512 + ·) (show r.val = (i 1).val from h1.symm) | exact (show w.val = (i 2).val from h2.symm)
  · obtain ⟨n, r, w, rfl⟩ : ∃ n r w, x = ix3 n r w := ⟨x 0, x 1, x 2, by idx_vars x⟩
    obtain rfl : n = 0 := Subsingleton.elim _ _
    refine (p40 _ r w).trans ((t_yB m c t r w).trans ?_)
    show yAll m c (ix3 1 (row t r) w) = _
    generalize yAll m c = Y
    unfold row
    blk_point []
    all_goals first | exact congrArg (t.val * 512 + ·) (show r.val = (i 1).val from h1.symm) | exact (show w.val = (i 2).val from h2.symm)
  · obtain ⟨n, r, w, rfl⟩ : ∃ n r w, x = ix3 n r w := ⟨x 0, x 1, x 2, by idx_vars x⟩
    obtain rfl : n = 0 := Subsingleton.elim _ _
    refine (p33 _ _ r w).trans ((t_yA m c t r w).trans ?_)
    show yAll m c (ix3 0 (row t r) w) = _
    generalize yAll m c = Y
    unfold row
    blk_point []
    all_goals first | exact congrArg (t.val * 512 + ·) (show r.val = (i 1).val from h1.symm) | exact (show w.val = (i 2).val from h2.symm)

theorem b12 (t : Fin cfg0.N) (i : S3x512x1024.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) i = upAll m c (ix3 (i 0) (row t (i 1)) (i 2)) := by
  unfold out0_12
  canon_tiles x h
  · obtain ⟨n, r, w, rfl⟩ : ∃ n r w, x = ix3 n r w := ⟨x 0, x 1, x 2, by idx_vars x⟩
    obtain rfl : n = 0 := Subsingleton.elim _ _
    refine (p50 _ _ _ _ _ r w).trans ((t_up2 m c t r w).trans ?_)
    show upAll m c (ix3 2 (row t r) w) = _
    generalize upAll m c = Y
    unfold row
    blk_point []
    all_goals first | exact congrArg (t.val * 512 + ·) (show r.val = (i 1).val from h1.symm) | exact (show w.val = (i 2).val from h2.symm)
  · obtain ⟨n, r, w, rfl⟩ : ∃ n r w, x = ix3 n r w := ⟨x 0, x 1, x 2, by idx_vars x⟩
    obtain rfl : n = 0 := Subsingleton.elim _ _
    refine (p44 _ _ _ _ _ r w).trans ((t_up1 m c t r w).trans ?_)
    show upAll m c (ix3 1 (row t r) w) = _
    generalize upAll m c = Y
    unfold row
    blk_point []
    all_goals first | exact congrArg (t.val * 512 + ·) (show r.val = (i 1).val from h1.symm) | exact (show w.val = (i 2).val from h2.symm)
  · obtain ⟨n, r, w, rfl⟩ : ∃ n r w, x = ix3 n r w := ⟨x 0, x 1, x 2, by idx_vars x⟩
    obtain rfl : n = 0 := Subsingleton.elim _ _
    refine (p37 _ _ _ _ _ r w).trans ((t_up0 m c t r w).trans ?_)
    show upAll m c (ix3 0 (row t r) w) = _
    generalize upAll m c = Y
    unfold row
    blk_point []
    all_goals first | exact congrArg (t.val * 512 + ·) (show r.val = (i 1).val from h1.symm) | exact (show w.val = (i 2).val from h2.symm)

theorem b13 (t : Fin cfg0.N) (i : S512x1024.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) i = merged m c (row t (i 0)) (i 1) := by
  obtain ⟨r, j, rfl⟩ : ∃ r j, i = ix2 r j := ⟨i 0, i 1, funext (Fin.forall_fin_two.mpr ⟨rfl, rfl⟩)⟩
  unfold out0_13
  frame_out
  exact t_merged m c t r j

theorem b14 (t : Fin cfg0.N) (i : S512x1024.Idx) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) i = xn m c (row t (i 0)) (i 1) := by
  obtain ⟨r, j, rfl⟩ : ∃ r j, i = ix2 r j := ⟨i 0, i 1, funext (Fin.forall_fin_two.mpr ⟨rfl, rfl⟩)⟩
  unfold out0_14
  frame_out
  exact t_xn m c t r j

theorem b15 (t : Fin cfg0.N) (i : S512x1024.Idx) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) i = hn m c (row t (i 0)) (i 1) := by
  obtain ⟨r, j, rfl⟩ : ∃ r j, i = ix2 r j := ⟨i 0, i 1, funext (Fin.forall_fin_two.mpr ⟨rfl, rfl⟩)⟩
  unfold out0_15
  frame_out
  exact t_hn m c t r j

theorem final11 : (dats m 0 c).arrAt 11 (cfgs 0).N = yAll m c := by
  refine (dats m 0 c).arrAt_eq_of_covers 11 _ (by decide +kernel) fun t hf y => ?_
  blk_simp
  rw [after0_11]
  refine (b11 m c t y).trans ?_
  show yAll m c (ix3 (y 0) (row t (y 1)) (y 2)) = _
  generalize yAll m c = D
  unfold row
  blk_point [idx t]

theorem final12 : (dats m 0 c).arrAt 12 (cfgs 0).N = upAll m c := by
  refine (dats m 0 c).arrAt_eq_of_covers 12 _ (by decide +kernel) fun t hf y => ?_
  blk_simp
  rw [after0_12]
  refine (b12 m c t y).trans ?_
  show upAll m c (ix3 (y 0) (row t (y 1)) (y 2)) = _
  generalize upAll m c = D
  unfold row
  blk_point [idx t]

theorem final13 : (dats m 0 c).arrAt 13 (cfgs 0).N = mergedAll m c := by
  refine (dats m 0 c).arrAt_eq_of_covers 13 _ (by decide +kernel) fun t hf y => ?_
  blk_simp
  rw [after0_13]
  refine (b13 m c t y).trans ?_
  show mergedAll m c (ix2 (row t (y 0)) (y 1)) = _
  generalize mergedAll m c = D
  unfold row
  blk_point [idx t]

theorem final14 : (dats m 0 c).arrAt 14 (cfgs 0).N = xnAll m c := by
  refine (dats m 0 c).arrAt_eq_of_covers 14 _ (by decide +kernel) fun t hf y => ?_
  blk_simp
  rw [after0_14]
  refine (b14 m c t y).trans ?_
  show xnAll m c (ix2 (row t (y 0)) (y 1)) = _
  generalize xnAll m c = D
  unfold row
  blk_point [idx t]

theorem final15 : (dats m 0 c).arrAt 15 (cfgs 0).N = hnAll m c := by
  refine (dats m 0 c).arrAt_eq_of_covers 15 _ (by decide +kernel) fun t hf y => ?_
  blk_simp
  rw [after0_15]
  refine (b15 m c t y).trans ?_
  show hnAll m c (ix2 (row t (y 0)) (y 1)) = _
  generalize hnAll m c = D
  unfold row
  blk_point [idx t]

end Cert.BranchIdeal.Value
-- ==== Proof.Branch.RefBranches.lean ====
module

public import proofs.«01_k».proof.Proof.Branch.Final
public import proofs.«01_k».proof.Proof.Gen.BranchRefIdeal.Read

@[expose] public section

/-! The three branches as the plain program computes them. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)
open Cert.BranchRefIdeal.Read
open Cert.BranchRefIdeal (S4x4096x256 S4x4096 S_)

variable (m : (ℓ : Loc nD τ sig) → Buf (Elt Ideal) ℓ) (c : Dev nD)

theorem ref_silu_a (r : Fin 4096) (w : Fin 512) :
    val_main_v8 (F := Ideal) (aPr m c) (ix2 r w) = silu (aPr m c (ix2 r ⟨768 + w.val, by omega⟩)) := by
  unfold silu gate
  pointwise [val_main_v8, val_main_call0_v5, val_main_call0_v4, val_main_call0_v3, val_main_call0_v2, val_main_call0_v1, val_main_call0_v0, val_main_call0_cst, val_main_call0_cst_0, val_main_v1, val_main_v0]

theorem ref_silu_b (r : Fin 4096) (w : Fin 512) :
    val_main_v41 (F := Ideal) (aPr m c) (ix2 r w) = silu (aPr m c (ix2 r ⟨2304 + w.val, by omega⟩)) := by
  unfold silu gate
  pointwise [val_main_v41, val_main_call1_v5, val_main_call1_v4, val_main_call1_v3, val_main_call1_v2, val_main_call1_v1, val_main_call1_v0, val_main_call1_cst, val_main_call1_cst_0, val_main_v4, val_main_v0]
  simp only [← Nat.add_assoc, Nat.reduceAdd]

theorem ref_silu_m (r : Fin 4096) (w : Fin 512) :
    val_main_v66 (F := Ideal) (aPr m c) (ix2 r w) = silu (aPr m c (ix2 r ⟨3328 + w.val, by omega⟩)) := by
  unfold silu gate
  pointwise [val_main_v66, val_main_call2_v5, val_main_call2_v4, val_main_call2_v3, val_main_call2_v2, val_main_call2_v1, val_main_call2_v0, val_main_call2_cst, val_main_call2_cst_0, val_main_v6, val_main_v0]
  simp only [← Nat.add_assoc, Nat.reduceAdd]

/-! The layer norm of the spatial branch's values. -/

theorem ref_v3 (r : Fin 4096) (k : Fin 512) :
    val_main_v3 (F := Ideal) (aPr m c) (ix2 r k) = aPr m c (ix2 r ⟨1792 + k.val, by omega⟩) := by
  pointwise [val_main_v3, val_main_v0]
  simp only [← Nat.add_assoc, Nat.reduceAdd]

theorem ref_cen (r : Fin 4096) (k : Fin 512) :
    val_main_v15 (F := Ideal) (aPr m c) (ix2 r k) = cen (fun k => aPr m c (ix2 r ⟨1792 + k.val, by omega⟩)) k := by
  unfold cen
  pointwise [val_main_v15, val_main_v14, val_main_v13, val_main_v12, val_main_v11, val_main_v10, val_main_cst, val_main_cst_0, ref_v3]

theorem ref_dev (r : Fin 4096) :
    val_main_v22 (F := Ideal) (aPr m c) (ix2 r 0)
      = Ideal.div (∑ l, cen (fun k => aPr m c (ix2 r ⟨1792 + k.val, by omega⟩)) l * cen (fun k => aPr m c (ix2 r ⟨1792 + k.val, by omega⟩)) l)
          (Ideal.ofBits .f32 0x44000000#32) + Ideal.ofBits .f32 0x358637BD#32 := by
  pointwise [val_main_v22, val_main_v21, val_main_v20, val_main_v19, val_main_v18, val_main_v17, val_main_v16, val_main_cst_1,
    val_main_cst_2, val_main_cst_3, ref_cen]

theorem ref_vln (r : Fin 4096) (w : Fin 512) : val_main_v31 (F := Ideal) (aPr m c) (aLg m c) (aLb m c) (ix2 r w) = vln m c r w := by
  unfold vln xh
  refine Eq.trans (b := val_main_v15 (F := Ideal) (aPr m c) (ix2 r w) * Ideal.rsqrt (val_main_v22 (F := Ideal) (aPr m c) (ix2 r 0))
    * aLg m c (ix1 w) + aLb m c (ix1 w)) ?_ (by rw [ref_cen, ref_dev])
  pointwise [val_main_v31, val_main_v30, val_main_v29, val_main_v28, val_main_v27, val_main_v26, val_main_v25, val_main_v24, val_main_v23]

theorem ref_mixed (r : Fin 4096) (w : Fin 512) :
    val_main_v39 (F := Ideal) (aPr m c) (aWs m c) (aBs m c) (aLg m c) (aLb m c) (ix2 r w) = mixed m c r w := by
  unfold mixed
  refine Eq.trans (b := (∑ q : Fin 128, val_main_v31 (F := Ideal) (aPr m c) (aLg m c) (aLb m c) (ix2 ⟨r.val / 128 * 128 + q.val, by omega⟩ w)
      * aWs m c (ix3 ⟨w.val / 128, by omega⟩ ⟨r.val % 128, by omega⟩ q))
    + aBs m c (ix2 ⟨w.val / 128, by omega⟩ ⟨r.val % 128, by omega⟩)) ?_ ?_
  · pointwise [val_main_v39, val_main_v38, val_main_v37, val_main_v36, val_main_v35, val_main_v34, val_main_v33, val_main_v32]
  · exact congrArg (· + _) (Finset.sum_congr rfl fun q _ => by rw [ref_vln]; exact mul_comm _ _)

/-! The memory attention. -/

theorem ref_kv (s : Fin 256) (j : Fin 1024) : val_main_v43 (F := Ideal) (aMn m c) (aKv m c) (ix2 s j) = kv m c s j := by
  unfold kv
  pointwise [val_main_v43]

theorem ref_key (s : Fin 256) (h : Fin 4) (d : Fin 128) :
    val_main_v46 (F := Ideal) (aMn m c) (aKv m c) (ix3 s h d) = kv m c s ⟨h.val * 128 + d.val, by omega⟩ := by
  refine Eq.trans ?_ (ref_kv m c s _)
  generalize hy : val_main_v43 (F := Ideal) (aMn m c) (aKv m c) = y
  pointwise [val_main_v46, val_main_v44, hy]

theorem ref_value (s : Fin 256) (h : Fin 4) (d : Fin 128) :
    val_main_v47 (F := Ideal) (aMn m c) (aKv m c) (ix3 s h d) = kv m c s ⟨512 + (h.val * 128 + d.val), by omega⟩ := by
  refine Eq.trans ?_ (ref_kv m c s _)
  generalize hy : val_main_v43 (F := Ideal) (aMn m c) (aKv m c) = y
  pointwise [val_main_v47, val_main_v45, hy]

theorem ref_query (r : Fin 4096) (h : Fin 4) (d : Fin 128) :
    val_main_v48 (F := Ideal) (aPr m c) (ix3 r h d) = aPr m c (ix2 r ⟨2816 + (h.val * 128 + d.val), by omega⟩) := by
  pointwise [val_main_v48, val_main_v5, val_main_v0]
  simp only [← Nat.add_assoc, Nat.reduceAdd]

theorem ref_sc (h : Fin 4) (r : Fin 4096) (s : Fin 256) :
    val_main_v51 (F := Ideal) (aPr m c) (aMn m c) (aKv m c) (ix3 h r s) = sc m c h r s := by
  unfold sc
  refine Eq.trans (b := (∑ d : Fin 128, val_main_v48 (F := Ideal) (aPr m c) (ix3 r h d) * val_main_v46 (F := Ideal) (aMn m c) (aKv m c) (ix3 s h d))
    * Ideal.ofBits .f32 0x3DB504F3#32) (by pointwise [val_main_v51, val_main_v50, val_main_v49, val_main_cst_4]) ?_
  simp only [ref_query, ref_key]

/-- The maximum of a row of scores. -/
theorem max_of (y : FVec Ideal S4x4096x256 .f32) (z : FVec Ideal S_ .f32) (h : Fin 4) (r : Fin 4096) (a : EReal)
    (hR : S4x4096x256.ReducesTo [2] S4x4096) (h0 : 0 < S_.numel) (hz : z (Shape.Idx.first h0) = a) :
    Host.reduce (FloatOps.maximumf (F := Ideal) (φ := .f32)) y z hR h0 (ix2 h r) = Finset.univ.fold max a fun s : Fin 256 => y (ix3 h r s) := by
  subst hz
  pointwise []

theorem ref_max (h : Fin 4) (r : Fin 4096) : val_main_v54 (F := Ideal) (aPr m c) (aMn m c) (aKv m c) (ix2 h r)
    = Finset.univ.fold max (Ideal.ofBits .f32 0xFF800000#32) (sc m c h r) := by
  have h1 : val_main_v52 (F := Ideal) (aPr m c) (aMn m c) (aKv m c) (ix2 h r)
      = Finset.univ.fold max (Ideal.ofBits .f32 0xFF800000#32) (sc m c h r) := by
    unfold val_main_v52
    refine (max_of _ _ h r (Ideal.ofBits .f32 0xFF800000#32) _ _ rfl).trans ?_
    exact congrArg (Finset.univ.fold max _) (funext fun s => ref_sc m c h r s)
  rw [val_main_v54_apply, val_main_v53_apply, val_main_cst_6_apply, h1, bot_eq]
  generalize Finset.univ.fold max ⊥ (sc m c h r) = x
  exact (congrArg (fun z : EReal => max z x) bot_eq).trans (max_bot_left _)

theorem ref_exp (h : Fin 4) (r : Fin 4096) (s : Fin 256) : val_main_v58 (F := Ideal) (aPr m c) (aMn m c) (aKv m c) (ix3 h r s)
    = Ideal.exp (sc m c h r s - Finset.univ.fold max (Ideal.ofBits .f32 0xFF800000#32) (sc m c h r)) := by
  rw [← ref_max, ← ref_sc]
  rw [val_main_v58_apply, val_main_v57_apply, val_main_v56_apply, val_main_v55_apply]
  exact congrArg (fun j => Ideal.exp (val_main_v51 (F := Ideal) (aPr m c) (aMn m c) (aKv m c) (ix3 h r s)
    - val_main_v54 (F := Ideal) (aPr m c) (aMn m c) (aKv m c) j)) (funext fun a => by fin_cases a <;> rfl)

theorem ref_sum (h : Fin 4) (r : Fin 4096) : val_main_v59 (F := Ideal) (aPr m c) (aMn m c) (aKv m c) (ix2 h r)
    = ∑ s, Ideal.exp (sc m c h r s - Finset.univ.fold max (Ideal.ofBits .f32 0xFF800000#32) (sc m c h r)) := by
  refine Eq.trans (b := (∑ s : Fin 256, val_main_v58 (F := Ideal) (aPr m c) (aMn m c) (aKv m c) (ix3 h r s) : EReal)) ?_
    (Finset.sum_congr rfl fun s _ => ref_exp m c h r s)
  unfold val_main_v59
  generalize val_main_v58 (F := Ideal) (aPr m c) (aMn m c) (aKv m c) = y
  pointwise [val_main_cst_7]

theorem ref_weight (h : Fin 4) (r : Fin 4096) (s : Fin 256) : val_main_v62 (F := Ideal) (aPr m c) (aMn m c) (aKv m c) (ix3 h r s)
    = soft (sc m c h r) s := by
  unfold soft
  rw [← ref_exp, ← ref_sum]
  rw [val_main_v62_apply, val_main_v61_apply, val_main_v60_apply]
  exact congrArg (fun j => Ideal.div (val_main_v58 (F := Ideal) (aPr m c) (aMn m c) (aKv m c) (ix3 h r s))
    (val_main_v59 (F := Ideal) (aPr m c) (aMn m c) (aKv m c) j)) (funext fun a => by fin_cases a <;> rfl)

theorem ref_om (r : Fin 4096) (w : Fin 512) : val_main_v65 (F := Ideal) (aPr m c) (aMn m c) (aKv m c) (ix2 r w) = om m c r w := by
  refine Eq.trans (b := (∑ s : Fin 256, val_main_v47 (F := Ideal) (aMn m c) (aKv m c) (ix3 s ⟨w.val / 128, by omega⟩ ⟨w.val % 128, by omega⟩)
      * val_main_v62 (F := Ideal) (aPr m c) (aMn m c) (aKv m c) (ix3 ⟨w.val / 128, by omega⟩ r s) : EReal)) ?_ ?_
  · generalize hy : val_main_v47 (F := Ideal) (aMn m c) (aKv m c) = y
    generalize hz : val_main_v62 (F := Ideal) (aPr m c) (aMn m c) (aKv m c) = z
    pointwise [val_main_v65, val_main_v64, val_main_v63, hy, hz]
  · unfold om
    refine Finset.sum_congr rfl fun s _ => ?_
    rw [ref_value, ref_weight]
    have hw : (⟨512 + (w.val / 128 * 128 + w.val % 128), by omega⟩ : Fin 1024) = ⟨512 + w.val, by omega⟩ := Fin.ext (by show 512 + _ = 512 + _; omega)
    exact (mul_comm _ _).trans (congrArg (fun j => _ * kv m c s j) hw)

end Cert.BranchIdeal.Value
-- ==== Proof.Branch.Ref.lean ====
module

public import proofs.«01_k».proof.Proof.Branch.RefBranches

@[expose] public section

/-! The five results as the plain program computes them. -/

set_option maxRecDepth 16384

noncomputable section

namespace Cert.BranchIdeal.Value

open Cert.BranchIdeal Cert.BranchIdeal.Gen Idealize.ShloMosaic Idealize.ShloMosaic.TcCoe Idealize.SL.Sem
open Idealize.ShloMosaic.Pipeline (Dat)
open Cert.BranchRefIdeal.Read

variable (m : (ℓ : Loc nD τ sig) → Buf (Elt Ideal) ℓ) (c : Dev nD)

theorem ref_yA (r : Fin 4096) (w : Fin 512) : val_main_v9 (F := Ideal) (aPr m c) (aOa m c) (ix2 r w) = yA m c r w := by
  rw [val_main_v9_apply, ref_silu_a]; rfl

theorem ref_yB (r : Fin 4096) (w : Fin 512) : val_main_v42 (F := Ideal) (aPr m c) (aWs m c) (aBs m c) (aLg m c) (aLb m c) (ix2 r w) = yB m c r w := by
  have h2 : val_main_v2 (F := Ideal) (aPr m c) (ix2 r w) = aPr m c (ix2 r ⟨1280 + w.val, by omega⟩) := by
    pointwise [val_main_v2, val_main_v0]
    simp only [← Nat.add_assoc, Nat.reduceAdd]
  rw [val_main_v42_apply, val_main_v40_apply, ref_silu_b, ref_mixed, h2]; rfl

theorem ref_yM (r : Fin 4096) (w : Fin 512) : val_main_v67 (F := Ideal) (aPr m c) (aMn m c) (aKv m c) (ix2 r w) = yM m c r w := by
  rw [val_main_v67_apply, ref_silu_m, ref_om]; rfl

/-- The three branches side by side. -/
theorem ref_y (n : Fin 3) (r : Fin 4096) (w : Fin 512) : val_main_v71 (F := Ideal) (aPr m c) (aOa m c) (aMn m c) (aKv m c) (aWs m c) (aBs m c) (aLg m c) (aLb m c) (ix3 r n w) = y m c n r w := by
  have hA := ref_yA m c r w
  have hB := ref_yB m c r w
  have hM := ref_yM m c r w
  unfold val_main_v71 val_main_v68 val_main_v69 val_main_v70 y
  revert hA hB hM
  generalize val_main_v9 (F := Ideal) (aPr m c) (aOa m c) = ya
  generalize val_main_v42 (F := Ideal) (aPr m c) (aWs m c) (aBs m c) (aLg m c) (aLb m c) = yb
  generalize val_main_v67 (F := Ideal) (aPr m c) (aMn m c) (aKv m c) = ym
  intro hA hB hM
  rw [← hA, ← hB, ← hM]
  fin_cases n
  · pointwise []
  · pointwise []
  · pointwise []

theorem ref_up (n : Fin 3) (r : Fin 4096) (j : Fin 1024) : val_main_v73 (F := Ideal) (aPr m c) (aOa m c) (aMn m c) (aKv m c) (aWs m c) (aBs m c) (aLg m c) (aLb m c) (aWb m c) (ix3 r n j) = up m c n r j := by
  refine Eq.trans (b := (∑ w : Fin 512, aWb m c (ix3 n w j) * val_main_v71 (F := Ideal) (aPr m c) (aOa m c) (aMn m c) (aKv m c) (aWs m c) (aBs m c) (aLg m c) (aLb m c) (ix3 r n w) : EReal)) ?_ ?_
  · unfold val_main_v73 val_main_v72
    generalize val_main_v71 (F := Ideal) (aPr m c) (aOa m c) (aMn m c) (aKv m c) (aWs m c) (aBs m c) (aLg m c) (aLb m c) = Y
    pointwise []
  · exact Finset.sum_congr rfl fun w _ => (congrArg (fun z : EReal => _ * z) (ref_y m c n r w)).trans (mul_comm _ _)

theorem ref_gate (n : Fin 3) (r : Fin 4096) (j : Fin 1024) :
    val_main_v80 (F := Ideal) (aPr m c) (ix3 r n j) = gate (aPr m c (ix2 r ⟨3840 + (n.val * 1024 + j.val), by omega⟩)) := by
  unfold gate
  pointwise [val_main_v80, val_main_v79, val_main_v78, val_main_v77, val_main_v76, val_main_v75, val_main_v74, val_main_v7, val_main_v0,
    val_main_cst_8, val_main_cst_9]
  simp only [← Nat.add_assoc, Nat.reduceAdd]

theorem ref_merged (r : Fin 4096) (j : Fin 1024) : val_main_v82 (F := Ideal) (aPr m c) (aOa m c) (aMn m c) (aKv m c) (aWs m c) (aBs m c) (aLg m c) (aLb m c) (aWb m c) (ix2 r j) = merged m c r j := by
  refine Eq.trans (b := (∑ n : Fin 3, val_main_v80 (F := Ideal) (aPr m c) (ix3 r n j) * val_main_v73 (F := Ideal) (aPr m c) (aOa m c) (aMn m c) (aKv m c) (aWs m c) (aBs m c) (aLg m c) (aLb m c) (aWb m c) (ix3 r n j) : EReal)) ?_ ?_
  · unfold val_main_v82 val_main_v81
    generalize val_main_v80 (F := Ideal) (aPr m c) = G
    generalize val_main_v73 (F := Ideal) (aPr m c) (aOa m c) (aMn m c) (aKv m c) (aWs m c) (aBs m c) (aLg m c) (aLb m c) (aWb m c) = U
    pointwise [val_main_cst_10]
  · rw [Fin.sum_univ_three]
    simp only [ref_gate, ref_up]
    unfold merged
    simp only [← Nat.add_assoc]
    rfl

theorem ref_xn (r : Fin 4096) (j : Fin 1024) : val_main_v84 (F := Ideal) (aX m c) (aPr m c) (aOa m c) (aMn m c) (aKv m c) (aWs m c) (aBs m c) (aLg m c) (aLb m c) (aWb m c) (aWo m c) (ix2 r j) = xn m c r j := by
  refine Eq.trans (b := (aX m c (ix2 r j) + ∑ k : Fin 1024, val_main_v82 (F := Ideal) (aPr m c) (aOa m c) (aMn m c) (aKv m c) (aWs m c) (aBs m c) (aLg m c) (aLb m c) (aWb m c) (ix2 r k) * aWo m c (ix2 k j) : EReal)) ?_ ?_
  · unfold val_main_v84 val_main_v83
    generalize val_main_v82 (F := Ideal) (aPr m c) (aOa m c) (aMn m c) (aKv m c) (aWs m c) (aBs m c) (aLg m c) (aLb m c) (aWb m c) = M
    pointwise []
  · unfold xn
    simp only [ref_merged]

theorem ref_hn (r : Fin 4096) (j : Fin 1024) : val_main_v103 (F := Ideal) (aX m c) (aPr m c) (aOa m c) (aMn m c) (aKv m c) (aWs m c) (aBs m c) (aLg m c) (aLb m c) (aWb m c) (aWo m c) (aNg m c) (ix2 r j) = hn m c r j := by
  unfold hn nrm
  simp only [← ref_xn]
  unfold val_main_v103 val_main_v102 val_main_v101 val_main_v100 val_main_v99 val_main_v98 val_main_v97 val_main_v96 val_main_v95
    val_main_v94 val_main_v93 val_main_v92 val_main_v91 val_main_v90
  generalize val_main_v84 (F := Ideal) (aX m c) (aPr m c) (aOa m c) (aMn m c) (aKv m c) (aWs m c) (aBs m c) (aLg m c) (aLb m c) (aWb m c) (aWo m c) = X
  pointwise [val_main_cst_11, val_main_cst_12, val_main_cst_13]

/-! The results. -/

theorem res_y : val_main_v86 (F := Ideal) (aPr m c) (aOa m c) (aMn m c) (aKv m c) (aWs m c) (aBs m c) (aLg m c) (aLb m c) = yAll m c := by
  funext i
  obtain ⟨n, r, w, rfl⟩ : ∃ n r w, i = ix3 n r w := ⟨i 0, i 1, i 2, by idx_vars i⟩
  refine Eq.trans ?_ (ref_y m c n r w)
  unfold val_main_v86 val_main_v85
  generalize val_main_v71 (F := Ideal) (aPr m c) (aOa m c) (aMn m c) (aKv m c) (aWs m c) (aBs m c) (aLg m c) (aLb m c) = Y
  pointwise []

theorem res_up : val_main_v88 (F := Ideal) (aPr m c) (aOa m c) (aMn m c) (aKv m c) (aWs m c) (aBs m c) (aLg m c) (aLb m c) (aWb m c) = upAll m c := by
  funext i
  obtain ⟨n, r, w, rfl⟩ : ∃ n r w, i = ix3 n r w := ⟨i 0, i 1, i 2, by idx_vars i⟩
  refine Eq.trans ?_ (ref_up m c n r w)
  unfold val_main_v88 val_main_v87
  generalize val_main_v73 (F := Ideal) (aPr m c) (aOa m c) (aMn m c) (aKv m c) (aWs m c) (aBs m c) (aLg m c) (aLb m c) (aWb m c) = Y
  pointwise []

theorem res_merged : val_main_v89 (F := Ideal) (aPr m c) (aOa m c) (aMn m c) (aKv m c) (aWs m c) (aBs m c) (aLg m c) (aLb m c) (aWb m c) = mergedAll m c := by
  funext i
  obtain ⟨r, j, rfl⟩ : ∃ r j, i = ix2 r j := ⟨i 0, i 1, funext (Fin.forall_fin_two.mpr ⟨rfl, rfl⟩)⟩
  refine Eq.trans ?_ (ref_merged m c r j)
  unfold val_main_v89
  generalize val_main_v82 (F := Ideal) (aPr m c) (aOa m c) (aMn m c) (aKv m c) (aWs m c) (aBs m c) (aLg m c) (aLb m c) (aWb m c) = Y
  rfl

theorem res_xn : val_main_v84 (F := Ideal) (aX m c) (aPr m c) (aOa m c) (aMn m c) (aKv m c) (aWs m c) (aBs m c) (aLg m c) (aLb m c) (aWb m c) (aWo m c) = xnAll m c := by
  funext i
  obtain ⟨r, j, rfl⟩ : ∃ r j, i = ix2 r j := ⟨i 0, i 1, funext (Fin.forall_fin_two.mpr ⟨rfl, rfl⟩)⟩
  exact ref_xn m c r j

theorem res_hn : val_main_v103 (F := Ideal) (aX m c) (aPr m c) (aOa m c) (aMn m c) (aKv m c) (aWs m c) (aBs m c) (aLg m c) (aLb m c) (aWb m c) (aWo m c) (aNg m c) = hnAll m c := by
  funext i
  obtain ⟨r, j, rfl⟩ : ∃ r j, i = ix2 r j := ⟨i 0, i 1, funext (Fin.forall_fin_two.mpr ⟨rfl, rfl⟩)⟩
  exact ref_hn m c r j

end Cert.BranchIdeal.Value
-- ==== Proof.Branch.Claim.lean ====
module

public import proofs.«01_k».proof.Defs
public import proofs.«01_k».proof.Proof.Branch.Ref
public import proofs.«01_k».proof.Proof.Gen.BranchIdeal.Value
public import proofs.«01_k».proof.Proof.Gen.BranchRefIdeal.Run

@[expose] public section

/-! The call of the branches computes the three branches, their merge and the next rows. -/

set_option maxRecDepth 16384

noncomputable section

namespace Cert.BranchIdeal.Value

open Idealize.ShloMosaic Idealize.ShloMosaic.TcCoe Idealize.SL.Sem

theorem frame_reference : Cert.quiescent_BranchRefIdeal := by
  intro m g _
  exact (θ_run Cert.BranchRefIdeal.defs _ _).mono (fun r h => ⟨fun c => (h c).2.2.2.2.2,
      sem_eq_zero_of_no_sems (by decide) r.2⟩) (Cert.BranchRefIdeal.Value.run (F := Ideal) m g)

theorem algebraic : Cert.algebraic_BranchIdeal_BranchRefIdeal := by
  pair_intro
  · run_from Cert.BranchIdeal.Value.run_blocks m g
  · run_from Cert.BranchRefIdeal.Value.run m' g'
    · obtain ⟨e0, e1, e2, e3, e4, e5, e6, e7, e8, e9, e10, e11⟩ := hagree c
      refine (Cert.BranchRefIdeal.Read.val_main_v86_eq _ _).trans ?_
      rw [e1, e2, e3, e4, e5, e6, e7, e8]
      exact (res_y m c).trans (final11 m c).symm
    · obtain ⟨e0, e1, e2, e3, e4, e5, e6, e7, e8, e9, e10, e11⟩ := hagree c
      refine (Cert.BranchRefIdeal.Read.val_main_v88_eq _ _).trans ?_
      rw [e1, e2, e3, e4, e5, e6, e7, e8, e9]
      exact (res_up m c).trans (final12 m c).symm
    · obtain ⟨e0, e1, e2, e3, e4, e5, e6, e7, e8, e9, e10, e11⟩ := hagree c
      refine (Cert.BranchRefIdeal.Read.val_main_v89_eq _ _).trans ?_
      rw [e1, e2, e3, e4, e5, e6, e7, e8, e9]
      exact (res_merged m c).trans (final13 m c).symm
    · obtain ⟨e0, e1, e2, e3, e4, e5, e6, e7, e8, e9, e10, e11⟩ := hagree c
      refine (Cert.BranchRefIdeal.Read.val_main_v84_eq _ _).trans ?_
      rw [e0, e1, e2, e3, e4, e5, e6, e7, e8, e9, e10]
      exact (res_xn m c).trans (final14 m c).symm
    · obtain ⟨e0, e1, e2, e3, e4, e5, e6, e7, e8, e9, e10, e11⟩ := hagree c
      refine (Cert.BranchRefIdeal.Read.val_main_v103_eq _ _).trans ?_
      rw [e0, e1, e2, e3, e4, e5, e6, e7, e8, e9, e10, e11]
      exact (res_hn m c).trans (final15 m c).symm

end Cert.BranchIdeal.Value
-- ==== Proof.lean ====
module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.MergeRefIdeal.Run
public import proofs.«01_k».proof.Proof.Gen.MergeRefIdeal.Read
public import proofs.«01_k».proof.Proof.Gen.WGrad.Frame
public import proofs.«01_k».proof.Proof.Gen.WGradIdeal.Frame
public import proofs.«01_k».proof.Proof.Gen.WGradIdeal.Value
public import proofs.«01_k».proof.Proof.Gen.WGradRefIdeal.Run
public import proofs.«01_k».proof.Proof.Gen.WGradRefIdeal.Read
public import proofs.«01_k».proof.Proof.Gen.HGrad.Frame
public import proofs.«01_k».proof.Proof.Gen.HGradIdeal.Frame
public import proofs.«01_k».proof.Proof.Gen.HGradIdeal.Value
public import proofs.«01_k».proof.Proof.Gen.HGradRefIdeal.Run
public import proofs.«01_k».proof.Proof.Gen.HGradRefIdeal.Read
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.AttnF.Frame
public import proofs.«01_k».proof.Proof.Gen.AttnFIdeal.Frame
public import proofs.«01_k».proof.Proof.Gen.AttnFIdeal.Value
public import proofs.«01_k».proof.Proof.Gen.AttnFRefIdeal.Run
public import proofs.«01_k».proof.Proof.Gen.AttnFRefIdeal.Read
public import proofs.«01_k».proof.Proof.Gen.Branch.Frame
public import proofs.«01_k».proof.Proof.Gen.BranchIdeal.Frame
public import proofs.«01_k».proof.Proof.Gen.BranchIdeal.Value
public import proofs.«01_k».proof.Proof.Gen.BranchRefIdeal.Run
public import proofs.«01_k».proof.Proof.Gen.BranchRefIdeal.Read
public import proofs.«01_k».proof.Proof.Merge.Claim
public import proofs.«01_k».proof.Proof.Attn.Claim
public import proofs.«01_k».proof.Proof.WGrad.Claim
public import proofs.«01_k».proof.Proof.HGrad.Claim
public import proofs.«01_k».proof.Proof.Proj.Claim
public import proofs.«01_k».proof.Proof.AttnF.Claim
public import proofs.«01_k».proof.Proof.Branch.Claim

@[expose] public section

/-! Everything that is claimed: the runs of the programs and the equality of the results. -/

namespace Cert.Proof

theorem claim : Cert.Claim :=
  ⟨inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance,
    fun m ρ _ => Cert.Merge.Gen.frame m ρ,
    fun m ρ _ => Cert.MergeIdeal.Gen.frame m ρ,
    Cert.MergeIdeal.Value.frame_reference,
    fun m ρ _ => Cert.Attn.Gen.frame m ρ,
    fun m ρ _ => Cert.AttnIdeal.Gen.frame m ρ,
    fun m ρ _ => Cert.AttnIdeal.Gen.frame m ρ,
    Cert.AttnIdeal.Value.frame_reference,
    fun m ρ _ => Cert.AttnIdeal.Value.frame_reference m ρ trivial,
    fun m ρ _ => Cert.WGrad.Gen.frame m ρ,
    fun m ρ _ => Cert.WGradIdeal.Gen.frame m ρ,
    Cert.WGradIdeal.Value.frame_reference,
    fun m ρ _ => Cert.HGrad.Gen.frame m ρ,
    fun m ρ _ => Cert.HGradIdeal.Gen.frame m ρ,
    Cert.HGradIdeal.Value.frame_reference,
    fun m ρ _ => Cert.Proj.Gen.frame m ρ,
    fun m ρ _ => Cert.ProjIdeal.Gen.frame m ρ,
    Cert.ProjIdeal.Value.frame_reference,
    fun m ρ _ => Cert.AttnF.Gen.frame m ρ,
    fun m ρ _ => Cert.AttnFIdeal.Gen.frame m ρ,
    fun m ρ _ => Cert.AttnFIdeal.Gen.frame m ρ,
    Cert.AttnFIdeal.Value.frame_reference,
    fun m ρ _ => Cert.AttnFIdeal.Value.frame_reference m ρ trivial,
    fun m ρ _ => Cert.Branch.Gen.frame m ρ,
    fun m ρ _ => Cert.BranchIdeal.Gen.frame m ρ,
    Cert.BranchIdeal.Value.frame_reference,
    trivial,
    Cert.MergeIdeal.Value.algebraic,
    trivial,
    Cert.AttnIdeal.Value.algebraic,
    trivial,
    Cert.WGradIdeal.Value.algebraic,
    trivial,
    Cert.HGradIdeal.Value.algebraic,
    trivial,
    Cert.ProjIdeal.Value.algebraic,
    trivial,
    Cert.AttnFIdeal.Value.algebraic,
    trivial,
    Cert.BranchIdeal.Value.algebraic⟩

end Cert.Proof
